-- ==== Defs.lean ====
def Pre_OutProj [hPre_valid : Cert.Pre_valid.Facts] (m : (ℓ : Loc Cert.OutProj.nD Cert.OutProj.τ Cert.OutProj.sig) → Buf (Elt Bits) ℓ) : Prop :=
  ∀ c : Dev Cert.OutProj.nD,
    (Cert.Pre_valid.fn (F := Bits) (m ((c.tc : Thread Cert.OutProj.nD Cert.OutProj.τ).loc Cert.OutProj.main_arg0)) (m ((c.tc : Thread Cert.OutProj.nD Cert.OutProj.τ).loc Cert.OutProj.main_arg1)) (m ((c.tc : Thread Cert.OutProj.nD Cert.OutProj.τ).loc Cert.OutProj.main_arg2)) (m ((c.tc : Thread Cert.OutProj.nD Cert.OutProj.τ).loc Cert.OutProj.main_arg3)) (m ((c.tc : Thread Cert.OutProj.nD Cert.OutProj.τ).loc Cert.OutProj.main_arg4)) (m ((c.tc : Thread Cert.OutProj.nD Cert.OutProj.τ).loc Cert.OutProj.main_arg5)) (m ((c.tc : Thread Cert.OutProj.nD Cert.OutProj.τ).loc Cert.OutProj.main_arg6)) (m ((c.tc : Thread Cert.OutProj.nD Cert.OutProj.τ).loc Cert.OutProj.main_arg7)) (m ((c.tc : Thread Cert.OutProj.nD Cert.OutProj.τ).loc Cert.OutProj.main_arg8)) (m ((c.tc : Thread Cert.OutProj.nD Cert.OutProj.τ).loc Cert.OutProj.main_arg9)) (m ((c.tc : Thread Cert.OutProj.nD Cert.OutProj.τ).loc Cert.OutProj.main_arg10))) = (fun _ => 1#1)

def Pre_OutProjIdeal [hPre_valid : Cert.Pre_valid.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_valid.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))) = (fun _ => 1#1)

def Pre_OutRefIdeal [hPre_valid : Cert.Pre_valid.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_valid.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10))) = (fun _ => 1#1)

def Pre_Qkv [hPre_valid_qkv : Cert.Pre_valid_qkv.Facts] (m : (ℓ : Loc Cert.Qkv.nD Cert.Qkv.τ Cert.Qkv.sig) → Buf (Elt Bits) ℓ) : Prop :=
  ∀ c : Dev Cert.Qkv.nD,
    (Cert.Pre_valid_qkv.fn (F := Bits) (m ((c.tc : Thread Cert.Qkv.nD Cert.Qkv.τ).loc Cert.Qkv.main_arg0)) (m ((c.tc : Thread Cert.Qkv.nD Cert.Qkv.τ).loc Cert.Qkv.main_arg1)) (m ((c.tc : Thread Cert.Qkv.nD Cert.Qkv.τ).loc Cert.Qkv.main_arg2)) (m ((c.tc : Thread Cert.Qkv.nD Cert.Qkv.τ).loc Cert.Qkv.main_arg3)) (m ((c.tc : Thread Cert.Qkv.nD Cert.Qkv.τ).loc Cert.Qkv.main_arg4)) (m ((c.tc : Thread Cert.Qkv.nD Cert.Qkv.τ).loc Cert.Qkv.main_arg5)) (m ((c.tc : Thread Cert.Qkv.nD Cert.Qkv.τ).loc Cert.Qkv.main_arg6)) (m ((c.tc : Thread Cert.Qkv.nD Cert.Qkv.τ).loc Cert.Qkv.main_arg7)) (m ((c.tc : Thread Cert.Qkv.nD Cert.Qkv.τ).loc Cert.Qkv.main_arg8))) = (fun _ => 1#1)

def Pre_QkvIdeal [hPre_valid_qkv : Cert.Pre_valid_qkv.Facts] (m : (ℓ : Loc Cert.QkvIdeal.nD Cert.QkvIdeal.τ Cert.QkvIdeal.sig) → Buf (Elt Ideal) ℓ) : Prop :=
  ∀ c : Dev Cert.QkvIdeal.nD,
    (Cert.Pre_valid_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8))) = (fun _ => 1#1)

def Pre_QkvRefIdeal [hPre_valid_qkv : Cert.Pre_valid_qkv.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_valid_qkv.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8))) = (fun _ => 1#1)

def quiescent_OutProj [hOutProj : Cert.OutProj.Facts] [hPre_valid : Cert.Pre_valid.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10))
      ∧ r.2.sem = fun _ => 0)

def quiescent_OutProjIdeal [hOutProjIdeal : Cert.OutProjIdeal.Facts] [hPre_valid : Cert.Pre_valid.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ r.2.sem = fun _ => 0)

def quiescent_OutRefIdeal [hOutRefIdeal : Cert.OutRefIdeal.Facts] [hPre_valid : Cert.Pre_valid.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_Qkv [hQkv : Cert.Qkv.Facts] [hPre_valid_qkv : Cert.Pre_valid_qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] [hPre_valid_qkv : Cert.Pre_valid_qkv.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] [hPre_valid_qkv : Cert.Pre_valid_qkv.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def preserves_OutProj_OutProjIdeal : Prop :=
  True

def algebraic_OutProjIdeal_OutRefIdeal [hOutProjIdeal : Cert.OutProjIdeal.Facts] [hOutRefIdeal : Cert.OutRefIdeal.Facts] [hPre_valid : Cert.Pre_valid.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)
      ∧ m' ((c.tc : Thread Cert.OutRefIdeal.nD Cert.OutRefIdeal.τ).loc Cert.OutRefIdeal.main_arg7) = m ((c.tc : Thread Cert.OutProjIdeal.nD Cert.OutProjIdeal.τ).loc Cert.OutProjIdeal.main_arg7)
      ∧ m' ((c.tc : Thread Cert.OutRefIdeal.nD Cert.OutRefIdeal.τ).loc Cert.OutRefIdeal.main_arg8) = m ((c.tc : Thread Cert.OutProjIdeal.nD Cert.OutProjIdeal.τ).loc Cert.OutProjIdeal.main_arg8)
      ∧ m' ((c.tc : Thread Cert.OutRefIdeal.nD Cert.OutRefIdeal.τ).loc Cert.OutRefIdeal.main_arg9) = m ((c.tc : Thread Cert.OutProjIdeal.nD Cert.OutProjIdeal.τ).loc Cert.OutProjIdeal.main_arg9)
      ∧ m' ((c.tc : Thread Cert.OutRefIdeal.nD Cert.OutRefIdeal.τ).loc Cert.OutRefIdeal.main_arg10) = m ((c.tc : Thread Cert.OutProjIdeal.nD Cert.OutProjIdeal.τ).loc Cert.OutProjIdeal.main_arg10)) →
    ∃ (v0 : (c : Dev Cert.OutProjIdeal.nD) → Buf (Elt Ideal) ((c.tc : Thread Cert.OutProjIdeal.nD Cert.OutProjIdeal.τ).loc Cert.OutProjIdeal.main_v7)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v12) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_Qkv_QkvIdeal : Prop :=
  True

def algebraic_QkvIdeal_QkvRefIdeal [hQkvIdeal : Cert.QkvIdeal.Facts] [hQkvRefIdeal : Cert.QkvRefIdeal.Facts] [hPre_valid_qkv : Cert.Pre_valid_qkv.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)) (v3 : (c : Dev Cert.QkvIdeal.nD) → Buf (Elt Ideal) ((c.tc : Thread Cert.QkvIdeal.nD Cert.QkvIdeal.τ).loc Cert.QkvIdeal.main_v4_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_v4_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v11_0) = v0 c
          ∧ r.2.mem ((c.tc : Thread Cert.QkvRefIdeal.nD Cert.QkvRefIdeal.τ).loc Cert.QkvRefIdeal.main_v11_1) = v1 c
          ∧ r.2.mem ((c.tc : Thread Cert.QkvRefIdeal.nD Cert.QkvRefIdeal.τ).loc Cert.QkvRefIdeal.main_v11_2) = v2 c
          ∧ r.2.mem ((c.tc : Thread Cert.QkvRefIdeal.nD Cert.QkvRefIdeal.τ).loc Cert.QkvRefIdeal.main_v11_3) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def Claim : Prop :=
  ∃ (hOutProj : Cert.OutProj.Facts) (hOutProjIdeal : Cert.OutProjIdeal.Facts) (hOutRefIdeal : Cert.OutRefIdeal.Facts) (hQkv : Cert.Qkv.Facts) (hQkvIdeal : Cert.QkvIdeal.Facts) (hQkvRefIdeal : Cert.QkvRefIdeal.Facts) (hPre_valid : Cert.Pre_valid.Facts) (hPre_valid_qkv : Cert.Pre_valid_qkv.Facts),
    quiescent_OutProj (hOutProj := hOutProj) (hPre_valid := hPre_valid)
    ∧ quiescent_OutProjIdeal (hOutProjIdeal := hOutProjIdeal) (hPre_valid := hPre_valid)
    ∧ quiescent_OutRefIdeal (hOutRefIdeal := hOutRefIdeal) (hPre_valid := hPre_valid)
    ∧ quiescent_Qkv (hQkv := hQkv) (hPre_valid_qkv := hPre_valid_qkv)
    ∧ quiescent_QkvIdeal (hQkvIdeal := hQkvIdeal) (hPre_valid_qkv := hPre_valid_qkv)
    ∧ quiescent_QkvRefIdeal (hQkvRefIdeal := hQkvRefIdeal) (hPre_valid_qkv := hPre_valid_qkv)
    ∧ preserves_OutProj_OutProjIdeal
    ∧ algebraic_OutProjIdeal_OutRefIdeal (hOutProjIdeal := hOutProjIdeal) (hOutRefIdeal := hOutRefIdeal) (hPre_valid := hPre_valid)
    ∧ preserves_Qkv_QkvIdeal
    ∧ algebraic_QkvIdeal_QkvRefIdeal (hQkvIdeal := hQkvIdeal) (hQkvRefIdeal := hQkvRefIdeal) (hPre_valid_qkv := hPre_valid_qkv)
-- ==== Pre_valid.lean ====
abbrev S35 : Shape := ⟨1, ![35]⟩
abbrev S5 : Shape := ⟨1, ![5]⟩
abbrev S8192x2880 : Shape := ⟨2, ![8192, 2880]⟩
abbrev S8192 : Shape := ⟨1, ![8192]⟩
abbrev S4x2880x2880 : Shape := ⟨3, ![4, 2880, 2880]⟩
abbrev S4x2880 : Shape := ⟨2, ![4, 2880]⟩
abbrev S4 : Shape := ⟨1, ![4]⟩
abbrev S32 : Shape := ⟨1, ![32]⟩
abbrev S1x4 : Shape := ⟨2, ![1, 4]⟩
abbrev S32x1 : Shape := ⟨2, ![32, 1]⟩
abbrev S_ : Shape := ⟨0, ![]⟩
abbrev S32x4 : Shape := ⟨2, ![32, 4]⟩
abbrev S1x1x35 : Shape := ⟨3, ![1, 1, 35]⟩
abbrev S32x1x1 : Shape := ⟨3, ![32, 1, 1]⟩
abbrev S32x1x35 : Shape := ⟨3, ![32, 1, 35]⟩
abbrev S1x4x1 : Shape := ⟨3, ![1, 4, 1]⟩
abbrev S1x4x35 : Shape := ⟨3, ![1, 4, 35]⟩
abbrev S32x4x35 : Shape := ⟨3, ![32, 4, 35]⟩
abbrev S34 : Shape := ⟨1, ![34]⟩
abbrev S1 : Shape := ⟨1, ![1]⟩

class Facts : Prop where
  slices_S5_S4_0 : S5.Slices ![0] S4
  slices_S5_S4_1 : S5.Slices ![1] S4
  bcast_S4_S1x4_1 : S4.BroadcastsInDim S1x4 (![1] : Fin 1 → Fin S1x4.rank)
  bcast_S32_S32x1_0 : S32.BroadcastsInDim S32x1 (![0] : Fin 1 → Fin S32x1.rank)
  bcast_S_S32x1 : S_.BroadcastsInDim S32x1 (![] : Fin 0 → Fin S32x1.rank)
  bcast_S1x4_S32x4_0_1 : S1x4.BroadcastsInDim S32x4 (![0, 1] : Fin 2 → Fin S32x4.rank)
  bcast_S32x1_S32x4_0_1 : S32x1.BroadcastsInDim S32x4 (![0, 1] : Fin 2 → Fin S32x4.rank)
  bcast_S35_S1x1x35_2 : S35.BroadcastsInDim S1x1x35 (![2] : Fin 1 → Fin S1x1x35.rank)
  bcast_S32_S32x1x1_0 : S32.BroadcastsInDim S32x1x1 (![0] : Fin 1 → Fin S32x1x1.rank)
  bcast_S1x1x35_S32x1x35_0_1_2 : S1x1x35.BroadcastsInDim S32x1x35 (![0, 1, 2] : Fin 3 → Fin S32x1x35.rank)
  bcast_S32x1x1_S32x1x35_0_1_2 : S32x1x1.BroadcastsInDim S32x1x35 (![0, 1, 2] : Fin 3 → Fin S32x1x35.rank)
  bcast_S4_S1x4x1_1 : S4.BroadcastsInDim S1x4x1 (![1] : Fin 1 → Fin S1x4x1.rank)
  bcast_S1x1x35_S1x4x35_0_1_2 : S1x1x35.BroadcastsInDim S1x4x35 (![0, 1, 2] : Fin 3 → Fin S1x4x35.rank)
  bcast_S1x4x1_S1x4x35_0_1_2 : S1x4x1.BroadcastsInDim S1x4x35 (![0, 1, 2] : Fin 3 → Fin S1x4x35.rank)
  bcast_S32x1x35_S32x4x35_0_1_2 : S32x1x35.BroadcastsInDim S32x4x35 (![0, 1, 2] : Fin 3 → Fin S32x4x35.rank)
  bcast_S1x4x35_S32x4x35_0_1_2 : S1x4x35.BroadcastsInDim S32x4x35 (![0, 1, 2] : Fin 3 → Fin S32x4x35.rank)
  bcast_S_S1x1x35 : S_.BroadcastsInDim S1x1x35 (![] : Fin 0 → Fin S1x1x35.rank)
  bcast_S1x1x35_S32x4x35_0_1_2 : S1x1x35.BroadcastsInDim S32x4x35 (![0, 1, 2] : Fin 3 → Fin S32x4x35.rank)
  reducesTo_S32x4x35_S32x4_d2 : S32x4x35.ReducesTo [2] S32x4
  h_S_ : 0 < S_.numel
  bcast_S_S35 : S_.BroadcastsInDim S35 (![] : Fin 0 → Fin S35.rank)
  reducesTo_S35_S_d0 : S35.ReducesTo [0] S_
  slices_S35_S34_0 : S35.Slices ![0] S34
  slices_S35_S34_1 : S35.Slices ![1] S34
  reducesTo_S34_S_d0 : S34.ReducesTo [0] S_
  slices_S5_S1_0 : S5.Slices ![0] S1
  shapeCasts_S1_S_ : S1.ShapeCasts S_
  slices_S5_S1_4 : S5.Slices ![4] S1
  reducesTo_S4_S_d0 : S4.ReducesTo [0] S_
  reducesTo_S32x4_S_d0_1 : S32x4.ReducesTo [0, 1] S_

variable [Facts]

def fn_part3 {F : FTy → Type} [FloatOps F] (main_arg3 : IVec S5 32) (main_v1 : IVec S4 32) (main_v2 : IVec S4 32) (main_v23 : IVec S32x4 1) (main_v43 : IVec S32x4 1) (main_v56 : IVec S_ 1) (main_v59 : IVec S34 1) (main_c_10 : IVec S_ 1) : IVec S_ 1 :=
  let main_v60 : IVec S_ 1 := (fun x v => Host.reduce IntOp.andi x v reducesTo_S34_S_d0 h_S_) main_v59 main_c_10
  let main_v61 : IVec S_ 1 := andi main_v56 main_v60
  let main_v62 : IVec S1 32 := (extractStridedSlice S1 ![0] · slices_S5_S1_0) main_arg3
  let main_v63 : IVec S_ 32 := shapeCast S_ main_v62 shapeCasts_S1_S_
  let main_c_11 : IVec S_ 32 := constantI S_ 32 0#32
  let main_v64 : IVec S_ 1 := cmpi .eq main_v63 main_c_11
  let main_v65 : IVec S_ 1 := andi main_v61 main_v64
  let main_v66 : IVec S1 32 := (extractStridedSlice S1 ![4] · slices_S5_S1_4) main_arg3
  let main_v67 : IVec S_ 32 := shapeCast S_ main_v66 shapeCasts_S1_S_
  let main_c_12 : IVec S_ 32 := constantI S_ 32 8192#32
  let main_v68 : IVec S_ 1 := cmpi .eq main_v67 main_c_12
  let main_v69 : IVec S_ 1 := andi main_v65 main_v68
  let main_v70 : IVec S4 1 := cmpi .sle main_v1 main_v2
  let main_c_13 : IVec S_ 1 := constantI S_ 1 1#1
  let main_v71 : IVec S_ 1 := (fun x v => Host.reduce IntOp.andi x v reducesTo_S4_S_d0 h_S_) main_v70 main_c_13
  let main_v72 : IVec S_ 1 := andi main_v69 main_v71
  let main_v73 : IVec S32x4 1 := noti main_v23
  let main_v74 : IVec S32x4 1 := ori main_v43 main_v73
  let main_c_14 : IVec S_ 1 := constantI S_ 1 1#1
  let main_v75 : IVec S_ 1 := (fun x v => Host.reduce IntOp.andi x v reducesTo_S32x4_S_d0_1 h_S_) main_v74 main_c_14
  let main_v76 : IVec S_ 1 := andi main_v72 main_v75
  main_v76

def fn_part2 {F : FTy → Type} [FloatOps F] (main_arg0 : IVec S35 32) (main_arg1 : IVec S35 32) (main_arg3 : IVec S5 32) (main_v1 : IVec S4 32) (main_v2 : IVec S4 32) (main_v23 : IVec S32x4 1) (main_v42 : IVec S32x4x35 1) (main_c_3 : IVec S_ 1) : IVec S_ 1 :=
  let main_v43 : IVec S32x4 1 := (fun x v => Host.reduce IntOp.ori x v reducesTo_S32x4x35_S32x4_d2 h_S_) main_v42 main_c_3
  let main_c_4 : IVec S_ 32 := constantI S_ 32 0#32
  let main_v44 : IVec S35 32 := broadcastInDim S35 ![] bcast_S_S35 main_c_4
  let main_v45 : IVec S35 1 := cmpi .sge main_arg0 main_v44
  let main_c_5 : IVec S_ 32 := constantI S_ 32 32#32
  let main_v46 : IVec S35 32 := broadcastInDim S35 ![] bcast_S_S35 main_c_5
  let main_v47 : IVec S35 1 := cmpi .slt main_arg0 main_v46
  let main_v48 : IVec S35 1 := andi main_v45 main_v47
  let main_c_6 : IVec S_ 1 := constantI S_ 1 1#1
  let main_v49 : IVec S_ 1 := (fun x v => Host.reduce IntOp.andi x v reducesTo_S35_S_d0 h_S_) main_v48 main_c_6
  let main_c_7 : IVec S_ 32 := constantI S_ 32 0#32
  let main_v50 : IVec S35 32 := broadcastInDim S35 ![] bcast_S_S35 main_c_7
  let main_v51 : IVec S35 1 := cmpi .sge main_arg1 main_v50
  let main_c_8 : IVec S_ 32 := constantI S_ 32 4#32
  let main_v52 : IVec S35 32 := broadcastInDim S35 ![] bcast_S_S35 main_c_8
  let main_v53 : IVec S35 1 := cmpi .slt main_arg1 main_v52
  let main_v54 : IVec S35 1 := andi main_v51 main_v53
  let main_c_9 : IVec S_ 1 := constantI S_ 1 1#1
  let main_v55 : IVec S_ 1 := (fun x v => Host.reduce IntOp.andi x v reducesTo_S35_S_d0 h_S_) main_v54 main_c_9
  let main_v56 : IVec S_ 1 := andi main_v49 main_v55
  let main_v57 : IVec S34 32 := (extractStridedSlice S34 ![0] · slices_S35_S34_0) main_arg0
  let main_v58 : IVec S34 32 := (extractStridedSlice S34 ![1] · slices_S35_S34_1) main_arg0
  let main_v59 : IVec S34 1 := cmpi .sle main_v57 main_v58
  let main_c_10 : IVec S_ 1 := constantI S_ 1 1#1
  fn_part3 (F := F) main_arg3 main_v1 main_v2 main_v23 main_v43 main_v56 main_v59 main_c_10

def fn_part1 {F : FTy → Type} [FloatOps F] (main_arg0 : IVec S35 32) (main_arg1 : IVec S35 32) (main_arg2 : IVec S35 32) (main_arg3 : IVec S5 32) (main_v0 : IVec S32 32) (main_v1 : IVec S4 32) (main_v2 : IVec S4 32) (main_v19 : IVec S32x4 1) (main_v20 : IVec S4 1) : IVec S_ 1 :=
  let main_v21 : IVec S1x4 1 := broadcastInDim S1x4 ![1] bcast_S4_S1x4_1 main_v20
  let main_v22 : IVec S32x4 1 := broadcastInDim S32x4 ![0, 1] bcast_S1x4_S32x4_0_1 main_v21
  let main_v23 : IVec S32x4 1 := andi main_v19 main_v22
  let main_v24 : IVec S4 32 := iotaInDim S4 32 0
  let main_v25 : IVec S1x1x35 32 := broadcastInDim S1x1x35 ![2] bcast_S35_S1x1x35_2 main_arg0
  let main_v26 : IVec S32x1x1 32 := broadcastInDim S32x1x1 ![0] bcast_S32_S32x1x1_0 main_v0
  let main_v27 : IVec S32x1x35 32 := broadcastInDim S32x1x35 ![0, 1, 2] bcast_S1x1x35_S32x1x35_0_1_2 main_v25
  let main_v28 : IVec S32x1x35 32 := broadcastInDim S32x1x35 ![0, 1, 2] bcast_S32x1x1_S32x1x35_0_1_2 main_v26
  let main_v29 : IVec S32x1x35 1 := cmpi .eq main_v27 main_v28
  let main_v30 : IVec S1x1x35 32 := broadcastInDim S1x1x35 ![2] bcast_S35_S1x1x35_2 main_arg1
  let main_v31 : IVec S1x4x1 32 := broadcastInDim S1x4x1 ![1] bcast_S4_S1x4x1_1 main_v24
  let main_v32 : IVec S1x4x35 32 := broadcastInDim S1x4x35 ![0, 1, 2] bcast_S1x1x35_S1x4x35_0_1_2 main_v30
  let main_v33 : IVec S1x4x35 32 := broadcastInDim S1x4x35 ![0, 1, 2] bcast_S1x4x1_S1x4x35_0_1_2 main_v31
  let main_v34 : IVec S1x4x35 1 := cmpi .eq main_v32 main_v33
  let main_v35 : IVec S32x4x35 1 := broadcastInDim S32x4x35 ![0, 1, 2] bcast_S32x1x35_S32x4x35_0_1_2 main_v29
  let main_v36 : IVec S32x4x35 1 := broadcastInDim S32x4x35 ![0, 1, 2] bcast_S1x4x35_S32x4x35_0_1_2 main_v34
  let main_v37 : IVec S32x4x35 1 := andi main_v35 main_v36
  let main_v38 : IVec S1x1x35 32 := broadcastInDim S1x1x35 ![2] bcast_S35_S1x1x35_2 main_arg2
  let main_c_2 : IVec S_ 32 := constantI S_ 32 0#32
  let main_v39 : IVec S1x1x35 32 := broadcastInDim S1x1x35 ![] bcast_S_S1x1x35 main_c_2
  let main_v40 : IVec S1x1x35 1 := cmpi .sgt main_v38 main_v39
  let main_v41 : IVec S32x4x35 1 := broadcastInDim S32x4x35 ![0, 1, 2] bcast_S1x1x35_S32x4x35_0_1_2 main_v40
  let main_v42 : IVec S32x4x35 1 := andi main_v37 main_v41
  let main_c_3 : IVec S_ 1 := constantI S_ 1 0#1
  fn_part2 (F := F) main_arg0 main_arg1 main_arg3 main_v1 main_v2 main_v23 main_v42 main_c_3

def fn {F : FTy → Type} [FloatOps F] (main_arg0 : IVec S35 32) (main_arg1 : IVec S35 32) (main_arg2 : IVec S35 32) (main_arg3 : IVec S5 32) (main_arg4 : FVec F S8192x2880 .fp8e4m3) (main_arg5 : FVec F S8192 .f32) (main_arg6 : FVec F S4x2880x2880 .fp8e4m3) (main_arg7 : FVec F S4x2880 .f32) (main_arg8 : FVec F S4x2880 .f32) (main_arg9 : FVec F S4 .f32) (main_arg10 : FVec F S8192x2880 .bf16) : IVec S_ 1 :=
  let main_v0 : IVec S32 32 := iotaInDim S32 32 0
  let main_v1 : IVec S4 32 := (extractStridedSlice S4 ![0] · slices_S5_S4_0) main_arg3
  let main_v2 : IVec S4 32 := (extractStridedSlice S4 ![1] · slices_S5_S4_1) main_arg3
  let main_v3 : IVec S1x4 32 := broadcastInDim S1x4 ![1] bcast_S4_S1x4_1 main_v1
  let main_v4 : IVec S32x1 32 := broadcastInDim S32x1 ![0] bcast_S32_S32x1_0 main_v0
  let main_c : IVec S_ 32 := constantI S_ 32 1#32
  let main_v5 : IVec S32x1 32 := broadcastInDim S32x1 ![] bcast_S_S32x1 main_c
  let main_v6 : IVec S32x1 32 := addi main_v4 main_v5
  let main_c_0 : IVec S_ 32 := constantI S_ 32 256#32
  let main_v7 : IVec S32x1 32 := broadcastInDim S32x1 ![] bcast_S_S32x1 main_c_0
  let main_v8 : IVec S32x1 32 := muli main_v6 main_v7
  let main_v9 : IVec S32x4 32 := broadcastInDim S32x4 ![0, 1] bcast_S1x4_S32x4_0_1 main_v3
  let main_v10 : IVec S32x4 32 := broadcastInDim S32x4 ![0, 1] bcast_S32x1_S32x4_0_1 main_v8
  let main_v11 : IVec S32x4 1 := cmpi .slt main_v9 main_v10
  let main_v12 : IVec S1x4 32 := broadcastInDim S1x4 ![1] bcast_S4_S1x4_1 main_v2
  let main_v13 : IVec S32x1 32 := broadcastInDim S32x1 ![0] bcast_S32_S32x1_0 main_v0
  let main_c_1 : IVec S_ 32 := constantI S_ 32 256#32
  let main_v14 : IVec S32x1 32 := broadcastInDim S32x1 ![] bcast_S_S32x1 main_c_1
  let main_v15 : IVec S32x1 32 := muli main_v13 main_v14
  let main_v16 : IVec S32x4 32 := broadcastInDim S32x4 ![0, 1] bcast_S1x4_S32x4_0_1 main_v12
  let main_v17 : IVec S32x4 32 := broadcastInDim S32x4 ![0, 1] bcast_S32x1_S32x4_0_1 main_v15
  let main_v18 : IVec S32x4 1 := cmpi .sgt main_v16 main_v17
  let main_v19 : IVec S32x4 1 := andi main_v11 main_v18
  let main_v20 : IVec S4 1 := cmpi .slt main_v1 main_v2
  fn_part1 (F := F) main_arg0 main_arg1 main_arg2 main_arg3 main_v0 main_v1 main_v2 main_v19 main_v20
-- ==== Pre_valid_qkv.lean ====
abbrev S35 : Shape := ⟨1, ![35]⟩
abbrev S5 : Shape := ⟨1, ![5]⟩
abbrev S8192x2880 : Shape := ⟨2, ![8192, 2880]⟩
abbrev S8192 : Shape := ⟨1, ![8192]⟩
abbrev S4x2880x8704 : Shape := ⟨3, ![4, 2880, 8704]⟩
abbrev S4x8704 : Shape := ⟨2, ![4, 8704]⟩
abbrev S32 : Shape := ⟨1, ![32]⟩
abbrev S4 : Shape := ⟨1, ![4]⟩
abbrev S1x4 : Shape := ⟨2, ![1, 4]⟩
abbrev S32x1 : Shape := ⟨2, ![32, 1]⟩
abbrev S_ : Shape := ⟨0, ![]⟩
abbrev S32x4 : Shape := ⟨2, ![32, 4]⟩
abbrev S1x1x35 : Shape := ⟨3, ![1, 1, 35]⟩
abbrev S32x1x1 : Shape := ⟨3, ![32, 1, 1]⟩
abbrev S32x1x35 : Shape := ⟨3, ![32, 1, 35]⟩
abbrev S1x4x1 : Shape := ⟨3, ![1, 4, 1]⟩
abbrev S1x4x35 : Shape := ⟨3, ![1, 4, 35]⟩
abbrev S32x4x35 : Shape := ⟨3, ![32, 4, 35]⟩
abbrev S34 : Shape := ⟨1, ![34]⟩
abbrev S1 : Shape := ⟨1, ![1]⟩

class Facts : Prop where
  slices_S5_S4_0 : S5.Slices ![0] S4
  slices_S5_S4_1 : S5.Slices ![1] S4
  bcast_S4_S1x4_1 : S4.BroadcastsInDim S1x4 (![1] : Fin 1 → Fin S1x4.rank)
  bcast_S32_S32x1_0 : S32.BroadcastsInDim S32x1 (![0] : Fin 1 → Fin S32x1.rank)
  bcast_S_S32x1 : S_.BroadcastsInDim S32x1 (![] : Fin 0 → Fin S32x1.rank)
  bcast_S1x4_S32x4_0_1 : S1x4.BroadcastsInDim S32x4 (![0, 1] : Fin 2 → Fin S32x4.rank)
  bcast_S32x1_S32x4_0_1 : S32x1.BroadcastsInDim S32x4 (![0, 1] : Fin 2 → Fin S32x4.rank)
  bcast_S35_S1x1x35_2 : S35.BroadcastsInDim S1x1x35 (![2] : Fin 1 → Fin S1x1x35.rank)
  bcast_S32_S32x1x1_0 : S32.BroadcastsInDim S32x1x1 (![0] : Fin 1 → Fin S32x1x1.rank)
  bcast_S1x1x35_S32x1x35_0_1_2 : S1x1x35.BroadcastsInDim S32x1x35 (![0, 1, 2] : Fin 3 → Fin S32x1x35.rank)
  bcast_S32x1x1_S32x1x35_0_1_2 : S32x1x1.BroadcastsInDim S32x1x35 (![0, 1, 2] : Fin 3 → Fin S32x1x35.rank)
  bcast_S4_S1x4x1_1 : S4.BroadcastsInDim S1x4x1 (![1] : Fin 1 → Fin S1x4x1.rank)
  bcast_S1x1x35_S1x4x35_0_1_2 : S1x1x35.BroadcastsInDim S1x4x35 (![0, 1, 2] : Fin 3 → Fin S1x4x35.rank)
  bcast_S1x4x1_S1x4x35_0_1_2 : S1x4x1.BroadcastsInDim S1x4x35 (![0, 1, 2] : Fin 3 → Fin S1x4x35.rank)
  bcast_S32x1x35_S32x4x35_0_1_2 : S32x1x35.BroadcastsInDim S32x4x35 (![0, 1, 2] : Fin 3 → Fin S32x4x35.rank)
  bcast_S1x4x35_S32x4x35_0_1_2 : S1x4x35.BroadcastsInDim S32x4x35 (![0, 1, 2] : Fin 3 → Fin S32x4x35.rank)
  bcast_S_S1x1x35 : S_.BroadcastsInDim S1x1x35 (![] : Fin 0 → Fin S1x1x35.rank)
  bcast_S1x1x35_S32x4x35_0_1_2 : S1x1x35.BroadcastsInDim S32x4x35 (![0, 1, 2] : Fin 3 → Fin S32x4x35.rank)
  reducesTo_S32x4x35_S32x4_d2 : S32x4x35.ReducesTo [2] S32x4
  h_S_ : 0 < S_.numel
  bcast_S_S35 : S_.BroadcastsInDim S35 (![] : Fin 0 → Fin S35.rank)
  reducesTo_S35_S_d0 : S35.ReducesTo [0] S_
  slices_S35_S34_0 : S35.Slices ![0] S34
  slices_S35_S34_1 : S35.Slices ![1] S34
  reducesTo_S34_S_d0 : S34.ReducesTo [0] S_
  slices_S5_S1_0 : S5.Slices ![0] S1
  shapeCasts_S1_S_ : S1.ShapeCasts S_
  slices_S5_S1_4 : S5.Slices ![4] S1
  reducesTo_S4_S_d0 : S4.ReducesTo [0] S_
  reducesTo_S32x4_S_d0_1 : S32x4.ReducesTo [0, 1] S_

variable [Facts]

def fn_part3 {F : FTy → Type} [FloatOps F] (main_arg3 : IVec S5 32) (main_v1 : IVec S4 32) (main_v2 : IVec S4 32) (main_v23 : IVec S32x4 1) (main_v43 : IVec S32x4 1) (main_v56 : IVec S_ 1) (main_v59 : IVec S34 1) (main_c_10 : IVec S_ 1) : IVec S_ 1 :=
  let main_v60 : IVec S_ 1 := (fun x v => Host.reduce IntOp.andi x v reducesTo_S34_S_d0 h_S_) main_v59 main_c_10
  let main_v61 : IVec S_ 1 := andi main_v56 main_v60
  let main_v62 : IVec S1 32 := (extractStridedSlice S1 ![0] · slices_S5_S1_0) main_arg3
  let main_v63 : IVec S_ 32 := shapeCast S_ main_v62 shapeCasts_S1_S_
  let main_c_11 : IVec S_ 32 := constantI S_ 32 0#32
  let main_v64 : IVec S_ 1 := cmpi .eq main_v63 main_c_11
  let main_v65 : IVec S_ 1 := andi main_v61 main_v64
  let main_v66 : IVec S1 32 := (extractStridedSlice S1 ![4] · slices_S5_S1_4) main_arg3
  let main_v67 : IVec S_ 32 := shapeCast S_ main_v66 shapeCasts_S1_S_
  let main_c_12 : IVec S_ 32 := constantI S_ 32 8192#32
  let main_v68 : IVec S_ 1 := cmpi .eq main_v67 main_c_12
  let main_v69 : IVec S_ 1 := andi main_v65 main_v68
  let main_v70 : IVec S4 1 := cmpi .sle main_v1 main_v2
  let main_c_13 : IVec S_ 1 := constantI S_ 1 1#1
  let main_v71 : IVec S_ 1 := (fun x v => Host.reduce IntOp.andi x v reducesTo_S4_S_d0 h_S_) main_v70 main_c_13
  let main_v72 : IVec S_ 1 := andi main_v69 main_v71
  let main_v73 : IVec S32x4 1 := noti main_v23
  let main_v74 : IVec S32x4 1 := ori main_v43 main_v73
  let main_c_14 : IVec S_ 1 := constantI S_ 1 1#1
  let main_v75 : IVec S_ 1 := (fun x v => Host.reduce IntOp.andi x v reducesTo_S32x4_S_d0_1 h_S_) main_v74 main_c_14
  let main_v76 : IVec S_ 1 := andi main_v72 main_v75
  main_v76

def fn_part2 {F : FTy → Type} [FloatOps F] (main_arg0 : IVec S35 32) (main_arg1 : IVec S35 32) (main_arg3 : IVec S5 32) (main_v1 : IVec S4 32) (main_v2 : IVec S4 32) (main_v23 : IVec S32x4 1) (main_v42 : IVec S32x4x35 1) (main_c_3 : IVec S_ 1) : IVec S_ 1 :=
  let main_v43 : IVec S32x4 1 := (fun x v => Host.reduce IntOp.ori x v reducesTo_S32x4x35_S32x4_d2 h_S_) main_v42 main_c_3
  let main_c_4 : IVec S_ 32 := constantI S_ 32 0#32
  let main_v44 : IVec S35 32 := broadcastInDim S35 ![] bcast_S_S35 main_c_4
  let main_v45 : IVec S35 1 := cmpi .sge main_arg0 main_v44
  let main_c_5 : IVec S_ 32 := constantI S_ 32 32#32
  let main_v46 : IVec S35 32 := broadcastInDim S35 ![] bcast_S_S35 main_c_5
  let main_v47 : IVec S35 1 := cmpi .slt main_arg0 main_v46
  let main_v48 : IVec S35 1 := andi main_v45 main_v47
  let main_c_6 : IVec S_ 1 := constantI S_ 1 1#1
  let main_v49 : IVec S_ 1 := (fun x v => Host.reduce IntOp.andi x v reducesTo_S35_S_d0 h_S_) main_v48 main_c_6
  let main_c_7 : IVec S_ 32 := constantI S_ 32 0#32
  let main_v50 : IVec S35 32 := broadcastInDim S35 ![] bcast_S_S35 main_c_7
  let main_v51 : IVec S35 1 := cmpi .sge main_arg1 main_v50
  let main_c_8 : IVec S_ 32 := constantI S_ 32 4#32
  let main_v52 : IVec S35 32 := broadcastInDim S35 ![] bcast_S_S35 main_c_8
  let main_v53 : IVec S35 1 := cmpi .slt main_arg1 main_v52
  let main_v54 : IVec S35 1 := andi main_v51 main_v53
  let main_c_9 : IVec S_ 1 := constantI S_ 1 1#1
  let main_v55 : IVec S_ 1 := (fun x v => Host.reduce IntOp.andi x v reducesTo_S35_S_d0 h_S_) main_v54 main_c_9
  let main_v56 : IVec S_ 1 := andi main_v49 main_v55
  let main_v57 : IVec S34 32 := (extractStridedSlice S34 ![0] · slices_S35_S34_0) main_arg0
  let main_v58 : IVec S34 32 := (extractStridedSlice S34 ![1] · slices_S35_S34_1) main_arg0
  let main_v59 : IVec S34 1 := cmpi .sle main_v57 main_v58
  let main_c_10 : IVec S_ 1 := constantI S_ 1 1#1
  fn_part3 (F := F) main_arg3 main_v1 main_v2 main_v23 main_v43 main_v56 main_v59 main_c_10

def fn_part1 {F : FTy → Type} [FloatOps F] (main_arg0 : IVec S35 32) (main_arg1 : IVec S35 32) (main_arg2 : IVec S35 32) (main_arg3 : IVec S5 32) (main_v0 : IVec S32 32) (main_v1 : IVec S4 32) (main_v2 : IVec S4 32) (main_v19 : IVec S32x4 1) (main_v20 : IVec S4 1) : IVec S_ 1 :=
  let main_v21 : IVec S1x4 1 := broadcastInDim S1x4 ![1] bcast_S4_S1x4_1 main_v20
  let main_v22 : IVec S32x4 1 := broadcastInDim S32x4 ![0, 1] bcast_S1x4_S32x4_0_1 main_v21
  let main_v23 : IVec S32x4 1 := andi main_v19 main_v22
  let main_v24 : IVec S4 32 := iotaInDim S4 32 0
  let main_v25 : IVec S1x1x35 32 := broadcastInDim S1x1x35 ![2] bcast_S35_S1x1x35_2 main_arg0
  let main_v26 : IVec S32x1x1 32 := broadcastInDim S32x1x1 ![0] bcast_S32_S32x1x1_0 main_v0
  let main_v27 : IVec S32x1x35 32 := broadcastInDim S32x1x35 ![0, 1, 2] bcast_S1x1x35_S32x1x35_0_1_2 main_v25
  let main_v28 : IVec S32x1x35 32 := broadcastInDim S32x1x35 ![0, 1, 2] bcast_S32x1x1_S32x1x35_0_1_2 main_v26
  let main_v29 : IVec S32x1x35 1 := cmpi .eq main_v27 main_v28
  let main_v30 : IVec S1x1x35 32 := broadcastInDim S1x1x35 ![2] bcast_S35_S1x1x35_2 main_arg1
  let main_v31 : IVec S1x4x1 32 := broadcastInDim S1x4x1 ![1] bcast_S4_S1x4x1_1 main_v24
  let main_v32 : IVec S1x4x35 32 := broadcastInDim S1x4x35 ![0, 1, 2] bcast_S1x1x35_S1x4x35_0_1_2 main_v30
  let main_v33 : IVec S1x4x35 32 := broadcastInDim S1x4x35 ![0, 1, 2] bcast_S1x4x1_S1x4x35_0_1_2 main_v31
  let main_v34 : IVec S1x4x35 1 := cmpi .eq main_v32 main_v33
  let main_v35 : IVec S32x4x35 1 := broadcastInDim S32x4x35 ![0, 1, 2] bcast_S32x1x35_S32x4x35_0_1_2 main_v29
  let main_v36 : IVec S32x4x35 1 := broadcastInDim S32x4x35 ![0, 1, 2] bcast_S1x4x35_S32x4x35_0_1_2 main_v34
  let main_v37 : IVec S32x4x35 1 := andi main_v35 main_v36
  let main_v38 : IVec S1x1x35 32 := broadcastInDim S1x1x35 ![2] bcast_S35_S1x1x35_2 main_arg2
  let main_c_2 : IVec S_ 32 := constantI S_ 32 0#32
  let main_v39 : IVec S1x1x35 32 := broadcastInDim S1x1x35 ![] bcast_S_S1x1x35 main_c_2
  let main_v40 : IVec S1x1x35 1 := cmpi .sgt main_v38 main_v39
  let main_v41 : IVec S32x4x35 1 := broadcastInDim S32x4x35 ![0, 1, 2] bcast_S1x1x35_S32x4x35_0_1_2 main_v40
  let main_v42 : IVec S32x4x35 1 := andi main_v37 main_v41
  let main_c_3 : IVec S_ 1 := constantI S_ 1 0#1
  fn_part2 (F := F) main_arg0 main_arg1 main_arg3 main_v1 main_v2 main_v23 main_v42 main_c_3

def fn {F : FTy → Type} [FloatOps F] (main_arg0 : IVec S35 32) (main_arg1 : IVec S35 32) (main_arg2 : IVec S35 32) (main_arg3 : IVec S5 32) (main_arg4 : FVec F S8192x2880 .fp8e4m3) (main_arg5 : FVec F S8192 .f32) (main_arg6 : FVec F S4x2880x8704 .fp8e4m3) (main_arg7 : FVec F S4x8704 .f32) (main_arg8 : FVec F S4x8704 .f32) : IVec S_ 1 :=
  let main_v0 : IVec S32 32 := iotaInDim S32 32 0
  let main_v1 : IVec S4 32 := (extractStridedSlice S4 ![0] · slices_S5_S4_0) main_arg3
  let main_v2 : IVec S4 32 := (extractStridedSlice S4 ![1] · slices_S5_S4_1) main_arg3
  let main_v3 : IVec S1x4 32 := broadcastInDim S1x4 ![1] bcast_S4_S1x4_1 main_v1
  let main_v4 : IVec S32x1 32 := broadcastInDim S32x1 ![0] bcast_S32_S32x1_0 main_v0
  let main_c : IVec S_ 32 := constantI S_ 32 1#32
  let main_v5 : IVec S32x1 32 := broadcastInDim S32x1 ![] bcast_S_S32x1 main_c
  let main_v6 : IVec S32x1 32 := addi main_v4 main_v5
  let main_c_0 : IVec S_ 32 := constantI S_ 32 256#32
  let main_v7 : IVec S32x1 32 := broadcastInDim S32x1 ![] bcast_S_S32x1 main_c_0
  let main_v8 : IVec S32x1 32 := muli main_v6 main_v7
  let main_v9 : IVec S32x4 32 := broadcastInDim S32x4 ![0, 1] bcast_S1x4_S32x4_0_1 main_v3
  let main_v10 : IVec S32x4 32 := broadcastInDim S32x4 ![0, 1] bcast_S32x1_S32x4_0_1 main_v8
  let main_v11 : IVec S32x4 1 := cmpi .slt main_v9 main_v10
  let main_v12 : IVec S1x4 32 := broadcastInDim S1x4 ![1] bcast_S4_S1x4_1 main_v2
  let main_v13 : IVec S32x1 32 := broadcastInDim S32x1 ![0] bcast_S32_S32x1_0 main_v0
  let main_c_1 : IVec S_ 32 := constantI S_ 32 256#32
  let main_v14 : IVec S32x1 32 := broadcastInDim S32x1 ![] bcast_S_S32x1 main_c_1
  let main_v15 : IVec S32x1 32 := muli main_v13 main_v14
  let main_v16 : IVec S32x4 32 := broadcastInDim S32x4 ![0, 1] bcast_S1x4_S32x4_0_1 main_v12
  let main_v17 : IVec S32x4 32 := broadcastInDim S32x4 ![0, 1] bcast_S32x1_S32x4_0_1 main_v15
  let main_v18 : IVec S32x4 1 := cmpi .sgt main_v16 main_v17
  let main_v19 : IVec S32x4 1 := andi main_v11 main_v18
  let main_v20 : IVec S4 1 := cmpi .slt main_v1 main_v2
  fn_part1 (F := F) main_arg0 main_arg1 main_arg2 main_arg3 main_v0 main_v1 main_v2 main_v19 main_v20
-- ==== OutProj.lean ====
abbrev S35 : Shape := ⟨1, ![35]⟩
abbrev S5 : Shape := ⟨1, ![5]⟩
abbrev S8192x2880 : Shape := ⟨2, ![8192, 2880]⟩
abbrev S8192 : Shape := ⟨1, ![8192]⟩
abbrev S4x2880x2880 : Shape := ⟨3, ![4, 2880, 2880]⟩
abbrev S4x2880 : Shape := ⟨2, ![4, 2880]⟩
abbrev S4 : Shape := ⟨1, ![4]⟩
abbrev S2880x8192 : Shape := ⟨2, ![2880, 8192]⟩
abbrev S8192x1 : Shape := ⟨2, ![8192, 1]⟩
abbrev S8192x128 : Shape := ⟨2, ![8192, 128]⟩
abbrev S4x1x2880 : Shape := ⟨3, ![4, 1, 2880]⟩
abbrev S4x1x1 : Shape := ⟨3, ![4, 1, 1]⟩
abbrev S4x1x128 : Shape := ⟨3, ![4, 1, 128]⟩
abbrev S256x2880 : Shape := ⟨2, ![256, 2880]⟩
abbrev S1 : Shape := ⟨1, ![1]⟩
abbrev S256x128 : Shape := ⟨2, ![256, 128]⟩
abbrev S1x2880x2880 : Shape := ⟨3, ![1, 2880, 2880]⟩
abbrev S1x1x2880 : Shape := ⟨3, ![1, 1, 2880]⟩
abbrev S1x1x128 : Shape := ⟨3, ![1, 1, 128]⟩
abbrev S2880x256 : Shape := ⟨2, ![2880, 256]⟩
abbrev S1x128 : Shape := ⟨2, ![1, 128]⟩
abbrev S1x256 : Shape := ⟨2, ![1, 256]⟩
abbrev S1x2880x256 : Shape := ⟨3, ![1, 2880, 256]⟩
abbrev S256x256 : Shape := ⟨2, ![256, 256]⟩
abbrev S128x256 : Shape := ⟨2, ![128, 256]⟩
abbrev S1x2880x64 : Shape := ⟨3, ![1, 2880, 64]⟩
abbrev S2880x64 : Shape := ⟨2, ![2880, 64]⟩
abbrev S256x64 : Shape := ⟨2, ![256, 64]⟩
abbrev S1x1x64 : Shape := ⟨3, ![1, 1, 64]⟩
abbrev S1x64 : Shape := ⟨2, ![1, 64]⟩
abbrev S64x256 : Shape := ⟨2, ![64, 256]⟩

abbrev nBuf : Space → Nat
  | .hbm => 15
  | .vmem => 16
  | .smem => 4
  | _ => 0

abbrev bufTy : (tb : Table) → Fin (tcTables nBuf tb) → BufTy
  | .hbm, ⟨0, _⟩ => ⟨S8192x2880, .fp8e4m3⟩
  | .hbm, ⟨1, _⟩ => ⟨S8192, .f32⟩
  | .hbm, ⟨2, _⟩ => ⟨S4x2880x2880, .fp8e4m3⟩
  | .hbm, ⟨3, _⟩ => ⟨S4x2880, .f32⟩
  | .hbm, ⟨4, _⟩ => ⟨S4x2880, .f32⟩
  | .hbm, ⟨5, _⟩ => ⟨S4, .f32⟩
  | .hbm, ⟨6, _⟩ => ⟨S8192x2880, .bf16⟩
  | .hbm, ⟨7, _⟩ => ⟨S2880x8192, .bf16⟩
  | .hbm, ⟨8, _⟩ => ⟨S8192x1, .f32⟩
  | .hbm, ⟨9, _⟩ => ⟨S8192x128, .f32⟩
  | .hbm, ⟨10, _⟩ => ⟨S4x1x2880, .f32⟩
  | .hbm, ⟨11, _⟩ => ⟨S4x1x2880, .f32⟩
  | .hbm, ⟨12, _⟩ => ⟨S4x1x1, .f32⟩
  | .hbm, ⟨13, _⟩ => ⟨S4x1x128, .f32⟩
  | .hbm, ⟨14, _⟩ => ⟨S2880x8192, .bf16⟩
  | .local _ .vmem, ⟨0, _⟩ => ⟨S256x2880, .fp8e4m3⟩
  | .local _ .vmem, ⟨1, _⟩ => ⟨S256x2880, .fp8e4m3⟩
  | .local _ .vmem, ⟨2, _⟩ => ⟨S256x128, .f32⟩
  | .local _ .vmem, ⟨3, _⟩ => ⟨S256x128, .f32⟩
  | .local _ .vmem, ⟨4, _⟩ => ⟨S1x2880x2880, .fp8e4m3⟩
  | .local _ .vmem, ⟨5, _⟩ => ⟨S1x2880x2880, .fp8e4m3⟩
  | .local _ .vmem, ⟨6, _⟩ => ⟨S1x1x2880, .f32⟩
  | .local _ .vmem, ⟨7, _⟩ => ⟨S1x1x2880, .f32⟩
  | .local _ .vmem, ⟨8, _⟩ => ⟨S1x1x2880, .f32⟩
  | .local _ .vmem, ⟨9, _⟩ => ⟨S1x1x2880, .f32⟩
  | .local _ .vmem, ⟨10, _⟩ => ⟨S1x1x128, .f32⟩
  | .local _ .vmem, ⟨11, _⟩ => ⟨S1x1x128, .f32⟩
  | .local _ .vmem, ⟨12, _⟩ => ⟨S2880x256, .bf16⟩
  | .local _ .vmem, ⟨13, _⟩ => ⟨S2880x256, .bf16⟩
  | .local _ .vmem, ⟨14, _⟩ => ⟨S2880x256, .bf16⟩
  | .local _ .vmem, ⟨15, _⟩ => ⟨S2880x256, .bf16⟩
  | .local _ .smem, ⟨0, _⟩ => ⟨S35, .i32⟩
  | .local _ .smem, ⟨1, _⟩ => ⟨S35, .i32⟩
  | .local _ .smem, ⟨2, _⟩ => ⟨S5, .i32⟩
  | .local _ .smem, ⟨3, _⟩ => ⟨S35, .i32⟩
  | _, _ => ⟨S8192x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_arg0 : Ref sig .tc := ⟨.smem, 0, rfl⟩
abbrev main_arg1 : Ref sig .tc := ⟨.smem, 1, rfl⟩
abbrev main_arg3 : Ref sig .tc := ⟨.smem, 2, rfl⟩
abbrev main_arg2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![35], ![false]⟩

abbrev pre0 : Pipeline.Prefetch sig := ⟨4, ![main_arg0.idx, main_arg1.idx, main_arg3.idx, main_arg2.idx], fun | 0 => main_arg0.names | 1 => main_arg1.names | 2 => main_arg3.names | 3 => main_arg2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 1 → Nat :=
  let v5 : Index := Scalar.indexCast v1
  ![v5.toNat]

def k0_off3 (v1 : BitVec 32) : Fin 1 → Nat :=
  let c1_i32 : BitVec 32 := 1#32
  let v8 : BitVec 32 := Scalar.addi v1 c1_i32
  let v9 : Index := Scalar.indexCast v8
  ![v9.toNat]

def k0_chk1 (v1 : BitVec 32) : Prop :=
  (∀ a, (k0_off2 v1) a + S1.size a ≤ S5.size a) ∧
  (∀ a, (k0_off3 v1) a + S1.size a ≤ S5.size a)
theorem k0_off2_inb : ∀ (v1 : BitVec 32) (k0_hw1 : k0_chk1 v1), ∀ a, (k0_off2 v1) a + S1.size a ≤ S5.size a := fun v1 k0_hw1 => k0_hw1.1
theorem k0_off3_inb : ∀ (v1 : BitVec 32) (k0_hw1 : k0_chk1 v1), ∀ a, (k0_off3 v1) a + S1.size a ≤ S5.size a := fun v1 k0_hw1 => k0_hw1.2

def k0_off4 (i : grid0.Coords) : Fin 1 → Nat :=
  let arg0 : BitVec 32 := BitVec.ofNat 32 (i 0).val
  let v15 : Index := Scalar.indexCast arg0
  ![v15.toNat]
def k0_off5 (i : grid0.Coords) : Fin 1 → Nat :=
  let arg0 : BitVec 32 := BitVec.ofNat 32 (i 0).val
  let v22 : Index := Scalar.indexCast arg0
  ![v22.toNat]
def k0_cond1 (v3 : BitVec 32) (v6 : BitVec 32) (v10 : BitVec 32) (v16 : BitVec 32) : BitVec 1 :=
  let c0_i32_1 : BitVec 32 := 0#32
  let v17 : BitVec 1 := Scalar.cmpi .sgt v16 c0_i32_1
  let c256_i32 : BitVec 32 := 256#32
  let v4 : BitVec 32 := Scalar.muli v3 c256_i32
  let v7 : BitVec 32 := Scalar.subi v6 v4
  let c0_i32 : BitVec 32 := 0#32
  let v12 : BitVec 1 := Scalar.cmpi .sle v7 c0_i32
  let v11 : BitVec 32 := Scalar.subi v10 v4
  let c256_i32_0 : BitVec 32 := 256#32
  let v13 : BitVec 1 := Scalar.cmpi .sge v11 c256_i32_0
  let v14 : BitVec 1 := Scalar.andi v12 v13
  let v_false : BitVec 1 := 0#1
  let v18 : BitVec 1 := Scalar.xori v14 v_false
  let v19 : BitVec 1 := Scalar.andi v17 v18
  let v20 : BitVec 32 := Scalar.extui v19
  let c0_i32_2 : BitVec 32 := 0#32
  let v21 : BitVec 1 := Scalar.cmpi .ne v20 c0_i32_2
  v21

def k0_cond2 (v3 : BitVec 32) (v6 : BitVec 32) (v10 : BitVec 32) (v23 : BitVec 32) : BitVec 1 :=
  let c0_i32_3 : BitVec 32 := 0#32
  let v24 : BitVec 1 := Scalar.cmpi .sgt v23 c0_i32_3
  let c256_i32 : BitVec 32 := 256#32
  let v4 : BitVec 32 := Scalar.muli v3 c256_i32
  let v7 : BitVec 32 := Scalar.subi v6 v4
  let c0_i32 : BitVec 32 := 0#32
  let v12 : BitVec 1 := Scalar.cmpi .sle v7 c0_i32
  let v11 : BitVec 32 := Scalar.subi v10 v4
  let c256_i32_0 : BitVec 32 := 256#32
  let v13 : BitVec 1 := Scalar.cmpi .sge v11 c256_i32_0
  let v14 : BitVec 1 := Scalar.andi v12 v13
  let v_true : BitVec 1 := 1#1
  let v25 : BitVec 1 := Scalar.xori v14 v_true
  let v26 : BitVec 1 := Scalar.andi v24 v25
  let v27 : BitVec 32 := Scalar.extui v26
  let c0_i32_4 : BitVec 32 := 0#32
  let v28 : BitVec 1 := Scalar.cmpi .ne v27 c0_i32_4
  v28

def cc0_transform_0 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![c0_i32.toNat, v1.toNat]

def cc0_transform_7 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![c0_i32.toNat, v1.toNat]

abbrev stage0_0 : Fin 2 → Memref sig .tc .vmem S256x2880 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2880x2880 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2880 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2880 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2880x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2880x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S35 : Shape := ⟨1, ![35]⟩
abbrev S5 : Shape := ⟨1, ![5]⟩
abbrev S8192x2880 : Shape := ⟨2, ![8192, 2880]⟩
abbrev S8192 : Shape := ⟨1, ![8192]⟩
abbrev S4x2880x2880 : Shape := ⟨3, ![4, 2880, 2880]⟩
abbrev S4x2880 : Shape := ⟨2, ![4, 2880]⟩
abbrev S4 : Shape := ⟨1, ![4]⟩
abbrev S1x4 : Shape := ⟨2, ![1, 4]⟩
abbrev S8192x1 : Shape := ⟨2, ![8192, 1]⟩
abbrev S8192x4 : Shape := ⟨2, ![8192, 4]⟩
abbrev S_ : Shape := ⟨0, ![]⟩
abbrev S4x1 : Shape := ⟨2, ![4, 1]⟩
abbrev S2880x8192 : Shape := ⟨2, ![2880, 8192]⟩
abbrev S1x2880x2880 : Shape := ⟨3, ![1, 2880, 2880]⟩
abbrev S2880x2880 : Shape := ⟨2, ![2880, 2880]⟩
abbrev S1x2880 : Shape := ⟨2, ![1, 2880]⟩
abbrev S1x1 : Shape := ⟨2, ![1, 1]⟩

abbrev nBuf : Space → Nat
  | .hbm => 25
  | .vmem => 9
  | .smem => 0
  | _ => 0

abbrev bufTy : (tb : Table) → Fin (tcTables nBuf tb) → BufTy
  | .hbm, ⟨0, _⟩ => ⟨S35, .i32⟩
  | .hbm, ⟨1, _⟩ => ⟨S35, .i32⟩
  | .hbm, ⟨2, _⟩ => ⟨S35, .i32⟩
  | .hbm, ⟨3, _⟩ => ⟨S5, .i32⟩
  | .hbm, ⟨4, _⟩ => ⟨S8192x2880, .fp8e4m3⟩
  | .hbm, ⟨5, _⟩ => ⟨S8192, .f32⟩
  | .hbm, ⟨6, _⟩ => ⟨S4x2880x2880, .fp8e4m3⟩
  | .hbm, ⟨7, _⟩ => ⟨S4x2880, .f32⟩
  | .hbm, ⟨8, _⟩ => ⟨S4x2880, .f32⟩
  | .hbm, ⟨9, _⟩ => ⟨S4, .f32⟩
  | .hbm, ⟨10, _⟩ => ⟨S8192x2880, .bf16⟩
  | .hbm, ⟨11, _⟩ => ⟨S8192, .i32⟩
  | .hbm, ⟨12, _⟩ => ⟨S4, .i32⟩
  | .hbm, ⟨13, _⟩ => ⟨S1x4, .i32⟩
  | .hbm, ⟨14, _⟩ => ⟨S8192x1, .i32⟩
  | .hbm, ⟨15, _⟩ => ⟨S8192x4, .i32⟩
  | .hbm, ⟨16, _⟩ => ⟨S8192x4, .i32⟩
  | .hbm, ⟨17, _⟩ => ⟨S8192x4, .i1⟩
  | .hbm, ⟨18, _⟩ => ⟨S8192x4, .i32⟩
  | .hbm, ⟨19, _⟩ => ⟨S_, .i32⟩
  | .hbm, ⟨20, _⟩ => ⟨S8192, .i32⟩
  | .hbm, ⟨21, _⟩ => ⟨S8192x1, .i32⟩
  | .hbm, ⟨22, _⟩ => ⟨S8192x1, .f32⟩
  | .hbm, ⟨23, _⟩ => ⟨S4x1, .f32⟩
  | .hbm, ⟨24, _⟩ => ⟨S2880x8192, .bf16⟩
  | .local _ .vmem, ⟨0, _⟩ => ⟨S8192x1, .i32⟩
  | .local _ .vmem, ⟨1, _⟩ => ⟨S8192x2880, .fp8e4m3⟩
  | .local _ .vmem, ⟨2, _⟩ => ⟨S8192x1, .f32⟩
  | .local _ .vmem, ⟨3, _⟩ => ⟨S4x2880x2880, .fp8e4m3⟩
  | .local _ .vmem, ⟨4, _⟩ => ⟨S4x2880, .f32⟩
  | .local _ .vmem, ⟨5, _⟩ => ⟨S4x2880, .f32⟩
  | .local _ .vmem, ⟨6, _⟩ => ⟨S4x1, .f32⟩
  | .local _ .vmem, ⟨7, _⟩ => ⟨S8192x2880, .bf16⟩
  | .local _ .vmem, ⟨8, _⟩ => ⟨S2880x8192, .bf16⟩
  | _, _ => ⟨S35, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2880x2880 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2880 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x2880 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2880x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Qkv.lean ====
abbrev S35 : Shape := ⟨1, ![35]⟩
abbrev S5 : Shape := ⟨1, ![5]⟩
abbrev S8192x2880 : Shape := ⟨2, ![8192, 2880]⟩
abbrev S8192 : Shape := ⟨1, ![8192]⟩
abbrev S4x2880x8704 : Shape := ⟨3, ![4, 2880, 8704]⟩
abbrev S4x8704 : Shape := ⟨2, ![4, 8704]⟩
abbrev S8192x1 : Shape := ⟨2, ![8192, 1]⟩
abbrev S8192x128 : Shape := ⟨2, ![8192, 128]⟩
abbrev S4x1x8704 : Shape := ⟨3, ![4, 1, 8704]⟩
abbrev S196608x128 : Shape := ⟨2, ![196608, 128]⟩
abbrev S8192x1536 : Shape := ⟨2, ![8192, 1536]⟩
abbrev S8192x1408 : Shape := ⟨2, ![8192, 1408]⟩
abbrev S8192x2944 : Shape := ⟨2, ![8192, 2944]⟩
abbrev S256x2880 : Shape := ⟨2, ![256, 2880]⟩
abbrev S1 : Shape := ⟨1, ![1]⟩
abbrev S256x128 : Shape := ⟨2, ![256, 128]⟩
abbrev S1x2880x4352 : Shape := ⟨3, ![1, 2880, 4352]⟩
abbrev S1x1x4352 : Shape := ⟨3, ![1, 1, 4352]⟩
abbrev S6144x128 : Shape := ⟨2, ![6144, 128]⟩
abbrev S256x1536 : Shape := ⟨2, ![256, 1536]⟩
abbrev S256x1408 : Shape := ⟨2, ![256, 1408]⟩
abbrev S256x2944 : Shape := ⟨2, ![256, 2944]⟩
abbrev S1x2880x256 : Shape := ⟨3, ![1, 2880, 256]⟩
abbrev S2880x256 : Shape := ⟨2, ![2880, 256]⟩
abbrev S256x256 : Shape := ⟨2, ![256, 256]⟩
abbrev S1x1x128 : Shape := ⟨3, ![1, 1, 128]⟩
abbrev S1x128 : Shape := ⟨2, ![1, 128]⟩

abbrev nBuf : Space → Nat
  | .hbm => 13
  | .vmem => 18
  | .smem => 4
  | _ => 0

abbrev bufTy : (tb : Table) → Fin (tcTables nBuf tb) → BufTy
  | .hbm, ⟨0, _⟩ => ⟨S8192x2880, .fp8e4m3⟩
  | .hbm, ⟨1, _⟩ => ⟨S8192, .f32⟩
  | .hbm, ⟨2, _⟩ => ⟨S4x2880x8704, .fp8e4m3⟩
  | .hbm, ⟨3, _⟩ => ⟨S4x8704, .f32⟩
  | .hbm, ⟨4, _⟩ => ⟨S4x8704, .f32⟩
  | .hbm, ⟨5, _⟩ => ⟨S8192x1, .f32⟩
  | .hbm, ⟨6, _⟩ => ⟨S8192x128, .f32⟩
  | .hbm, ⟨7, _⟩ => ⟨S4x1x8704, .f32⟩
  | .hbm, ⟨8, _⟩ => ⟨S4x1x8704, .f32⟩
  | .hbm, ⟨9, _⟩ => ⟨S196608x128, .f32⟩
  | .hbm, ⟨10, _⟩ => ⟨S8192x1536, .bf16⟩
  | .hbm, ⟨11, _⟩ => ⟨S8192x1408, .bf16⟩
  | .hbm, ⟨12, _⟩ => ⟨S8192x2944, .bf16⟩
  | .local _ .vmem, ⟨0, _⟩ => ⟨S256x2880, .fp8e4m3⟩
  | .local _ .vmem, ⟨1, _⟩ => ⟨S256x2880, .fp8e4m3⟩
  | .local _ .vmem, ⟨2, _⟩ => ⟨S256x128, .f32⟩
  | .local _ .vmem, ⟨3, _⟩ => ⟨S256x128, .f32⟩
  | .local _ .vmem, ⟨4, _⟩ => ⟨S1x2880x4352, .fp8e4m3⟩
  | .local _ .vmem, ⟨5, _⟩ => ⟨S1x2880x4352, .fp8e4m3⟩
  | .local _ .vmem, ⟨6, _⟩ => ⟨S1x1x4352, .f32⟩
  | .local _ .vmem, ⟨7, _⟩ => ⟨S1x1x4352, .f32⟩
  | .local _ .vmem, ⟨8, _⟩ => ⟨S1x1x4352, .f32⟩
  | .local _ .vmem, ⟨9, _⟩ => ⟨S1x1x4352, .f32⟩
  | .local _ .vmem, ⟨10, _⟩ => ⟨S6144x128, .f32⟩
  | .local _ .vmem, ⟨11, _⟩ => ⟨S6144x128, .f32⟩
  | .local _ .vmem, ⟨12, _⟩ => ⟨S256x1536, .bf16⟩
  | .local _ .vmem, ⟨13, _⟩ => ⟨S256x1536, .bf16⟩
  | .local _ .vmem, ⟨14, _⟩ => ⟨S256x1408, .bf16⟩
  | .local _ .vmem, ⟨15, _⟩ => ⟨S256x1408, .bf16⟩
  | .local _ .vmem, ⟨16, _⟩ => ⟨S256x2944, .bf16⟩
  | .local _ .vmem, ⟨17, _⟩ => ⟨S256x2944, .bf16⟩
  | .local _ .smem, ⟨0, _⟩ => ⟨S35, .i32⟩
  | .local _ .smem, ⟨1, _⟩ => ⟨S35, .i32⟩
  | .local _ .smem, ⟨2, _⟩ => ⟨S5, .i32⟩
  | .local _ .smem, ⟨3, _⟩ => ⟨S35, .i32⟩
  | _, _ => ⟨S8192x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_arg0 : Ref sig .tc := ⟨.smem, 0, rfl⟩
abbrev main_arg1 : Ref sig .tc := ⟨.smem, 1, rfl⟩
abbrev main_arg3 : Ref sig .tc := ⟨.smem, 2, rfl⟩
abbrev main_arg2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 35], ![false, false]⟩

abbrev pre0 : Pipeline.Prefetch sig := ⟨4, ![main_arg0.idx, main_arg1.idx, main_arg3.idx, main_arg2.idx], fun | 0 => main_arg0.names | 1 => main_arg1.names | 2 => main_arg3.names | 3 => main_arg2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (v1 : BitVec 32) : Fin 1 → Nat :=
  let v5 : Index := Scalar.indexCast v1
  ![v5.toNat]

def k0_off3 (v1 : BitVec 32) : Fin 1 → Nat :=
  let c1_i32 : BitVec 32 := 1#32
  let v8 : BitVec 32 := Scalar.addi v1 c1_i32
  let v9 : Index := Scalar.indexCast v8
  ![v9.toNat]

def k0_chk1 (v1 : BitVec 32) : Prop :=
  (∀ a, (k0_off2 v1) a + S1.size a ≤ S5.size a) ∧
  (∀ a, (k0_off3 v1) a + S1.size a ≤ S5.size a)
theorem k0_off2_inb : ∀ (v1 : BitVec 32) (k0_hw1 : k0_chk1 v1), ∀ a, (k0_off2 v1) a + S1.size a ≤ S5.size a := fun v1 k0_hw1 => k0_hw1.1
theorem k0_off3_inb : ∀ (v1 : BitVec 32) (k0_hw1 : k0_chk1 v1), ∀ a, (k0_off3 v1) a + S1.size a ≤ S5.size a := fun v1 k0_hw1 => k0_hw1.2

def k0_off4 (i : grid0.Coords) : Fin 1 → Nat :=
  let arg1 : BitVec 32 := BitVec.ofNat 32 (i 1).val
  let v18 : Index := Scalar.indexCast arg1
  ![v18.toNat]
def k0_off5 (i : grid0.Coords) : Fin 1 → Nat :=
  let arg1 : BitVec 32 := BitVec.ofNat 32 (i 1).val
  let v27 : Index := Scalar.indexCast arg1
  ![v27.toNat]
def k0_off6 (i : grid0.Coords) : Fin 1 → Nat :=
  let arg1 : BitVec 32 := BitVec.ofNat 32 (i 1).val
  let v36 : Index := Scalar.indexCast arg1
  ![v36.toNat]
def k0_off7 (i : grid0.Coords) : Fin 1 → Nat :=
  let arg1 : BitVec 32 := BitVec.ofNat 32 (i 1).val
  let v45 : Index := Scalar.indexCast arg1
  ![v45.toNat]
def k0_cond1 (i : grid0.Coords) (v3 : BitVec 32) (v6 : BitVec 32) (v10 : BitVec 32) (v19 : BitVec 32) : BitVec 1 :=
  let arg0 : BitVec 32 := BitVec.ofNat 32 (i 0).val
  let c0_i32_1 : BitVec 32 := 0#32
  let v15 : BitVec 1 := Scalar.cmpi .eq arg0 c0_i32_1
  let c256_i32 : BitVec 32 := 256#32
  let v4 : BitVec 32 := Scalar.muli v3 c256_i32
  let v7 : BitVec 32 := Scalar.subi v6 v4
  let c0_i32 : BitVec 32 := 0#32
  let v12 : BitVec 1 := Scalar.cmpi .sle v7 c0_i32
  let v11 : BitVec 32 := Scalar.subi v10 v4
  let c256_i32_0 : BitVec 32 := 256#32
  let v13 : BitVec 1 := Scalar.cmpi .sge v11 c256_i32_0
  let v14 : BitVec 1 := Scalar.andi v12 v13
  let v_false : BitVec 1 := 0#1
  let v16 : BitVec 1 := Scalar.xori v14 v_false
  let v17 : BitVec 1 := Scalar.andi v15 v16
  let c0_i32_2 : BitVec 32 := 0#32
  let v20 : BitVec 1 := Scalar.cmpi .sgt v19 c0_i32_2
  let v21 : BitVec 1 := Scalar.andi v17 v20
  let v22 : BitVec 32 := Scalar.extui v21
  let c0_i32_3 : BitVec 32 := 0#32
  let v23 : BitVec 1 := Scalar.cmpi .ne v22 c0_i32_3
  v23

def k0_cond2 (i : grid0.Coords) (v3 : BitVec 32) (v6 : BitVec 32) (v10 : BitVec 32) (v28 : BitVec 32) : BitVec 1 :=
  let arg0 : BitVec 32 := BitVec.ofNat 32 (i 0).val
  let c0_i32_4 : BitVec 32 := 0#32
  let v24 : BitVec 1 := Scalar.cmpi .eq arg0 c0_i32_4
  let c256_i32 : BitVec 32 := 256#32
  let v4 : BitVec 32 := Scalar.muli v3 c256_i32
  let v7 : BitVec 32 := Scalar.subi v6 v4
  let c0_i32 : BitVec 32 := 0#32
  let v12 : BitVec 1 := Scalar.cmpi .sle v7 c0_i32
  let v11 : BitVec 32 := Scalar.subi v10 v4
  let c256_i32_0 : BitVec 32 := 256#32
  let v13 : BitVec 1 := Scalar.cmpi .sge v11 c256_i32_0
  let v14 : BitVec 1 := Scalar.andi v12 v13
  let v_true : BitVec 1 := 1#1
  let v25 : BitVec 1 := Scalar.xori v14 v_true
  let v26 : BitVec 1 := Scalar.andi v24 v25
  let c0_i32_5 : BitVec 32 := 0#32
  let v29 : BitVec 1 := Scalar.cmpi .sgt v28 c0_i32_5
  let v30 : BitVec 1 := Scalar.andi v26 v29
  let v31 : BitVec 32 := Scalar.extui v30
  let c0_i32_6 : BitVec 32 := 0#32
  let v32 : BitVec 1 := Scalar.cmpi .ne v31 c0_i32_6
  v32

def k0_cond3 (i : grid0.Coords) (v3 : BitVec 32) (v6 : BitVec 32) (v10 : BitVec 32) (v37 : BitVec 32) : BitVec 1 :=
  let arg0 : BitVec 32 := BitVec.ofNat 32 (i 0).val
  let c1_i32_7 : BitVec 32 := 1#32
  let v33 : BitVec 1 := Scalar.cmpi .eq arg0 c1_i32_7
  let c256_i32 : BitVec 32 := 256#32
  let v4 : BitVec 32 := Scalar.muli v3 c256_i32
  let v7 : BitVec 32 := Scalar.subi v6 v4
  let c0_i32 : BitVec 32 := 0#32
  let v12 : BitVec 1 := Scalar.cmpi .sle v7 c0_i32
  let v11 : BitVec 32 := Scalar.subi v10 v4
  let c256_i32_0 : BitVec 32 := 256#32
  let v13 : BitVec 1 := Scalar.cmpi .sge v11 c256_i32_0
  let v14 : BitVec 1 := Scalar.andi v12 v13
  let false_8 : BitVec 1 := 0#1
  let v34 : BitVec 1 := Scalar.xori v14 false_8
  let v35 : BitVec 1 := Scalar.andi v33 v34
  let c0_i32_9 : BitVec 32 := 0#32
  let v38 : BitVec 1 := Scalar.cmpi .sgt v37 c0_i32_9
  let v39 : BitVec 1 := Scalar.andi v35 v38
  let v40 : BitVec 32 := Scalar.extui v39
  let c0_i32_10 : BitVec 32 := 0#32
  let v41 : BitVec 1 := Scalar.cmpi .ne v40 c0_i32_10
  v41

def k0_cond4 (i : grid0.Coords) (v3 : BitVec 32) (v6 : BitVec 32) (v10 : BitVec 32) (v46 : BitVec 32) : BitVec 1 :=
  let arg0 : BitVec 32 := BitVec.ofNat 32 (i 0).val
  let c1_i32_11 : BitVec 32 := 1#32
  let v42 : BitVec 1 := Scalar.cmpi .eq arg0 c1_i32_11
  let c256_i32 : BitVec 32 := 256#32
  let v4 : BitVec 32 := Scalar.muli v3 c256_i32
  let v7 : BitVec 32 := Scalar.subi v6 v4
  let c0_i32 : BitVec 32 := 0#32
  let v12 : BitVec 1 := Scalar.cmpi .sle v7 c0_i32
  let v11 : BitVec 32 := Scalar.subi v10 v4
  let c256_i32_0 : BitVec 32 := 256#32
  let v13 : BitVec 1 := Scalar.cmpi .sge v11 c256_i32_0
  let v14 : BitVec 1 := Scalar.andi v12 v13
  let true_12 : BitVec 1 := 1#1
  let v43 : BitVec 1 := Scalar.xori v14 true_12
  let v44 : BitVec 1 := Scalar.andi v42 v43
  let c0_i32_13 : BitVec 32 := 0#32
  let v47 : BitVec 1 := Scalar.cmpi .sgt v46 c0_i32_13
  let v48 : BitVec 1 := Scalar.andi v44 v47
  let v49 : BitVec 32 := Scalar.extui v48
  let c0_i32_14 : BitVec 32 := 0#32
  let v50 : BitVec 1 := Scalar.cmpi .ne v49 c0_i32_14
  v50

def cc0_transform_0 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S35) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S35) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S35) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let v1 : Index := Scalar.indexCast arg1
  let v2 : BitVec 32 := pf.at 0 (Rect.unit (s := S35) ![v1.toNat] S1.size (k0_off1_inb i)) numel1_S1
  let c31_i32 : BitVec 32 := 31#32
  let v3 : BitVec 32 := Scalar.select v0 v2 c31_i32
  let c0_i32_0 : BitVec 32 := 0#32
  let c0_i32_1 : BitVec 32 := 0#32
  ![v3.toNat, c0_i32_0.toNat]

def cc0_transform_6 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let v1 : Index := Scalar.indexCast arg1
  let v2 : BitVec 32 := pf.at 0 (Rect.unit (s := S35) ![v1.toNat] S1.size (k0_off1_inb i)) numel1_S1
  let c31_i32 : BitVec 32 := 31#32
  let v3 : BitVec 32 := Scalar.select v0 v2 c31_i32
  let c0_i32_0 : BitVec 32 := 0#32
  let c0_i32_1 : BitVec 32 := 0#32
  ![v3.toNat, c0_i32_0.toNat]

def cc0_transform_7 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let v1 : Index := Scalar.indexCast arg1
  let v2 : BitVec 32 := pf.at 0 (Rect.unit (s := S35) ![v1.toNat] S1.size (k0_off1_inb i)) numel1_S1
  let c0_i32 : BitVec 32 := 0#32
  let v3 : BitVec 32 := Scalar.select v0 v2 c0_i32
  let c0_i32_0 : BitVec 32 := 0#32
  let c0_i32_1 : BitVec 32 := 0#32
  ![v3.toNat, c0_i32_0.toNat]

def cc0_transform_8 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let v1 : Index := Scalar.indexCast arg1
  let v2 : BitVec 32 := pf.at 0 (Rect.unit (s := S35) ![v1.toNat] S1.size (k0_off1_inb i)) numel1_S1
  let c0_i32 : BitVec 32 := 0#32
  let v3 : BitVec 32 := Scalar.select v0 v2 c0_i32
  let c0_i32_0 : BitVec 32 := 0#32
  let c0_i32_1 : BitVec 32 := 0#32
  ![v3.toNat, c0_i32_0.toNat]

abbrev stage0_0 : Fin 2 → Memref sig .tc .vmem S256x2880 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2880x4352 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S6144x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2944 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkvRefIdeal.lean ====
abbrev S35 : Shape := ⟨1, ![35]⟩
abbrev S5 : Shape := ⟨1, ![5]⟩
abbrev S8192x2880 : Shape := ⟨2, ![8192, 2880]⟩
abbrev S8192 : Shape := ⟨1, ![8192]⟩
abbrev S4x2880x8704 : Shape := ⟨3, ![4, 2880, 8704]⟩
abbrev S4x8704 : Shape := ⟨2, ![4, 8704]⟩
abbrev S4 : Shape := ⟨1, ![4]⟩
abbrev S1x4 : Shape := ⟨2, ![1, 4]⟩
abbrev S8192x1 : Shape := ⟨2, ![8192, 1]⟩
abbrev S8192x4 : Shape := ⟨2, ![8192, 4]⟩
abbrev S_ : Shape := ⟨0, ![]⟩
abbrev S196608x128 : Shape := ⟨2, ![196608, 128]⟩
abbrev S8192x1536 : Shape := ⟨2, ![8192, 1536]⟩
abbrev S8192x1408 : Shape := ⟨2, ![8192, 1408]⟩
abbrev S8192x2944 : Shape := ⟨2, ![8192, 2944]⟩
abbrev S8192x8640 : Shape := ⟨2, ![8192, 8640]⟩
abbrev S1x2880x8640 : Shape := ⟨3, ![1, 2880, 8640]⟩
abbrev S2880x8640 : Shape := ⟨2, ![2880, 8640]⟩
abbrev S1x8640 : Shape := ⟨2, ![1, 8640]⟩
abbrev S8192x18x160 : Shape := ⟨3, ![8192, 18, 160]⟩
abbrev S8192x16x160 : Shape := ⟨3, ![8192, 16, 160]⟩
abbrev S8192x4x4x5x32 : Shape := ⟨5, ![8192, 4, 4, 5, 32]⟩
abbrev S8192x4x5x4x32 : Shape := ⟨5, ![8192, 4, 5, 4, 32]⟩
abbrev S8192x20x128 : Shape := ⟨3, ![8192, 20, 128]⟩
abbrev S8192x2x160 : Shape := ⟨3, ![8192, 2, 160]⟩
abbrev S8192x2x5x32 : Shape := ⟨4, ![8192, 2, 5, 32]⟩
abbrev S8192x5x2x32 : Shape := ⟨4, ![8192, 5, 2, 32]⟩
abbrev S8192x320 : Shape := ⟨2, ![8192, 320]⟩
abbrev S8192x192 : Shape := ⟨2, ![8192, 192]⟩
abbrev S8192x512 : Shape := ⟨2, ![8192, 512]⟩
abbrev S8192x4x128 : Shape := ⟨3, ![8192, 4, 128]⟩
abbrev S8192x24x128 : Shape := ⟨3, ![8192, 24, 128]⟩
abbrev S8192x64 : Shape := ⟨2, ![8192, 64]⟩

abbrev nBuf : Space → Nat
  | .hbm => 25
  | .vmem => 10
  | .smem => 0
  | _ => 0

abbrev bufTy : (tb : Table) → Fin (tcTables nBuf tb) → BufTy
  | .hbm, ⟨0, _⟩ => ⟨S35, .i32⟩
  | .hbm, ⟨1, _⟩ => ⟨S35, .i32⟩
  | .hbm, ⟨2, _⟩ => ⟨S35, .i32⟩
  | .hbm, ⟨3, _⟩ => ⟨S5, .i32⟩
  | .hbm, ⟨4, _⟩ => ⟨S8192x2880, .fp8e4m3⟩
  | .hbm, ⟨5, _⟩ => ⟨S8192, .f32⟩
  | .hbm, ⟨6, _⟩ => ⟨S4x2880x8704, .fp8e4m3⟩
  | .hbm, ⟨7, _⟩ => ⟨S4x8704, .f32⟩
  | .hbm, ⟨8, _⟩ => ⟨S4x8704, .f32⟩
  | .hbm, ⟨9, _⟩ => ⟨S8192, .i32⟩
  | .hbm, ⟨10, _⟩ => ⟨S4, .i32⟩
  | .hbm, ⟨11, _⟩ => ⟨S1x4, .i32⟩
  | .hbm, ⟨12, _⟩ => ⟨S8192x1, .i32⟩
  | .hbm, ⟨13, _⟩ => ⟨S8192x4, .i32⟩
  | .hbm, ⟨14, _⟩ => ⟨S8192x4, .i32⟩
  | .hbm, ⟨15, _⟩ => ⟨S8192x4, .i1⟩
  | .hbm, ⟨16, _⟩ => ⟨S8192x4, .i32⟩
  | .hbm, ⟨17, _⟩ => ⟨S_, .i32⟩
  | .hbm, ⟨18, _⟩ => ⟨S8192, .i32⟩
  | .hbm, ⟨19, _⟩ => ⟨S8192x1, .i32⟩
  | .hbm, ⟨20, _⟩ => ⟨S8192x1, .f32⟩
  | .hbm, ⟨21, _⟩ => ⟨S196608x128, .f32⟩
  | .hbm, ⟨22, _⟩ => ⟨S8192x1536, .bf16⟩
  | .hbm, ⟨23, _⟩ => ⟨S8192x1408, .bf16⟩
  | .hbm, ⟨24, _⟩ => ⟨S8192x2944, .bf16⟩
  | .local _ .vmem, ⟨0, _⟩ => ⟨S8192x1, .i32⟩
  | .local _ .vmem, ⟨1, _⟩ => ⟨S8192x2880, .fp8e4m3⟩
  | .local _ .vmem, ⟨2, _⟩ => ⟨S8192x1, .f32⟩
  | .local _ .vmem, ⟨3, _⟩ => ⟨S4x2880x8704, .fp8e4m3⟩
  | .local _ .vmem, ⟨4, _⟩ => ⟨S4x8704, .f32⟩
  | .local _ .vmem, ⟨5, _⟩ => ⟨S4x8704, .f32⟩
  | .local _ .vmem, ⟨6, _⟩ => ⟨S196608x128, .f32⟩
  | .local _ .vmem, ⟨7, _⟩ => ⟨S8192x1536, .bf16⟩
  | .local _ .vmem, ⟨8, _⟩ => ⟨S8192x1408, .bf16⟩
  | .local _ .vmem, ⟨9, _⟩ => ⟨S8192x2944, .bf16⟩
  | _, _ => ⟨S35, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2880x8704 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S196608x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x1408 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x2944 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.OutProjIdeal.Kit.lean ====
/- The parts of the kernel's run that its proof shares: the host operations before the call, what the arrays and tables hold
   when the call is entered, each window's block, the words that the body reads and the two conditions it branches on. -/
module

public import proofs.«01_k».proof.Proof.Gen.OutProjIdeal.Launch
public import proofs.«01_k».proof.Proof.Gen.OutProjIdeal.Skeleton
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S35 .i32 := Memref.whole main_arg0
abbrev htbM0_0 : tbM0_0.IsWhole := Memref.isWhole_whole _
abbrev tbM0_1 : Memref sig .tc .smem S35 .i32 := Memref.whole main_arg1
abbrev htbM0_1 : tbM0_1.IsWhole := Memref.isWhole_whole _
abbrev tbM0_2 : Memref sig .tc .smem S5 .i32 := Memref.whole main_arg3
abbrev htbM0_2 : tbM0_2.IsWhole := Memref.isWhole_whole _
abbrev tbM0_3 : Memref sig .tc .smem S35 .i32 := Memref.whole main_arg2
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_OutProj`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      (Pipeline.RDat.FramePost.arr_in h c 0 rfl).trans ((hA c 0).trans (V_main_arg4 m c)),
      ((h c).2 main_arg5 (by decide : main_arg5 ∈ Pipeline.restRefs sig spec0)).trans (V_main_arg5 m c),
      (Pipeline.RDat.FramePost.arr_in h c 2 rfl).trans ((hA c 2).trans (V_main_arg6 m c)),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_out_proj (grid0.coords t) (Memref.whole main_arg0) (Memref.isWhole_whole _) (Memref.whole main_arg1) (Memref.isWhole_whole _) (Memref.whole main_arg3) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-! ## The words the body reads, and its two conditions -/

/-- The group word at a point. -/
abbrev wG (c : Dev nD) (i : grid0.Coords) (xt1 : TbBuf0 (F := F) c tbM0_1) : BitVec 32 :=
  (tbM0_1.view.readAt (Elt F) (Rect.unit (s := S35) (k0_off1 i) S1.size (k0_off1_inb i)).toLoadRect xt1 (Shape.Idx.first (numel1_S1.symm ▸ Nat.one_pos)))
/-- The tile word at a point. -/
abbrev wT (c : Dev nD) (i : grid0.Coords) (xt0 : TbBuf0 (F := F) c tbM0_0) : BitVec 32 :=
  (tbM0_0.view.readAt (Elt F) (Rect.unit (s := S35) (k0_off1 i) S1.size (k0_off1_inb i)).toLoadRect xt0 (Shape.Idx.first (numel1_S1.symm ▸ Nat.one_pos)))
/-- The live word at a point, as the first condition reads it, and as the second does. -/
abbrev wL (c : Dev nD) (i : grid0.Coords) (xt3 : TbBuf0 (F := F) c tbM0_3) : BitVec 32 :=
  (tbM0_3.view.readAt (Elt F) (Rect.unit (s := S35) (k0_off4 i) S1.size (k0_off4_inb i)).toLoadRect xt3 (Shape.Idx.first (numel1_S1.symm ▸ Nat.one_pos)))
abbrev wL' (c : Dev nD) (i : grid0.Coords) (xt3 : TbBuf0 (F := F) c tbM0_3) : BitVec 32 :=
  (tbM0_3.view.readAt (Elt F) (Rect.unit (s := S35) (k0_off5 i) S1.size (k0_off5_inb i)).toLoadRect xt3 (Shape.Idx.first (numel1_S1.symm ▸ Nat.one_pos)))
/-- Where the point's type begins, and where it ends. -/
abbrev wLo (c : Dev nD) (i : grid0.Coords) (xt1 : TbBuf0 (F := F) c tbM0_1) (xt2 : TbBuf0 (F := F) c tbM0_2) (h : k0_chk1 (wG c i xt1)) : BitVec 32 :=
  (tbM0_2.view.readAt (Elt F) (Rect.unit (s := S5) (k0_off2 (wG c i xt1)) S1.size (k0_off2_inb (wG c i xt1) h)).toLoadRect xt2 (Shape.Idx.first (numel1_S1.symm ▸ Nat.one_pos)))
abbrev wHi (c : Dev nD) (i : grid0.Coords) (xt1 : TbBuf0 (F := F) c tbM0_1) (xt2 : TbBuf0 (F := F) c tbM0_2) (h : k0_chk1 (wG c i xt1)) : BitVec 32 :=
  (tbM0_2.view.readAt (Elt F) (Rect.unit (s := S5) (k0_off3 (wG c i xt1)) S1.size (k0_off3_inb (wG c i xt1) h)).toLoadRect xt2 (Shape.Idx.first (numel1_S1.symm ▸ Nat.one_pos)))
/-- The body's first condition (a live point whose type covers the tile: the whole store) and its second
    (a live point whose type covers a part of the tile: the masked store), over the tables. -/
abbrev cond0_0 (c : Dev nD) (i : grid0.Coords) (xt0 : TbBuf0 (F := F) c tbM0_0) (xt1 : TbBuf0 (F := F) c tbM0_1) (xt2 : TbBuf0 (F := F) c tbM0_2) (xt3 : TbBuf0 (F := F) c tbM0_3) (h : k0_chk1 (wG c i xt1)) : Prop :=
  k0_cond1 (wT c i xt0) (wLo c i xt1 xt2 h) (wHi c i xt1 xt2 h) (wL c i xt3) = 1#1
abbrev cond0_1 (c : Dev nD) (i : grid0.Coords) (xt0 : TbBuf0 (F := F) c tbM0_0) (xt1 : TbBuf0 (F := F) c tbM0_1) (xt2 : TbBuf0 (F := F) c tbM0_2) (xt3 : TbBuf0 (F := F) c tbM0_3) (h : k0_chk1 (wG c i xt1)) : Prop :=
  k0_cond2 (wT c i xt0) (wLo c i xt1 xt2 h) (wHi c i xt1 xt2 h) (wL' c i xt3) = 1#1

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 (tbl m) 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 (tbl m) 6 (grid0.coords t) = false)
/-! ## The staging memrefs at a point -/

/-- Each window's current staging memref at point `t`, spelled as the pipeline passes it (`bodyAt0`), and its wholeness. -/
abbrev ms0_0 (hO : Ok m) (t : Fin (cfgM m hO).N) : Memref sig .tc .vmem S256x2880 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2880x2880 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2880 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x2880 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S2880x256 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S2880x256 .bf16 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- What the body assumes of the group word it reads at each point: both offsets it computes from that word lie in
    the table of type offsets. -/
def Hyps (m : (ℓ : Loc nD τ sig) → Buf (Elt F) ℓ) (hO : Ok m) : Prop :=
  ∀ (c : Dev nD) (t : Fin (cfgM m hO).N),
    k0_chk1 (tbM0_1.view.readAt (Elt F) (Rect.unit (s := S35) (k0_off1 (grid0.coords t)) S1.size (k0_off1_inb (grid0.coords t))).toLoadRect (tbl m 1) (Shape.Idx.first (numel1_S1.symm ▸ Nat.one_pos)))

end Cert.OutProjIdeal.Gen

end
-- ==== Proof.Tables.lean ====
/- What the precondition says of the visit tables and of the type offsets. -/
module

public import proofs.«01_k».proof.Pre_valid
public import proofs.«01_k».proof.Pre_valid_qkv
public import Idealize.ShloMosaic.Lib.Pointwise
public import Idealize.ShloMosaic.Lib.ReduceAll
public import Idealize.ShloMosaic.Lib.WordCmp

@[expose] public section

set_option maxRecDepth 16384

namespace Cert.Visits

open Idealize.ShloMosaic

abbrev W35 : Shape := ⟨1, ![35]⟩
abbrev W5 : Shape := ⟨1, ![5]⟩

/-- A list of visits that serves a grouped product: every visit names a tile of 256 rows and a type, the tiles do not
    decrease, the offsets split the 8192 rows into four runs, and each type that meets a tile is visited there by a live
    visit. -/
structure Tables (tile group live : W35.Idx → BitVec 32) (off : W5.Idx → BitVec 32) : Prop where
  tile_lt : ∀ i : Fin 35, (tile (ix1 i)).toNat < 32
  group_lt : ∀ i : Fin 35, (group (ix1 i)).toNat < 4
  mono : ∀ i : Fin 34, (tile (ix1 i.castSucc)).toNat ≤ (tile (ix1 i.succ)).toNat
  off0 : off (ix1 0) = 0#32
  off4 : off (ix1 4) = 8192#32
  off_le : ∀ g : Fin 5, (off (ix1 g)).toNat ≤ 8192
  off_mono : ∀ g : Fin 4, (off (ix1 g.castSucc)).toNat ≤ (off (ix1 g.succ)).toNat
  visit : ∀ (t : Fin 32) (g : Fin 4), (off (ix1 g.castSucc)).toNat < (t.val + 1) * 256 → t.val * 256 < (off (ix1 g.succ)).toNat →
    (off (ix1 g.castSucc)).toNat < (off (ix1 g.succ)).toNat →
    ∃ i : Fin 35, (tile (ix1 i)).toNat = t.val ∧ (group (ix1 i)).toNat = g.val ∧ 0 < (live (ix1 i)).toInt

theorem ori_eq_one {a b : BitVec 1} : IntOp.ori a b = 1#1 ↔ a = 1#1 ∨ b = 1#1 := by
  revert a b; decide

/-- A fold by `or` from 0 that is 1 has met a 1. -/
theorem fold_ori_eq_one {ι : Type} [DecidableEq ι] (s : Finset ι) (f : ι → BitVec 1) (h : s.fold IntOp.ori (0#1) f = 1#1) : ∃ i ∈ s, f i = 1#1 := by
  induction s using Finset.induction_on with
  | empty => rw [Finset.fold_empty] at h; exact absurd h (by decide)
  | insert a s ha ih =>
    rw [Finset.fold_insert ha, ori_eq_one] at h
    rcases h with h | h
    · exact ⟨a, Finset.mem_insert_self a s, h⟩
    · obtain ⟨i, hi, e⟩ := ih h; exact ⟨i, Finset.mem_insert_of_mem hi, e⟩

theorem range_of_words {a : BitVec 32} {n : Nat} (hn : n < 2 ^ 31)
    (h : IntOp.andi (IntOp.cmpi CmpIPredicate.sge a 0#32) (IntOp.cmpi CmpIPredicate.slt a (BitVec.ofNat 32 n)) = 1#1) : a.toNat < n := by
  rw [IntOp.andi_eq_one, WordCmp.cmpi_sge_eq, WordCmp.cmpi_slt_eq, WordCmp.ofBool_decide_eq_one_iff, WordCmp.ofBool_decide_eq_one_iff,
    WordCmp.toInt_ofNat_of_lt (by omega)] at h
  have := a.isLt
  simp only [BitVec.toInt, BitVec.toNat_ofNat] at h
  omega

open Cert.Pre_valid in
/-- The precondition, read. -/
theorem tables_of_valid [Cert.Pre_valid.Facts] {F : FTy → Type} [FloatOps F] (a0 a1 a2 : IVec S35 32) (a3 : IVec S5 32) (x4 x5 x6 x7 x8 x9 x10)
    (h : Cert.Pre_valid.fn (F := F) a0 a1 a2 a3 x4 x5 x6 x7 x8 x9 x10 = fun _ => 1#1) : Tables a0 a1 a2 a3 := by
  have e := congrFun h (fun a => a.elim0)
  simp only [fn, fn_part1, fn_part2, fn_part3] at e
  simp only [andi, Idealize.ShloMosaic.IntOp.andi_eq_one] at e
  obtain ⟨⟨⟨⟨⟨⟨ht, hg⟩, hm⟩, h0⟩, h4⟩, ho⟩, hv⟩ := e
  have tl : ∀ i : Fin 35, (a0 (ix1 i)).toNat < 32 := fun i => by
    have := Host.reduce_andi_all _ _ _ _ _ ht (ix1 i)
    pointwise at this
    exact range_of_words (by norm_num) this
  have gl : ∀ i : Fin 35, (a1 (ix1 i)).toNat < 4 := fun i => by
    have := Host.reduce_andi_all _ _ _ _ _ hg (ix1 i)
    pointwise at this
    exact range_of_words (by norm_num) this
  have e0 : a3 (ix1 0) = 0#32 := by
    pointwise at h0
    rwa [WordCmp.cmpi_eq_eq, WordCmp.ofBool_decide_eq_one_iff] at h0
  have e4 : a3 (ix1 4) = 8192#32 := by
    pointwise at h4
    rwa [WordCmp.cmpi_eq_eq, WordCmp.ofBool_decide_eq_one_iff] at h4
  have om : ∀ g : Fin 4, (a3 (ix1 g.castSucc)).toInt ≤ (a3 (ix1 g.succ)).toInt := fun g => by
    have := Host.reduce_andi_all _ _ _ _ _ ho (ix1 g)
    rw [cmpi_apply, WordCmp.cmpi_sle_eq, WordCmp.ofBool_decide_eq_one_iff] at this
    pointwise at this
    have e1 : ∀ h, (ix1 (⟨1 + ↑g, h⟩ : Fin 5)) = ix1 g.succ := fun h => congrArg ix1 (Fin.ext (by simp [Nat.add_comm]))
    have e2 : ∀ h, (ix1 (⟨↑g, h⟩ : Fin 5)) = ix1 g.castSucc := fun h => congrArg ix1 (Fin.ext (by simp))
    simp only [e1, e2] at this
    exact this
  have t0 : (a3 (ix1 0)).toInt = 0 := by rw [e0]; decide
  have t4 : (a3 (ix1 4)).toInt = 8192 := by rw [e4]; decide
  have m0 : (a3 (ix1 0)).toInt ≤ (a3 (ix1 1)).toInt := om 0
  have m1 : (a3 (ix1 1)).toInt ≤ (a3 (ix1 2)).toInt := om 1
  have m2 : (a3 (ix1 2)).toInt ≤ (a3 (ix1 3)).toInt := om 2
  have m3 : (a3 (ix1 3)).toInt ≤ (a3 (ix1 4)).toInt := om 3
  have or' : ∀ g : Fin 5, 0 ≤ (a3 (ix1 g)).toInt ∧ (a3 (ix1 g)).toInt ≤ 8192 := by
    intro g
    match g with
    | ⟨0, _⟩ => exact ⟨by show 0 ≤ (a3 (ix1 0)).toInt; omega, by show (a3 (ix1 0)).toInt ≤ 8192; omega⟩
    | ⟨1, _⟩ => exact ⟨by show 0 ≤ (a3 (ix1 1)).toInt; omega, by show (a3 (ix1 1)).toInt ≤ 8192; omega⟩
    | ⟨2, _⟩ => exact ⟨by show 0 ≤ (a3 (ix1 2)).toInt; omega, by show (a3 (ix1 2)).toInt ≤ 8192; omega⟩
    | ⟨3, _⟩ => exact ⟨by show 0 ≤ (a3 (ix1 3)).toInt; omega, by show (a3 (ix1 3)).toInt ≤ 8192; omega⟩
    | ⟨4, _⟩ => exact ⟨by show 0 ≤ (a3 (ix1 4)).toInt; omega, by show (a3 (ix1 4)).toInt ≤ 8192; omega⟩
  have tn : ∀ g : Fin 5, (a3 (ix1 g)).toInt = ((a3 (ix1 g)).toNat : Int) := fun g => by
    have := or' g; have := (a3 (ix1 g)).isLt; simp only [BitVec.toInt] at *; omega
  refine ⟨tl, gl, fun i => ?_, e0, e4, fun g => ?_, fun g => ?_, fun t g h1 h2 h3 => ?_⟩
  · have := Host.reduce_andi_all _ _ _ _ _ hm (ix1 i)
    rw [cmpi_apply, WordCmp.cmpi_sle_eq, WordCmp.ofBool_decide_eq_one_iff] at this
    pointwise at this
    have e1 : (ix1 (⟨1 + ↑i, by omega⟩ : Fin 35)) = ix1 i.succ := congrArg ix1 (Fin.ext (by simp [Nat.add_comm]))
    have e2 : (ix1 (⟨↑i, by omega⟩ : Fin 35)) = ix1 i.castSucc := congrArg ix1 (Fin.ext (by simp))
    rw [e1, e2] at this
    have l1 := tl i.succ
    have l2 := tl i.castSucc
    rw [WordCmp.toInt_eq_toNat_of_lt_half (by omega), WordCmp.toInt_eq_toNat_of_lt_half (by omega)] at this
    exact_mod_cast this
  · have := or' g; have := tn g; omega
  · have := om g; rw [tn, tn] at this; exact_mod_cast this
  · have := Host.reduce_andi_all _ _ _ _ _ hv (ix2 t g)
    rw [ori_apply, ori_eq_one] at this
    rcases this with this | this
    · pointwise at this
      obtain ⟨i, -, e⟩ := fold_ori_eq_one _ _ this
      rw [IntOp.andi_eq_one, IntOp.andi_eq_one, WordCmp.cmpi_eq_eq, WordCmp.cmpi_eq_eq, WordCmp.cmpi_sgt_eq,
        WordCmp.ofBool_decide_eq_one_iff, WordCmp.ofBool_decide_eq_one_iff, WordCmp.ofBool_decide_eq_one_iff] at e
      refine ⟨i, ?_, ?_, e.2⟩
      · rw [e.1.1, WordCmp.toNat_ofNat_of_lt (by omega)]
      · rw [e.1.2, WordCmp.toNat_ofNat_of_lt (by omega)]
    · exfalso
      pointwise at this
      have e1 : ∀ h, (ix1 (⟨1 + ↑g, h⟩ : Fin 5)) = ix1 g.succ := fun h => congrArg ix1 (Fin.ext (by simp [Nat.add_comm]))
      have e2 : ∀ h, (ix1 (⟨↑g, h⟩ : Fin 5)) = ix1 g.castSucc := fun h => congrArg ix1 (Fin.ext (by simp))
      simp only [e1, e2] at this
      have w1 : IntOp.muli (IntOp.addi (BitVec.ofNat 32 t) 1#32) 256#32 = BitVec.ofNat 32 ((t + 1) * 256) := by
        apply BitVec.eq_of_toNat_eq; simp only [IntOp.muli, IntOp.addi, BitVec.toNat_mul, BitVec.toNat_add, BitVec.toNat_ofNat]; omega
      have w2 : IntOp.muli (BitVec.ofNat 32 t) 256#32 = BitVec.ofNat 32 (t * 256) := by
        apply BitVec.eq_of_toNat_eq; simp only [IntOp.muli, BitVec.toNat_mul, BitVec.toNat_ofNat]; omega
      rw [w1, w2, WordCmp.cmpi_slt_eq, WordCmp.cmpi_sgt_eq, WordCmp.cmpi_slt_eq, tn, tn, WordCmp.toInt_ofNat_of_lt (by omega),
        WordCmp.toInt_ofNat_of_lt (by omega), decide_eq_true (by exact_mod_cast h1), decide_eq_true (by exact_mod_cast h2),
        decide_eq_true (by exact_mod_cast h3)] at this
      exact absurd this (by decide)

/-- The precondition of the q, k, v product states the same conditions. -/
theorem tables_of_valid_qkv [Cert.Pre_valid.Facts] [Cert.Pre_valid_qkv.Facts] {F : FTy → Type} [FloatOps F] (a0 a1 a2 : IVec Cert.Pre_valid_qkv.S35 32) (a3 : IVec Cert.Pre_valid_qkv.S5 32) (x4 x5 x6 x7 x8)
    (h : Cert.Pre_valid_qkv.fn (F := F) a0 a1 a2 a3 x4 x5 x6 x7 x8 = fun _ => 1#1) : Tables a0 a1 a2 a3 :=
  tables_of_valid (F := F) a0 a1 a2 a3 (fun _ => Scalar.ofBits _ 0) (fun _ => Scalar.ofBits _ 0) (fun _ => Scalar.ofBits _ 0) (fun _ => Scalar.ofBits _ 0) (fun _ => Scalar.ofBits _ 0) (fun _ => Scalar.ofBits _ 0) (fun _ => Scalar.ofBits _ 0) (by
    with_unfolding_all exact h)

/-! ## The type of a row -/

/-- The type of a node: how many of the types' ends lie at or before it. -/
def typeOf (off : W5.Idx → BitVec 32) (n : Nat) : Fin 4 :=
  if (off (ix1 1)).toNat ≤ n then if (off (ix1 2)).toNat ≤ n then if (off (ix1 3)).toNat ≤ n then 3 else 2 else 1 else 0

section
variable {tile group live : W35.Idx → BitVec 32} {off : W5.Idx → BitVec 32}

theorem Tables.typeOf_eq (hT : Tables tile group live off) (n : Nat) (g : Fin 4) (h0 : (off (ix1 g.castSucc)).toNat ≤ n) (h1 : n < (off (ix1 g.succ)).toNat) : typeOf off n = g := by
  have m1 : (off (ix1 1)).toNat ≤ (off (ix1 2)).toNat := hT.off_mono 1
  have m2 : (off (ix1 2)).toNat ≤ (off (ix1 3)).toNat := hT.off_mono 2
  unfold typeOf
  match g with
  | ⟨0, _⟩ =>
    replace h1 : n < (off (ix1 1)).toNat := h1
    rw [if_neg (by omega)]; rfl
  | ⟨1, _⟩ =>
    replace h0 : (off (ix1 1)).toNat ≤ n := h0
    replace h1 : n < (off (ix1 2)).toNat := h1
    rw [if_pos h0, if_neg (by omega)]; rfl
  | ⟨2, _⟩ =>
    replace h0 : (off (ix1 2)).toNat ≤ n := h0
    replace h1 : n < (off (ix1 3)).toNat := h1
    rw [if_pos (by omega), if_pos h0, if_neg (by omega)]; rfl
  | ⟨3, _⟩ =>
    replace h0 : (off (ix1 3)).toNat ≤ n := h0
    rw [if_pos (by omega), if_pos (by omega), if_pos h0]; rfl

/-- Every row lies in the rows of one type. -/
theorem Tables.exists_type (hT : Tables tile group live off) (n : Nat) (hn : n < 8192) : ∃ g : Fin 4, (off (ix1 g.castSucc)).toNat ≤ n ∧ n < (off (ix1 g.succ)).toNat := by
  have e0 : (off (ix1 0)).toNat = 0 := congrArg BitVec.toNat hT.off0
  have e4 : (off (ix1 4)).toNat = 8192 := congrArg BitVec.toNat hT.off4
  by_contra h
  have k0 : ¬ ((off (ix1 0)).toNat ≤ n ∧ n < (off (ix1 1)).toNat) := fun q => h ⟨0, q⟩
  have k1 : ¬ ((off (ix1 1)).toNat ≤ n ∧ n < (off (ix1 2)).toNat) := fun q => h ⟨1, q⟩
  have k2 : ¬ ((off (ix1 2)).toNat ≤ n ∧ n < (off (ix1 3)).toNat) := fun q => h ⟨2, q⟩
  have k3 : ¬ ((off (ix1 3)).toNat ≤ n ∧ n < (off (ix1 4)).toNat) := fun q => h ⟨3, q⟩
  omega

/-- The tiles of the visits do not go back. -/
theorem Tables.tile_mono (hT : Tables tile group live off) (i j : Fin 35) (h : i.val ≤ j.val) : (tile (ix1 i)).toNat ≤ (tile (ix1 j)).toNat := by
  obtain ⟨j, hj⟩ := j
  induction j with
  | zero => have : i = ⟨0, hj⟩ := Fin.ext (Nat.le_zero.1 h); rw [this]
  | succ j ih =>
    rcases Nat.lt_or_ge i.val (j + 1) with hl | hl
    · exact (ih (by omega) (by show i.val ≤ j; omega)).trans (hT.mono ⟨j, by omega⟩)
    · have : i = ⟨j + 1, hj⟩ := Fin.ext (Nat.le_antisymm h hl)
      rw [this]
end

/-- The mask's two comparisons, in rows. -/
theorem mask_words (T lo hi : BitVec 32) (k : Nat) (hk : k < 256) (hTl : T.toNat < 32) (hlo : lo.toNat ≤ 8192) (hhi : hi.toNat ≤ 8192) :
    IntOp.andi (IntOp.cmpi .sge (BitVec.ofNat 32 k) (Scalar.subi lo (Scalar.muli T 256#32))) (IntOp.cmpi .slt (BitVec.ofNat 32 k) (Scalar.subi hi (Scalar.muli T 256#32))) = 1#1
      ↔ lo.toNat ≤ T.toNat * 256 + k ∧ T.toNat * 256 + k < hi.toNat := by
  have b3 : ∀ x y : BitVec 1, IntOp.andi x y = 1#1 ↔ x = 1#1 ∧ y = 1#1 := by decide
  have d : ∀ w : BitVec 32, w.toNat ≤ 8192 → (Scalar.subi w (Scalar.muli T 256#32)).toInt = (w.toNat : Int) - T.toNat * 256 := by
    intro w hw
    have e : (Scalar.subi w (Scalar.muli T 256#32)).toNat = (2 ^ 32 - T.toNat * 256 + w.toNat) % 2 ^ 32 := by
      simp only [Scalar.subi, Scalar.muli, IntOp.subi, IntOp.muli, BitVec.toNat_sub, BitVec.toNat_mul, BitVec.toNat_ofNat]
      omega
    rw [BitVec.toInt, e]
    split <;> omega
  have ek : (BitVec.ofNat 32 k).toInt = (k : Int) := by
    have e : (BitVec.ofNat 32 k).toNat = k := by rw [BitVec.toNat_ofNat]; omega
    rw [BitVec.toInt, e]
    split <;> omega
  rw [b3, WordCmp.cmpi_sge_eq, WordCmp.ofBool_decide_eq_one_iff, WordCmp.cmpi_slt_eq, WordCmp.ofBool_decide_eq_one_iff, d lo hlo, d hi hhi, ek]
  omega

end Cert.Visits
-- ==== Proof.OutProjIdeal.Words.lean ====
/- The words of the tables at a grid point, the side conditions of the call from the tables, and the two conditions read. -/
module

public import proofs.«01_k».proof.Proof.OutProjIdeal.Kit
public import proofs.«01_k».proof.Proof.Tables
public import Idealize.ShloMosaic.Lib.Pipeline.ValueKit.Geometry

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Visits (Tables)

/-! ## The words of the tables -/

/-- The one element of a one-element rectangle of a table sits at its offset. -/
theorem emb_unit {n : Nat} (off : Fin 1 → Nat) (inb : ∀ a, off a + S1.size a ≤ (⟨1, ![n]⟩ : Shape).size a) (h1 : (Rect.unit (s := ⟨1, ![n]⟩) off S1.size inb).shape.numel = 1) (j : Fin n) (h : off 0 = j.val) :
    (Rect.unit (s := ⟨1, ![n]⟩) off S1.size inb).emb (Shape.Idx.first (h1.symm ▸ Nat.one_pos)) = ix1 j := by
  funext a
  apply Fin.ext
  rw [ValueKit.rect_emb_unit_val]
  obtain rfl : a = 0 := Subsingleton.elim _ _
  have := ((Shape.Idx.first (s := (Rect.unit (s := ⟨1, ![n]⟩) off S1.size inb).shape) (h1.symm ▸ Nat.one_pos)) 0).isLt
  have e : (Rect.unit (s := ⟨1, ![n]⟩) off S1.size inb).shape.size 0 = 1 := rfl
  have this : ((Shape.Idx.first (s := (Rect.unit (s := ⟨1, ![n]⟩) off S1.size inb).shape) (h1.symm ▸ Nat.one_pos)) 0).val < 1 := this.trans_eq e
  show off 0 + _ = j.val
  omega

/-- A point as a position in the list of visits. -/
abbrev pos (i : grid0.Coords) : Fin 35 := ⟨(i 0).val, (i 0).isLt⟩

theorem off1_eq (i : grid0.Coords) : k0_off1 i 0 = (pos i).val := by
  have := (i 0).isLt
  change (i 0).val < 35 at this
  show (BitVec.ofNat _ _).toNat = (i 0).val
  simp only [BitVec.toNat_ofNat]
  omega
theorem off4_eq (i : grid0.Coords) : k0_off4 i 0 = (pos i).val := off1_eq i
theorem off5_eq (i : grid0.Coords) : k0_off5 i 0 = (pos i).val := off1_eq i

theorem at_eq {X : Vec F S35 .i32} (i : grid0.Coords) : X ((Rect.unit (s := S35) (k0_off1 i) S1.size (k0_off1_inb i)).emb (Shape.Idx.first (numel1_S1.symm ▸ Nat.one_pos))) = X (ix1 (pos i)) :=
  congrArg X (emb_unit _ _ numel1_S1 _ (off1_eq i))

theorem tbl0 : tbl m 0 = (m ((0 : Dev nD).tc.loc main_arg0)) := V_main_arg0 m 0
theorem tbl1 : tbl m 1 = (m ((0 : Dev nD).tc.loc main_arg1)) := V_main_arg1 m 0
theorem tbl2 : tbl m 2 = (m ((0 : Dev nD).tc.loc main_arg3)) := V_main_arg3 m 0
theorem tbl3 : tbl m 3 = (m ((0 : Dev nD).tc.loc main_arg2)) := V_main_arg2 m 0

theorem wT_eq (c : Dev nD) (i : grid0.Coords) : wT c i (tbl m 0) = (m ((0 : Dev nD).tc.loc main_arg0)) (ix1 (pos i)) := by
  exact (congrFun (tbl0 m) _).trans (congrArg (m ((0 : Dev nD).tc.loc main_arg0)) (emb_unit _ _ numel1_S1 _ (off1_eq i)))
theorem wG_eq (c : Dev nD) (i : grid0.Coords) : wG c i (tbl m 1) = (m ((0 : Dev nD).tc.loc main_arg1)) (ix1 (pos i)) := by
  exact (congrFun (tbl1 m) _).trans (congrArg (m ((0 : Dev nD).tc.loc main_arg1)) (emb_unit _ _ numel1_S1 _ (off1_eq i)))
theorem wL_eq (c : Dev nD) (i : grid0.Coords) : wL c i (tbl m 3) = (m ((0 : Dev nD).tc.loc main_arg2)) (ix1 (pos i)) := by
  exact (congrFun (tbl3 m) _).trans (congrArg (m ((0 : Dev nD).tc.loc main_arg2)) (emb_unit _ _ numel1_S1 _ (off4_eq i)))
theorem wL'_eq (c : Dev nD) (i : grid0.Coords) : wL' c i (tbl m 3) = (m ((0 : Dev nD).tc.loc main_arg2)) (ix1 (pos i)) := by
  exact (congrFun (tbl3 m) _).trans (congrArg (m ((0 : Dev nD).tc.loc main_arg2)) (emb_unit _ _ numel1_S1 _ (off5_eq i)))

theorem off2_eq (v : BitVec 32) (g : Fin 4) (h : v.toNat = g.val) : k0_off2 v 0 = g.castSucc.val := by
  have hg := g.isLt
  have e : v = BitVec.ofNat 32 g.val := by apply BitVec.eq_of_toNat_eq; rw [h, BitVec.toNat_ofNat]; omega
  subst e
  clear h
  revert g; decide
theorem off3_eq (v : BitVec 32) (g : Fin 4) (h : v.toNat = g.val) : k0_off3 v 0 = g.succ.val := by
  have hg := g.isLt
  have e : v = BitVec.ofNat 32 g.val := by apply BitVec.eq_of_toNat_eq; rw [h, BitVec.toNat_ofNat]; omega
  subst e
  clear h
  revert g; decide

section
variable {m} (hT : Tables (m ((0 : Dev nD).tc.loc main_arg0)) (m ((0 : Dev nD).tc.loc main_arg1)) (m ((0 : Dev nD).tc.loc main_arg2)) (m ((0 : Dev nD).tc.loc main_arg3)))
include hT

/-- The tile and the type that a point visits. -/
def vTile (i : grid0.Coords) : Fin 32 := ⟨((m ((0 : Dev nD).tc.loc main_arg0)) (ix1 (pos i))).toNat, hT.tile_lt _⟩
def vType (i : grid0.Coords) : Fin 4 := ⟨((m ((0 : Dev nD).tc.loc main_arg1)) (ix1 (pos i))).toNat, hT.group_lt _⟩

theorem wLo_eq (c : Dev nD) (i : grid0.Coords) (h) : wLo c i (tbl m 1) (tbl m 2) h = (m ((0 : Dev nD).tc.loc main_arg3)) (ix1 (vType hT i).castSucc) := by
  have hw : (wG c i (tbl m 1)).toNat = (vType hT i).val := (congrArg BitVec.toNat (wG_eq m c i) :)
  exact (congrFun (tbl2 m) _).trans (congrArg (m ((0 : Dev nD).tc.loc main_arg3)) (emb_unit _ _ numel1_S1 _ (off2_eq _ (vType hT i) hw)))
theorem wHi_eq (c : Dev nD) (i : grid0.Coords) (h) : wHi c i (tbl m 1) (tbl m 2) h = (m ((0 : Dev nD).tc.loc main_arg3)) (ix1 (vType hT i).succ) := by
  have hw : (wG c i (tbl m 1)).toNat = (vType hT i).val := (congrArg BitVec.toNat (wG_eq m c i) :)
  exact (congrFun (tbl2 m) _).trans (congrArg (m ((0 : Dev nD).tc.loc main_arg3)) (emb_unit _ _ numel1_S1 _ (off3_eq _ (vType hT i) hw)))

/-! ## The side conditions -/

theorem chk_of_lt (v : BitVec 32) (h : v.toNat < 4) : k0_chk1 v := by
  refine ⟨fun a => ?_, fun a => ?_⟩ <;> obtain rfl : a = 0 := Subsingleton.elim _ _
  · rw [off2_eq v ⟨_, h⟩ rfl]; show v.toNat + 1 ≤ 5; omega
  · rw [off3_eq v ⟨_, h⟩ rfl]; show v.toNat + 1 + 1 ≤ 5; omega

theorem hyps_of_tables (hO : Ok m) : Hyps m hO := fun c t => by
  exact chk_of_lt hT _ (lt_of_eq_of_lt (congrArg BitVec.toNat (wG_eq m c (grid0.coords t))) (hT.group_lt _))

/-- The block of window 0 at a point. -/
theorem index0 (i : grid0.Coords) : cc0_transform_0 k0_off1_inb numel1_S1 (tbl m) i = ![(vTile hT i).val, 0] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_0
  match a with
  | ⟨0, _⟩ => exact e'
  | ⟨1, _⟩ => exact rfl

/-- The block of window 1 at a point. -/
theorem index1 (i : grid0.Coords) : cc0_transform_1 k0_off1_inb numel1_S1 (tbl m) i = ![(vTile hT i).val, 0] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_1
  match a with
  | ⟨0, _⟩ => exact e'
  | ⟨1, _⟩ => exact rfl

/-- The block of window 2 at a point. -/
theorem index2 (i : grid0.Coords) : cc0_transform_2 k0_off1_inb numel1_S1 (tbl m) i = ![(vType hT i).val, 0, 0] := by
  have e : (tbl m).at 1 (Rect.unit (s := S35) (k0_off1 i) S1.size (k0_off1_inb i)) numel1_S1 = (m ((0 : Dev nD).tc.loc main_arg1)) (ix1 (pos i)) := by
    exact (congrFun (tbl1 m) _).trans (congrArg (m ((0 : Dev nD).tc.loc main_arg1)) (emb_unit _ _ numel1_S1 _ (off1_eq i)))
  have e' := congrArg BitVec.toNat e
  funext a
  unfold cc0_transform_2
  match a with
  | ⟨0, _⟩ => exact e'
  | ⟨1, _⟩ => exact rfl
  | ⟨2, _⟩ => exact rfl

/-- The block of window 3 at a point. -/
theorem index3 (i : grid0.Coords) : cc0_transform_3 k0_off1_inb numel1_S1 (tbl m) i = ![(vType hT i).val, 0, 0] := by
  have e : (tbl m).at 1 (Rect.unit (s := S35) (k0_off1 i) S1.size (k0_off1_inb i)) numel1_S1 = (m ((0 : Dev nD).tc.loc main_arg1)) (ix1 (pos i)) := by
    exact (congrFun (tbl1 m) _).trans (congrArg (m ((0 : Dev nD).tc.loc main_arg1)) (emb_unit _ _ numel1_S1 _ (off1_eq i)))
  have e' := congrArg BitVec.toNat e
  funext a
  unfold cc0_transform_3
  match a with
  | ⟨0, _⟩ => exact e'
  | ⟨1, _⟩ => exact rfl
  | ⟨2, _⟩ => exact rfl

/-- The block of window 4 at a point. -/
theorem index4 (i : grid0.Coords) : cc0_transform_4 k0_off1_inb numel1_S1 (tbl m) i = ![(vType hT i).val, 0, 0] := by
  have e : (tbl m).at 1 (Rect.unit (s := S35) (k0_off1 i) S1.size (k0_off1_inb i)) numel1_S1 = (m ((0 : Dev nD).tc.loc main_arg1)) (ix1 (pos i)) := by
    exact (congrFun (tbl1 m) _).trans (congrArg (m ((0 : Dev nD).tc.loc main_arg1)) (emb_unit _ _ numel1_S1 _ (off1_eq i)))
  have e' := congrArg BitVec.toNat e
  funext a
  unfold cc0_transform_4
  match a with
  | ⟨0, _⟩ => exact e'
  | ⟨1, _⟩ => exact rfl
  | ⟨2, _⟩ => exact rfl

/-- The block of window 5 at a point. -/
theorem index5 (i : grid0.Coords) : cc0_transform_5 k0_off1_inb numel1_S1 (tbl m) i = ![(vType hT i).val, 0, 0] := by
  have e : (tbl m).at 1 (Rect.unit (s := S35) (k0_off1 i) S1.size (k0_off1_inb i)) numel1_S1 = (m ((0 : Dev nD).tc.loc main_arg1)) (ix1 (pos i)) := by
    exact (congrFun (tbl1 m) _).trans (congrArg (m ((0 : Dev nD).tc.loc main_arg1)) (emb_unit _ _ numel1_S1 _ (off1_eq i)))
  have e' := congrArg BitVec.toNat e
  funext a
  unfold cc0_transform_5
  match a with
  | ⟨0, _⟩ => exact e'
  | ⟨1, _⟩ => exact rfl
  | ⟨2, _⟩ => exact rfl

/-- The block of window 6 at a point. -/
theorem index6 (i : grid0.Coords) : cc0_transform_6 k0_off1_inb numel1_S1 (tbl m) i = ![0, (vTile hT i).val] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_6
  match a with
  | ⟨0, _⟩ => exact rfl
  | ⟨1, _⟩ => exact e'

/-- The block of window 7 at a point. -/
theorem index7 (i : grid0.Coords) : cc0_transform_7 k0_off1_inb numel1_S1 (tbl m) i = ![0, (vTile hT i).val] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_7
  match a with
  | ⟨0, _⟩ => exact rfl
  | ⟨1, _⟩ => exact e'

/-- The pipeline's side condition: every block lies in its array, and a transfer moves whole words. -/
theorem ok_of_tables : Ok m := by
  refine ⟨?_, ?_, ?_, ?_, ?_, ?_, ?_, ?_⟩ <;> intro i
  · have hb : ∀ a, (cc0_transform_0 k0_off1_inb numel1_S1 (tbl m) i a + 1) * S256x2880.size a ≤ S8192x2880.size a := by
      intro a; rw [index0 hT i]; have := (vTile hT i).isLt
      match a with
      | ⟨0, _⟩ => show ((vTile hT i).val + 1) * 256 ≤ 8192; omega
      | ⟨1, _⟩ => show (0 + 1) * 2880 ≤ 2880; omega
    refine ⟨hb, .inr (.inl (.inr ⟨by decide, rfl, .inl ⟨?_, ?_⟩⟩))⟩
    swap; · show 4 ∣ 256; decide
    show 4 ∣ cc0_transform_0 k0_off1_inb numel1_S1 (tbl m) i 0 * 256
    exact Dvd.dvd.mul_left (by decide) _
  · have hb : ∀ a, (cc0_transform_1 k0_off1_inb numel1_S1 (tbl m) i a + 1) * S256x128.size a ≤ S8192x128.size a := by
      intro a; rw [index1 hT i]; have := (vTile hT i).isLt
      match a with
      | ⟨0, _⟩ => show ((vTile hT i).val + 1) * 256 ≤ 8192; omega
      | ⟨1, _⟩ => show (0 + 1) * 128 ≤ 128; omega
    exact ⟨hb, .inl rfl⟩
  · have hb : ∀ a, (cc0_transform_2 k0_off1_inb numel1_S1 (tbl m) i a + 1) * S1x2880x2880.size a ≤ S4x2880x2880.size a := by
      intro a; rw [index2 hT i]; have := (vType hT i).isLt
      match a with
      | ⟨0, _⟩ => show ((vType hT i).val + 1) * 1 ≤ 4; omega
      | ⟨1, _⟩ => show (0 + 1) * 2880 ≤ 2880; omega
      | ⟨2, _⟩ => show (0 + 1) * 2880 ≤ 2880; omega
    refine ⟨hb, .inr (.inr ⟨by decide, rfl, ?_, rfl⟩)⟩
    show cc0_transform_2 k0_off1_inb numel1_S1 (tbl m) i 1 * 2880 = 0
    rw [index2 hT i]; show 0 * 2880 = 0; rfl
  · have hb : ∀ a, (cc0_transform_3 k0_off1_inb numel1_S1 (tbl m) i a + 1) * S1x1x2880.size a ≤ S4x1x2880.size a := by
      intro a; rw [index3 hT i]; have := (vType hT i).isLt
      match a with
      | ⟨0, _⟩ => show ((vType hT i).val + 1) * 1 ≤ 4; omega
      | ⟨1, _⟩ => show (0 + 1) * 1 ≤ 1; omega
      | ⟨2, _⟩ => show (0 + 1) * 2880 ≤ 2880; omega
    exact ⟨hb, .inl rfl⟩
  · have hb : ∀ a, (cc0_transform_4 k0_off1_inb numel1_S1 (tbl m) i a + 1) * S1x1x2880.size a ≤ S4x1x2880.size a := by
      intro a; rw [index4 hT i]; have := (vType hT i).isLt
      match a with
      | ⟨0, _⟩ => show ((vType hT i).val + 1) * 1 ≤ 4; omega
      | ⟨1, _⟩ => show (0 + 1) * 1 ≤ 1; omega
      | ⟨2, _⟩ => show (0 + 1) * 2880 ≤ 2880; omega
    exact ⟨hb, .inl rfl⟩
  · have hb : ∀ a, (cc0_transform_5 k0_off1_inb numel1_S1 (tbl m) i a + 1) * S1x1x128.size a ≤ S4x1x128.size a := by
      intro a; rw [index5 hT i]; have := (vType hT i).isLt
      match a with
      | ⟨0, _⟩ => show ((vType hT i).val + 1) * 1 ≤ 4; omega
      | ⟨1, _⟩ => show (0 + 1) * 1 ≤ 1; omega
      | ⟨2, _⟩ => show (0 + 1) * 128 ≤ 128; omega
    exact ⟨hb, .inl rfl⟩
  · have hb : ∀ a, (cc0_transform_6 k0_off1_inb numel1_S1 (tbl m) i a + 1) * S2880x256.size a ≤ S2880x8192.size a := by
      intro a; rw [index6 hT i]; have := (vTile hT i).isLt
      match a with
      | ⟨0, _⟩ => show (0 + 1) * 2880 ≤ 2880; omega
      | ⟨1, _⟩ => show ((vTile hT i).val + 1) * 256 ≤ 8192; omega
    refine ⟨hb, .inr (.inr ⟨by decide, rfl, ?_, rfl⟩)⟩
    show cc0_transform_6 k0_off1_inb numel1_S1 (tbl m) i 0 * 2880 = 0
    rw [index6 hT i]; show 0 * 2880 = 0; rfl
  · have hb : ∀ a, (cc0_transform_7 k0_off1_inb numel1_S1 (tbl m) i a + 1) * S2880x256.size a ≤ S2880x8192.size a := by
      intro a; rw [index7 hT i]; have := (vTile hT i).isLt
      match a with
      | ⟨0, _⟩ => show (0 + 1) * 2880 ≤ 2880; omega
      | ⟨1, _⟩ => show ((vTile hT i).val + 1) * 256 ≤ 8192; omega
    refine ⟨hb, .inr (.inr ⟨by decide, rfl, ?_, rfl⟩)⟩
    show cc0_transform_7 k0_off1_inb numel1_S1 (tbl m) i 0 * 2880 = 0
    rw [index7 hT i]; show 0 * 2880 = 0; rfl

/-! ## The conditions -/

theorem toNat_bound {a : BitVec 32} (h : a.toNat ≤ 8192) : a.toInt = (a.toNat : Int) := WordCmp.toInt_eq_toNat_of_lt_half (by omega)

omit hT in
theorem cond_words (T lo hi lv : BitVec 32) (hTl : T.toNat < 32) (hlo : lo.toNat ≤ 8192) (hhi : hi.toNat ≤ 8192) :
    (k0_cond1 T lo hi lv = 1#1 ↔ 0 < lv.toInt ∧ (lo.toNat ≤ T.toNat * 256 ∧ (T.toNat + 1) * 256 ≤ hi.toNat))
    ∧ (k0_cond2 T lo hi lv = 1#1 ↔ 0 < lv.toInt ∧ ¬ (lo.toNat ≤ T.toNat * 256 ∧ (T.toNat + 1) * 256 ≤ hi.toNat)) := by
  have b1 : ∀ x y : BitVec 1, Scalar.cmpi .ne (Scalar.extui (Scalar.andi x (Scalar.xori y 0#1)) : BitVec 32) 0#32 = 1#1 ↔ x = 1#1 ∧ y = 1#1 := by decide
  have b2 : ∀ x y : BitVec 1, Scalar.cmpi .ne (Scalar.extui (Scalar.andi x (Scalar.xori y 1#1)) : BitVec 32) 0#32 = 1#1 ↔ x = 1#1 ∧ ¬ y = 1#1 := by decide
  have b3 : ∀ x y : BitVec 1, Scalar.andi x y = 1#1 ↔ x = 1#1 ∧ y = 1#1 := by decide
  have l : Scalar.cmpi .sgt lv 0#32 = 1#1 ↔ 0 < lv.toInt := by
    rw [show Scalar.cmpi .sgt lv 0#32 = IntOp.cmpi .sgt lv 0#32 from rfl, WordCmp.cmpi_sgt_eq, WordCmp.ofBool_decide_eq_one_iff]; rfl
  have d : ∀ w : BitVec 32, w.toNat ≤ 8192 → (Scalar.subi w (Scalar.muli T 256#32)).toInt = (w.toNat : Int) - T.toNat * 256 := by
    intro w hw
    have e : (Scalar.subi w (Scalar.muli T 256#32)).toNat = (2 ^ 32 - T.toNat * 256 + w.toNat) % 2 ^ 32 := by
      simp only [Scalar.subi, Scalar.muli, IntOp.subi, IntOp.muli, BitVec.toNat_sub, BitVec.toNat_mul, BitVec.toNat_ofNat]
      omega
    rw [BitVec.toInt, e]
    split <;> omega
  have w1 : Scalar.cmpi .sle (Scalar.subi lo (Scalar.muli T 256#32)) 0#32 = 1#1 ↔ lo.toNat ≤ T.toNat * 256 := by
    rw [show Scalar.cmpi .sle (Scalar.subi lo (Scalar.muli T 256#32)) 0#32 = IntOp.cmpi .sle (Scalar.subi lo (Scalar.muli T 256#32)) 0#32 from rfl, WordCmp.cmpi_sle_eq, WordCmp.ofBool_decide_eq_one_iff, d lo hlo]
    show _ ≤ (0 : Int) ↔ _
    omega
  have w2 : Scalar.cmpi .sge (Scalar.subi hi (Scalar.muli T 256#32)) 256#32 = 1#1 ↔ (T.toNat + 1) * 256 ≤ hi.toNat := by
    rw [show Scalar.cmpi .sge (Scalar.subi hi (Scalar.muli T 256#32)) 256#32 = IntOp.cmpi .sge (Scalar.subi hi (Scalar.muli T 256#32)) 256#32 from rfl, WordCmp.cmpi_sge_eq, WordCmp.ofBool_decide_eq_one_iff, d hi hhi]
    show (256 : Int) ≤ _ ↔ _
    omega
  constructor
  · unfold k0_cond1; rw [b1, b3, l, w1, w2]
  · unfold k0_cond2; rw [b2, b3, l, w1, w2]

/-- A type covers a tile. -/
def Covers (i : grid0.Coords) : Prop :=
  ((m ((0 : Dev nD).tc.loc main_arg3)) (ix1 (vType hT i).castSucc)).toNat ≤ (vTile hT i).val * 256 ∧ ((vTile hT i).val + 1) * 256 ≤ ((m ((0 : Dev nD).tc.loc main_arg3)) (ix1 (vType hT i).succ)).toNat

theorem cond0_iff (c : Dev nD) (i : grid0.Coords) (h) : cond0_0 c i (tbl m 0) (tbl m 1) (tbl m 2) (tbl m 3) h ↔ 0 < ((m ((0 : Dev nD).tc.loc main_arg2)) (ix1 (pos i))).toInt ∧ Covers hT i := by
  unfold cond0_0
  rw [show k0_cond1 (wT c i (tbl m 0)) (wLo c i (tbl m 1) (tbl m 2) h) (wHi c i (tbl m 1) (tbl m 2) h) (wL c i (tbl m 3)) = k0_cond1 _ _ _ _ from
    congr (congr (congr (congrArg k0_cond1 (wT_eq m c i)) (wLo_eq hT c i h)) (wHi_eq hT c i h)) (wL_eq m c i)]
  exact (cond_words _ _ _ _ (hT.tile_lt _) (hT.off_le _) (hT.off_le _)).1
theorem cond1_iff (c : Dev nD) (i : grid0.Coords) (h) : cond0_1 c i (tbl m 0) (tbl m 1) (tbl m 2) (tbl m 3) h ↔ 0 < ((m ((0 : Dev nD).tc.loc main_arg2)) (ix1 (pos i))).toInt ∧ ¬ Covers hT i := by
  unfold cond0_1
  rw [show k0_cond2 (wT c i (tbl m 0)) (wLo c i (tbl m 1) (tbl m 2) h) (wHi c i (tbl m 1) (tbl m 2) h) (wL' c i (tbl m 3)) = k0_cond2 _ _ _ _ from
    congr (congr (congr (congrArg k0_cond2 (wT_eq m c i)) (wLo_eq hT c i h)) (wHi_eq hT c i h)) (wL'_eq m c i)]
  exact (cond_words _ _ _ _ (hT.tile_lt _) (hT.off_le _) (hT.off_le _)).2
end

end Cert.OutProjIdeal.Gen

end
-- ==== Proof.OutProjIdeal.Block.lean ====
/- One tile of the result, as one type's product stores it: an element of a piece of the store is the element of one function of the block. -/
module

public import proofs.«01_k».proof.Proof.OutProjIdeal.Words
public import Idealize.ShloMosaic.PureOps.Ideal
public import Idealize.ShloMosaic.PureOps.IdealRules
public import Idealize.ShloMosaic.Lib.Pointwise

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One element of the result -/

/-- One element of the result: the product `d` times its row's scale `g` and its channel's `w`, plus the bias `b`,
    mixed with `x` by the logistic of the type's skip weight `s`. -/
def out (d g w b s x : EReal) : EReal := Ideal.logistic s * (d * g * w + b) + (1 - Ideal.logistic s) * x

/-- What a tile's block holds when one type's product is stored over all of it. -/
def blockG (x0 : Vec Ideal S256x2880 .fp8e4m3) (x1 : Vec Ideal S256x128 .f32) (x2 : Vec Ideal S1x2880x2880 .fp8e4m3) (x3 : Vec Ideal S1x1x2880 .f32) (x4 : Vec Ideal S1x1x2880 .f32) (x5 : Vec Ideal S1x1x128 .f32) (x6 : Vec Ideal S2880x256 .bf16) : Vec Ideal S2880x256 .bf16 :=
  fun y => out (∑ j : Fin 2880, x0 (ix2 (y 1) j) * x2 (ix3 0 j (y 0))) (x1 (ix2 (y 1) (⟨(y 0).val % 128, Nat.mod_lt _ (by norm_num)⟩ : Fin 128)))
    (x3 (ix3 0 0 (y 0))) (x4 (ix3 0 0 (y 0))) (x5 (ix3 0 0 (⟨(y 1).val % 128, Nat.mod_lt _ (by norm_num)⟩ : Fin 128))) (x6 y)

theorem mod_lane {α : Type} (f : Fin 128 → α) (k : Fin 256) :
    (if h : k.val < 128 then f ⟨k.val, h⟩ else f ⟨k.val - 128, by omega⟩) = f ⟨k.val % 128, Nat.mod_lt _ (by norm_num)⟩ := by
  split
  · congr 1; apply Fin.ext; show k.val = k.val % 128; omega
  · congr 1; apply Fin.ext; show k.val - 128 = k.val % 128; omega

theorem even_apply (v29 : Vec Ideal S256x2880 .fp8e4m3) (v30 : Vec Ideal S256x128 .f32) (v32 : Vec Ideal S1x1x128 .f32) (v36 : Vec Ideal S1x2880x256 .fp8e4m3) (v41 v45 : Vec Ideal S1x1x128 .f32) (v54 : Vec Ideal S128x256 .bf16) (r : Fin 128) (k : Fin 256) :
    k0_pay5 v29 v30 v32 v36 v41 v45 v54 (ix2 r k) = out (∑ j : Fin 2880, v29 (ix2 k j) * v36 (ix3 0 j (⟨r.val, by omega⟩ : Fin 256))) (v30 (ix2 k r)) (v41 (ix3 0 0 r)) (v45 (ix3 0 0 r)) (v32 (ix3 0 0 (⟨k.val % 128, Nat.mod_lt _ (by norm_num)⟩ : Fin 128))) (v54 (ix2 r k)) := by
  pointwise [k0_pay5, k0_pay4, k0_pay2, k0_pay3]
  rw [mod_lane (fun q => Ideal.logistic (v32 (ix3 0 0 q))) k]
  rfl

theorem odd_apply (v29 : Vec Ideal S256x2880 .fp8e4m3) (v30 : Vec Ideal S256x128 .f32) (v32 : Vec Ideal S1x1x128 .f32) (v36 : Vec Ideal S1x2880x256 .fp8e4m3) (v41 v45 : Vec Ideal S1x1x128 .f32) (v54 : Vec Ideal S128x256 .bf16) (r : Fin 128) (k : Fin 256) :
    k0_pay7 (k0_pay3 v32) (k0_pay6 v29 v30 v36) v41 v45 v54 (ix2 r k) = out (∑ j : Fin 2880, v29 (ix2 k j) * v36 (ix3 0 j (⟨128 + r.val, by omega⟩ : Fin 256))) (v30 (ix2 k r)) (v41 (ix3 0 0 r)) (v45 (ix3 0 0 r)) (v32 (ix3 0 0 (⟨k.val % 128, Nat.mod_lt _ (by norm_num)⟩ : Fin 128))) (v54 (ix2 r k)) := by
  pointwise [k0_pay7, k0_pay6, k0_pay4, k0_pay2, k0_pay3]
  rw [mod_lane (fun q => Ideal.logistic (v32 (ix3 0 0 q))) k]
  rfl

theorem last_apply (v29 : Vec Ideal S256x2880 .fp8e4m3) (v30 : Vec Ideal S256x128 .f32) (v32 : Vec Ideal S1x1x128 .f32) (v36 : Vec Ideal S1x2880x64 .fp8e4m3) (v41 v45 : Vec Ideal S1x1x64 .f32) (v54 : Vec Ideal S64x256 .bf16) (r : Fin 64) (k : Fin 256) :
    k0_pay53 v29 (k0_pay2 v30) (k0_pay3 v32) v36 v41 v45 v54 (ix2 r k) = out (∑ j : Fin 2880, v29 (ix2 k j) * v36 (ix3 0 j r)) (v30 (ix2 k (⟨r.val, by omega⟩ : Fin 128))) (v41 (ix3 0 0 r)) (v45 (ix3 0 0 r)) (v32 (ix3 0 0 (⟨k.val % 128, Nat.mod_lt _ (by norm_num)⟩ : Fin 128))) (v54 (ix2 r k)) := by
  pointwise [k0_pay53, k0_pay2, k0_pay3]
  rw [mod_lane (fun q => Ideal.logistic (v32 (ix3 0 0 q))) k]
  rfl

/-! ## A load of part of a window -/

/-- A load of a rectangle, of a window that holds `x`, reads `x` at the offset plus the index. -/
theorem ld_at {sp : Space} {s : Shape} {e : EltTy} (M : Memref sig .tc sp s e) (hM : M.IsWhole) (x : s.Idx → Elt Ideal e) (off size : Fin s.rank → Nat) (inb) (y : (Rect.unit off size inb).shape.Idx) (z : s.Idx)
    (h : ∀ a, (z a).val = off a + (y a).val) : View.readAt (Elt Ideal) M.view (Rect.unit off size inb).toLoadRect (hM.unread x) y = x z := by
  rw [View.readAt_apply, hM.read_unread]
  refine congrArg x (funext fun a => Fin.ext ?_)
  rw [h a]
  exact ValueKit.rect_emb_unit_val off size inb y a

section
variable (arg5 : Memref sig .tc .vmem S256x2880 .fp8e4m3) (harg5 : arg5.IsWhole) (arg6 : Memref sig .tc .vmem S256x128 .f32) (harg6 : arg6.IsWhole) (arg7 : Memref sig .tc .vmem S1x2880x2880 .fp8e4m3) (harg7 : arg7.IsWhole) (arg8 : Memref sig .tc .vmem S1x1x2880 .f32) (harg8 : arg8.IsWhole) (arg9 : Memref sig .tc .vmem S1x1x2880 .f32) (harg9 : arg9.IsWhole) (arg10 : Memref sig .tc .vmem S1x1x128 .f32) (harg10 : arg10.IsWhole) (arg11 : Memref sig .tc .vmem S2880x256 .bf16) (harg11 : arg11.IsWhole) (arg12 : Memref sig .tc .vmem S2880x256 .bf16) (harg12 : arg12.IsWhole)
  (x0 : Vec Ideal S256x2880 .fp8e4m3) (x1 : Vec Ideal S256x128 .f32) (x2 : Vec Ideal S1x2880x2880 .fp8e4m3) (x3 : Vec Ideal S1x1x2880 .f32) (x4 : Vec Ideal S1x1x2880 .f32) (x5 : Vec Ideal S1x1x128 .f32) (x6 : Vec Ideal S2880x256 .bf16) (xo : Vec Ideal S2880x256 .bf16)

theorem even_piece (o e : Nat) (ho : o = e) (hm : o % 128 = 0) (h5) (h6) (h7) (h8) (h9) (h10) (h11) (hp : ∀ a, (![o, 0] : Fin 2 → Nat) a + S128x256.size a ≤ S2880x256.size a)
    (x : (Rect.unit (s := S2880x256) ![o, 0] S128x256.size hp).shape.Idx) :
    k0_pay5 (View.readAt (Elt Ideal) arg5.view (Rect.unit (s := S256x2880) ![0, 0] S256x2880.size h5).toLoadRect (harg5.unread x0)) (View.readAt (Elt Ideal) arg6.view (Rect.unit (s := S256x128) ![0, 0] S256x128.size h6).toLoadRect (harg6.unread x1)) (View.readAt (Elt Ideal) arg10.view (Rect.unit (s := S1x1x128) ![0, 0, 0] S1x1x128.size h10).toLoadRect (harg10.unread x5)) (View.readAt (Elt Ideal) arg7.view (Rect.unit (s := S1x2880x2880) ![0, 0, e] S1x2880x256.size h7).toLoadRect (harg7.unread x2)) (View.readAt (Elt Ideal) arg8.view (Rect.unit (s := S1x1x2880) ![0, 0, o] S1x1x128.size h8).toLoadRect (harg8.unread x3)) (View.readAt (Elt Ideal) arg9.view (Rect.unit (s := S1x1x2880) ![0, 0, o] S1x1x128.size h9).toLoadRect (harg9.unread x4)) (View.readAt (Elt Ideal) arg11.view (Rect.unit (s := S2880x256) ![o, 0] S128x256.size h11).toLoadRect (harg11.unread x6)) x = blockG x0 x1 x2 x3 x4 x5 x6 ((Rect.unit (s := S2880x256) ![o, 0] S128x256.size hp).emb x) := by
  subst ho
  obtain ⟨r, k, rfl⟩ : ∃ (r : Fin 128) (k : Fin 256), x = ix2 r k := ⟨x 0, x 1, funext fun a => by match a with
    | ⟨0, _⟩ => rfl
    | ⟨1, _⟩ => rfl⟩
  have hb := hp 0
  change o + 128 ≤ 2880 at hb
  have hr := r.isLt
  have ee : (Rect.unit (s := S2880x256) ![o, 0] S128x256.size hp).emb (ix2 r k) = ix2 (⟨o + r.val, by omega⟩ : Fin 2880) k := by
    funext a; apply Fin.ext; rw [ValueKit.rect_emb_unit_val]
    match a with
    | ⟨0, _⟩ => rfl
    | ⟨1, _⟩ => exact Nat.zero_add _
  rw [ee, even_apply]
  unfold blockG
  refine congr (congr (congr (congr (congr (congrArg out ?_) ?_) ?_) ?_) ?_) ?_
  · refine Finset.sum_congr rfl fun j _ => congr (congrArg _ ?_) ?_
    · exact ld_at _ _ _ _ _ _ _ _ (fun a => by match a with
        | ⟨0, _⟩ => exact (Nat.zero_add _).symm
        | ⟨1, _⟩ => exact (Nat.zero_add _).symm)
    · exact ld_at _ _ _ _ _ _ _ _ (fun a => by match a with
        | ⟨0, _⟩ => exact (Nat.zero_add _).symm
        | ⟨1, _⟩ => exact (Nat.zero_add _).symm
        | ⟨2, _⟩ => rfl)
  · exact ld_at _ _ _ _ _ _ _ _ (fun a => by match a with
        | ⟨0, _⟩ => exact (Nat.zero_add _).symm
        | ⟨1, _⟩ => show (o + r.val) % 128 = 0 + r.val; omega)
  · exact ld_at _ _ _ _ _ _ _ _ (fun a => by match a with
        | ⟨0, _⟩ => exact (Nat.zero_add _).symm
        | ⟨1, _⟩ => exact (Nat.zero_add _).symm
        | ⟨2, _⟩ => rfl)
  · exact ld_at _ _ _ _ _ _ _ _ (fun a => by match a with
        | ⟨0, _⟩ => exact (Nat.zero_add _).symm
        | ⟨1, _⟩ => exact (Nat.zero_add _).symm
        | ⟨2, _⟩ => rfl)
  · exact ld_at _ _ _ _ _ _ _ _ (fun a => by match a with
        | ⟨0, _⟩ => exact (Nat.zero_add _).symm
        | ⟨1, _⟩ => exact (Nat.zero_add _).symm
        | ⟨2, _⟩ => exact (Nat.zero_add _).symm)
  · exact ld_at _ _ _ _ _ _ _ _ (fun a => by match a with
        | ⟨0, _⟩ => rfl
        | ⟨1, _⟩ => exact (Nat.zero_add _).symm)

theorem odd_piece (o e : Nat) (ho : o = e + 128) (hm : o % 128 = 0) (h5) (h6) (h7) (h8) (h9) (h10) (h11) (hp : ∀ a, (![o, 0] : Fin 2 → Nat) a + S128x256.size a ≤ S2880x256.size a)
    (x : (Rect.unit (s := S2880x256) ![o, 0] S128x256.size hp).shape.Idx) :
    k0_pay7 (k0_pay3 (View.readAt (Elt Ideal) arg10.view (Rect.unit (s := S1x1x128) ![0, 0, 0] S1x1x128.size h10).toLoadRect (harg10.unread x5))) (k0_pay6 (View.readAt (Elt Ideal) arg5.view (Rect.unit (s := S256x2880) ![0, 0] S256x2880.size h5).toLoadRect (harg5.unread x0)) (View.readAt (Elt Ideal) arg6.view (Rect.unit (s := S256x128) ![0, 0] S256x128.size h6).toLoadRect (harg6.unread x1)) (View.readAt (Elt Ideal) arg7.view (Rect.unit (s := S1x2880x2880) ![0, 0, e] S1x2880x256.size h7).toLoadRect (harg7.unread x2))) (View.readAt (Elt Ideal) arg8.view (Rect.unit (s := S1x1x2880) ![0, 0, o] S1x1x128.size h8).toLoadRect (harg8.unread x3)) (View.readAt (Elt Ideal) arg9.view (Rect.unit (s := S1x1x2880) ![0, 0, o] S1x1x128.size h9).toLoadRect (harg9.unread x4)) (View.readAt (Elt Ideal) arg11.view (Rect.unit (s := S2880x256) ![o, 0] S128x256.size h11).toLoadRect (harg11.unread x6)) x = blockG x0 x1 x2 x3 x4 x5 x6 ((Rect.unit (s := S2880x256) ![o, 0] S128x256.size hp).emb x) := by
  subst ho
  obtain ⟨r, k, rfl⟩ : ∃ (r : Fin 128) (k : Fin 256), x = ix2 r k := ⟨x 0, x 1, funext fun a => by match a with
    | ⟨0, _⟩ => rfl
    | ⟨1, _⟩ => rfl⟩
  have hb := hp 0
  change e + 128 + 128 ≤ 2880 at hb
  have hr := r.isLt
  have ee : (Rect.unit (s := S2880x256) ![e + 128, 0] S128x256.size hp).emb (ix2 r k) = ix2 (⟨e + 128 + r.val, by omega⟩ : Fin 2880) k := by
    funext a; apply Fin.ext; rw [ValueKit.rect_emb_unit_val]
    match a with
    | ⟨0, _⟩ => rfl
    | ⟨1, _⟩ => exact Nat.zero_add _
  rw [ee, odd_apply]
  unfold blockG
  refine congr (congr (congr (congr (congr (congrArg out ?_) ?_) ?_) ?_) ?_) ?_
  · refine Finset.sum_congr rfl fun j _ => congr (congrArg _ ?_) ?_
    · exact ld_at _ _ _ _ _ _ _ _ (fun a => by match a with
        | ⟨0, _⟩ => exact (Nat.zero_add _).symm
        | ⟨1, _⟩ => exact (Nat.zero_add _).symm)
    · exact ld_at _ _ _ _ _ _ _ _ (fun a => by match a with
        | ⟨0, _⟩ => exact (Nat.zero_add _).symm
        | ⟨1, _⟩ => exact (Nat.zero_add _).symm
        | ⟨2, _⟩ => show e + 128 + r.val = e + (128 + r.val); omega)
  · exact ld_at _ _ _ _ _ _ _ _ (fun a => by match a with
        | ⟨0, _⟩ => exact (Nat.zero_add _).symm
        | ⟨1, _⟩ => show (e + 128 + r.val) % 128 = 0 + r.val; omega)
  · exact ld_at _ _ _ _ _ _ _ _ (fun a => by match a with
        | ⟨0, _⟩ => exact (Nat.zero_add _).symm
        | ⟨1, _⟩ => exact (Nat.zero_add _).symm
        | ⟨2, _⟩ => rfl)
  · exact ld_at _ _ _ _ _ _ _ _ (fun a => by match a with
        | ⟨0, _⟩ => exact (Nat.zero_add _).symm
        | ⟨1, _⟩ => exact (Nat.zero_add _).symm
        | ⟨2, _⟩ => rfl)
  · exact ld_at _ _ _ _ _ _ _ _ (fun a => by match a with
        | ⟨0, _⟩ => exact (Nat.zero_add _).symm
        | ⟨1, _⟩ => exact (Nat.zero_add _).symm
        | ⟨2, _⟩ => exact (Nat.zero_add _).symm)
  · exact ld_at _ _ _ _ _ _ _ _ (fun a => by match a with
        | ⟨0, _⟩ => rfl
        | ⟨1, _⟩ => exact (Nat.zero_add _).symm)

theorem last_piece (h5) (h6) (h7) (h8) (h9) (h10) (h11) (hp : ∀ a, (![2816, 0] : Fin 2 → Nat) a + S64x256.size a ≤ S2880x256.size a)
    (x : (Rect.unit (s := S2880x256) ![2816, 0] S64x256.size hp).shape.Idx) :
    k0_pay53 (View.readAt (Elt Ideal) arg5.view (Rect.unit (s := S256x2880) ![0, 0] S256x2880.size h5).toLoadRect (harg5.unread x0)) (k0_pay2 (View.readAt (Elt Ideal) arg6.view (Rect.unit (s := S256x128) ![0, 0] S256x128.size h6).toLoadRect (harg6.unread x1))) (k0_pay3 (View.readAt (Elt Ideal) arg10.view (Rect.unit (s := S1x1x128) ![0, 0, 0] S1x1x128.size h10).toLoadRect (harg10.unread x5))) (View.readAt (Elt Ideal) arg7.view (Rect.unit (s := S1x2880x2880) ![0, 0, 2816] S1x2880x64.size h7).toLoadRect (harg7.unread x2)) (View.readAt (Elt Ideal) arg8.view (Rect.unit (s := S1x1x2880) ![0, 0, 2816] S1x1x64.size h8).toLoadRect (harg8.unread x3)) (View.readAt (Elt Ideal) arg9.view (Rect.unit (s := S1x1x2880) ![0, 0, 2816] S1x1x64.size h9).toLoadRect (harg9.unread x4)) (View.readAt (Elt Ideal) arg11.view (Rect.unit (s := S2880x256) ![2816, 0] S64x256.size h11).toLoadRect (harg11.unread x6)) x = blockG x0 x1 x2 x3 x4 x5 x6 ((Rect.unit (s := S2880x256) ![2816, 0] S64x256.size hp).emb x) := by
  obtain ⟨r, k, rfl⟩ : ∃ (r : Fin 64) (k : Fin 256), x = ix2 r k := ⟨x 0, x 1, funext fun a => by match a with
    | ⟨0, _⟩ => rfl
    | ⟨1, _⟩ => rfl⟩
  have hb := hp 0
  change 2816 + 64 ≤ 2880 at hb
  have hr := r.isLt
  have ee : (Rect.unit (s := S2880x256) ![2816, 0] S64x256.size hp).emb (ix2 r k) = ix2 (⟨2816 + r.val, by omega⟩ : Fin 2880) k := by
    funext a; apply Fin.ext; rw [ValueKit.rect_emb_unit_val]
    match a with
    | ⟨0, _⟩ => rfl
    | ⟨1, _⟩ => exact Nat.zero_add _
  rw [ee, last_apply]
  unfold blockG
  refine congr (congr (congr (congr (congr (congrArg out ?_) ?_) ?_) ?_) ?_) ?_
  · refine Finset.sum_congr rfl fun j _ => congr (congrArg _ ?_) ?_
    · exact ld_at _ _ _ _ _ _ _ _ (fun a => by match a with
        | ⟨0, _⟩ => exact (Nat.zero_add _).symm
        | ⟨1, _⟩ => exact (Nat.zero_add _).symm)
    · exact ld_at _ _ _ _ _ _ _ _ (fun a => by match a with
        | ⟨0, _⟩ => exact (Nat.zero_add _).symm
        | ⟨1, _⟩ => exact (Nat.zero_add _).symm
        | ⟨2, _⟩ => rfl)
  · exact ld_at _ _ _ _ _ _ _ _ (fun a => by match a with
        | ⟨0, _⟩ => exact (Nat.zero_add _).symm
        | ⟨1, _⟩ => show (2816 + r.val) % 128 = 0 + r.val; omega)
  · exact ld_at _ _ _ _ _ _ _ _ (fun a => by match a with
        | ⟨0, _⟩ => exact (Nat.zero_add _).symm
        | ⟨1, _⟩ => exact (Nat.zero_add _).symm
        | ⟨2, _⟩ => rfl)
  · exact ld_at _ _ _ _ _ _ _ _ (fun a => by match a with
        | ⟨0, _⟩ => exact (Nat.zero_add _).symm
        | ⟨1, _⟩ => exact (Nat.zero_add _).symm
        | ⟨2, _⟩ => rfl)
  · exact ld_at _ _ _ _ _ _ _ _ (fun a => by match a with
        | ⟨0, _⟩ => exact (Nat.zero_add _).symm
        | ⟨1, _⟩ => exact (Nat.zero_add _).symm
        | ⟨2, _⟩ => exact (Nat.zero_add _).symm)
  · exact ld_at _ _ _ _ _ _ _ _ (fun a => by match a with
        | ⟨0, _⟩ => rfl
        | ⟨1, _⟩ => exact (Nat.zero_add _).symm)

end

end Cert.OutProjIdeal.Gen

end
-- ==== Proof.OutProjIdeal.RunN.lean ====
/- The body's triple at a point that stores nothing. -/
module

public import proofs.«01_k».proof.Proof.OutProjIdeal.Kit

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a point where neither condition holds the body leaves every buffer as it found it. -/
theorem kernelRunN (c : Dev nD) (i : grid0.Coords) (arg5 : Memref sig .tc .vmem S256x2880 .fp8e4m3) (harg5 : arg5.IsWhole) (arg6 : Memref sig .tc .vmem S256x128 .f32) (harg6 : arg6.IsWhole) (arg7 : Memref sig .tc .vmem S1x2880x2880 .fp8e4m3) (harg7 : arg7.IsWhole) (arg8 : Memref sig .tc .vmem S1x1x2880 .f32) (harg8 : arg8.IsWhole) (arg9 : Memref sig .tc .vmem S1x1x2880 .f32) (harg9 : arg9.IsWhole) (arg10 : Memref sig .tc .vmem S1x1x128 .f32) (harg10 : arg10.IsWhole) (arg11 : Memref sig .tc .vmem S2880x256 .bf16) (harg11 : arg11.IsWhole) (arg12 : Memref sig .tc .vmem S2880x256 .bf16) (harg12 : arg12.IsWhole)
    (x0 : Vec F S256x2880 .fp8e4m3) (x1 : Vec F S256x128 .f32) (x2 : Vec F S1x2880x2880 .fp8e4m3) (x3 : Vec F S1x1x2880 .f32) (x4 : Vec F S1x1x2880 .f32) (x5 : Vec F S1x1x128 .f32) (x6 : Vec F S2880x256 .bf16) (xo : Vec F S2880x256 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 (wG c i xt1)) (hc0 : ¬cond0_0 c i xt0 xt1 xt2 xt3 k0_hw1) (hc1 : ¬cond0_1 c i xt0 xt1 xt2 xt3 k0_hw1) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare xo ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare xo ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_out_proj i tbM0_0 htbM0_0 tbM0_1 htbM0_1 tbM0_2 htbM0_2 tbM0_3 htbM0_3 arg5 harg5 arg6 harg6 arg7 harg7 arg8 harg8 arg9 harg9 arg10 harg10 arg11 harg11 arg12 harg12) K := by
    intro E K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [HT0]; · iexact HT0
    isplitl [HT1]; · iexact HT1
    isplitl [HT2]; · iexact HT2
    iexact HT3

end Cert.OutProjIdeal.Gen

end
-- ==== Proof.OutProjIdeal.RunM.lean ====
/- The body's triple at a point whose type covers only a part of the tile. -/
module

public import proofs.«01_k».proof.Proof.OutProjIdeal.RunN

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Where the second condition holds and the first does not: the pieces that the body stores into the output window. -/
def kernelRunM (c : Dev nD) (i : grid0.Coords) (arg5 : Memref sig .tc .vmem S256x2880 .fp8e4m3) (harg5 : arg5.IsWhole) (arg6 : Memref sig .tc .vmem S256x128 .f32) (harg6 : arg6.IsWhole) (arg7 : Memref sig .tc .vmem S1x2880x2880 .fp8e4m3) (harg7 : arg7.IsWhole) (arg8 : Memref sig .tc .vmem S1x1x2880 .f32) (harg8 : arg8.IsWhole) (arg9 : Memref sig .tc .vmem S1x1x2880 .f32) (harg9 : arg9.IsWhole) (arg10 : Memref sig .tc .vmem S1x1x128 .f32) (harg10 : arg10.IsWhole) (arg11 : Memref sig .tc .vmem S2880x256 .bf16) (harg11 : arg11.IsWhole) (arg12 : Memref sig .tc .vmem S2880x256 .bf16) (harg12 : arg12.IsWhole)
    (x0 : Vec F S256x2880 .fp8e4m3) (x1 : Vec F S256x128 .f32) (x2 : Vec F S1x2880x2880 .fp8e4m3) (x3 : Vec F S1x1x2880 .f32) (x4 : Vec F S1x1x2880 .f32) (x5 : Vec F S1x1x128 .f32) (x6 : Vec F S2880x256 .bf16) (xo : Vec F S2880x256 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 (wG c i xt1)) (hc0 : ¬cond0_0 c i xt0 xt1 xt2 xt3 k0_hw1) (hc1 : cond0_1 c i xt0 xt1 xt2 xt3 k0_hw1) :
    { L7 : List (View.Piece (Elt F) S2880x256 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare xo ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (arg12.view.loc (c : Thread nD τ) ↦[arg12.view.set]{fullShare} arg12.view.writes (Elt F) (harg12.unread xo) L7) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_out_proj i tbM0_0 htbM0_0 tbM0_1 htbM0_1 tbM0_2 htbM0_2 tbM0_3 htbM0_3 arg5 harg5 arg6 harg6 arg7 harg7 arg8 harg8 arg9 harg9 arg10 harg10 arg11 harg11 arg12 harg12) K } := by
  refine ⟨?_, fun E K => ?run⟩
  case run =>
    simp only [cc0_out_proj_eq_skeleton]; unfold cc0_out_proj_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexact H7
    isplitl [HT0]; · iexact HT0
    isplitl [HT1]; · iexact HT1
    isplitl [HT2]; · iexact HT2
    iexact HT3

end Cert.OutProjIdeal.Gen

end
-- ==== Proof.OutProjIdeal.RunF.lean ====
/- The body's triple at a point whose type covers the whole tile. -/
module

public import proofs.«01_k».proof.Proof.OutProjIdeal.RunM

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Where the first condition holds and the second does not: the pieces that the body stores into the output window. -/
def kernelRunF (c : Dev nD) (i : grid0.Coords) (arg5 : Memref sig .tc .vmem S256x2880 .fp8e4m3) (harg5 : arg5.IsWhole) (arg6 : Memref sig .tc .vmem S256x128 .f32) (harg6 : arg6.IsWhole) (arg7 : Memref sig .tc .vmem S1x2880x2880 .fp8e4m3) (harg7 : arg7.IsWhole) (arg8 : Memref sig .tc .vmem S1x1x2880 .f32) (harg8 : arg8.IsWhole) (arg9 : Memref sig .tc .vmem S1x1x2880 .f32) (harg9 : arg9.IsWhole) (arg10 : Memref sig .tc .vmem S1x1x128 .f32) (harg10 : arg10.IsWhole) (arg11 : Memref sig .tc .vmem S2880x256 .bf16) (harg11 : arg11.IsWhole) (arg12 : Memref sig .tc .vmem S2880x256 .bf16) (harg12 : arg12.IsWhole)
    (x0 : Vec F S256x2880 .fp8e4m3) (x1 : Vec F S256x128 .f32) (x2 : Vec F S1x2880x2880 .fp8e4m3) (x3 : Vec F S1x1x2880 .f32) (x4 : Vec F S1x1x2880 .f32) (x5 : Vec F S1x1x128 .f32) (x6 : Vec F S2880x256 .bf16) (xo : Vec F S2880x256 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 (wG c i xt1)) (hc0 : cond0_0 c i xt0 xt1 xt2 xt3 k0_hw1) (hc1 : ¬cond0_1 c i xt0 xt1 xt2 xt3 k0_hw1) :
    { L7 : List (View.Piece (Elt F) S2880x256 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare xo ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (arg12.view.loc (c : Thread nD τ) ↦[arg12.view.set]{fullShare} arg12.view.writes (Elt F) (harg12.unread xo) L7) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_out_proj i tbM0_0 htbM0_0 tbM0_1 htbM0_1 tbM0_2 htbM0_2 tbM0_3 htbM0_3 arg5 harg5 arg6 harg6 arg7 harg7 arg8 harg8 arg9 harg9 arg10 harg10 arg11 harg11 arg12 harg12) K } := by
  refine ⟨?_, fun E K => ?run⟩
  case run =>
    simp only [cc0_out_proj_eq_skeleton]; unfold cc0_out_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexact H7
    isplitl [HT0]; · iexact HT0
    isplitl [HT1]; · iexact HT1
    isplitl [HT2]; · iexact HT2
    iexact HT3

end Cert.OutProjIdeal.Gen

end
-- ==== Proof.OutProjIdeal.Pieces.lean ====
/- The pieces of the two stores, each read at an index. -/
module

public import proofs.«01_k».proof.Proof.OutProjIdeal.Block
public import proofs.«01_k».proof.Proof.OutProjIdeal.RunF
public import proofs.«01_k».proof.Proof.OutProjIdeal.RunM

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000

/-- A column of a tile belongs to the visit's type: at or after the type's begin, and before its end, both counted from the
    tile's first row. -/
def inside (T lo hi : BitVec 32) (k : Fin 256) : BitVec 1 :=
  IntOp.andi (IntOp.cmpi .sge (BitVec.ofNat 32 k.val) (Scalar.subi lo (Scalar.muli T 256#32))) (IntOp.cmpi .slt (BitVec.ofNat 32 k.val) (Scalar.subi hi (Scalar.muli T 256#32)))

theorem mask_apply (lo hi : BitVec 32) (r : Fin 128) (k : Fin 256) :
    k0_pay56 lo hi (ix2 r k) = IntOp.andi (IntOp.cmpi .sge (BitVec.ofNat 32 k.val) lo) (IntOp.cmpi .slt (BitVec.ofNat 32 k.val) hi) := by
  pointwise [k0_pay56]

theorem mask_apply_last (lo hi : BitVec 32) (r : Fin 64) (k : Fin 256) :
    k0_pay109 (k0_pay56 lo hi) (ix2 r k) = IntOp.andi (IntOp.cmpi .sge (BitVec.ofNat 32 k.val) lo) (IntOp.cmpi .slt (BitVec.ofNat 32 k.val) hi) := by
  pointwise [k0_pay109, k0_pay56]

theorem select_apply59 (mk : IVec S128x256 1) (p : FVec Ideal S128x256 .bf16) (o : Vec Ideal S128x256 .bf16) (x : S128x256.Idx) :
    k0_pay59 mk p o x = Scalar.select (mk x) (p x) (o x) := by
  obtain ⟨r, k, rfl⟩ : ∃ (r : Fin 128) (k : Fin 256), x = ix2 r k := ⟨x 0, x 1, funext fun a => by match a with
    | ⟨0, _⟩ => rfl
    | ⟨1, _⟩ => rfl⟩
  pointwise [k0_pay59]

theorem select_apply1 (mk : IVec S64x256 1) (p : FVec Ideal S64x256 .bf16) (o : Vec Ideal S64x256 .bf16) (x : S64x256.Idx) :
    k0_pay1 p mk (k0_pay110 o) x = Scalar.select (mk x) (p x) (o x) := by
  obtain ⟨r, k, rfl⟩ : ∃ (r : Fin 64) (k : Fin 256), x = ix2 r k := ⟨x 0, x 1, funext fun a => by match a with
    | ⟨0, _⟩ => rfl
    | ⟨1, _⟩ => rfl⟩
  pointwise [k0_pay1, k0_pay110]

/-- The block after a masked store: the visit's columns from the block's function, the others as they were. -/
def maskG (w0 w1 : BitVec 32) (G xo : Vec Ideal S2880x256 .bf16) : Vec Ideal S2880x256 .bf16 := fun y =>
  Scalar.select (IntOp.andi (IntOp.cmpi .sge (BitVec.ofNat 32 (y 1).val) w0) (IntOp.cmpi .slt (BitVec.ofNat 32 (y 1).val) w1)) (G y) (xo y)

/-- One masked piece: the select of its payload against the rows it overwrites. -/
theorem mask_piece (o : Nat) (arg12 : Memref sig .tc .vmem S2880x256 .bf16) (harg12 : arg12.IsWhole) (xo G : Vec Ideal S2880x256 .bf16) (w0 w1 : BitVec 32) (pay : FVec Ideal S128x256 .bf16)
    (hq) (hp : ∀ a, (![o, 0] : Fin 2 → Nat) a + S128x256.size a ≤ S2880x256.size a) (x : (Rect.unit (s := S2880x256) ![o, 0] S128x256.size hp).shape.Idx)
    (hpay : pay x = G ((Rect.unit (s := S2880x256) ![o, 0] S128x256.size hp).emb x)) :
    k0_pay59 (k0_pay56 w0 w1) pay (View.readAt (Elt Ideal) arg12.view (Rect.unit (s := S2880x256) ![o, 0] S128x256.size hq).toLoadRect (harg12.unread xo)) x = maskG w0 w1 G xo ((Rect.unit (s := S2880x256) ![o, 0] S128x256.size hp).emb x) := by
  refine (select_apply59 _ _ _ x).trans ?_
  have hold : (View.readAt (Elt Ideal) arg12.view (Rect.unit (s := S2880x256) ![o, 0] S128x256.size hq).toLoadRect (harg12.unread xo)) x = xo ((Rect.unit (s := S2880x256) ![o, 0] S128x256.size hp).emb x) :=
    ld_at arg12 harg12 xo _ _ _ _ _ fun a => ValueKit.rect_emb_unit_val _ _ _ x a
  rw [hold, hpay]
  obtain ⟨r, k, rfl⟩ : ∃ (r : Fin 128) (k : Fin 256), x = ix2 r k := ⟨x 0, x 1, funext fun a => by match a with
    | ⟨0, _⟩ => rfl
    | ⟨1, _⟩ => rfl⟩
  have hk : ((Rect.unit (s := S2880x256) ![o, 0] S128x256.size hp).emb (ix2 r k) 1).val = k.val := (ValueKit.rect_emb_unit_val _ _ _ _ _).trans (Nat.zero_add _)
  unfold maskG
  rw [mask_apply, hk]

/-- One masked piece: the select of its payload against the rows it overwrites. -/
theorem mask_piece_last (arg12 : Memref sig .tc .vmem S2880x256 .bf16) (harg12 : arg12.IsWhole) (xo G : Vec Ideal S2880x256 .bf16) (w0 w1 : BitVec 32) (pay : FVec Ideal S64x256 .bf16)
    (hq) (hp : ∀ a, (![2816, 0] : Fin 2 → Nat) a + S64x256.size a ≤ S2880x256.size a) (x : (Rect.unit (s := S2880x256) ![2816, 0] S64x256.size hp).shape.Idx)
    (hpay : pay x = G ((Rect.unit (s := S2880x256) ![2816, 0] S64x256.size hp).emb x)) :
    k0_pay1 pay (k0_pay109 (k0_pay56 w0 w1)) (k0_pay110 (View.readAt (Elt Ideal) arg12.view (Rect.unit (s := S2880x256) ![2816, 0] S64x256.size hq).toLoadRect (harg12.unread xo))) x = maskG w0 w1 G xo ((Rect.unit (s := S2880x256) ![2816, 0] S64x256.size hp).emb x) := by
  refine (select_apply1 _ _ _ x).trans ?_
  have hold : (View.readAt (Elt Ideal) arg12.view (Rect.unit (s := S2880x256) ![2816, 0] S64x256.size hq).toLoadRect (harg12.unread xo)) x = xo ((Rect.unit (s := S2880x256) ![2816, 0] S64x256.size hp).emb x) :=
    ld_at arg12 harg12 xo _ _ _ _ _ fun a => ValueKit.rect_emb_unit_val _ _ _ x a
  rw [hold, hpay]
  obtain ⟨r, k, rfl⟩ : ∃ (r : Fin 64) (k : Fin 256), x = ix2 r k := ⟨x 0, x 1, funext fun a => by match a with
    | ⟨0, _⟩ => rfl
    | ⟨1, _⟩ => rfl⟩
  have hk : ((Rect.unit (s := S2880x256) ![2816, 0] S64x256.size hp).emb (ix2 r k) 1).val = k.val := (ValueKit.rect_emb_unit_val _ _ _ _ _).trans (Nat.zero_add _)
  unfold maskG
  rw [mask_apply_last, hk]

section
variable (c : Dev nD) (i : grid0.Coords) (arg5 : Memref sig .tc .vmem S256x2880 .fp8e4m3) (harg5 : arg5.IsWhole) (arg6 : Memref sig .tc .vmem S256x128 .f32) (harg6 : arg6.IsWhole) (arg7 : Memref sig .tc .vmem S1x2880x2880 .fp8e4m3) (harg7 : arg7.IsWhole) (arg8 : Memref sig .tc .vmem S1x1x2880 .f32) (harg8 : arg8.IsWhole) (arg9 : Memref sig .tc .vmem S1x1x2880 .f32) (harg9 : arg9.IsWhole) (arg10 : Memref sig .tc .vmem S1x1x128 .f32) (harg10 : arg10.IsWhole) (arg11 : Memref sig .tc .vmem S2880x256 .bf16) (harg11 : arg11.IsWhole) (arg12 : Memref sig .tc .vmem S2880x256 .bf16) (harg12 : arg12.IsWhole)
  (x0 : Vec Ideal S256x2880 .fp8e4m3) (x1 : Vec Ideal S256x128 .f32) (x2 : Vec Ideal S1x2880x2880 .fp8e4m3) (x3 : Vec Ideal S1x1x2880 .f32) (x4 : Vec Ideal S1x1x2880 .f32) (x5 : Vec Ideal S1x1x128 .f32) (x6 : Vec Ideal S2880x256 .bf16) (xo : Vec Ideal S2880x256 .bf16)
  (xt0 : TbBuf0 (F := Ideal) c tbM0_0) (xt1 : TbBuf0 (F := Ideal) c tbM0_1) (xt2 : TbBuf0 (F := Ideal) c tbM0_2) (xt3 : TbBuf0 (F := Ideal) c tbM0_3) (hw : k0_chk1 (wG c i xt1))

/-- A piece of the whole store holds the block's function. -/
theorem pieces_F (h0 h1) : ∀ p ∈ (kernelRunF (F := Ideal) c i arg5 harg5 arg6 harg6 arg7 harg7 arg8 harg8 arg9 harg9 arg10 harg10 arg11 harg11 arg12 harg12 x0 x1 x2 x3 x4 x5 x6 xo xt0 xt1 xt2 xt3 hw h0 h1).1, ∀ x : p.1.shape.Idx, p.2 x = blockG x0 x1 x2 x3 x4 x5 x6 (p.1.emb x) := by
  refine List.forall_mem_cons.2 ⟨fun x => last_piece arg5 harg5 arg6 harg6 arg7 harg7 arg8 harg8 arg9 harg9 arg10 harg10 arg11 harg11 x0 x1 x2 x3 x4 x5 x6 _ _ _ _ _ _ _ inb_S2880x256_S64x256_2816_0 x, ?_⟩
  refine List.forall_mem_cons.2 ⟨fun x => odd_piece arg5 harg5 arg6 harg6 arg7 harg7 arg8 harg8 arg9 harg9 arg10 harg10 arg11 harg11 x0 x1 x2 x3 x4 x5 x6 2688 2560 rfl rfl _ _ _ _ _ _ _ inb_S2880x256_S128x256_2688_0 x, ?_⟩
  refine List.forall_mem_cons.2 ⟨fun x => even_piece arg5 harg5 arg6 harg6 arg7 harg7 arg8 harg8 arg9 harg9 arg10 harg10 arg11 harg11 x0 x1 x2 x3 x4 x5 x6 2560 2560 rfl rfl _ _ _ _ _ _ _ inb_S2880x256_S128x256_2560_0 x, ?_⟩
  refine List.forall_mem_cons.2 ⟨fun x => odd_piece arg5 harg5 arg6 harg6 arg7 harg7 arg8 harg8 arg9 harg9 arg10 harg10 arg11 harg11 x0 x1 x2 x3 x4 x5 x6 2432 2304 rfl rfl _ _ _ _ _ _ _ inb_S2880x256_S128x256_2432_0 x, ?_⟩
  refine List.forall_mem_cons.2 ⟨fun x => even_piece arg5 harg5 arg6 harg6 arg7 harg7 arg8 harg8 arg9 harg9 arg10 harg10 arg11 harg11 x0 x1 x2 x3 x4 x5 x6 2304 2304 rfl rfl _ _ _ _ _ _ _ inb_S2880x256_S128x256_2304_0 x, ?_⟩
  refine List.forall_mem_cons.2 ⟨fun x => odd_piece arg5 harg5 arg6 harg6 arg7 harg7 arg8 harg8 arg9 harg9 arg10 harg10 arg11 harg11 x0 x1 x2 x3 x4 x5 x6 2176 2048 rfl rfl _ _ _ _ _ _ _ inb_S2880x256_S128x256_2176_0 x, ?_⟩
  refine List.forall_mem_cons.2 ⟨fun x => even_piece arg5 harg5 arg6 harg6 arg7 harg7 arg8 harg8 arg9 harg9 arg10 harg10 arg11 harg11 x0 x1 x2 x3 x4 x5 x6 2048 2048 rfl rfl _ _ _ _ _ _ _ inb_S2880x256_S128x256_2048_0 x, ?_⟩
  refine List.forall_mem_cons.2 ⟨fun x => odd_piece arg5 harg5 arg6 harg6 arg7 harg7 arg8 harg8 arg9 harg9 arg10 harg10 arg11 harg11 x0 x1 x2 x3 x4 x5 x6 1920 1792 rfl rfl _ _ _ _ _ _ _ inb_S2880x256_S128x256_1920_0 x, ?_⟩
  refine List.forall_mem_cons.2 ⟨fun x => even_piece arg5 harg5 arg6 harg6 arg7 harg7 arg8 harg8 arg9 harg9 arg10 harg10 arg11 harg11 x0 x1 x2 x3 x4 x5 x6 1792 1792 rfl rfl _ _ _ _ _ _ _ inb_S2880x256_S128x256_1792_0 x, ?_⟩
  refine List.forall_mem_cons.2 ⟨fun x => odd_piece arg5 harg5 arg6 harg6 arg7 harg7 arg8 harg8 arg9 harg9 arg10 harg10 arg11 harg11 x0 x1 x2 x3 x4 x5 x6 1664 1536 rfl rfl _ _ _ _ _ _ _ inb_S2880x256_S128x256_1664_0 x, ?_⟩
  refine List.forall_mem_cons.2 ⟨fun x => even_piece arg5 harg5 arg6 harg6 arg7 harg7 arg8 harg8 arg9 harg9 arg10 harg10 arg11 harg11 x0 x1 x2 x3 x4 x5 x6 1536 1536 rfl rfl _ _ _ _ _ _ _ inb_S2880x256_S128x256_1536_0 x, ?_⟩
  refine List.forall_mem_cons.2 ⟨fun x => odd_piece arg5 harg5 arg6 harg6 arg7 harg7 arg8 harg8 arg9 harg9 arg10 harg10 arg11 harg11 x0 x1 x2 x3 x4 x5 x6 1408 1280 rfl rfl _ _ _ _ _ _ _ inb_S2880x256_S128x256_1408_0 x, ?_⟩
  refine List.forall_mem_cons.2 ⟨fun x => even_piece arg5 harg5 arg6 harg6 arg7 harg7 arg8 harg8 arg9 harg9 arg10 harg10 arg11 harg11 x0 x1 x2 x3 x4 x5 x6 1280 1280 rfl rfl _ _ _ _ _ _ _ inb_S2880x256_S128x256_1280_0 x, ?_⟩
  refine List.forall_mem_cons.2 ⟨fun x => odd_piece arg5 harg5 arg6 harg6 arg7 harg7 arg8 harg8 arg9 harg9 arg10 harg10 arg11 harg11 x0 x1 x2 x3 x4 x5 x6 1152 1024 rfl rfl _ _ _ _ _ _ _ inb_S2880x256_S128x256_1152_0 x, ?_⟩
  refine List.forall_mem_cons.2 ⟨fun x => even_piece arg5 harg5 arg6 harg6 arg7 harg7 arg8 harg8 arg9 harg9 arg10 harg10 arg11 harg11 x0 x1 x2 x3 x4 x5 x6 1024 1024 rfl rfl _ _ _ _ _ _ _ inb_S2880x256_S128x256_1024_0 x, ?_⟩
  refine List.forall_mem_cons.2 ⟨fun x => odd_piece arg5 harg5 arg6 harg6 arg7 harg7 arg8 harg8 arg9 harg9 arg10 harg10 arg11 harg11 x0 x1 x2 x3 x4 x5 x6 896 768 rfl rfl _ _ _ _ _ _ _ inb_S2880x256_S128x256_896_0 x, ?_⟩
  refine List.forall_mem_cons.2 ⟨fun x => even_piece arg5 harg5 arg6 harg6 arg7 harg7 arg8 harg8 arg9 harg9 arg10 harg10 arg11 harg11 x0 x1 x2 x3 x4 x5 x6 768 768 rfl rfl _ _ _ _ _ _ _ inb_S2880x256_S128x256_768_0 x, ?_⟩
  refine List.forall_mem_cons.2 ⟨fun x => odd_piece arg5 harg5 arg6 harg6 arg7 harg7 arg8 harg8 arg9 harg9 arg10 harg10 arg11 harg11 x0 x1 x2 x3 x4 x5 x6 640 512 rfl rfl _ _ _ _ _ _ _ inb_S2880x256_S128x256_640_0 x, ?_⟩
  refine List.forall_mem_cons.2 ⟨fun x => even_piece arg5 harg5 arg6 harg6 arg7 harg7 arg8 harg8 arg9 harg9 arg10 harg10 arg11 harg11 x0 x1 x2 x3 x4 x5 x6 512 512 rfl rfl _ _ _ _ _ _ _ inb_S2880x256_S128x256_512_0 x, ?_⟩
  refine List.forall_mem_cons.2 ⟨fun x => odd_piece arg5 harg5 arg6 harg6 arg7 harg7 arg8 harg8 arg9 harg9 arg10 harg10 arg11 harg11 x0 x1 x2 x3 x4 x5 x6 384 256 rfl rfl _ _ _ _ _ _ _ inb_S2880x256_S128x256_384_0 x, ?_⟩
  refine List.forall_mem_cons.2 ⟨fun x => even_piece arg5 harg5 arg6 harg6 arg7 harg7 arg8 harg8 arg9 harg9 arg10 harg10 arg11 harg11 x0 x1 x2 x3 x4 x5 x6 256 256 rfl rfl _ _ _ _ _ _ _ inb_S2880x256_S128x256_256_0 x, ?_⟩
  refine List.forall_mem_cons.2 ⟨fun x => odd_piece arg5 harg5 arg6 harg6 arg7 harg7 arg8 harg8 arg9 harg9 arg10 harg10 arg11 harg11 x0 x1 x2 x3 x4 x5 x6 128 0 rfl rfl _ _ _ _ _ _ _ inb_S2880x256_S128x256_128_0 x, ?_⟩
  refine List.forall_mem_cons.2 ⟨fun x => even_piece arg5 harg5 arg6 harg6 arg7 harg7 arg8 harg8 arg9 harg9 arg10 harg10 arg11 harg11 x0 x1 x2 x3 x4 x5 x6 0 0 rfl rfl _ _ _ _ _ _ _ inb_S2880x256_S128x256_0_0 x, ?_⟩
  exact fun p hp => absurd hp List.not_mem_nil

/-- A piece of the masked store holds the select of the block's function against the block before it. -/
theorem pieces_M (h0 h1) : ∀ p ∈ (kernelRunM (F := Ideal) c i arg5 harg5 arg6 harg6 arg7 harg7 arg8 harg8 arg9 harg9 arg10 harg10 arg11 harg11 arg12 harg12 x0 x1 x2 x3 x4 x5 x6 xo xt0 xt1 xt2 xt3 hw h0 h1).1, ∀ x : p.1.shape.Idx,
    p.2 x = maskG (Scalar.subi (wLo c i xt1 xt2 hw) (Scalar.muli (wT c i xt0) 256#32)) (Scalar.subi (wHi c i xt1 xt2 hw) (Scalar.muli (wT c i xt0) 256#32)) (blockG x0 x1 x2 x3 x4 x5 x6) xo (p.1.emb x) := by
  refine List.forall_mem_cons.2 ⟨fun x => mask_piece_last arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S64x256_2816_0 x (last_piece arg5 harg5 arg6 harg6 arg7 harg7 arg8 harg8 arg9 harg9 arg10 harg10 arg11 harg11 x0 x1 x2 x3 x4 x5 x6 inb_S256x2880_S256x2880_0_0 inb_S256x128_S256x128_0_0 inb_S1x2880x2880_S1x2880x64_0_0_2816 inb_S1x1x2880_S1x1x64_0_0_2816 inb_S1x1x2880_S1x1x64_0_0_2816 inb_S1x1x128_S1x1x128_0_0_0 inb_S2880x256_S64x256_2816_0 inb_S2880x256_S64x256_2816_0 x), ?_⟩
  refine List.forall_mem_cons.2 ⟨fun x => mask_piece 2688 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_2688_0 x (odd_piece arg5 harg5 arg6 harg6 arg7 harg7 arg8 harg8 arg9 harg9 arg10 harg10 arg11 harg11 x0 x1 x2 x3 x4 x5 x6 2688 2560 rfl rfl inb_S256x2880_S256x2880_0_0 inb_S256x128_S256x128_0_0 inb_S1x2880x2880_S1x2880x256_0_0_2560 inb_S1x1x2880_S1x1x128_0_0_2688 inb_S1x1x2880_S1x1x128_0_0_2688 inb_S1x1x128_S1x1x128_0_0_0 inb_S2880x256_S128x256_2688_0 inb_S2880x256_S128x256_2688_0 x), ?_⟩
  refine List.forall_mem_cons.2 ⟨fun x => mask_piece 2560 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_2560_0 x (even_piece arg5 harg5 arg6 harg6 arg7 harg7 arg8 harg8 arg9 harg9 arg10 harg10 arg11 harg11 x0 x1 x2 x3 x4 x5 x6 2560 2560 rfl rfl inb_S256x2880_S256x2880_0_0 inb_S256x128_S256x128_0_0 inb_S1x2880x2880_S1x2880x256_0_0_2560 inb_S1x1x2880_S1x1x128_0_0_2560 inb_S1x1x2880_S1x1x128_0_0_2560 inb_S1x1x128_S1x1x128_0_0_0 inb_S2880x256_S128x256_2560_0 inb_S2880x256_S128x256_2560_0 x), ?_⟩
  refine List.forall_mem_cons.2 ⟨fun x => mask_piece 2432 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_2432_0 x (odd_piece arg5 harg5 arg6 harg6 arg7 harg7 arg8 harg8 arg9 harg9 arg10 harg10 arg11 harg11 x0 x1 x2 x3 x4 x5 x6 2432 2304 rfl rfl inb_S256x2880_S256x2880_0_0 inb_S256x128_S256x128_0_0 inb_S1x2880x2880_S1x2880x256_0_0_2304 inb_S1x1x2880_S1x1x128_0_0_2432 inb_S1x1x2880_S1x1x128_0_0_2432 inb_S1x1x128_S1x1x128_0_0_0 inb_S2880x256_S128x256_2432_0 inb_S2880x256_S128x256_2432_0 x), ?_⟩
  refine List.forall_mem_cons.2 ⟨fun x => mask_piece 2304 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_2304_0 x (even_piece arg5 harg5 arg6 harg6 arg7 harg7 arg8 harg8 arg9 harg9 arg10 harg10 arg11 harg11 x0 x1 x2 x3 x4 x5 x6 2304 2304 rfl rfl inb_S256x2880_S256x2880_0_0 inb_S256x128_S256x128_0_0 inb_S1x2880x2880_S1x2880x256_0_0_2304 inb_S1x1x2880_S1x1x128_0_0_2304 inb_S1x1x2880_S1x1x128_0_0_2304 inb_S1x1x128_S1x1x128_0_0_0 inb_S2880x256_S128x256_2304_0 inb_S2880x256_S128x256_2304_0 x), ?_⟩
  refine List.forall_mem_cons.2 ⟨fun x => mask_piece 2176 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_2176_0 x (odd_piece arg5 harg5 arg6 harg6 arg7 harg7 arg8 harg8 arg9 harg9 arg10 harg10 arg11 harg11 x0 x1 x2 x3 x4 x5 x6 2176 2048 rfl rfl inb_S256x2880_S256x2880_0_0 inb_S256x128_S256x128_0_0 inb_S1x2880x2880_S1x2880x256_0_0_2048 inb_S1x1x2880_S1x1x128_0_0_2176 inb_S1x1x2880_S1x1x128_0_0_2176 inb_S1x1x128_S1x1x128_0_0_0 inb_S2880x256_S128x256_2176_0 inb_S2880x256_S128x256_2176_0 x), ?_⟩
  refine List.forall_mem_cons.2 ⟨fun x => mask_piece 2048 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_2048_0 x (even_piece arg5 harg5 arg6 harg6 arg7 harg7 arg8 harg8 arg9 harg9 arg10 harg10 arg11 harg11 x0 x1 x2 x3 x4 x5 x6 2048 2048 rfl rfl inb_S256x2880_S256x2880_0_0 inb_S256x128_S256x128_0_0 inb_S1x2880x2880_S1x2880x256_0_0_2048 inb_S1x1x2880_S1x1x128_0_0_2048 inb_S1x1x2880_S1x1x128_0_0_2048 inb_S1x1x128_S1x1x128_0_0_0 inb_S2880x256_S128x256_2048_0 inb_S2880x256_S128x256_2048_0 x), ?_⟩
  refine List.forall_mem_cons.2 ⟨fun x => mask_piece 1920 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_1920_0 x (odd_piece arg5 harg5 arg6 harg6 arg7 harg7 arg8 harg8 arg9 harg9 arg10 harg10 arg11 harg11 x0 x1 x2 x3 x4 x5 x6 1920 1792 rfl rfl inb_S256x2880_S256x2880_0_0 inb_S256x128_S256x128_0_0 inb_S1x2880x2880_S1x2880x256_0_0_1792 inb_S1x1x2880_S1x1x128_0_0_1920 inb_S1x1x2880_S1x1x128_0_0_1920 inb_S1x1x128_S1x1x128_0_0_0 inb_S2880x256_S128x256_1920_0 inb_S2880x256_S128x256_1920_0 x), ?_⟩
  refine List.forall_mem_cons.2 ⟨fun x => mask_piece 1792 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_1792_0 x (even_piece arg5 harg5 arg6 harg6 arg7 harg7 arg8 harg8 arg9 harg9 arg10 harg10 arg11 harg11 x0 x1 x2 x3 x4 x5 x6 1792 1792 rfl rfl inb_S256x2880_S256x2880_0_0 inb_S256x128_S256x128_0_0 inb_S1x2880x2880_S1x2880x256_0_0_1792 inb_S1x1x2880_S1x1x128_0_0_1792 inb_S1x1x2880_S1x1x128_0_0_1792 inb_S1x1x128_S1x1x128_0_0_0 inb_S2880x256_S128x256_1792_0 inb_S2880x256_S128x256_1792_0 x), ?_⟩
  refine List.forall_mem_cons.2 ⟨fun x => mask_piece 1664 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_1664_0 x (odd_piece arg5 harg5 arg6 harg6 arg7 harg7 arg8 harg8 arg9 harg9 arg10 harg10 arg11 harg11 x0 x1 x2 x3 x4 x5 x6 1664 1536 rfl rfl inb_S256x2880_S256x2880_0_0 inb_S256x128_S256x128_0_0 inb_S1x2880x2880_S1x2880x256_0_0_1536 inb_S1x1x2880_S1x1x128_0_0_1664 inb_S1x1x2880_S1x1x128_0_0_1664 inb_S1x1x128_S1x1x128_0_0_0 inb_S2880x256_S128x256_1664_0 inb_S2880x256_S128x256_1664_0 x), ?_⟩
  refine List.forall_mem_cons.2 ⟨fun x => mask_piece 1536 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_1536_0 x (even_piece arg5 harg5 arg6 harg6 arg7 harg7 arg8 harg8 arg9 harg9 arg10 harg10 arg11 harg11 x0 x1 x2 x3 x4 x5 x6 1536 1536 rfl rfl inb_S256x2880_S256x2880_0_0 inb_S256x128_S256x128_0_0 inb_S1x2880x2880_S1x2880x256_0_0_1536 inb_S1x1x2880_S1x1x128_0_0_1536 inb_S1x1x2880_S1x1x128_0_0_1536 inb_S1x1x128_S1x1x128_0_0_0 inb_S2880x256_S128x256_1536_0 inb_S2880x256_S128x256_1536_0 x), ?_⟩
  refine List.forall_mem_cons.2 ⟨fun x => mask_piece 1408 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_1408_0 x (odd_piece arg5 harg5 arg6 harg6 arg7 harg7 arg8 harg8 arg9 harg9 arg10 harg10 arg11 harg11 x0 x1 x2 x3 x4 x5 x6 1408 1280 rfl rfl inb_S256x2880_S256x2880_0_0 inb_S256x128_S256x128_0_0 inb_S1x2880x2880_S1x2880x256_0_0_1280 inb_S1x1x2880_S1x1x128_0_0_1408 inb_S1x1x2880_S1x1x128_0_0_1408 inb_S1x1x128_S1x1x128_0_0_0 inb_S2880x256_S128x256_1408_0 inb_S2880x256_S128x256_1408_0 x), ?_⟩
  refine List.forall_mem_cons.2 ⟨fun x => mask_piece 1280 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_1280_0 x (even_piece arg5 harg5 arg6 harg6 arg7 harg7 arg8 harg8 arg9 harg9 arg10 harg10 arg11 harg11 x0 x1 x2 x3 x4 x5 x6 1280 1280 rfl rfl inb_S256x2880_S256x2880_0_0 inb_S256x128_S256x128_0_0 inb_S1x2880x2880_S1x2880x256_0_0_1280 inb_S1x1x2880_S1x1x128_0_0_1280 inb_S1x1x2880_S1x1x128_0_0_1280 inb_S1x1x128_S1x1x128_0_0_0 inb_S2880x256_S128x256_1280_0 inb_S2880x256_S128x256_1280_0 x), ?_⟩
  refine List.forall_mem_cons.2 ⟨fun x => mask_piece 1152 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_1152_0 x (odd_piece arg5 harg5 arg6 harg6 arg7 harg7 arg8 harg8 arg9 harg9 arg10 harg10 arg11 harg11 x0 x1 x2 x3 x4 x5 x6 1152 1024 rfl rfl inb_S256x2880_S256x2880_0_0 inb_S256x128_S256x128_0_0 inb_S1x2880x2880_S1x2880x256_0_0_1024 inb_S1x1x2880_S1x1x128_0_0_1152 inb_S1x1x2880_S1x1x128_0_0_1152 inb_S1x1x128_S1x1x128_0_0_0 inb_S2880x256_S128x256_1152_0 inb_S2880x256_S128x256_1152_0 x), ?_⟩
  refine List.forall_mem_cons.2 ⟨fun x => mask_piece 1024 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_1024_0 x (even_piece arg5 harg5 arg6 harg6 arg7 harg7 arg8 harg8 arg9 harg9 arg10 harg10 arg11 harg11 x0 x1 x2 x3 x4 x5 x6 1024 1024 rfl rfl inb_S256x2880_S256x2880_0_0 inb_S256x128_S256x128_0_0 inb_S1x2880x2880_S1x2880x256_0_0_1024 inb_S1x1x2880_S1x1x128_0_0_1024 inb_S1x1x2880_S1x1x128_0_0_1024 inb_S1x1x128_S1x1x128_0_0_0 inb_S2880x256_S128x256_1024_0 inb_S2880x256_S128x256_1024_0 x), ?_⟩
  refine List.forall_mem_cons.2 ⟨fun x => mask_piece 896 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_896_0 x (odd_piece arg5 harg5 arg6 harg6 arg7 harg7 arg8 harg8 arg9 harg9 arg10 harg10 arg11 harg11 x0 x1 x2 x3 x4 x5 x6 896 768 rfl rfl inb_S256x2880_S256x2880_0_0 inb_S256x128_S256x128_0_0 inb_S1x2880x2880_S1x2880x256_0_0_768 inb_S1x1x2880_S1x1x128_0_0_896 inb_S1x1x2880_S1x1x128_0_0_896 inb_S1x1x128_S1x1x128_0_0_0 inb_S2880x256_S128x256_896_0 inb_S2880x256_S128x256_896_0 x), ?_⟩
  refine List.forall_mem_cons.2 ⟨fun x => mask_piece 768 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_768_0 x (even_piece arg5 harg5 arg6 harg6 arg7 harg7 arg8 harg8 arg9 harg9 arg10 harg10 arg11 harg11 x0 x1 x2 x3 x4 x5 x6 768 768 rfl rfl inb_S256x2880_S256x2880_0_0 inb_S256x128_S256x128_0_0 inb_S1x2880x2880_S1x2880x256_0_0_768 inb_S1x1x2880_S1x1x128_0_0_768 inb_S1x1x2880_S1x1x128_0_0_768 inb_S1x1x128_S1x1x128_0_0_0 inb_S2880x256_S128x256_768_0 inb_S2880x256_S128x256_768_0 x), ?_⟩
  refine List.forall_mem_cons.2 ⟨fun x => mask_piece 640 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_640_0 x (odd_piece arg5 harg5 arg6 harg6 arg7 harg7 arg8 harg8 arg9 harg9 arg10 harg10 arg11 harg11 x0 x1 x2 x3 x4 x5 x6 640 512 rfl rfl inb_S256x2880_S256x2880_0_0 inb_S256x128_S256x128_0_0 inb_S1x2880x2880_S1x2880x256_0_0_512 inb_S1x1x2880_S1x1x128_0_0_640 inb_S1x1x2880_S1x1x128_0_0_640 inb_S1x1x128_S1x1x128_0_0_0 inb_S2880x256_S128x256_640_0 inb_S2880x256_S128x256_640_0 x), ?_⟩
  refine List.forall_mem_cons.2 ⟨fun x => mask_piece 512 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_512_0 x (even_piece arg5 harg5 arg6 harg6 arg7 harg7 arg8 harg8 arg9 harg9 arg10 harg10 arg11 harg11 x0 x1 x2 x3 x4 x5 x6 512 512 rfl rfl inb_S256x2880_S256x2880_0_0 inb_S256x128_S256x128_0_0 inb_S1x2880x2880_S1x2880x256_0_0_512 inb_S1x1x2880_S1x1x128_0_0_512 inb_S1x1x2880_S1x1x128_0_0_512 inb_S1x1x128_S1x1x128_0_0_0 inb_S2880x256_S128x256_512_0 inb_S2880x256_S128x256_512_0 x), ?_⟩
  refine List.forall_mem_cons.2 ⟨fun x => mask_piece 384 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_384_0 x (odd_piece arg5 harg5 arg6 harg6 arg7 harg7 arg8 harg8 arg9 harg9 arg10 harg10 arg11 harg11 x0 x1 x2 x3 x4 x5 x6 384 256 rfl rfl inb_S256x2880_S256x2880_0_0 inb_S256x128_S256x128_0_0 inb_S1x2880x2880_S1x2880x256_0_0_256 inb_S1x1x2880_S1x1x128_0_0_384 inb_S1x1x2880_S1x1x128_0_0_384 inb_S1x1x128_S1x1x128_0_0_0 inb_S2880x256_S128x256_384_0 inb_S2880x256_S128x256_384_0 x), ?_⟩
  refine List.forall_mem_cons.2 ⟨fun x => mask_piece 256 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_256_0 x (even_piece arg5 harg5 arg6 harg6 arg7 harg7 arg8 harg8 arg9 harg9 arg10 harg10 arg11 harg11 x0 x1 x2 x3 x4 x5 x6 256 256 rfl rfl inb_S256x2880_S256x2880_0_0 inb_S256x128_S256x128_0_0 inb_S1x2880x2880_S1x2880x256_0_0_256 inb_S1x1x2880_S1x1x128_0_0_256 inb_S1x1x2880_S1x1x128_0_0_256 inb_S1x1x128_S1x1x128_0_0_0 inb_S2880x256_S128x256_256_0 inb_S2880x256_S128x256_256_0 x), ?_⟩
  refine List.forall_mem_cons.2 ⟨fun x => mask_piece 128 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_128_0 x (odd_piece arg5 harg5 arg6 harg6 arg7 harg7 arg8 harg8 arg9 harg9 arg10 harg10 arg11 harg11 x0 x1 x2 x3 x4 x5 x6 128 0 rfl rfl inb_S256x2880_S256x2880_0_0 inb_S256x128_S256x128_0_0 inb_S1x2880x2880_S1x2880x256_0_0_0 inb_S1x1x2880_S1x1x128_0_0_128 inb_S1x1x2880_S1x1x128_0_0_128 inb_S1x1x128_S1x1x128_0_0_0 inb_S2880x256_S128x256_128_0 inb_S2880x256_S128x256_128_0 x), ?_⟩
  refine List.forall_mem_cons.2 ⟨fun x => mask_piece 0 arg12 harg12 xo (blockG x0 x1 x2 x3 x4 x5 x6) (Scalar.subi (wLo c i xt1 xt2 hw) (Scalar.muli (wT c i xt0) 256#32)) (Scalar.subi (wHi c i xt1 xt2 hw) (Scalar.muli (wT c i xt0) 256#32)) _ _ inb_S2880x256_S128x256_0_0 x (even_piece arg5 harg5 arg6 harg6 arg7 harg7 arg8 harg8 arg9 harg9 arg10 harg10 arg11 harg11 x0 x1 x2 x3 x4 x5 x6 0 0 rfl rfl inb_S256x2880_S256x2880_0_0 inb_S256x128_S256x128_0_0 inb_S1x2880x2880_S1x2880x256_0_0_0 inb_S1x1x2880_S1x1x128_0_0_0 inb_S1x1x2880_S1x1x128_0_0_0 inb_S1x1x128_S1x1x128_0_0_0 inb_S2880x256_S128x256_0_0 inb_S2880x256_S128x256_0_0 x), ?_⟩
  exact fun p hp => absurd hp List.not_mem_nil
end

end Cert.OutProjIdeal.Gen

end
-- ==== Proof.OutProjIdeal.Frame.lean ====
/- The kernel's run with its output window held to a relation: the body obligation, the run, and the frame. -/
module

public import proofs.«01_k».proof.Proof.OutProjIdeal.RunF

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {m} in
/-- The side condition of the body at a point. -/
theorem Hyps.c0 {hO : Ok m} (hH : Hyps m hO) (c : Dev nD) (t : Fin (cfgM m hO).N) : k0_chk1 (wG c (grid0.coords t) (tbl m 1)) := hH c t

/-! ## The proof data: the inputs at their blocks, the output held to a relation -/

/-- The windows whose contents are held to a relation: the output's. -/
def held0 : Fin 8 → Bool := fun w => w.val == 7

/-- What the body leaves in the output window at point `t`, of what it found there: the pieces of the store that the
    point's words select, over the old contents; at a point that stores nothing, the old contents. -/
def step (hO : Ok m) (hH : Hyps m hO) (c : Dev nD) (t : Fin (cfgM m hO).N) (Y : Vec F S2880x256 .bf16) : Vec F S2880x256 .bf16 :=
  open Classical in
  if h0 : cond0_0 c (grid0.coords t) (tbl m 0) (tbl m 1) (tbl m 2) (tbl m 3) (Hyps.c0 hH c t) then
    if h1 : cond0_1 c (grid0.coords t) (tbl m 0) (tbl m 1) (tbl m 2) (tbl m 3) (Hyps.c0 hH c t) then Y
    else (ms0_7 m hO t).view.read (Elt F) ((ms0_7 m hO t).view.writes (Elt F) ((hs0_7 m hO t).unread Y)
      (kernelRunF c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) h0 h1).1)
  else if h1 : cond0_1 c (grid0.coords t) (tbl m 0) (tbl m 1) (tbl m 2) (tbl m 3) (Hyps.c0 hH c t) then
    (ms0_7 m hO t).view.read (Elt F) ((ms0_7 m hO t).view.writes (Elt F) ((hs0_7 m hO t).unread Y)
      (kernelRunM c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) h0 h1).1)
  else Y

section
variable (hO : Ok m) (hH : Hyps m hO) (c : Dev nD) (t : Fin (cfgM m hO).N) (Y : Vec F S2880x256 .bf16)

/-- The step at a point whose type covers the tile, -/
theorem step_F (h0 : cond0_0 c (grid0.coords t) (tbl m 0) (tbl m 1) (tbl m 2) (tbl m 3) (Hyps.c0 hH c t)) (h1 : ¬ cond0_1 c (grid0.coords t) (tbl m 0) (tbl m 1) (tbl m 2) (tbl m 3) (Hyps.c0 hH c t)) :
    step m hO hH c t Y = (ms0_7 m hO t).view.read (Elt F) ((ms0_7 m hO t).view.writes (Elt F) ((hs0_7 m hO t).unread Y)
      (kernelRunF c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) h0 h1).1) :=
  (dif_pos h0).trans (dif_neg h1)
/-- at one whose type covers a part of it, -/
theorem step_M (h0 : ¬ cond0_0 c (grid0.coords t) (tbl m 0) (tbl m 1) (tbl m 2) (tbl m 3) (Hyps.c0 hH c t)) (h1 : cond0_1 c (grid0.coords t) (tbl m 0) (tbl m 1) (tbl m 2) (tbl m 3) (Hyps.c0 hH c t)) :
    step m hO hH c t Y = (ms0_7 m hO t).view.read (Elt F) ((ms0_7 m hO t).view.writes (Elt F) ((hs0_7 m hO t).unread Y)
      (kernelRunM c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) h0 h1).1) :=
  (dif_neg h0).trans (dif_pos h1)
/-- and at one that stores nothing. -/
theorem step_N (h0 : ¬ cond0_0 c (grid0.coords t) (tbl m 0) (tbl m 1) (tbl m 2) (tbl m 3) (Hyps.c0 hH c t)) (h1 : ¬ cond0_1 c (grid0.coords t) (tbl m 0) (tbl m 1) (tbl m 2) (tbl m 3) (Hyps.c0 hH c t)) : step m hO hH c t Y = Y :=
  (dif_neg h0).trans (dif_neg h1)
end

/-- The proof data of the call on core `c`: the arrays as the call finds them, each input's buffer at its block; the
    output's contents are given by a relation, so nothing is named for them here. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The data's arrays are those that the call finds. -/
theorem A_eq (hO : Ok m) (hH : Hyps m hO) (c : Dev nD) (w : Fin (cfgM m hO).W) : (dats m hO hH 0 c).A w = V m c (Pipeline.arrRef spec0 w) := by
  dsimp only [dats]

theorem after0_0 (hO : Ok m) (hH : Hyps m hO) (c : Dev nD) (t : Fin (cfgM m hO).N) : (dats m hO hH 0 c).after 0 t = iblk m hO c 0 t := by dsimp only [dats]; try rfl
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem after0_1 (hO : Ok m) (hH : Hyps m hO) (c : Dev nD) (t : Fin (cfgM m hO).N) : (dats m hO hH 0 c).after 1 t = iblk m hO c 1 t := by dsimp only [dats]; try rfl
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem after0_2 (hO : Ok m) (hH : Hyps m hO) (c : Dev nD) (t : Fin (cfgM m hO).N) : (dats m hO hH 0 c).after 2 t = iblk m hO c 2 t := by dsimp only [dats]; try rfl
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem after0_3 (hO : Ok m) (hH : Hyps m hO) (c : Dev nD) (t : Fin (cfgM m hO).N) : (dats m hO hH 0 c).after 3 t = iblk m hO c 3 t := by dsimp only [dats]; try rfl
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem after0_4 (hO : Ok m) (hH : Hyps m hO) (c : Dev nD) (t : Fin (cfgM m hO).N) : (dats m hO hH 0 c).after 4 t = iblk m hO c 4 t := by dsimp only [dats]; try rfl
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem after0_5 (hO : Ok m) (hH : Hyps m hO) (c : Dev nD) (t : Fin (cfgM m hO).N) : (dats m hO hH 0 c).after 5 t = iblk m hO c 5 t := by dsimp only [dats]; try rfl
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem after0_6 (hO : Ok m) (hH : Hyps m hO) (c : Dev nD) (t : Fin (cfgM m hO).N) : (dats m hO hH 0 c).after 6 t = iblk m hO c 6 t := by dsimp only [dats]; try rfl
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d

/-! ## The body obligation, at a generic point -/

/-- A relation on the output's contents after each point, as one on every window's. -/
def rel (hO : Ok m) (R : Fin (cfgM m hO).N → Vec F S2880x256 .bf16 → Prop) :
    (w : Fin (cfgM m hO).W) → Fin (cfgM m hO).N → (((cfgM m hO).win w).block.Idx → Elt F ((cfgM m hO).win w).elt) → Prop :=
  fun w t X => match w with
    | ⟨7, _⟩ => R t X
    | _ => True

/-- The relational data: the exact data with the output held to `R`. -/
abbrev rdats (hO : Ok m) (hH : Hyps m hO) (R : Dev nD → Fin (cfgM m hO).N → Vec F S2880x256 .bf16 → Prop) (c : Dev nD) :
    RDat τ (Elt F) Unit ℕ (UR sig nD τ) ℕ (cfgM m hO) c := (dats m hO hH 0 c).toRRel held0 (rel m hO (R c))

/-- `R` is kept: from anything that the body may find in the output window, its step ends in `R`. -/
def Kept (hO : Ok m) (hH : Hyps m hO) (R : Dev nD → Fin (cfgM m hO).N → Vec F S2880x256 .bf16 → Prop) : Prop :=
  ∀ c t (Y : Vec F S2880x256 .bf16), (rdats m hO hH R c).Finds 7 t Y → R c t (step m hO hH c t Y)

/-- The two conditions exclude each other. -/
theorem cond_excl (a b c d : BitVec 32) (h : k0_cond1 a b c d = 1#1) : ¬ k0_cond2 a b c d = 1#1 := by
  revert h
  simp only [k0_cond1, k0_cond2]
  generalize Scalar.andi (Scalar.cmpi .sle (Scalar.subi b (Scalar.muli a 256#32)) 0#32) (Scalar.cmpi .sge (Scalar.subi c (Scalar.muli a 256#32)) 256#32) = x
  generalize Scalar.cmpi .sgt d 0#32 = y
  revert x y
  decide

/-- What the body is called with at point `t`, -/
def bodyPre (hO : Ok m) (hH : Hyps m hO) (R : Dev nD → Fin (cfgM m hO).N → Vec F S2880x256 .bf16 → Prop) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ Y, ⌜(rdats m hO hH R c).Finds 7 t Y⌝ ∗ owns (c : Thread nD τ) (ms0_7 m hO t) fullShare Y))

/-- and what it returns. -/
def bodyPost (hO : Ok m) (hH : Hyps m hO) (R : Dev nD → Fin (cfgM m hO).N → Vec F S2880x256 .bf16 → Prop) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ (∃ X, ⌜R c t X⌝ ∗ owns (c : Thread nD τ) (ms0_7 m hO t) fullShare X))

set_option maxHeartbeats 3200000 in
/-- The body at any point: the inputs' memrefs hold their blocks, so the run of the case applies; the output ends at its
    step, which `R` holds of. -/
theorem sound_body (hO : Ok m) (hH : Hyps m hO) (R : Dev nD → Fin (cfgM m hO).N → Vec F S2880x256 .bf16 → Prop) (hK : Kept m hO hH R) (c : Dev nD) (t : Fin (cfgM m hO).N) :
    bodyPre m hO hH R c t ⊢ wp frame (wpE (defs₀ (F := F)) Variants.none c none) Set.univ (bodyAt0 (adm m hO) t) (fun _ => bodyPost m hO hH R c t) := by
  unfold bodyPre bodyPost bodyAt0
  simp only [before0_0, before0_1, before0_2, before0_3, before0_4, before0_5, before0_6, after0_0, after0_1, after0_2, after0_3, after0_4, after0_5, after0_6]
  rw [show (dats m hO hH 0 c).Φ t.succ = (dats m hO hH 0 c).Φ t.castSucc from rfl,
    show (dats m hO hH 0 c).owesAt () t.succ = (dats m hO hH 0 c).owesAt () t.castSucc from rfl]
  rw [show (dats m hO hH 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  have hR := hK c t Y hY
  by_cases h0 : cond0_0 c (grid0.coords t) (tbl m 0) (tbl m 1) (tbl m 2) (tbl m 3) (Hyps.c0 hH c t)
  · have h1 : ¬ cond0_1 c (grid0.coords t) (tbl m 0) (tbl m 1) (tbl m 2) (tbl m 3) (Hyps.c0 hH c t) := cond_excl _ _ _ _ h0
    have hR := (step_F m hO hH c t Y h0 h1) ▸ hR
    iapply ((kernelRunF c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) h0 h1).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    isplitl [HT2]; · iexact HT2
    isplitl [HT3]; · iexact HT3
    iintro ⟨H0, H1, H2, H3, H4, H5, H6, H7, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]
    · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr
    · ipureintro; exact hR
    unfold owns; iexists _; isplitr; swap; · iexact H7
    ipureintro; rfl
  · by_cases h1 : cond0_1 c (grid0.coords t) (tbl m 0) (tbl m 1) (tbl m 2) (tbl m 3) (Hyps.c0 hH c t)
    · have hR := (step_M m hO hH c t Y h0 h1) ▸ hR
      iapply ((kernelRunM c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) h0 h1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT0]; · iexact HT0
      isplitl [HT1]; · iexact HT1
      isplitl [HT2]; · iexact HT2
      isplitl [HT3]; · iexact HT3
      iintro ⟨H0, H1, H2, H3, H4, H5, H6, H7, HT0, HT1, HT2, HT3⟩
      isplitl [HΦ HT0 HT1 HT2 HT3]
      · isplitl [HΦ]
        · iexact HΦ
        isplitl [HT0]; · iexact HT0
        isplitl [HT1]; · iexact HT1
        isplitl [HT2]; · iexact HT2
        iexact HT3
      isplitl [Ho]
      · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; isplitr
      · ipureintro; exact hR
      unfold owns; iexists _; isplitr; swap; · iexact H7
      ipureintro; rfl
    · have hR := (step_N m hO hH c t Y h0 h1) ▸ hR
      iapply ((kernelRunN c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) h0 h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT0]; · iexact HT0
      isplitl [HT1]; · iexact HT1
      isplitl [HT2]; · iexact HT2
      isplitl [HT3]; · iexact HT3
      iintro ⟨H0, H1, H2, H3, H4, H5, H6, H7, HT0, HT1, HT2, HT3⟩
      isplitl [HΦ HT0 HT1 HT2 HT3]
      · isplitl [HΦ]
        · iexact HΦ
        isplitl [HT0]; · iexact HT0
        isplitl [HT1]; · iexact HT1
        isplitl [HT2]; · iexact HT2
        iexact HT3
      isplitl [Ho]
      · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists Y; isplitr
      · ipureintro; exact hR
      iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point. -/
theorem body_obligation (hO : Ok m) (hH : Hyps m hO) (R : Dev nD → Fin (cfgM m hO).N → Vec F S2880x256 .bf16 → Prop) (hK : Kept m hO hH R) (c : Dev nD) :
    BodyObligationRel (dats (F := F) m hO hH 0 c) (defs₀ (F := F)) Variants.none () Set.univ held0 (rel m hO (R c)) := fun t => by
  rw [bigSep_W0, bigSep_W0, defs₀_row m hO]
  exact triple_restated (sound_body m hO hH R hK c t) rfl .rfl fun _ => .rfl

/-! ## The run and the frame -/

set_option backward.isDefEq.respectTransparency.types false in
/-- The run: it ends with the arrays as the relational data say and every semaphore at zero. -/
theorem run_main (hO : Ok m) (hH : Hyps m hO) (R : Dev nD → Fin (cfgM m hO).N → Vec F S2880x256 .bf16 → Prop) (hK : Kept m hO hH R) :
    θ_run defs (onTc (τ := τ) (main (F := F))) (s₀ m ρ) (fun r => (Pipeline.RDat.FramePost ((Pipeline.pin pcfgs fun _ => adm m hO) 0) (rdats m hO hH R) (V m)) r ∧ r.2.sem = fun _ => 0) :=
  Pipeline.RDat.θ_run_frameP (Q' := _) pcfgs (fun _ => adm m hO) (0 : Fin 1) launch0 defs₀ Variants.none (rdats m hO hH R) m ρ main
    (hbody := fun c => (body_obligation m hO hH R hK c).toRRel) (hshare := fun c => (dats m hO hH 0 c).share_full fun _ => rfl)
    (howed := fun _ _ => rfl) (V := V m) (hmain := hmain m Variants.none) (hA := A_eq m hO hH) (hpf := V_pre m) (hΦ := fun _ _ => rfl)

/-- THE FRAME, at any `F`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  have hK : Kept m hO hH (fun _ _ _ => True) := fun _ _ _ _ => trivial
  θ_run_and (frame_of m ρ hO (rdats m hO hH fun _ _ _ => True) (A_eq m hO hH) ((θ_run defs _ _).mono (fun _ h => h.1) (run_main m ρ hO hH _ hK)))
    ((θ_run defs _ _).mono (fun _ h => h.2) (run_main m ρ hO hH _ hK))

end Cert.OutProjIdeal.Gen

end
-- ==== Proof.OutProjIdeal.Step.lean ====
/- What one point does to its block of the result, read at an index. -/
module

public import proofs.«01_k».proof.Proof.OutProjIdeal.Pieces
public import proofs.«01_k».proof.Proof.OutProjIdeal.Frame

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000

open Cert.Visits

theorem in_piece (o n : Nat) (hp : ∀ a, (![o, 0] : Fin 2 → Nat) a + (![n, 256] : Fin 2 → Nat) a ≤ S2880x256.size a) (y : S2880x256.Idx) (h : o ≤ (y 0).val) (h' : (y 0).val < o + n) :
    y ∈ (Rect.unit (s := S2880x256) ![o, 0] ![n, 256] hp).set := Rect.mem_set_unit.2 fun a => by
  match a with
  | ⟨0, _⟩ => exact ⟨h, h'⟩
  | ⟨1, _⟩ => exact ⟨Nat.zero_le _, (Nat.zero_add 256).symm ▸ (y 1).isLt⟩

theorem mem_later {α : Type _} {Q : α → Prop} {p : α} {L : List α} (h : ∃ q ∈ L, Q q) : ∃ q ∈ p :: L, Q q :=
  let ⟨q, hq, hQ⟩ := h; ⟨q, List.mem_cons_of_mem _ hq, hQ⟩

section
variable (c : Dev nD) (i : grid0.Coords) (arg5 : Memref sig .tc .vmem S256x2880 .fp8e4m3) (harg5 : arg5.IsWhole) (arg6 : Memref sig .tc .vmem S256x128 .f32) (harg6 : arg6.IsWhole) (arg7 : Memref sig .tc .vmem S1x2880x2880 .fp8e4m3) (harg7 : arg7.IsWhole) (arg8 : Memref sig .tc .vmem S1x1x2880 .f32) (harg8 : arg8.IsWhole) (arg9 : Memref sig .tc .vmem S1x1x2880 .f32) (harg9 : arg9.IsWhole) (arg10 : Memref sig .tc .vmem S1x1x128 .f32) (harg10 : arg10.IsWhole) (arg11 : Memref sig .tc .vmem S2880x256 .bf16) (harg11 : arg11.IsWhole) (arg12 : Memref sig .tc .vmem S2880x256 .bf16) (harg12 : arg12.IsWhole)
  (x0 : Vec Ideal S256x2880 .fp8e4m3) (x1 : Vec Ideal S256x128 .f32) (x2 : Vec Ideal S1x2880x2880 .fp8e4m3) (x3 : Vec Ideal S1x1x2880 .f32) (x4 : Vec Ideal S1x1x2880 .f32) (x5 : Vec Ideal S1x1x128 .f32) (x6 : Vec Ideal S2880x256 .bf16) (xo : Vec Ideal S2880x256 .bf16)
  (xt0 : TbBuf0 (F := Ideal) c tbM0_0) (xt1 : TbBuf0 (F := Ideal) c tbM0_1) (xt2 : TbBuf0 (F := Ideal) c tbM0_2) (xt3 : TbBuf0 (F := Ideal) c tbM0_3) (hw : k0_chk1 (wG c i xt1))

/-- The pieces of the whole store cover the block. -/
theorem cover_F (h0 h1) (y : S2880x256.Idx) : ∃ p ∈ (kernelRunF (F := Ideal) c i arg5 harg5 arg6 harg6 arg7 harg7 arg8 harg8 arg9 harg9 arg10 harg10 arg11 harg11 arg12 harg12 x0 x1 x2 x3 x4 x5 x6 xo xt0 xt1 xt2 xt3 hw h0 h1).1, y ∈ p.1.set := by
  have hy : (y 0).val < 2880 := (y 0).isLt
  by_cases h : 2816 ≤ (y 0).val
  · exact ⟨_, List.mem_cons_self, in_piece 2816 64 inb_S2880x256_S64x256_2816_0 y h (by omega)⟩
  refine mem_later ?_
  by_cases h : 2688 ≤ (y 0).val
  · exact ⟨_, List.mem_cons_self, in_piece 2688 128 inb_S2880x256_S128x256_2688_0 y h (by omega)⟩
  refine mem_later ?_
  by_cases h : 2560 ≤ (y 0).val
  · exact ⟨_, List.mem_cons_self, in_piece 2560 128 inb_S2880x256_S128x256_2560_0 y h (by omega)⟩
  refine mem_later ?_
  by_cases h : 2432 ≤ (y 0).val
  · exact ⟨_, List.mem_cons_self, in_piece 2432 128 inb_S2880x256_S128x256_2432_0 y h (by omega)⟩
  refine mem_later ?_
  by_cases h : 2304 ≤ (y 0).val
  · exact ⟨_, List.mem_cons_self, in_piece 2304 128 inb_S2880x256_S128x256_2304_0 y h (by omega)⟩
  refine mem_later ?_
  by_cases h : 2176 ≤ (y 0).val
  · exact ⟨_, List.mem_cons_self, in_piece 2176 128 inb_S2880x256_S128x256_2176_0 y h (by omega)⟩
  refine mem_later ?_
  by_cases h : 2048 ≤ (y 0).val
  · exact ⟨_, List.mem_cons_self, in_piece 2048 128 inb_S2880x256_S128x256_2048_0 y h (by omega)⟩
  refine mem_later ?_
  by_cases h : 1920 ≤ (y 0).val
  · exact ⟨_, List.mem_cons_self, in_piece 1920 128 inb_S2880x256_S128x256_1920_0 y h (by omega)⟩
  refine mem_later ?_
  by_cases h : 1792 ≤ (y 0).val
  · exact ⟨_, List.mem_cons_self, in_piece 1792 128 inb_S2880x256_S128x256_1792_0 y h (by omega)⟩
  refine mem_later ?_
  by_cases h : 1664 ≤ (y 0).val
  · exact ⟨_, List.mem_cons_self, in_piece 1664 128 inb_S2880x256_S128x256_1664_0 y h (by omega)⟩
  refine mem_later ?_
  by_cases h : 1536 ≤ (y 0).val
  · exact ⟨_, List.mem_cons_self, in_piece 1536 128 inb_S2880x256_S128x256_1536_0 y h (by omega)⟩
  refine mem_later ?_
  by_cases h : 1408 ≤ (y 0).val
  · exact ⟨_, List.mem_cons_self, in_piece 1408 128 inb_S2880x256_S128x256_1408_0 y h (by omega)⟩
  refine mem_later ?_
  by_cases h : 1280 ≤ (y 0).val
  · exact ⟨_, List.mem_cons_self, in_piece 1280 128 inb_S2880x256_S128x256_1280_0 y h (by omega)⟩
  refine mem_later ?_
  by_cases h : 1152 ≤ (y 0).val
  · exact ⟨_, List.mem_cons_self, in_piece 1152 128 inb_S2880x256_S128x256_1152_0 y h (by omega)⟩
  refine mem_later ?_
  by_cases h : 1024 ≤ (y 0).val
  · exact ⟨_, List.mem_cons_self, in_piece 1024 128 inb_S2880x256_S128x256_1024_0 y h (by omega)⟩
  refine mem_later ?_
  by_cases h : 896 ≤ (y 0).val
  · exact ⟨_, List.mem_cons_self, in_piece 896 128 inb_S2880x256_S128x256_896_0 y h (by omega)⟩
  refine mem_later ?_
  by_cases h : 768 ≤ (y 0).val
  · exact ⟨_, List.mem_cons_self, in_piece 768 128 inb_S2880x256_S128x256_768_0 y h (by omega)⟩
  refine mem_later ?_
  by_cases h : 640 ≤ (y 0).val
  · exact ⟨_, List.mem_cons_self, in_piece 640 128 inb_S2880x256_S128x256_640_0 y h (by omega)⟩
  refine mem_later ?_
  by_cases h : 512 ≤ (y 0).val
  · exact ⟨_, List.mem_cons_self, in_piece 512 128 inb_S2880x256_S128x256_512_0 y h (by omega)⟩
  refine mem_later ?_
  by_cases h : 384 ≤ (y 0).val
  · exact ⟨_, List.mem_cons_self, in_piece 384 128 inb_S2880x256_S128x256_384_0 y h (by omega)⟩
  refine mem_later ?_
  by_cases h : 256 ≤ (y 0).val
  · exact ⟨_, List.mem_cons_self, in_piece 256 128 inb_S2880x256_S128x256_256_0 y h (by omega)⟩
  refine mem_later ?_
  by_cases h : 128 ≤ (y 0).val
  · exact ⟨_, List.mem_cons_self, in_piece 128 128 inb_S2880x256_S128x256_128_0 y h (by omega)⟩
  refine mem_later ?_
  by_cases h : 0 ≤ (y 0).val
  · exact ⟨_, List.mem_cons_self, in_piece 0 128 inb_S2880x256_S128x256_0_0 y h (by omega)⟩
  refine mem_later ?_
  omega

/-- The pieces of the masked store cover the block. -/
theorem cover_M (h0 h1) (y : S2880x256.Idx) : ∃ p ∈ (kernelRunM (F := Ideal) c i arg5 harg5 arg6 harg6 arg7 harg7 arg8 harg8 arg9 harg9 arg10 harg10 arg11 harg11 arg12 harg12 x0 x1 x2 x3 x4 x5 x6 xo xt0 xt1 xt2 xt3 hw h0 h1).1, y ∈ p.1.set := by
  have hy : (y 0).val < 2880 := (y 0).isLt
  by_cases h : 2816 ≤ (y 0).val
  · exact ⟨_, List.mem_cons_self, in_piece 2816 64 inb_S2880x256_S64x256_2816_0 y h (by omega)⟩
  refine mem_later ?_
  by_cases h : 2688 ≤ (y 0).val
  · exact ⟨_, List.mem_cons_self, in_piece 2688 128 inb_S2880x256_S128x256_2688_0 y h (by omega)⟩
  refine mem_later ?_
  by_cases h : 2560 ≤ (y 0).val
  · exact ⟨_, List.mem_cons_self, in_piece 2560 128 inb_S2880x256_S128x256_2560_0 y h (by omega)⟩
  refine mem_later ?_
  by_cases h : 2432 ≤ (y 0).val
  · exact ⟨_, List.mem_cons_self, in_piece 2432 128 inb_S2880x256_S128x256_2432_0 y h (by omega)⟩
  refine mem_later ?_
  by_cases h : 2304 ≤ (y 0).val
  · exact ⟨_, List.mem_cons_self, in_piece 2304 128 inb_S2880x256_S128x256_2304_0 y h (by omega)⟩
  refine mem_later ?_
  by_cases h : 2176 ≤ (y 0).val
  · exact ⟨_, List.mem_cons_self, in_piece 2176 128 inb_S2880x256_S128x256_2176_0 y h (by omega)⟩
  refine mem_later ?_
  by_cases h : 2048 ≤ (y 0).val
  · exact ⟨_, List.mem_cons_self, in_piece 2048 128 inb_S2880x256_S128x256_2048_0 y h (by omega)⟩
  refine mem_later ?_
  by_cases h : 1920 ≤ (y 0).val
  · exact ⟨_, List.mem_cons_self, in_piece 1920 128 inb_S2880x256_S128x256_1920_0 y h (by omega)⟩
  refine mem_later ?_
  by_cases h : 1792 ≤ (y 0).val
  · exact ⟨_, List.mem_cons_self, in_piece 1792 128 inb_S2880x256_S128x256_1792_0 y h (by omega)⟩
  refine mem_later ?_
  by_cases h : 1664 ≤ (y 0).val
  · exact ⟨_, List.mem_cons_self, in_piece 1664 128 inb_S2880x256_S128x256_1664_0 y h (by omega)⟩
  refine mem_later ?_
  by_cases h : 1536 ≤ (y 0).val
  · exact ⟨_, List.mem_cons_self, in_piece 1536 128 inb_S2880x256_S128x256_1536_0 y h (by omega)⟩
  refine mem_later ?_
  by_cases h : 1408 ≤ (y 0).val
  · exact ⟨_, List.mem_cons_self, in_piece 1408 128 inb_S2880x256_S128x256_1408_0 y h (by omega)⟩
  refine mem_later ?_
  by_cases h : 1280 ≤ (y 0).val
  · exact ⟨_, List.mem_cons_self, in_piece 1280 128 inb_S2880x256_S128x256_1280_0 y h (by omega)⟩
  refine mem_later ?_
  by_cases h : 1152 ≤ (y 0).val
  · exact ⟨_, List.mem_cons_self, in_piece 1152 128 inb_S2880x256_S128x256_1152_0 y h (by omega)⟩
  refine mem_later ?_
  by_cases h : 1024 ≤ (y 0).val
  · exact ⟨_, List.mem_cons_self, in_piece 1024 128 inb_S2880x256_S128x256_1024_0 y h (by omega)⟩
  refine mem_later ?_
  by_cases h : 896 ≤ (y 0).val
  · exact ⟨_, List.mem_cons_self, in_piece 896 128 inb_S2880x256_S128x256_896_0 y h (by omega)⟩
  refine mem_later ?_
  by_cases h : 768 ≤ (y 0).val
  · exact ⟨_, List.mem_cons_self, in_piece 768 128 inb_S2880x256_S128x256_768_0 y h (by omega)⟩
  refine mem_later ?_
  by_cases h : 640 ≤ (y 0).val
  · exact ⟨_, List.mem_cons_self, in_piece 640 128 inb_S2880x256_S128x256_640_0 y h (by omega)⟩
  refine mem_later ?_
  by_cases h : 512 ≤ (y 0).val
  · exact ⟨_, List.mem_cons_self, in_piece 512 128 inb_S2880x256_S128x256_512_0 y h (by omega)⟩
  refine mem_later ?_
  by_cases h : 384 ≤ (y 0).val
  · exact ⟨_, List.mem_cons_self, in_piece 384 128 inb_S2880x256_S128x256_384_0 y h (by omega)⟩
  refine mem_later ?_
  by_cases h : 256 ≤ (y 0).val
  · exact ⟨_, List.mem_cons_self, in_piece 256 128 inb_S2880x256_S128x256_256_0 y h (by omega)⟩
  refine mem_later ?_
  by_cases h : 128 ≤ (y 0).val
  · exact ⟨_, List.mem_cons_self, in_piece 128 128 inb_S2880x256_S128x256_128_0 y h (by omega)⟩
  refine mem_later ?_
  by_cases h : 0 ≤ (y 0).val
  · exact ⟨_, List.mem_cons_self, in_piece 0 128 inb_S2880x256_S128x256_0_0 y h (by omega)⟩
  refine mem_later ?_
  omega

/-- The whole store, read back. -/
theorem read_F (v : View sig .tc .vmem S2880x256 .bf16) (f) (h0 h1) (y : S2880x256.Idx) :
    v.read (Elt Ideal) (v.writes (Elt Ideal) f (kernelRunF (F := Ideal) c i arg5 harg5 arg6 harg6 arg7 harg7 arg8 harg8 arg9 harg9 arg10 harg10 arg11 harg11 arg12 harg12 x0 x1 x2 x3 x4 x5 x6 xo xt0 xt1 xt2 xt3 hw h0 h1).1) y = blockG x0 x1 x2 x3 x4 x5 x6 y :=
  View.read_writes_apply_of_pieces _ _ _ _ (pieces_F c i arg5 harg5 arg6 harg6 arg7 harg7 arg8 harg8 arg9 harg9 arg10 harg10 arg11 harg11 arg12 harg12 x0 x1 x2 x3 x4 x5 x6 xo xt0 xt1 xt2 xt3 hw h0 h1) y (cover_F c i arg5 harg5 arg6 harg6 arg7 harg7 arg8 harg8 arg9 harg9 arg10 harg10 arg11 harg11 arg12 harg12 x0 x1 x2 x3 x4 x5 x6 xo xt0 xt1 xt2 xt3 hw h0 h1 y)

/-- The masked store, read back. -/
theorem read_M (v : View sig .tc .vmem S2880x256 .bf16) (f) (h0 h1) (y : S2880x256.Idx) :
    v.read (Elt Ideal) (v.writes (Elt Ideal) f (kernelRunM (F := Ideal) c i arg5 harg5 arg6 harg6 arg7 harg7 arg8 harg8 arg9 harg9 arg10 harg10 arg11 harg11 arg12 harg12 x0 x1 x2 x3 x4 x5 x6 xo xt0 xt1 xt2 xt3 hw h0 h1).1) y
      = maskG (Scalar.subi (wLo c i xt1 xt2 hw) (Scalar.muli (wT c i xt0) 256#32)) (Scalar.subi (wHi c i xt1 xt2 hw) (Scalar.muli (wT c i xt0) 256#32)) (blockG x0 x1 x2 x3 x4 x5 x6) xo y :=
  View.read_writes_apply_of_pieces _ _ _ _ (pieces_M c i arg5 harg5 arg6 harg6 arg7 harg7 arg8 harg8 arg9 harg9 arg10 harg10 arg11 harg11 arg12 harg12 x0 x1 x2 x3 x4 x5 x6 xo xt0 xt1 xt2 xt3 hw h0 h1) y (cover_M c i arg5 harg5 arg6 harg6 arg7 harg7 arg8 harg8 arg9 harg9 arg10 harg10 arg11 harg11 arg12 harg12 x0 x1 x2 x3 x4 x5 x6 xo xt0 xt1 xt2 xt3 hw h0 h1 y)

end

theorem maskG_in {T T' T'' lo lo' hi hi' : BitVec 32} {G xo : Vec Ideal S2880x256 .bf16} {y : S2880x256.Idx} (eT : T' = T) (eT' : T'' = T) (el : lo' = lo) (eh : hi' = hi) (hTl : T.toNat < 32) (hlo : lo.toNat ≤ 8192) (hhi : hi.toNat ≤ 8192)
    (h : lo.toNat ≤ T.toNat * 256 + (y 1).val ∧ T.toNat * 256 + (y 1).val < hi.toNat) :
    maskG (Scalar.subi lo' (Scalar.muli T' 256#32)) (Scalar.subi hi' (Scalar.muli T'' 256#32)) G xo y = G y := by
  subst eT eT' el eh
  exact if_pos ((mask_words _ _ _ _ (y 1).isLt hTl hlo hhi).2 h)

theorem maskG_out {T T' T'' lo lo' hi hi' : BitVec 32} {G xo : Vec Ideal S2880x256 .bf16} {y : S2880x256.Idx} (eT : T' = T) (eT' : T'' = T) (el : lo' = lo) (eh : hi' = hi) (hTl : T.toNat < 32) (hlo : lo.toNat ≤ 8192) (hhi : hi.toNat ≤ 8192)
    (h : ¬ (lo.toNat ≤ T.toNat * 256 + (y 1).val ∧ T.toNat * 256 + (y 1).val < hi.toNat)) :
    maskG (Scalar.subi lo' (Scalar.muli T' 256#32)) (Scalar.subi hi' (Scalar.muli T'' 256#32)) G xo y = xo y := by
  subst eT eT' el eh
  exact if_neg fun e => h ((mask_words _ _ _ _ (y 1).isLt hTl hlo hhi).1 e)

section
variable {m : (ℓ : Loc nD τ sig) → Buf (Elt Ideal) ℓ} (hT : Tables (m ((0 : Dev nD).tc.loc main_arg0)) (m ((0 : Dev nD).tc.loc main_arg1)) (m ((0 : Dev nD).tc.loc main_arg2)) (m ((0 : Dev nD).tc.loc main_arg3)))

/-- The point's visit takes column `k` of its tile: it is live, and the row is one of its type's. -/
def Takes (i : grid0.Coords) (k : Nat) : Prop :=
  0 < ((m ((0 : Dev nD).tc.loc main_arg2)) (ix1 (pos i))).toInt ∧ ((m ((0 : Dev nD).tc.loc main_arg3)) (ix1 (vType hT i).castSucc)).toNat ≤ (vTile hT i).val * 256 + k ∧ (vTile hT i).val * 256 + k < ((m ((0 : Dev nD).tc.loc main_arg3)) (ix1 (vType hT i).succ)).toNat

variable (hO : Ok m) (hH : Hyps m hO) (c : Dev nD) (t : Fin (cfgM m hO).N) (Y : Vec Ideal S2880x256 .bf16) (y : S2880x256.Idx)

/-- The point's block of the result, every column as its type's product gives it. -/
def blk : Vec Ideal S2880x256 .bf16 := blockG (iblk m hO c 0 t) (iblk m hO c 1 t) (iblk m hO c 2 t) (iblk m hO c 3 t) (iblk m hO c 4 t) (iblk m hO c 5 t) (iblk m hO c 6 t)

/-- A column that the visit takes ends at the block's function, -/
theorem step_takes (h : Takes hT (grid0.coords t) (y 1).val) : step m hO hH c t Y y = blk hO c t y := by
  obtain ⟨hl, h1, h2⟩ := h
  by_cases hc : Covers hT (grid0.coords t)
  · have q0 := (cond0_iff hT c (grid0.coords t) (Hyps.c0 hH c t)).2 ⟨hl, hc⟩
    have q1 : ¬ cond0_1 c (grid0.coords t) (tbl m 0) (tbl m 1) (tbl m 2) (tbl m 3) (Hyps.c0 hH c t) := fun q => ((cond1_iff hT c (grid0.coords t) (Hyps.c0 hH c t)).1 q).2 hc
    exact (congrFun (step_F m hO hH c t Y q0 q1) y).trans (read_F c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) _ _ q0 q1 y)
  · have q0 : ¬ cond0_0 c (grid0.coords t) (tbl m 0) (tbl m 1) (tbl m 2) (tbl m 3) (Hyps.c0 hH c t) := fun q => hc ((cond0_iff hT c (grid0.coords t) (Hyps.c0 hH c t)).1 q).2
    have q1 := (cond1_iff hT c (grid0.coords t) (Hyps.c0 hH c t)).2 ⟨hl, hc⟩
    refine (congrFun (step_M m hO hH c t Y q0 q1) y).trans ((read_M c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) _ _ q0 q1 y).trans ?_)
    exact maskG_in (wT_eq m c _) (wT_eq m c _) (wLo_eq hT c _ _) (wHi_eq hT c _ _) (hT.tile_lt _) (hT.off_le _) (hT.off_le _) ⟨h1, h2⟩

/-- and any other column keeps what it held. -/
theorem step_keeps (h : ¬ Takes hT (grid0.coords t) (y 1).val) : step m hO hH c t Y y = Y y := by
  have hy : (y 1).val < 256 := (y 1).isLt
  by_cases hl : 0 < ((m ((0 : Dev nD).tc.loc main_arg2)) (ix1 (pos (grid0.coords t)))).toInt
  · have hc : ¬ Covers hT (grid0.coords t) := fun hc => h ⟨hl, hc.1.trans (Nat.le_add_right _ _), by
      have := hc.2; omega⟩
    have q0 : ¬ cond0_0 c (grid0.coords t) (tbl m 0) (tbl m 1) (tbl m 2) (tbl m 3) (Hyps.c0 hH c t) := fun q => hc ((cond0_iff hT c (grid0.coords t) (Hyps.c0 hH c t)).1 q).2
    have q1 := (cond1_iff hT c (grid0.coords t) (Hyps.c0 hH c t)).2 ⟨hl, hc⟩
    refine (congrFun (step_M m hO hH c t Y q0 q1) y).trans ((read_M c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) Y (tbl m 0) (tbl m 1) (tbl m 2) (tbl m 3) (Hyps.c0 hH c t) _ _ q0 q1 y).trans ?_)
    exact maskG_out (wT_eq m c _) (wT_eq m c _) (wLo_eq hT c _ _) (wHi_eq hT c _ _) (hT.tile_lt _) (hT.off_le _) (hT.off_le _) (fun e => h ⟨hl, e⟩)
  · exact congrFun (step_N m hO hH c t Y (fun q => hl ((cond0_iff hT c (grid0.coords t) (Hyps.c0 hH c t)).1 q).1) fun q => hl ((cond1_iff hT c (grid0.coords t) (Hyps.c0 hH c t)).1 q).1) y
end

end Cert.OutProjIdeal.Gen

end
-- ==== Proof.OutProjIdeal.Reads.lean ====
/- The input blocks of a point, read at an index of their arrays. -/
module

public import proofs.«01_k».proof.Proof.OutProjIdeal.Step
public import Idealize.ShloMosaic.Lib.Claim

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000

open Cert.Visits

/-! What the host steps before the call make of the arguments. -/

theorem main_v2_at (m : (ℓ : Loc nD τ sig) → Buf (Elt Ideal) ℓ) (c : Dev nD) (n : Fin 8192) (l : Fin 128) : V m c main_v2 (ix2 n l) = m ((c : Thread nD τ).loc main_arg5) (ix1 n) := by
  entry_read
  pointwise

theorem main_v3_at (m : (ℓ : Loc nD τ sig) → Buf (Elt Ideal) ℓ) (c : Dev nD) (g : Fin 4) (r : Fin 2880) : V m c main_v3 (ix3 g 0 r) = m ((c : Thread nD τ).loc main_arg7) (ix2 g r) := by
  entry_read
  pointwise

theorem main_v4_at (m : (ℓ : Loc nD τ sig) → Buf (Elt Ideal) ℓ) (c : Dev nD) (g : Fin 4) (r : Fin 2880) : V m c main_v4 (ix3 g 0 r) = m ((c : Thread nD τ).loc main_arg8) (ix2 g r) := by
  entry_read
  pointwise

theorem main_v6_at (m : (ℓ : Loc nD τ sig) → Buf (Elt Ideal) ℓ) (c : Dev nD) (g : Fin 4) (l : Fin 128) : V m c main_v6 (ix3 g 0 l) = m ((c : Thread nD τ).loc main_arg9) (ix1 g) := by
  entry_read
  pointwise

theorem main_v0_at (m : (ℓ : Loc nD τ sig) → Buf (Elt Ideal) ℓ) (c : Dev nD) (r : Fin 2880) (n : Fin 8192) : V m c main_v0 (ix2 r n) = m ((c : Thread nD τ).loc main_arg10) (ix2 n r) := by
  entry_read
  pointwise

section
variable {m : (ℓ : Loc nD τ sig) → Buf (Elt Ideal) ℓ} (hT : Tables (m ((0 : Dev nD).tc.loc main_arg0)) (m ((0 : Dev nD).tc.loc main_arg1)) (m ((0 : Dev nD).tc.loc main_arg2)) (m ((0 : Dev nD).tc.loc main_arg3)))
  (hO : Ok m) (c : Dev nD) (t : Fin (cfgM m hO).N)

/-- A row of the tile, as a row of the array. -/
def row (k : Fin 256) : Fin 8192 := ⟨(vTile hT (grid0.coords t)).val * 256 + k.val, by have := (vTile hT (grid0.coords t)).isLt; omega⟩

theorem read0 (k : Fin 256) (j : Fin 2880) : iblk m hO c 0 t (ix2 k j) = m ((c : Thread nD τ).loc main_arg4) (ix2 (row hT hO t k) j) := by
  refine (congrFun (V_main_arg4 m c) _).trans (congrArg (m ((c : Thread nD τ).loc main_arg4)) (funext fun a => Fin.ext ?_))
  refine (Pipeline.Window.rect_emb_val _ _ _ _).trans ?_
  have e : ((cfgM m hO).win 0).index t = ![(vTile hT (grid0.coords t)).val, 0] := index0 hT (grid0.coords t)
  rw [e]
  match a with
  | ⟨0, _⟩ => rfl
  | ⟨1, _⟩ => exact (congrArg (· + j.val) (Nat.zero_mul _)).trans (Nat.zero_add _)

theorem read1 (k : Fin 256) (l : Fin 128) : iblk m hO c 1 t (ix2 k l) = m ((c : Thread nD τ).loc main_arg5) (ix1 (row hT hO t k)) := by
  refine Eq.trans (congrArg (V m c main_v2) (funext fun a => Fin.ext ?_)) (main_v2_at m c _ l)
  refine (Pipeline.Window.rect_emb_val _ _ _ _).trans ?_
  have e : ((cfgM m hO).win 1).index t = ![(vTile hT (grid0.coords t)).val, 0] := index1 hT (grid0.coords t)
  rw [e]
  match a with
  | ⟨0, _⟩ => exact rfl
  | ⟨1, _⟩ => exact (congrArg (· + l.val) (Nat.zero_mul _)).trans (Nat.zero_add _)

theorem read2 (j r : Fin 2880) : iblk m hO c 2 t (ix3 0 j r) = m ((c : Thread nD τ).loc main_arg6) (ix3 (vType hT (grid0.coords t)) j r) := by
  refine (congrFun (V_main_arg6 m c) _).trans (congrArg (m ((c : Thread nD τ).loc main_arg6)) (funext fun a => Fin.ext ?_))
  refine (Pipeline.Window.rect_emb_val _ _ _ _).trans ?_
  have e : ((cfgM m hO).win 2).index t = ![(vType hT (grid0.coords t)).val, 0, 0] := index2 hT (grid0.coords t)
  rw [e]
  match a with
  | ⟨0, _⟩ => exact Nat.mul_one _
  | ⟨1, _⟩ => exact (congrArg (· + j.val) (Nat.zero_mul _)).trans (Nat.zero_add _)
  | ⟨2, _⟩ => exact (congrArg (· + r.val) (Nat.zero_mul _)).trans (Nat.zero_add _)

theorem read3 (r : Fin 2880) : iblk m hO c 3 t (ix3 0 0 r) = m ((c : Thread nD τ).loc main_arg7) (ix2 (vType hT (grid0.coords t)) r) := by
  refine Eq.trans (congrArg (V m c main_v3) (funext fun a => Fin.ext ?_)) (main_v3_at m c _ _)
  refine (Pipeline.Window.rect_emb_val _ _ _ _).trans ?_
  have e : ((cfgM m hO).win 3).index t = ![(vType hT (grid0.coords t)).val, 0, 0] := index3 hT (grid0.coords t)
  rw [e]
  match a with
  | ⟨0, _⟩ => exact Nat.mul_one _
  | ⟨1, _⟩ => exact rfl
  | ⟨2, _⟩ => exact (congrArg (· + r.val) (Nat.zero_mul _)).trans (Nat.zero_add _)

theorem read4 (r : Fin 2880) : iblk m hO c 4 t (ix3 0 0 r) = m ((c : Thread nD τ).loc main_arg8) (ix2 (vType hT (grid0.coords t)) r) := by
  refine Eq.trans (congrArg (V m c main_v4) (funext fun a => Fin.ext ?_)) (main_v4_at m c _ _)
  refine (Pipeline.Window.rect_emb_val _ _ _ _).trans ?_
  have e : ((cfgM m hO).win 4).index t = ![(vType hT (grid0.coords t)).val, 0, 0] := index4 hT (grid0.coords t)
  rw [e]
  match a with
  | ⟨0, _⟩ => exact Nat.mul_one _
  | ⟨1, _⟩ => exact rfl
  | ⟨2, _⟩ => exact (congrArg (· + r.val) (Nat.zero_mul _)).trans (Nat.zero_add _)

theorem read5 (l : Fin 128) : iblk m hO c 5 t (ix3 0 0 l) = m ((c : Thread nD τ).loc main_arg9) (ix1 (vType hT (grid0.coords t))) := by
  refine Eq.trans (congrArg (V m c main_v6) (funext fun a => Fin.ext ?_)) (main_v6_at m c _ l)
  refine (Pipeline.Window.rect_emb_val _ _ _ _).trans ?_
  have e : ((cfgM m hO).win 5).index t = ![(vType hT (grid0.coords t)).val, 0, 0] := index5 hT (grid0.coords t)
  rw [e]
  match a with
  | ⟨0, _⟩ => exact Nat.mul_one _
  | ⟨1, _⟩ => exact rfl
  | ⟨2, _⟩ => exact (congrArg (· + l.val) (Nat.zero_mul _)).trans (Nat.zero_add _)

theorem read6 (r : Fin 2880) (k : Fin 256) : iblk m hO c 6 t (ix2 r k) = m ((c : Thread nD τ).loc main_arg10) (ix2 (row hT hO t k) r) := by
  refine Eq.trans (congrArg (V m c main_v0) (funext fun a => Fin.ext ?_)) (main_v0_at m c _ _)
  refine (Pipeline.Window.rect_emb_val _ _ _ _).trans ?_
  have e : ((cfgM m hO).win 6).index t = ![0, (vTile hT (grid0.coords t)).val] := index6 hT (grid0.coords t)
  rw [e]
  match a with
  | ⟨0, _⟩ => exact (congrArg (· + r.val) (Nat.zero_mul _)).trans (Nat.zero_add _)
  | ⟨1, _⟩ => exact rfl
end

end Cert.OutProjIdeal.Gen

end
-- ==== Proof.OutProjIdeal.Result.lean ====
/- The result of the whole call, as a function of its arguments, and what each point leaves of it. -/
module

public import proofs.«01_k».proof.Proof.OutProjIdeal.Reads
public import Idealize.ShloMosaic.Lib.Pipeline.ArrRel
public import Idealize.ShloMosaic.Lib.Pipeline.Covers

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000

open Cert.Visits

/-- The gated output of every node, over the reals: the product of the node's codes with its type's weights, scaled and shifted,
    mixed with the node's input. -/
def target (off : S5.Idx → BitVec 32) (codes : S8192x2880.Idx → EReal) (gs : S8192.Idx → EReal) (w : S4x2880x2880.Idx → EReal) (ws b : S4x2880.Idx → EReal) (skip : S4.Idx → EReal)
    (x : S8192x2880.Idx → EReal) : S2880x8192.Idx → EReal := fun y =>
  out (∑ j : Fin 2880, codes (ix2 (y 1) j) * w (ix3 (typeOf off (y 1).val) j (y 0))) (gs (ix1 (y 1))) (ws (ix2 (typeOf off (y 1).val) (y 0))) (b (ix2 (typeOf off (y 1).val) (y 0)))
    (skip (ix1 (typeOf off (y 1).val))) (x (ix2 (y 1) (y 0)))

theorem pos_coords (t : Fin grid0.N) : (pos (grid0.coords t)).val = t.val := by revert t; decide

section
variable {m : (ℓ : Loc nD τ sig) → Buf (Elt Ideal) ℓ} (hT : Tables (m ((0 : Dev nD).tc.loc main_arg0)) (m ((0 : Dev nD).tc.loc main_arg1)) (m ((0 : Dev nD).tc.loc main_arg2)) (m ((0 : Dev nD).tc.loc main_arg3)))

variable (hO : Ok m) (hH : Hyps m hO) (c : Dev nD)

/-- The result that the claim names, on core `c`. -/
def result (m : (ℓ : Loc nD τ sig) → Buf (Elt Ideal) ℓ) (c : Dev nD) : S2880x8192.Idx → EReal :=
  target (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- Where the visit takes a column, the block's function is the result at the column's row. -/
theorem blk_eq (t : Fin (cfgM m hO).N) (y : S2880x256.Idx) (h : Takes hT (grid0.coords t) (y 1).val) : blk hO c t y = result m c (ix2 (y 0) (row hT hO t (y 1))) := by
  obtain rfl : c = 0 := Subsingleton.elim _ _
  have hg : typeOf (m ((0 : Dev nD).tc.loc main_arg3)) (row hT hO t (y 1)).val = vType hT (grid0.coords t) := hT.typeOf_eq _ _ h.2.1 h.2.2
  obtain ⟨r, k, rfl⟩ : ∃ (r : Fin 2880) (k : Fin 256), y = ix2 r k := ⟨y 0, y 1, funext fun a => by match a with
    | ⟨0, _⟩ => rfl
    | ⟨1, _⟩ => rfl⟩
  unfold blk blockG result target
  refine (congr (congr (congr (congr (congr (congrArg out (Finset.sum_congr rfl fun j _ => congr (congrArg _ (read0 hT hO 0 t k j)) (read2 hT hO 0 t j r))) (read1 hT hO 0 t k _)) (read3 hT hO 0 t r)) (read4 hT hO 0 t r)) (read5 hT hO 0 t _)) (read6 hT hO 0 t r k)).trans ?_
  rw [← hg]
  rfl

/-- What is known of a point's block of the result: every column that a visit of the same tile has taken so far holds the result. -/
def Inv (c : Dev nD) (t : Fin (cfgM m hO).N) (X : Vec Ideal S2880x256 .bf16) : Prop :=
  ∀ y : S2880x256.Idx, (∃ j : Fin (cfgM m hO).N, j.val ≤ t.val ∧ vTile hT (grid0.coords j) = vTile hT (grid0.coords t) ∧ Takes hT (grid0.coords j) (y 1).val) →
    X y = result m c (ix2 (y 0) (row hT hO t (y 1)))

theorem tile_le (i j : Fin (cfgM m hO).N) (h : i.val ≤ j.val) : (vTile hT (grid0.coords i)).val ≤ (vTile hT (grid0.coords j)).val :=
  hT.tile_mono _ _ (by rw [pos_coords, pos_coords]; exact h)

theorem index_7 (t : Fin (cfgM m hO).N) : ((cfgM m hO).win 7).index t = ![0, (vTile hT (grid0.coords t)).val] := index7 hT (grid0.coords t)

theorem kept : Kept m hO hH (Inv hT hO) := by
  intro c t Y hF y hy
  obtain ⟨j, hj, hjt, htk⟩ := hy
  by_cases ht : Takes hT (grid0.coords t) (y 1).val
  · exact (step_takes hT hO hH c t Y y ht).trans (blk_eq hT hO c t y ht)
  · refine (step_keeps hT hO hH c t Y y ht).trans ?_
    have hne : j.val ≠ t.val := fun e => ht (by rwa [Fin.ext e] at htk)
    have h0 : t.val ≠ 0 := by omega
    have hlt : t.val - 1 < (cfgM m hO).N := by have := t.isLt; omega
    have e : vTile hT (grid0.coords (⟨t.val - 1, hlt⟩ : Fin (cfgM m hO).N)) = vTile hT (grid0.coords t) := by
      have a := tile_le hT hO j ⟨t.val - 1, hlt⟩ (by show j.val ≤ t.val - 1; omega)
      have b := tile_le hT hO ⟨t.val - 1, hlt⟩ t (by show t.val - 1 ≤ t.val; omega)
      have d := congrArg Fin.val hjt
      exact Fin.ext (by omega)
    rcases ((rdats m hO hH (Inv hT hO) c).finds_of_pos (w := 7) (Pipeline.Window.fetch_out _ rfl t) h0 Y).1 hF with hfl | hl
    · exfalso
      rcases (Pipeline.Window.flush_out ((cfgM m hO).win 7) rfl _).1 hfl with hN | ⟨hN, hN'⟩
      · have := t.isLt
        have hN : t.val - 1 + 1 = (cfgM m hO).N := hN
        omega
      · refine hN' ?_
        have et : (⟨(⟨t.val - 1, hlt⟩ : Fin (cfgM m hO).N).val + 1, hN⟩ : Fin (cfgM m hO).N) = t := Fin.ext (by show t.val - 1 + 1 = t.val; omega)
        rw [et, index_7 hT hO, index_7 hT hO, e]
    · have hI : Inv hT hO c ⟨t.val - 1, hlt⟩ Y := Pipeline.Dat.toRRel_leaves (dat := dats m hO hH 0 c) (w := 7) rfl hl
      refine (hI y ⟨j, by show j.val ≤ t.val - 1; omega, hjt.trans e.symm, htk⟩).trans ?_
      refine congrArg (fun n => result m c (ix2 (y 0) n)) (Fin.ext ?_)
      show (vTile hT (grid0.coords (⟨t.val - 1, hlt⟩ : Fin (cfgM m hO).N))).val * 256 + (y 1).val = _
      rw [e]; rfl

include hT in
/-- Every element of the result lies in a block that is written back. -/
theorem covered (i : S2880x8192.Idx) : ∃ t : Fin (cfgM m hO).N, ((cfgM m hO).win 7).flush t = true ∧ i ∈ (((cfgM m hO).win 7).blk t).view.set := by
  have hi1 : (i 1).val < 8192 := (i 1).isLt
  obtain ⟨g, h0, h1⟩ := hT.exists_type (i 1).val hi1
  obtain ⟨j, hj0, hj1, hj2⟩ := hT.visit ⟨(i 1).val / 256, by omega⟩ g (by show _ < ((i 1).val / 256 + 1) * 256; omega) (by show (i 1).val / 256 * 256 < _; omega) (by omega)
  have hp : pos (grid0.coords (j : Fin (cfgM m hO).N)) = j := Fin.ext (pos_coords j)
  have e : (vTile hT (grid0.coords (j : Fin (cfgM m hO).N))).val = (i 1).val / 256 := by
    show ((m ((0 : Dev nD).tc.loc main_arg0)) (ix1 (pos (grid0.coords (j : Fin (cfgM m hO).N))))).toNat = _
    rw [hp]; exact hj0
  obtain ⟨t, -, hf, hix⟩ := Pipeline.Window.exists_flush_same_index ((cfgM m hO).win 7) rfl j
  refine ⟨t, hf, ?_⟩
  have et : (vTile hT (grid0.coords t)).val = (i 1).val / 256 :=
    (congrFun (f := ![0, (vTile hT (grid0.coords t)).val]) (g := ![0, (vTile hT (grid0.coords (j : Fin (cfgM m hO).N))).val]) ((index_7 hT hO t).symm.trans (hix.trans (index_7 hT hO j))) 1).trans e
  refine (ValueKit.mem_set_slice_whole_iff main_v7 (((cfgM m hO).win 7).rect t) i (Pipeline.Window.mem_rect_iff ((cfgM m hO).win 7) t i rfl)).2 fun a => ?_
  rw [index_7 hT hO]
  match a with
  | ⟨0, _⟩ => exact ⟨(Nat.zero_mul _).le.trans (Nat.zero_le _), by
      have : (i 0).val < 2880 := (i 0).isLt
      show (i 0).val < 0 * 2880 + 2880; omega⟩
  | ⟨1, _⟩ =>
    constructor
    · show (vTile hT (grid0.coords t)).val * 256 ≤ (i 1).val; omega
    · show (i 1).val < (vTile hT (grid0.coords t)).val * 256 + 256; omega

/-- At a point that writes its block back, every column of the tile has been taken, so the block is the result's. -/
theorem written (t : Fin (cfgM m hO).N) (X : Vec Ideal S2880x256 .bf16) (hf : ((cfgM m hO).win 7).flush t = true) (hI : Inv hT hO c t X) (y : S2880x256.Idx) :
    X y = result m c ((((cfgM m hO).win 7).blk t).view.emb y) := by
  have hy1 : (y 1).val < 256 := (y 1).isLt
  have key := hI y ?_
  · refine key.trans (congrArg (result m c) (funext fun a => Fin.ext ?_))
    refine Eq.symm ((Pipeline.Window.rect_emb_val _ _ _ _).trans ?_)
    rw [index_7 hT hO]
    match a with
    | ⟨0, _⟩ => exact (congrArg (· + (y 0).val) (Nat.zero_mul _)).trans (Nat.zero_add _)
    | ⟨1, _⟩ => rfl
  · have ht := (vTile hT (grid0.coords t)).isLt
    obtain ⟨g, h0, h1⟩ := hT.exists_type ((vTile hT (grid0.coords t)).val * 256 + (y 1).val) (by omega)
    obtain ⟨j, hj0, hj1, hj2⟩ := hT.visit (vTile hT (grid0.coords t)) g (by omega) (by omega) (by omega)
    have hp : pos (grid0.coords (j : Fin (cfgM m hO).N)) = j := Fin.ext (pos_coords j)
    have e : vTile hT (grid0.coords (j : Fin (cfgM m hO).N)) = vTile hT (grid0.coords t) := Fin.ext (by
      show ((m ((0 : Dev nD).tc.loc main_arg0)) (ix1 (pos (grid0.coords (j : Fin (cfgM m hO).N))))).toNat = _
      rw [hp]; exact hj0)
    have eg : vType hT (grid0.coords (j : Fin (cfgM m hO).N)) = g := Fin.ext (by
      show ((m ((0 : Dev nD).tc.loc main_arg1)) (ix1 (pos (grid0.coords (j : Fin (cfgM m hO).N))))).toNat = _
      rw [hp]; exact hj1)
    refine ⟨j, ?_, e, ?_, ?_, ?_⟩
    · by_contra hjt
      have hjt : t.val < j.val := Nat.lt_of_not_le hjt
      rcases (Pipeline.Window.flush_out ((cfgM m hO).win 7) rfl _).1 hf with hN | ⟨hN, hN'⟩
      · have hN : t.val + 1 = 35 := hN
        have := j.isLt
        omega
      · refine hN' ?_
        rw [index_7 hT hO, index_7 hT hO]
        have a := tile_le hT hO t ⟨t.val + 1, hN⟩ (Nat.le_succ _)
        have b := tile_le hT hO ⟨t.val + 1, hN⟩ j hjt
        have d := congrArg Fin.val e
        rw [show (vTile hT (grid0.coords (⟨t.val + 1, hN⟩ : Fin (cfgM m hO).N))) = vTile hT (grid0.coords t) from Fin.ext (by omega)]
    · rw [hp]; exact hj2
    · rw [e, eg]; exact h0
    · rw [e, eg]; exact h1

/-- The array of the result, after every write-back. -/
theorem array_eq (c : Dev nD) (after : (w' : Fin (cfgM m hO).W) → Fin (cfgM m hO).N → ((cfgM m hO).win w').block.Idx → Elt Ideal ((cfgM m hO).win w').elt)
    (hL : ∀ (w : Fin (cfgM m hO).W) (u : Fin (cfgM m hO).N), ((cfgM m hO).win w).flush u = true → (rdats m hO hH (Inv hT hO) c).Leaves w u (after w u)) :
    ((rdats m hO hH (Inv hT hO) c).withAfter after).arrAt 7 (cfgM m hO).N = result m c := by
  exact Pipeline.Dat.arrAt_eq_of_emb _ 7 _ (fun t hf y => written hT hO c t (after 7 t) hf (Pipeline.Dat.toRRel_leaves (dat := dats m hO hH 0 c) (w := 7) rfl (hL 7 t hf)) y) (covered hT hO)

include hT hO hH in
/-- THE VALUE: every run of the call ends with the result array at `result`, and every semaphore at zero. -/
theorem run_value (ρ : Dev nD → PrngReg) : θ_run defs (onTc (τ := τ) (main (F := Ideal))) ⟨m, fun _ => 0, ρ⟩ (fun r => ∀ c : Dev nD, r.2.mem ((c.tc : Thread nD τ).loc main_v7) = result m c) :=
  (θ_run defs _ _).mono (fun r h c => by
    obtain ⟨after, hL, hA⟩ := Pipeline.RDat.FramePost.exists_exact h.1 c
    exact (hA 7).trans (array_eq hT hO hH c after hL)) (run_main m ρ hO hH (Inv hT hO) (kept hT hO hH))
end

end Cert.OutProjIdeal.Gen

end
-- ==== Proof.OutRefIdeal.Body.lean ====
/- The reference's body: an element of what it stores. -/
module

public import proofs.«01_k».proof.Proof.OutProjIdeal.Block
public import proofs.«01_k».proof.Proof.Gen.OutRefIdeal.Value
public import Idealize.ShloMosaic.Lib.Claim

@[expose] public section

set_option maxRecDepth 16384

noncomputable section

namespace Cert.OutRefIdeal.Gen

open Idealize.ShloMosaic Idealize.ShloMosaic.TcCoe
open Cert.OutProjIdeal.Gen (out)

variable (nt : Vec Ideal S8192x1 .i32) (x : Vec Ideal S8192x2880 .fp8e4m3) (gs : Vec Ideal S8192x1 .f32) (w : Vec Ideal S1x2880x2880 .fp8e4m3)
  (ws b : Vec Ideal S1x2880 .f32) (s : Vec Ideal S1x1 .f32) (u : Vec Ideal S8192x2880 .bf16) (y : FVec Ideal S8192x2880 .f32) (n : Fin 8192) (r : Fin 2880)

/-- A choice by equality of two words. -/
theorem sel_eq (a b : BitVec 32) (p q : EReal) : Scalar.select (IntOp.cmpi CmpIPredicate.eq a b) p q = if a = b then p else q := by
  unfold Scalar.select IntOp.cmpi
  by_cases h : a = b
  · subst h; simp
  · have e : (a == b) = false := beq_eq_false_iff_ne.mpr h
    simp only [e, h, if_false]
    rfl

/-- One element as one type's weights make it. -/
def elem : EReal := out (∑ j : Fin 2880, x (ix2 n j) * w (ix3 0 j r)) (gs (ix2 n 0)) (ws (ix2 0 r)) (b (ix2 0 r)) (s (ix2 0 0)) (u (ix2 n r))

theorem pay2_at : k0_pay2 x w gs ws b s nt u (ix2 n r) = if nt (ix2 n 0) = 0#32 then elem x gs w ws b s u n r else 0 := by
  pointwise [k0_pay2]
  exact sel_eq _ _ _ _

theorem pay3_at : k0_pay3 y x w gs ws b s nt u (ix2 n r) = if nt (ix2 n 0) = 1#32 then elem x gs w ws b s u n r else y (ix2 n r) := by
  pointwise [k0_pay3]
  exact sel_eq _ _ _ _

theorem pay5_at : k0_pay5 y (k0_pay4 x w) gs ws b s nt u (ix2 n r) = if nt (ix2 n 0) = 2#32 then elem x gs w ws b s u n r else y (ix2 n r) := by
  pointwise [k0_pay5, k0_pay4]
  exact sel_eq _ _ _ _

theorem pay1_at : k0_pay1 y (k0_pay6 x w gs) ws b s nt u (ix2 r n) = if nt (ix2 n 0) = 3#32 then elem x gs w ws b s u n r else y (ix2 n r) := by
  pointwise [k0_pay1, k0_pay6]
  exact sel_eq _ _ _ _

/-- The body's element, given the row's type `g`: what type `g`'s weights make. -/
theorem body_at (W : Fin 4 → Vec Ideal S1x2880x2880 .fp8e4m3) (WS B : Fin 4 → Vec Ideal S1x2880 .f32) (S : Fin 4 → Vec Ideal S1x1 .f32) (g : Fin 4) (hg : nt (ix2 n 0) = BitVec.ofNat 32 g.val) :
    k0_pay1 (k0_pay5 (k0_pay3 (k0_pay2 x (W 0) gs (WS 0) (B 0) (S 0) nt u) x (W 1) gs (WS 1) (B 1) (S 1) nt u) (k0_pay4 x (W 2)) gs (WS 2) (B 2) (S 2) nt u) (k0_pay6 x (W 3) gs) (WS 3) (B 3) (S 3) nt u (ix2 r n)
      = elem x gs (W g) (WS g) (B g) (S g) u n r := by
  rw [pay1_at, pay5_at, pay3_at, pay2_at, hg]
  match g with
  | ⟨0, _⟩ => rfl
  | ⟨1, _⟩ => rfl
  | ⟨2, _⟩ => rfl
  | ⟨3, _⟩ => rfl

variable (m : (ℓ : Loc nD τ sig) → Buf (Elt Ideal) ℓ)

/-- 1 where the offset is at most the row's number, else 0. -/
def le1 (o : BitVec 32) (n : Fin 8192) : BitVec 32 := BitVec.setWidth 32 (IntOp.cmpi CmpIPredicate.sle o (BitVec.ofNat 32 n.val))

/-- The type of a row: how many of the ends of the types are at most its number. -/
theorem main_v9_at (c : Dev nD) : V m c main_v9 (ix2 n 0) = (le1 (m ((c : Thread nD τ).loc main_arg3) (ix1 1)) n + (le1 (m ((c : Thread nD τ).loc main_arg3) (ix1 2)) n + (le1 (m ((c : Thread nD τ).loc main_arg3) (ix1 3)) n + (le1 (m ((c : Thread nD τ).loc main_arg3) (ix1 4)) n + 0#32)))) := by
  entry_read
  pointwise
  rfl

theorem main_v10_at (c : Dev nD) : V m c main_v10 (ix2 n 0) = m ((c : Thread nD τ).loc main_arg5) (ix1 n) := by
  entry_read
  pointwise

theorem main_v11_at (c : Dev nD) (g : Fin 4) : V m c main_v11 (ix2 g 0) = m ((c : Thread nD τ).loc main_arg9) (ix1 g) := by
  entry_read
  pointwise

end Cert.OutRefIdeal.Gen

end
-- ==== Proof.OutRefIdeal.Result.lean ====
/- The reference's result: the gated output of every node, as the kernel's. -/
module

public import proofs.«01_k».proof.Proof.OutProjIdeal.Result
public import proofs.«01_k».proof.Proof.OutRefIdeal.Body
public import Idealize.ShloMosaic.Lib.Pipeline.ValueKit

@[expose] public section

set_option maxRecDepth 16384

noncomputable section

namespace Cert.OutRefIdeal.Gen

open Idealize.ShloMosaic Idealize.ShloMosaic.TcCoe Idealize.SL.Sem
open Cert.OutProjIdeal.Gen (out target)
open Cert.Visits (typeOf)
open Cert.Visits

/-! ## The type of a row -/

theorem le1_eq (o : BitVec 32) (n : Fin 8192) (h : o.toNat ≤ 8192) : le1 o n = if o.toNat ≤ n.val then 1#32 else 0#32 := by
  have e : (BitVec.sle o (BitVec.ofNat 32 n.val)) = decide (o.toNat ≤ n.val) := by
    have hn := n.isLt
    rw [BitVec.sle_eq_decide, BitVec.toInt_eq_toNat_of_lt (by omega), BitVec.toInt_eq_toNat_of_lt (by rw [BitVec.toNat_ofNat]; omega), BitVec.toNat_ofNat, Nat.mod_eq_of_lt (by omega)]
    exact decide_eq_decide.mpr Int.ofNat_le
  unfold le1 IntOp.cmpi
  simp only [e]
  by_cases h' : o.toNat ≤ n.val
  · rw [if_pos h', decide_eq_true h']; rfl
  · rw [if_neg h', decide_eq_false h']; rfl

/-- The word of a row's type, of offsets that ascend to the number of rows. -/
theorem type_word (off : S5.Idx → BitVec 32) (n : Fin 8192) (h4 : off (ix1 4) = 8192#32) (hle : ∀ g : Fin 5, (off (ix1 g)).toNat ≤ 8192)
    (hmono : ∀ g : Fin 4, (off (ix1 g.castSucc)).toNat ≤ (off (ix1 g.succ)).toNat) :
    le1 (off (ix1 1)) n + (le1 (off (ix1 2)) n + (le1 (off (ix1 3)) n + (le1 (off (ix1 4)) n + 0#32))) = BitVec.ofNat 32 (typeOf off n.val).val := by
  have m1 : (off (ix1 1)).toNat ≤ (off (ix1 2)).toNat := hmono 1
  have m2 : (off (ix1 2)).toNat ≤ (off (ix1 3)).toNat := hmono 2
  have hn := n.isLt
  have e4 : (off (ix1 4)).toNat = 8192 := by rw [h4]; rfl
  rw [le1_eq _ n (hle 1), le1_eq _ n (hle 2), le1_eq _ n (hle 3), le1_eq _ n (hle 4), e4, if_neg (by omega : ¬ 8192 ≤ n.val)]
  unfold typeOf
  by_cases c1 : (off (ix1 1)).toNat ≤ n.val
  · by_cases c2 : (off (ix1 2)).toNat ≤ n.val
    · by_cases c3 : (off (ix1 3)).toNat ≤ n.val
      · rw [if_pos c1, if_pos c2, if_pos c3, if_pos c1, if_pos c2, if_pos c3]; rfl
      · rw [if_pos c1, if_pos c2, if_neg c3, if_pos c1, if_pos c2, if_neg c3]; rfl
    · rw [if_pos c1, if_neg c2, if_neg (by omega), if_pos c1, if_neg c2]; rfl
  · rw [if_neg c1, if_neg (by omega), if_neg (by omega), if_neg c1]; rfl

/-! ## What the body stores -/

section
variable (x0 : Vec Ideal S8192x1 .i32) (x1 : Vec Ideal S8192x2880 .fp8e4m3) (x2 : Vec Ideal S8192x1 .f32) (x3 : Vec Ideal S4x2880x2880 .fp8e4m3)
  (x4 x5 : Vec Ideal S4x2880 .f32) (x6 : Vec Ideal S4x1 .f32) (x7 : Vec Ideal S8192x2880 .bf16) (n : Fin 8192) (r : Fin 2880) (g : Fin 4)

/-- A type's weights, as the body loads them. -/
def ldW : Fin 4 → Vec Ideal S1x2880x2880 .fp8e4m3 := ![View.ld x3 r0_1, View.ld x3 r0_5, View.ld x3 r0_8, View.ld x3 r0_11]

/-- A type's row of a vector per type, as the body loads it. -/
def ldV : Fin 4 → Vec Ideal S1x2880 .f32 := ![View.ld x4 r0_3, View.ld x4 r0_6, View.ld x4 r0_9, View.ld x4 r0_12]

/-- A type's skip weight, as the body loads it. -/
def ldS : Fin 4 → Vec Ideal S1x1 .f32 := ![View.ld x6 r0_4, View.ld x6 r0_7, View.ld x6 r0_10, View.ld x6 r0_13]

theorem ldW_at (j : Fin 2880) : ldW x3 g (ix3 0 j r) = x3 (ix3 g j r) := by
  match g with
  | ⟨0, _⟩ => exact View.ld_unit_apply_of x3 _ _ _ _ _ (fun a => by match a with
      | ⟨0, _⟩ => rfl
      | ⟨1, _⟩ => exact (Nat.zero_add _).symm
      | ⟨2, _⟩ => exact (Nat.zero_add _).symm)
  | ⟨1, _⟩ => exact View.ld_unit_apply_of x3 _ _ _ _ _ (fun a => by match a with
      | ⟨0, _⟩ => rfl
      | ⟨1, _⟩ => exact (Nat.zero_add _).symm
      | ⟨2, _⟩ => exact (Nat.zero_add _).symm)
  | ⟨2, _⟩ => exact View.ld_unit_apply_of x3 _ _ _ _ _ (fun a => by match a with
      | ⟨0, _⟩ => rfl
      | ⟨1, _⟩ => exact (Nat.zero_add _).symm
      | ⟨2, _⟩ => exact (Nat.zero_add _).symm)
  | ⟨3, _⟩ => exact View.ld_unit_apply_of x3 _ _ _ _ _ (fun a => by match a with
      | ⟨0, _⟩ => rfl
      | ⟨1, _⟩ => exact (Nat.zero_add _).symm
      | ⟨2, _⟩ => exact (Nat.zero_add _).symm)

theorem ldV_at : ldV x4 g (ix2 0 r) = x4 (ix2 g r) := by
  match g with
  | ⟨0, _⟩ => exact View.ld_unit_apply_of x4 _ _ _ _ _ (fun a => by match a with
      | ⟨0, _⟩ => rfl
      | ⟨1, _⟩ => exact (Nat.zero_add _).symm)
  | ⟨1, _⟩ => exact View.ld_unit_apply_of x4 _ _ _ _ _ (fun a => by match a with
      | ⟨0, _⟩ => rfl
      | ⟨1, _⟩ => exact (Nat.zero_add _).symm)
  | ⟨2, _⟩ => exact View.ld_unit_apply_of x4 _ _ _ _ _ (fun a => by match a with
      | ⟨0, _⟩ => rfl
      | ⟨1, _⟩ => exact (Nat.zero_add _).symm)
  | ⟨3, _⟩ => exact View.ld_unit_apply_of x4 _ _ _ _ _ (fun a => by match a with
      | ⟨0, _⟩ => rfl
      | ⟨1, _⟩ => exact (Nat.zero_add _).symm)

theorem ldS_at : ldS x6 g (ix2 0 0) = x6 (ix2 g 0) := by
  match g with
  | ⟨0, _⟩ => exact View.ld_unit_apply_of x6 _ _ _ _ _ (fun a => by match a with
      | ⟨0, _⟩ => rfl
      | ⟨1, _⟩ => rfl)
  | ⟨1, _⟩ => exact View.ld_unit_apply_of x6 _ _ _ _ _ (fun a => by match a with
      | ⟨0, _⟩ => rfl
      | ⟨1, _⟩ => rfl)
  | ⟨2, _⟩ => exact View.ld_unit_apply_of x6 _ _ _ _ _ (fun a => by match a with
      | ⟨0, _⟩ => rfl
      | ⟨1, _⟩ => rfl)
  | ⟨3, _⟩ => exact View.ld_unit_apply_of x6 _ _ _ _ _ (fun a => by match a with
      | ⟨0, _⟩ => rfl
      | ⟨1, _⟩ => rfl)

theorem out0_8_at (hg : x0 (ix2 n 0) = BitVec.ofNat 32 g.val) :
    out0_8 x0 x1 x2 x3 x4 x5 x6 x7 (ix2 r n) = out (∑ j : Fin 2880, x1 (ix2 n j) * x3 (ix3 g j r)) (x2 (ix2 n 0)) (x4 (ix2 g r)) (x5 (ix2 g r)) (x6 (ix2 g 0)) (x7 (ix2 n r)) := by
  unfold out0_8
  have z : ∀ a : Fin 2, (![0, 0] : Fin 2 → Nat) a = 0 := fun a => by match a with
    | ⟨0, _⟩ => rfl
    | ⟨1, _⟩ => rfl
  have h0 : View.ld x0 r0_2 = x0 := View.ld_unit_lit _ x0 z
  have h1 : View.ld x1 r0_0 = x1 := View.ld_unit_lit _ x1 z
  have h2 : View.ld x2 r0_2 = x2 := View.ld_unit_lit _ x2 z
  have h7 : View.ld x7 r0_0 = x7 := View.ld_unit_lit _ x7 z
  rw [h0, h1, h2, h7]
  refine (congrFun (View.canon_cons_unit_lit _ _ _ z) (ix2 r n)).trans ((body_at x0 x1 x2 x7 n r (ldW x3) (ldV x4) (ldV x5) (ldS x6) g hg).trans ?_)
  unfold elem
  rw [ldV_at, ldV_at, ldS_at]
  simp only [ldW_at]
end

/-! ## The run -/

section
variable (m : (ℓ : Loc nD τ sig) → Buf (Elt Ideal) ℓ) (ρ : Dev nD → PrngReg)

/-! The one block of a window is its array. -/

theorem blk0 (c : Dev nD) : iblk m c 0 t0_0 = V m c main_v9 :=
  funext fun j => congrArg (V m c main_v9) (funext fun a => Fin.ext (Pipeline.Window.rect_emb_val_of_index_zero (cfg0.win 0) t0_0 a ((by decide : ∀ a, (cfg0.win 0).index t0_0 a = 0) a) j))

theorem blk1 (c : Dev nD) : iblk m c 1 t0_0 = V m c main_arg4 :=
  funext fun j => congrArg (V m c main_arg4) (funext fun a => Fin.ext (Pipeline.Window.rect_emb_val_of_index_zero (cfg0.win 1) t0_0 a ((by decide : ∀ a, (cfg0.win 1).index t0_0 a = 0) a) j))

theorem blk2 (c : Dev nD) : iblk m c 2 t0_0 = V m c main_v10 :=
  funext fun j => congrArg (V m c main_v10) (funext fun a => Fin.ext (Pipeline.Window.rect_emb_val_of_index_zero (cfg0.win 2) t0_0 a ((by decide : ∀ a, (cfg0.win 2).index t0_0 a = 0) a) j))

theorem blk3 (c : Dev nD) : iblk m c 3 t0_0 = V m c main_arg6 :=
  funext fun j => congrArg (V m c main_arg6) (funext fun a => Fin.ext (Pipeline.Window.rect_emb_val_of_index_zero (cfg0.win 3) t0_0 a ((by decide : ∀ a, (cfg0.win 3).index t0_0 a = 0) a) j))

theorem blk4 (c : Dev nD) : iblk m c 4 t0_0 = V m c main_arg7 :=
  funext fun j => congrArg (V m c main_arg7) (funext fun a => Fin.ext (Pipeline.Window.rect_emb_val_of_index_zero (cfg0.win 4) t0_0 a ((by decide : ∀ a, (cfg0.win 4).index t0_0 a = 0) a) j))

theorem blk5 (c : Dev nD) : iblk m c 5 t0_0 = V m c main_arg8 :=
  funext fun j => congrArg (V m c main_arg8) (funext fun a => Fin.ext (Pipeline.Window.rect_emb_val_of_index_zero (cfg0.win 5) t0_0 a ((by decide : ∀ a, (cfg0.win 5).index t0_0 a = 0) a) j))

theorem blk6 (c : Dev nD) : iblk m c 6 t0_0 = V m c main_v11 :=
  funext fun j => congrArg (V m c main_v11) (funext fun a => Fin.ext (Pipeline.Window.rect_emb_val_of_index_zero (cfg0.win 6) t0_0 a ((by decide : ∀ a, (cfg0.win 6).index t0_0 a = 0) a) j))

theorem blk7 (c : Dev nD) : iblk m c 7 t0_0 = V m c main_arg10 :=
  funext fun j => congrArg (V m c main_arg10) (funext fun a => Fin.ext (Pipeline.Window.rect_emb_val_of_index_zero (cfg0.win 7) t0_0 a ((by decide : ∀ a, (cfg0.win 7).index t0_0 a = 0) a) j))

/-- The gated output of every node, of the arguments. -/
def result (c : Dev nD) : S2880x8192.Idx → EReal :=
  target (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

variable (c : Dev nD) (h4 : (m ((c : Thread nD τ).loc main_arg3)) (ix1 4) = 8192#32) (hle : ∀ g : Fin 5, ((m ((c : Thread nD τ).loc main_arg3)) (ix1 g)).toNat ≤ 8192)
    (hmono : ∀ g : Fin 4, ((m ((c : Thread nD τ).loc main_arg3)) (ix1 g.castSucc)).toNat ≤ ((m ((c : Thread nD τ).loc main_arg3)) (ix1 g.succ)).toNat)

include h4 hle hmono in
theorem block_at (r : Fin 2880) (n : Fin 8192) :
    out0_8 (iblk m c 0 t0_0) (iblk m c 1 t0_0) (iblk m c 2 t0_0) (iblk m c 3 t0_0) (iblk m c 4 t0_0) (iblk m c 5 t0_0) (iblk m c 6 t0_0) (iblk m c 7 t0_0) (ix2 r n) = result m c (ix2 r n) := by
  rw [blk0, blk1, blk2, blk3, blk4, blk5, blk6, blk7, V_main_arg4, V_main_arg6, V_main_arg7, V_main_arg8, V_main_arg10]
  refine (out0_8_at _ _ _ _ _ _ _ _ n r (typeOf (m ((c : Thread nD τ).loc main_arg3)) n.val) ((main_v9_at n m c).trans (type_word _ n h4 hle hmono))).trans ?_
  rw [main_v10_at, main_v11_at]
  rfl

include h4 hle hmono in
theorem array_eq : (dats m 0 c).arrAt 8 cfg0.N = result m c := by
  refine (dats m 0 c).arrAt_eq_of_after_last 8 t0_0 (by decide +kernel) (result m c) fun j => ?_
  obtain ⟨r, n, rfl⟩ : ∃ (r : Fin 2880) (n : Fin 8192), j = ix2 r n := ⟨j 0, j 1, funext fun a => by match a with
    | ⟨0, _⟩ => rfl
    | ⟨1, _⟩ => rfl⟩
  refine Eq.trans ?_ (block_at m c h4 hle hmono r n)
  exact congrFun (after0_8 m c t0_0) (ix2 r n)
end

end Cert.OutRefIdeal.Gen

end
-- ==== Proof.QkvIdeal.Kit.lean ====
/- The parts of the kernel's run that its proof shares: the host operations before the call, what the arrays and tables hold
   when the call is entered, each window's block, the words that the body reads and the four conditions it branches on. -/
module

public import proofs.«01_k».proof.Proof.Gen.QkvIdeal.Launch
public import proofs.«01_k».proof.Proof.Gen.QkvIdeal.Skeleton
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S35 .i32 := Memref.whole main_arg0
abbrev htbM0_0 : tbM0_0.IsWhole := Memref.isWhole_whole _
abbrev tbM0_1 : Memref sig .tc .smem S35 .i32 := Memref.whole main_arg1
abbrev htbM0_1 : tbM0_1.IsWhole := Memref.isWhole_whole _
abbrev tbM0_2 : Memref sig .tc .smem S5 .i32 := Memref.whole main_arg3
abbrev htbM0_2 : tbM0_2.IsWhole := Memref.isWhole_whole _
abbrev tbM0_3 : Memref sig .tc .smem S35 .i32 := Memref.whole main_arg2
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any relational data whose arrays are those that the call finds (`hA`), a run to the
    library's frame post keeps every argument array — a staged input by the post's first clause, any other by its second. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      (Pipeline.RDat.FramePost.arr_in h c 0 rfl).trans ((hA c 0).trans (V_main_arg4 m c)),
      ((h c).2 main_arg5 (by decide : main_arg5 ∈ Pipeline.restRefs sig spec0)).trans (V_main_arg5 m c),
      (Pipeline.RDat.FramePost.arr_in h c 2 rfl).trans ((hA c 2).trans (V_main_arg6 m c)),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_qkv (grid0.coords t) (Memref.whole main_arg0) (Memref.isWhole_whole _) (Memref.whole main_arg1) (Memref.isWhole_whole _) (Memref.whole main_arg3) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

/-! ## The words the body reads, and its four conditions -/

/-- The group word at a point. -/
abbrev wG (c : Dev nD) (i : grid0.Coords) (xt1 : TbBuf0 (F := F) c tbM0_1) : BitVec 32 :=
  (tbM0_1.view.readAt (Elt F) (Rect.unit (s := S35) (k0_off1 i) S1.size (k0_off1_inb i)).toLoadRect xt1 (Shape.Idx.first (numel1_S1.symm ▸ Nat.one_pos)))
/-- The tile word at a point. -/
abbrev wT (c : Dev nD) (i : grid0.Coords) (xt0 : TbBuf0 (F := F) c tbM0_0) : BitVec 32 :=
  (tbM0_0.view.readAt (Elt F) (Rect.unit (s := S35) (k0_off1 i) S1.size (k0_off1_inb i)).toLoadRect xt0 (Shape.Idx.first (numel1_S1.symm ▸ Nat.one_pos)))
/-- The live word at a point, as each of the four conditions reads it. -/
abbrev wL0 (c : Dev nD) (i : grid0.Coords) (xt3 : TbBuf0 (F := F) c tbM0_3) : BitVec 32 :=
  (tbM0_3.view.readAt (Elt F) (Rect.unit (s := S35) (k0_off4 i) S1.size (k0_off4_inb i)).toLoadRect xt3 (Shape.Idx.first (numel1_S1.symm ▸ Nat.one_pos)))
abbrev wL1 (c : Dev nD) (i : grid0.Coords) (xt3 : TbBuf0 (F := F) c tbM0_3) : BitVec 32 :=
  (tbM0_3.view.readAt (Elt F) (Rect.unit (s := S35) (k0_off5 i) S1.size (k0_off5_inb i)).toLoadRect xt3 (Shape.Idx.first (numel1_S1.symm ▸ Nat.one_pos)))
abbrev wL2 (c : Dev nD) (i : grid0.Coords) (xt3 : TbBuf0 (F := F) c tbM0_3) : BitVec 32 :=
  (tbM0_3.view.readAt (Elt F) (Rect.unit (s := S35) (k0_off6 i) S1.size (k0_off6_inb i)).toLoadRect xt3 (Shape.Idx.first (numel1_S1.symm ▸ Nat.one_pos)))
abbrev wL3 (c : Dev nD) (i : grid0.Coords) (xt3 : TbBuf0 (F := F) c tbM0_3) : BitVec 32 :=
  (tbM0_3.view.readAt (Elt F) (Rect.unit (s := S35) (k0_off7 i) S1.size (k0_off7_inb i)).toLoadRect xt3 (Shape.Idx.first (numel1_S1.symm ▸ Nat.one_pos)))
/-- Where the point's type begins, and where it ends. -/
abbrev wLo (c : Dev nD) (i : grid0.Coords) (xt1 : TbBuf0 (F := F) c tbM0_1) (xt2 : TbBuf0 (F := F) c tbM0_2) (h : k0_chk1 (wG c i xt1)) : BitVec 32 :=
  (tbM0_2.view.readAt (Elt F) (Rect.unit (s := S5) (k0_off2 (wG c i xt1)) S1.size (k0_off2_inb (wG c i xt1) h)).toLoadRect xt2 (Shape.Idx.first (numel1_S1.symm ▸ Nat.one_pos)))
abbrev wHi (c : Dev nD) (i : grid0.Coords) (xt1 : TbBuf0 (F := F) c tbM0_1) (xt2 : TbBuf0 (F := F) c tbM0_2) (h : k0_chk1 (wG c i xt1)) : BitVec 32 :=
  (tbM0_2.view.readAt (Elt F) (Rect.unit (s := S5) (k0_off3 (wG c i xt1)) S1.size (k0_off3_inb (wG c i xt1) h)).toLoadRect xt2 (Shape.Idx.first (numel1_S1.symm ▸ Nat.one_pos)))
/-- The body's conditions, over the tables: in the first half of the columns the whole store and the masked one, then the
    same two in the second half. -/
abbrev cond0 (c : Dev nD) (i : grid0.Coords) (xt0 : TbBuf0 (F := F) c tbM0_0) (xt1 : TbBuf0 (F := F) c tbM0_1) (xt2 : TbBuf0 (F := F) c tbM0_2) (xt3 : TbBuf0 (F := F) c tbM0_3) (h : k0_chk1 (wG c i xt1)) : Prop :=
  k0_cond1 i (wT c i xt0) (wLo c i xt1 xt2 h) (wHi c i xt1 xt2 h) (wL0 c i xt3) = 1#1
abbrev cond1 (c : Dev nD) (i : grid0.Coords) (xt0 : TbBuf0 (F := F) c tbM0_0) (xt1 : TbBuf0 (F := F) c tbM0_1) (xt2 : TbBuf0 (F := F) c tbM0_2) (xt3 : TbBuf0 (F := F) c tbM0_3) (h : k0_chk1 (wG c i xt1)) : Prop :=
  k0_cond2 i (wT c i xt0) (wLo c i xt1 xt2 h) (wHi c i xt1 xt2 h) (wL1 c i xt3) = 1#1
abbrev cond2 (c : Dev nD) (i : grid0.Coords) (xt0 : TbBuf0 (F := F) c tbM0_0) (xt1 : TbBuf0 (F := F) c tbM0_1) (xt2 : TbBuf0 (F := F) c tbM0_2) (xt3 : TbBuf0 (F := F) c tbM0_3) (h : k0_chk1 (wG c i xt1)) : Prop :=
  k0_cond3 i (wT c i xt0) (wLo c i xt1 xt2 h) (wHi c i xt1 xt2 h) (wL2 c i xt3) = 1#1
abbrev cond3 (c : Dev nD) (i : grid0.Coords) (xt0 : TbBuf0 (F := F) c tbM0_0) (xt1 : TbBuf0 (F := F) c tbM0_1) (xt2 : TbBuf0 (F := F) c tbM0_2) (xt3 : TbBuf0 (F := F) c tbM0_3) (h : k0_chk1 (wG c i xt1)) : Prop :=
  k0_cond4 i (wT c i xt0) (wLo c i xt1 xt2 h) (wHi c i xt1 xt2 h) (wL3 c i xt3) = 1#1

/-! ## The staging memrefs at a point -/

/-- Each window's current staging memref at point `t`, spelled as the pipeline passes it (`bodyAt0`), and its wholeness. -/
abbrev ms0_0 (hO : Ok m) (t : Fin (cfgM m hO).N) : Memref sig .tc .vmem S256x2880 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2880x4352 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x4352 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x4352 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S6144x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S256x1536 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x1408 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x2944 .bf16 := spec0_8.stage ((cfgM m hO).slots t 8)
abbrev hs0_8 (hO : Ok m) (t : Fin (cfgM m hO).N) : (ms0_8 m hO t).IsWhole := hstage0_8 (((cfgM m hO).slots t 8).cast nbuf0_8)

/-! ## The side conditions the body assumes, as the frame's hypothesis -/

/-- What the body assumes of the group word it reads at each point: both offsets it computes from that word lie in
    the table of type offsets. -/
def Hyps (m : (ℓ : Loc nD τ sig) → Buf (Elt F) ℓ) (hO : Ok m) : Prop :=
  ∀ (c : Dev nD) (t : Fin (cfgM m hO).N), k0_chk1 (wG c (grid0.coords t) (tbl m 1))

end Cert.QkvIdeal.Gen

end
-- ==== Proof.QkvIdeal.RunN.lean ====
/- The body's triple at a point that stores nothing. -/
module

public import proofs.«01_k».proof.Proof.QkvIdeal.Kit

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- At a point where no condition holds the body leaves every buffer as it found it. -/
theorem kernelRunN (c : Dev nD) (i : grid0.Coords) (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole) (arg11 : Memref sig .tc .vmem S6144x128 .f32) (harg11 : arg11.IsWhole) (arg12 : Memref sig .tc .vmem S256x1536 .bf16) (harg12 : arg12.IsWhole) (arg13 : Memref sig .tc .vmem S256x1408 .bf16) (harg13 : arg13.IsWhole) (arg14 : Memref sig .tc .vmem S256x2944 .bf16) (harg14 : arg14.IsWhole)
    (x0 : Vec F S256x2880 .fp8e4m3) (x1 : Vec F S256x128 .f32) (x2 : Vec F S1x2880x4352 .fp8e4m3) (x3 : Vec F S1x1x4352 .f32) (x4 : Vec F S1x1x4352 .f32) (xt0 : TbBuf0 (F := F) c tbM0_0) (xt1 : TbBuf0 (F := F) c tbM0_1) (xt2 : TbBuf0 (F := F) c tbM0_2) (xt3 : TbBuf0 (F := F) c tbM0_3) (k0_hw1 : k0_chk1 (wG c i xt1)) (hc0 : ¬ cond0 c i xt0 xt1 xt2 xt3 k0_hw1) (hc1 : ¬ cond1 c i xt0 xt1 xt2 xt3 k0_hw1) (hc2 : ¬ cond2 c i xt0 xt1 xt2 xt3 k0_hw1) (hc3 : ¬ cond3 c i xt0 xt1 xt2 xt3 k0_hw1) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_qkv i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14) K := by
    intro E K
    simp only [cc0_qkv_eq_skeleton]; unfold cc0_qkv_skel
    simp only [k0_part75_eq_skeleton]; unfold k0_part75_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg6.eq_unread hf0
    obtain rfl := harg7.eq_unread hf1
    obtain rfl := harg8.eq_unread hf2
    obtain rfl := harg9.eq_unread hf3
    obtain rfl := harg10.eq_unread hf4
    sl_exec (disch := first | sl_exact hc0 | sl_exact hc1 | sl_exact hc2 | sl_exact hc3 | sl_exact k0_hw1)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [HT0]; · iexact HT0
    isplitl [HT1]; · iexact HT1
    isplitl [HT2]; · iexact HT2
    iexact HT3

end Cert.QkvIdeal.Gen

end
-- ==== Proof.QkvIdeal.RunF0.lean ====
/- The body's triple at a point that does the whole store of the first half of the columns. -/
module

public import proofs.«01_k».proof.Proof.QkvIdeal.Kit

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- At a point that does the whole store of the first half of the columns: the pieces stored into each of its two output windows. -/
def kernelRunF0 (c : Dev nD) (i : grid0.Coords) (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole) (arg11 : Memref sig .tc .vmem S6144x128 .f32) (harg11 : arg11.IsWhole) (arg12 : Memref sig .tc .vmem S256x1536 .bf16) (harg12 : arg12.IsWhole) (arg13 : Memref sig .tc .vmem S256x1408 .bf16) (harg13 : arg13.IsWhole) (arg14 : Memref sig .tc .vmem S256x2944 .bf16) (harg14 : arg14.IsWhole)
    (x0 : Vec F S256x2880 .fp8e4m3) (x1 : Vec F S256x128 .f32) (x2 : Vec F S1x2880x4352 .fp8e4m3) (x3 : Vec F S1x1x4352 .f32) (x4 : Vec F S1x1x4352 .f32) (x5 : Vec F S6144x128 .f32) (x6 : Vec F S256x1536 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 (wG c i xt1)) (hc0 : cond0 c i xt0 xt1 xt2 xt3 k0_hw1) (hc1 : ¬ cond1 c i xt0 xt1 xt2 xt3 k0_hw1) (hc2 : ¬ cond2 c i xt0 xt1 xt2 xt3 k0_hw1) (hc3 : ¬ cond3 c i xt0 xt1 xt2 xt3 k0_hw1) :
    Σ' (L5 : List (View.Piece (Elt F) S6144x128 .f32)) (L6 : List (View.Piece (Elt F) S256x1536 .bf16)),
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (arg11.view.loc (c : Thread nD τ) ↦[arg11.view.set]{fullShare} arg11.view.writes (Elt F) (harg11.unread x5) L5) ∗ (arg12.view.loc (c : Thread nD τ) ↦[arg12.view.set]{fullShare} arg12.view.writes (Elt F) (harg12.unread x6) L6) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_qkv i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14) K := by
  refine ⟨?_, ?_, fun E K => ?run⟩
  case run =>
    simp only [cc0_qkv_eq_skeleton]; unfold cc0_qkv_skel
    simp only [k0_part75_eq_skeleton]; unfold k0_part75_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, HT2, HT3, Hk⟩
    obtain rfl := harg6.eq_unread hf0
    obtain rfl := harg7.eq_unread hf1
    obtain rfl := harg8.eq_unread hf2
    obtain rfl := harg9.eq_unread hf3
    obtain rfl := harg10.eq_unread hf4
    obtain rfl := harg11.eq_unread hf5
    obtain rfl := harg12.eq_unread hf6
    sl_exec (disch := first | sl_exact hc0 | sl_exact hc1 | sl_exact hc2 | sl_exact hc3 | sl_exact k0_hw1)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]; · iexact H5
    isplitl [H6]; · iexact H6
    isplitl [HT0]; · iexact HT0
    isplitl [HT1]; · iexact HT1
    isplitl [HT2]; · iexact HT2
    iexact HT3

end Cert.QkvIdeal.Gen

end
-- ==== Proof.QkvIdeal.RunM0.lean ====
/- The body's triple at a point that does the masked store of the first half of the columns. -/
module

public import proofs.«01_k».proof.Proof.QkvIdeal.Kit

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- At a point that does the masked store of the first half of the columns: the pieces stored into each of its two output windows. -/
def kernelRunM0 (c : Dev nD) (i : grid0.Coords) (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole) (arg11 : Memref sig .tc .vmem S6144x128 .f32) (harg11 : arg11.IsWhole) (arg12 : Memref sig .tc .vmem S256x1536 .bf16) (harg12 : arg12.IsWhole) (arg13 : Memref sig .tc .vmem S256x1408 .bf16) (harg13 : arg13.IsWhole) (arg14 : Memref sig .tc .vmem S256x2944 .bf16) (harg14 : arg14.IsWhole)
    (x0 : Vec F S256x2880 .fp8e4m3) (x1 : Vec F S256x128 .f32) (x2 : Vec F S1x2880x4352 .fp8e4m3) (x3 : Vec F S1x1x4352 .f32) (x4 : Vec F S1x1x4352 .f32) (x5 : Vec F S6144x128 .f32) (x6 : Vec F S256x1536 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 (wG c i xt1)) (hc0 : ¬ cond0 c i xt0 xt1 xt2 xt3 k0_hw1) (hc1 : cond1 c i xt0 xt1 xt2 xt3 k0_hw1) (hc2 : ¬ cond2 c i xt0 xt1 xt2 xt3 k0_hw1) (hc3 : ¬ cond3 c i xt0 xt1 xt2 xt3 k0_hw1) :
    Σ' (L5 : List (View.Piece (Elt F) S6144x128 .f32)) (L6 : List (View.Piece (Elt F) S256x1536 .bf16)),
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (arg11.view.loc (c : Thread nD τ) ↦[arg11.view.set]{fullShare} arg11.view.writes (Elt F) (harg11.unread x5) L5) ∗ (arg12.view.loc (c : Thread nD τ) ↦[arg12.view.set]{fullShare} arg12.view.writes (Elt F) (harg12.unread x6) L6) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_qkv i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14) K := by
  refine ⟨?_, ?_, fun E K => ?run⟩
  case run =>
    simp only [cc0_qkv_eq_skeleton]; unfold cc0_qkv_skel
    simp only [k0_part75_eq_skeleton]; unfold k0_part75_skel
    simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, HT2, HT3, Hk⟩
    obtain rfl := harg6.eq_unread hf0
    obtain rfl := harg7.eq_unread hf1
    obtain rfl := harg8.eq_unread hf2
    obtain rfl := harg9.eq_unread hf3
    obtain rfl := harg10.eq_unread hf4
    obtain rfl := harg11.eq_unread hf5
    obtain rfl := harg12.eq_unread hf6
    sl_exec (disch := first | sl_exact hc0 | sl_exact hc1 | sl_exact hc2 | sl_exact hc3 | sl_exact k0_hw1)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]; · iexact H5
    isplitl [H6]; · iexact H6
    isplitl [HT0]; · iexact HT0
    isplitl [HT1]; · iexact HT1
    isplitl [HT2]; · iexact HT2
    iexact HT3

end Cert.QkvIdeal.Gen

end
-- ==== Proof.QkvIdeal.RunF1.lean ====
/- The body's triple at a point that does the whole store of the second half of the columns. -/
module

public import proofs.«01_k».proof.Proof.QkvIdeal.Kit

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- At a point that does the whole store of the second half of the columns: the pieces stored into each of its two output windows. -/
def kernelRunF1 (c : Dev nD) (i : grid0.Coords) (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole) (arg11 : Memref sig .tc .vmem S6144x128 .f32) (harg11 : arg11.IsWhole) (arg12 : Memref sig .tc .vmem S256x1536 .bf16) (harg12 : arg12.IsWhole) (arg13 : Memref sig .tc .vmem S256x1408 .bf16) (harg13 : arg13.IsWhole) (arg14 : Memref sig .tc .vmem S256x2944 .bf16) (harg14 : arg14.IsWhole)
    (x0 : Vec F S256x2880 .fp8e4m3) (x1 : Vec F S256x128 .f32) (x2 : Vec F S1x2880x4352 .fp8e4m3) (x3 : Vec F S1x1x4352 .f32) (x4 : Vec F S1x1x4352 .f32) (x7 : Vec F S256x1408 .bf16) (x8 : Vec F S256x2944 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 (wG c i xt1)) (hc0 : ¬ cond0 c i xt0 xt1 xt2 xt3 k0_hw1) (hc1 : ¬ cond1 c i xt0 xt1 xt2 xt3 k0_hw1) (hc2 : cond2 c i xt0 xt1 xt2 xt3 k0_hw1) (hc3 : ¬ cond3 c i xt0 xt1 xt2 xt3 k0_hw1) :
    Σ' (L7 : List (View.Piece (Elt F) S256x1408 .bf16)) (L8 : List (View.Piece (Elt F) S256x2944 .bf16)),
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg13 fullShare x7 ∗ owns (c : Thread nD τ) arg14 fullShare x8 ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (arg13.view.loc (c : Thread nD τ) ↦[arg13.view.set]{fullShare} arg13.view.writes (Elt F) (harg13.unread x7) L7) ∗ (arg14.view.loc (c : Thread nD τ) ↦[arg14.view.set]{fullShare} arg14.view.writes (Elt F) (harg14.unread x8) L8) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_qkv i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14) K := by
  refine ⟨?_, ?_, fun E K => ?run⟩
  case run =>
    simp only [cc0_qkv_eq_skeleton]; unfold cc0_qkv_skel
    simp only [k0_part75_eq_skeleton]; unfold k0_part75_skel
    simp only [k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, HT0, HT1, HT2, HT3, Hk⟩
    obtain rfl := harg6.eq_unread hf0
    obtain rfl := harg7.eq_unread hf1
    obtain rfl := harg8.eq_unread hf2
    obtain rfl := harg9.eq_unread hf3
    obtain rfl := harg10.eq_unread hf4
    obtain rfl := harg13.eq_unread hf7
    obtain rfl := harg14.eq_unread hf8
    sl_exec (disch := first | sl_exact hc0 | sl_exact hc1 | sl_exact hc2 | sl_exact hc3 | sl_exact k0_hw1)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H7]; · iexact H7
    isplitl [H8]; · iexact H8
    isplitl [HT0]; · iexact HT0
    isplitl [HT1]; · iexact HT1
    isplitl [HT2]; · iexact HT2
    iexact HT3

end Cert.QkvIdeal.Gen

end
-- ==== Proof.QkvIdeal.RunM1.lean ====
/- The body's triple at a point that does the masked store of the second half of the columns. -/
module

public import proofs.«01_k».proof.Proof.QkvIdeal.Kit

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- At a point that does the masked store of the second half of the columns: the pieces stored into each of its two output windows. -/
def kernelRunM1 (c : Dev nD) (i : grid0.Coords) (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole) (arg11 : Memref sig .tc .vmem S6144x128 .f32) (harg11 : arg11.IsWhole) (arg12 : Memref sig .tc .vmem S256x1536 .bf16) (harg12 : arg12.IsWhole) (arg13 : Memref sig .tc .vmem S256x1408 .bf16) (harg13 : arg13.IsWhole) (arg14 : Memref sig .tc .vmem S256x2944 .bf16) (harg14 : arg14.IsWhole)
    (x0 : Vec F S256x2880 .fp8e4m3) (x1 : Vec F S256x128 .f32) (x2 : Vec F S1x2880x4352 .fp8e4m3) (x3 : Vec F S1x1x4352 .f32) (x4 : Vec F S1x1x4352 .f32) (x7 : Vec F S256x1408 .bf16) (x8 : Vec F S256x2944 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 (wG c i xt1)) (hc0 : ¬ cond0 c i xt0 xt1 xt2 xt3 k0_hw1) (hc1 : ¬ cond1 c i xt0 xt1 xt2 xt3 k0_hw1) (hc2 : ¬ cond2 c i xt0 xt1 xt2 xt3 k0_hw1) (hc3 : cond3 c i xt0 xt1 xt2 xt3 k0_hw1) :
    Σ' (L7 : List (View.Piece (Elt F) S256x1408 .bf16)) (L8 : List (View.Piece (Elt F) S256x2944 .bf16)),
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg13 fullShare x7 ∗ owns (c : Thread nD τ) arg14 fullShare x8 ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (arg13.view.loc (c : Thread nD τ) ↦[arg13.view.set]{fullShare} arg13.view.writes (Elt F) (harg13.unread x7) L7) ∗ (arg14.view.loc (c : Thread nD τ) ↦[arg14.view.set]{fullShare} arg14.view.writes (Elt F) (harg14.unread x8) L8) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_qkv i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14) K := by
  refine ⟨?_, ?_, fun E K => ?run⟩
  case run =>
    simp only [cc0_qkv_eq_skeleton]; unfold cc0_qkv_skel
    simp only [k0_part75_eq_skeleton]; unfold k0_part75_skel
    simp only [k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, HT0, HT1, HT2, HT3, Hk⟩
    obtain rfl := harg6.eq_unread hf0
    obtain rfl := harg7.eq_unread hf1
    obtain rfl := harg8.eq_unread hf2
    obtain rfl := harg9.eq_unread hf3
    obtain rfl := harg10.eq_unread hf4
    obtain rfl := harg13.eq_unread hf7
    obtain rfl := harg14.eq_unread hf8
    sl_exec (disch := first | sl_exact hc0 | sl_exact hc1 | sl_exact hc2 | sl_exact hc3 | sl_exact k0_hw1)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H7]; · iexact H7
    isplitl [H8]; · iexact H8
    isplitl [HT0]; · iexact HT0
    isplitl [HT1]; · iexact HT1
    isplitl [HT2]; · iexact HT2
    iexact HT3

end Cert.QkvIdeal.Gen

end
-- ==== Proof.QkvIdeal.Frame.lean ====
/- The kernel's run with its output windows held to relations: the body obligation, the run, and the frame. -/
module

public import proofs.«01_k».proof.Proof.QkvIdeal.RunN
public import proofs.«01_k».proof.Proof.QkvIdeal.RunF0
public import proofs.«01_k».proof.Proof.QkvIdeal.RunM0
public import proofs.«01_k».proof.Proof.QkvIdeal.RunF1
public import proofs.«01_k».proof.Proof.QkvIdeal.RunM1

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {m} in
/-- The side condition of the body at a point. -/
theorem Hyps.c0 {hO : Ok m} (hH : Hyps m hO) (c : Dev nD) (t : Fin (cfgM m hO).N) : k0_chk1 (wG c (grid0.coords t) (tbl m 1)) := hH c t

/-! ## The four conditions, taken apart -/

/-- A type, from `b` to `c`, covers the tile `a`. -/
def fullW (a b c : BitVec 32) : BitVec 1 :=
  Scalar.andi (Scalar.cmpi .sle (Scalar.subi b (Scalar.muli a 256#32)) 0#32) (Scalar.cmpi .sge (Scalar.subi c (Scalar.muli a 256#32)) 256#32)

theorem side0 (i : grid0.Coords) : Scalar.cmpi .eq (BitVec.ofNat 32 (i 0).val) 0#32 = 1#1 ↔ (i 0).val = 0 := by
  have h : ∀ n : Fin 2, Scalar.cmpi .eq (BitVec.ofNat 32 n.val) 0#32 = 1#1 ↔ n.val = 0 := by decide
  exact h (i 0)
theorem side1 (i : grid0.Coords) : Scalar.cmpi .eq (BitVec.ofNat 32 (i 0).val) 1#32 = 1#1 ↔ (i 0).val = 1 := by
  have h : ∀ n : Fin 2, Scalar.cmpi .eq (BitVec.ofNat 32 n.val) 1#32 = 1#1 ↔ n.val = 1 := by decide
  exact h (i 0)
theorem bits0 : ∀ x y z : BitVec 1, Scalar.cmpi .ne (Scalar.extui (Scalar.andi (Scalar.andi x (Scalar.xori y 0#1)) z) : BitVec 32) 0#32 = 1#1 ↔ x = 1#1 ∧ y = 1#1 ∧ z = 1#1 := by decide
theorem bits1 : ∀ x y z : BitVec 1, Scalar.cmpi .ne (Scalar.extui (Scalar.andi (Scalar.andi x (Scalar.xori y 1#1)) z) : BitVec 32) 0#32 = 1#1 ↔ x = 1#1 ∧ ¬ y = 1#1 ∧ z = 1#1 := by decide
theorem cond0_split (i : grid0.Coords) (a b c d : BitVec 32) : k0_cond1 i a b c d = 1#1 ↔ (i 0).val = 0 ∧ fullW a b c = 1#1 ∧ Scalar.cmpi .sgt d 0#32 = 1#1 := by
  rw [← side0 i]; exact bits0 _ _ _
theorem cond1_split (i : grid0.Coords) (a b c d : BitVec 32) : k0_cond2 i a b c d = 1#1 ↔ (i 0).val = 0 ∧ ¬ fullW a b c = 1#1 ∧ Scalar.cmpi .sgt d 0#32 = 1#1 := by
  rw [← side0 i]; exact bits1 _ _ _
theorem cond2_split (i : grid0.Coords) (a b c d : BitVec 32) : k0_cond3 i a b c d = 1#1 ↔ (i 0).val = 1 ∧ fullW a b c = 1#1 ∧ Scalar.cmpi .sgt d 0#32 = 1#1 := by
  rw [← side1 i]; exact bits0 _ _ _
theorem cond3_split (i : grid0.Coords) (a b c d : BitVec 32) : k0_cond4 i a b c d = 1#1 ↔ (i 0).val = 1 ∧ ¬ fullW a b c = 1#1 ∧ Scalar.cmpi .sgt d 0#32 = 1#1 := by
  rw [← side1 i]; exact bits1 _ _ _
theorem excl01 {i : grid0.Coords} {a b c d e : BitVec 32} (h : k0_cond1 i a b c d = 1#1) : ¬ k0_cond2 i a b c e = 1#1 := fun g => by
  rw [cond0_split] at h; rw [cond1_split] at g; exact g.2.1 h.2.1
theorem excl02 {i : grid0.Coords} {a b c d e : BitVec 32} (h : k0_cond1 i a b c d = 1#1) : ¬ k0_cond3 i a b c e = 1#1 := fun g => by
  rw [cond0_split] at h; rw [cond2_split] at g; have := h.1; have := g.1; omega
theorem excl03 {i : grid0.Coords} {a b c d e : BitVec 32} (h : k0_cond1 i a b c d = 1#1) : ¬ k0_cond4 i a b c e = 1#1 := fun g => by
  rw [cond0_split] at h; rw [cond3_split] at g; have := h.1; have := g.1; omega
theorem excl10 {i : grid0.Coords} {a b c d e : BitVec 32} (h : k0_cond2 i a b c d = 1#1) : ¬ k0_cond1 i a b c e = 1#1 := fun g => by
  rw [cond1_split] at h; rw [cond0_split] at g; exact h.2.1 g.2.1
theorem excl12 {i : grid0.Coords} {a b c d e : BitVec 32} (h : k0_cond2 i a b c d = 1#1) : ¬ k0_cond3 i a b c e = 1#1 := fun g => by
  rw [cond1_split] at h; rw [cond2_split] at g; have := h.1; have := g.1; omega
theorem excl13 {i : grid0.Coords} {a b c d e : BitVec 32} (h : k0_cond2 i a b c d = 1#1) : ¬ k0_cond4 i a b c e = 1#1 := fun g => by
  rw [cond1_split] at h; rw [cond3_split] at g; have := h.1; have := g.1; omega
theorem excl20 {i : grid0.Coords} {a b c d e : BitVec 32} (h : k0_cond3 i a b c d = 1#1) : ¬ k0_cond1 i a b c e = 1#1 := fun g => by
  rw [cond2_split] at h; rw [cond0_split] at g; have := h.1; have := g.1; omega
theorem excl21 {i : grid0.Coords} {a b c d e : BitVec 32} (h : k0_cond3 i a b c d = 1#1) : ¬ k0_cond2 i a b c e = 1#1 := fun g => by
  rw [cond2_split] at h; rw [cond1_split] at g; have := h.1; have := g.1; omega
theorem excl23 {i : grid0.Coords} {a b c d e : BitVec 32} (h : k0_cond3 i a b c d = 1#1) : ¬ k0_cond4 i a b c e = 1#1 := fun g => by
  rw [cond2_split] at h; rw [cond3_split] at g; exact g.2.1 h.2.1
theorem excl30 {i : grid0.Coords} {a b c d e : BitVec 32} (h : k0_cond4 i a b c d = 1#1) : ¬ k0_cond1 i a b c e = 1#1 := fun g => by
  rw [cond3_split] at h; rw [cond0_split] at g; have := h.1; have := g.1; omega
theorem excl31 {i : grid0.Coords} {a b c d e : BitVec 32} (h : k0_cond4 i a b c d = 1#1) : ¬ k0_cond2 i a b c e = 1#1 := fun g => by
  rw [cond3_split] at h; rw [cond1_split] at g; have := h.1; have := g.1; omega
theorem excl32 {i : grid0.Coords} {a b c d e : BitVec 32} (h : k0_cond4 i a b c d = 1#1) : ¬ k0_cond3 i a b c e = 1#1 := fun g => by
  rw [cond3_split] at h; rw [cond2_split] at g; exact h.2.1 g.2.1

/-! ## The proof data: the inputs at their blocks, the outputs held to relations -/

/-- The windows whose contents are held to a relation: the outputs'. -/
def held0 : Fin 9 → Bool := fun w => 5 ≤ w.val

/-- What the body leaves in each output window at point `t`, of what it found there: the pieces of the store that the
    point's words select, over the old contents; at a point that stores nothing there, the old contents. -/
def step5 (hO : Ok m) (hH : Hyps m hO) (c : Dev nD) (t : Fin (cfgM m hO).N) (Y5 : Vec F S6144x128 .f32) (Y6 : Vec F S256x1536 .bf16) : Vec F S6144x128 .f32 :=
  open Classical in
  if h0 : cond0 c (grid0.coords t) (tbl m 0) (tbl m 1) (tbl m 2) (tbl m 3) (Hyps.c0 hH c t) then (ms0_5 m hO t).view.read (Elt F) ((ms0_5 m hO t).view.writes (Elt F) ((hs0_5 m hO t).unread Y5) (kernelRunF0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) h0 (excl01 h0) (excl02 h0) (excl03 h0)).1)
  else if h1 : cond1 c (grid0.coords t) (tbl m 0) (tbl m 1) (tbl m 2) (tbl m 3) (Hyps.c0 hH c t) then (ms0_5 m hO t).view.read (Elt F) ((ms0_5 m hO t).view.writes (Elt F) ((hs0_5 m hO t).unread Y5) (kernelRunM0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) (excl10 h1) h1 (excl12 h1) (excl13 h1)).1)
  else Y5
def step6 (hO : Ok m) (hH : Hyps m hO) (c : Dev nD) (t : Fin (cfgM m hO).N) (Y5 : Vec F S6144x128 .f32) (Y6 : Vec F S256x1536 .bf16) : Vec F S256x1536 .bf16 :=
  open Classical in
  if h0 : cond0 c (grid0.coords t) (tbl m 0) (tbl m 1) (tbl m 2) (tbl m 3) (Hyps.c0 hH c t) then (ms0_6 m hO t).view.read (Elt F) ((ms0_6 m hO t).view.writes (Elt F) ((hs0_6 m hO t).unread Y6) (kernelRunF0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) h0 (excl01 h0) (excl02 h0) (excl03 h0)).2.1)
  else if h1 : cond1 c (grid0.coords t) (tbl m 0) (tbl m 1) (tbl m 2) (tbl m 3) (Hyps.c0 hH c t) then (ms0_6 m hO t).view.read (Elt F) ((ms0_6 m hO t).view.writes (Elt F) ((hs0_6 m hO t).unread Y6) (kernelRunM0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) (excl10 h1) h1 (excl12 h1) (excl13 h1)).2.1)
  else Y6
def step7 (hO : Ok m) (hH : Hyps m hO) (c : Dev nD) (t : Fin (cfgM m hO).N) (Y7 : Vec F S256x1408 .bf16) (Y8 : Vec F S256x2944 .bf16) : Vec F S256x1408 .bf16 :=
  open Classical in
  if h2 : cond2 c (grid0.coords t) (tbl m 0) (tbl m 1) (tbl m 2) (tbl m 3) (Hyps.c0 hH c t) then (ms0_7 m hO t).view.read (Elt F) ((ms0_7 m hO t).view.writes (Elt F) ((hs0_7 m hO t).unread Y7) (kernelRunF1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl20 h2) (excl21 h2) h2 (excl23 h2)).1)
  else if h3 : cond3 c (grid0.coords t) (tbl m 0) (tbl m 1) (tbl m 2) (tbl m 3) (Hyps.c0 hH c t) then (ms0_7 m hO t).view.read (Elt F) ((ms0_7 m hO t).view.writes (Elt F) ((hs0_7 m hO t).unread Y7) (kernelRunM1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl30 h3) (excl31 h3) (excl32 h3) h3).1)
  else Y7
def step8 (hO : Ok m) (hH : Hyps m hO) (c : Dev nD) (t : Fin (cfgM m hO).N) (Y7 : Vec F S256x1408 .bf16) (Y8 : Vec F S256x2944 .bf16) : Vec F S256x2944 .bf16 :=
  open Classical in
  if h2 : cond2 c (grid0.coords t) (tbl m 0) (tbl m 1) (tbl m 2) (tbl m 3) (Hyps.c0 hH c t) then (ms0_8 m hO t).view.read (Elt F) ((ms0_8 m hO t).view.writes (Elt F) ((hs0_8 m hO t).unread Y8) (kernelRunF1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl20 h2) (excl21 h2) h2 (excl23 h2)).2.1)
  else if h3 : cond3 c (grid0.coords t) (tbl m 0) (tbl m 1) (tbl m 2) (tbl m 3) (Hyps.c0 hH c t) then (ms0_8 m hO t).view.read (Elt F) ((ms0_8 m hO t).view.writes (Elt F) ((hs0_8 m hO t).unread Y8) (kernelRunM1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl30 h3) (excl31 h3) (excl32 h3) h3).2.1)
  else Y8

section
variable (hO : Ok m) (hH : Hyps m hO) (c : Dev nD) (t : Fin (cfgM m hO).N)
theorem step5_F (Y5 : Vec F S6144x128 .f32) (Y6 : Vec F S256x1536 .bf16) (h0 : cond0 c (grid0.coords t) (tbl m 0) (tbl m 1) (tbl m 2) (tbl m 3) (Hyps.c0 hH c t)) :
    step5 m hO hH c t Y5 Y6 = (ms0_5 m hO t).view.read (Elt F) ((ms0_5 m hO t).view.writes (Elt F) ((hs0_5 m hO t).unread Y5) (kernelRunF0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) h0 (excl01 h0) (excl02 h0) (excl03 h0)).1) := dif_pos h0
theorem step5_M (Y5 : Vec F S6144x128 .f32) (Y6 : Vec F S256x1536 .bf16) (h1 : cond1 c (grid0.coords t) (tbl m 0) (tbl m 1) (tbl m 2) (tbl m 3) (Hyps.c0 hH c t)) :
    step5 m hO hH c t Y5 Y6 = (ms0_5 m hO t).view.read (Elt F) ((ms0_5 m hO t).view.writes (Elt F) ((hs0_5 m hO t).unread Y5) (kernelRunM0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) (excl10 h1) h1 (excl12 h1) (excl13 h1)).1) := (dif_neg (excl10 h1)).trans (dif_pos h1)
theorem step5_N (Y5 : Vec F S6144x128 .f32) (Y6 : Vec F S256x1536 .bf16) (h0 : ¬ cond0 c (grid0.coords t) (tbl m 0) (tbl m 1) (tbl m 2) (tbl m 3) (Hyps.c0 hH c t)) (h1 : ¬ cond1 c (grid0.coords t) (tbl m 0) (tbl m 1) (tbl m 2) (tbl m 3) (Hyps.c0 hH c t)) : step5 m hO hH c t Y5 Y6 = Y5 := (dif_neg h0).trans (dif_neg h1)
theorem step6_F (Y5 : Vec F S6144x128 .f32) (Y6 : Vec F S256x1536 .bf16) (h0 : cond0 c (grid0.coords t) (tbl m 0) (tbl m 1) (tbl m 2) (tbl m 3) (Hyps.c0 hH c t)) :
    step6 m hO hH c t Y5 Y6 = (ms0_6 m hO t).view.read (Elt F) ((ms0_6 m hO t).view.writes (Elt F) ((hs0_6 m hO t).unread Y6) (kernelRunF0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) h0 (excl01 h0) (excl02 h0) (excl03 h0)).2.1) := dif_pos h0
theorem step6_M (Y5 : Vec F S6144x128 .f32) (Y6 : Vec F S256x1536 .bf16) (h1 : cond1 c (grid0.coords t) (tbl m 0) (tbl m 1) (tbl m 2) (tbl m 3) (Hyps.c0 hH c t)) :
    step6 m hO hH c t Y5 Y6 = (ms0_6 m hO t).view.read (Elt F) ((ms0_6 m hO t).view.writes (Elt F) ((hs0_6 m hO t).unread Y6) (kernelRunM0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) (excl10 h1) h1 (excl12 h1) (excl13 h1)).2.1) := (dif_neg (excl10 h1)).trans (dif_pos h1)
theorem step6_N (Y5 : Vec F S6144x128 .f32) (Y6 : Vec F S256x1536 .bf16) (h0 : ¬ cond0 c (grid0.coords t) (tbl m 0) (tbl m 1) (tbl m 2) (tbl m 3) (Hyps.c0 hH c t)) (h1 : ¬ cond1 c (grid0.coords t) (tbl m 0) (tbl m 1) (tbl m 2) (tbl m 3) (Hyps.c0 hH c t)) : step6 m hO hH c t Y5 Y6 = Y6 := (dif_neg h0).trans (dif_neg h1)
theorem step7_F (Y7 : Vec F S256x1408 .bf16) (Y8 : Vec F S256x2944 .bf16) (h2 : cond2 c (grid0.coords t) (tbl m 0) (tbl m 1) (tbl m 2) (tbl m 3) (Hyps.c0 hH c t)) :
    step7 m hO hH c t Y7 Y8 = (ms0_7 m hO t).view.read (Elt F) ((ms0_7 m hO t).view.writes (Elt F) ((hs0_7 m hO t).unread Y7) (kernelRunF1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl20 h2) (excl21 h2) h2 (excl23 h2)).1) := dif_pos h2
theorem step7_M (Y7 : Vec F S256x1408 .bf16) (Y8 : Vec F S256x2944 .bf16) (h3 : cond3 c (grid0.coords t) (tbl m 0) (tbl m 1) (tbl m 2) (tbl m 3) (Hyps.c0 hH c t)) :
    step7 m hO hH c t Y7 Y8 = (ms0_7 m hO t).view.read (Elt F) ((ms0_7 m hO t).view.writes (Elt F) ((hs0_7 m hO t).unread Y7) (kernelRunM1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl30 h3) (excl31 h3) (excl32 h3) h3).1) := (dif_neg (excl32 h3)).trans (dif_pos h3)
theorem step7_N (Y7 : Vec F S256x1408 .bf16) (Y8 : Vec F S256x2944 .bf16) (h2 : ¬ cond2 c (grid0.coords t) (tbl m 0) (tbl m 1) (tbl m 2) (tbl m 3) (Hyps.c0 hH c t)) (h3 : ¬ cond3 c (grid0.coords t) (tbl m 0) (tbl m 1) (tbl m 2) (tbl m 3) (Hyps.c0 hH c t)) : step7 m hO hH c t Y7 Y8 = Y7 := (dif_neg h2).trans (dif_neg h3)
theorem step8_F (Y7 : Vec F S256x1408 .bf16) (Y8 : Vec F S256x2944 .bf16) (h2 : cond2 c (grid0.coords t) (tbl m 0) (tbl m 1) (tbl m 2) (tbl m 3) (Hyps.c0 hH c t)) :
    step8 m hO hH c t Y7 Y8 = (ms0_8 m hO t).view.read (Elt F) ((ms0_8 m hO t).view.writes (Elt F) ((hs0_8 m hO t).unread Y8) (kernelRunF1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl20 h2) (excl21 h2) h2 (excl23 h2)).2.1) := dif_pos h2
theorem step8_M (Y7 : Vec F S256x1408 .bf16) (Y8 : Vec F S256x2944 .bf16) (h3 : cond3 c (grid0.coords t) (tbl m 0) (tbl m 1) (tbl m 2) (tbl m 3) (Hyps.c0 hH c t)) :
    step8 m hO hH c t Y7 Y8 = (ms0_8 m hO t).view.read (Elt F) ((ms0_8 m hO t).view.writes (Elt F) ((hs0_8 m hO t).unread Y8) (kernelRunM1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl30 h3) (excl31 h3) (excl32 h3) h3).2.1) := (dif_neg (excl32 h3)).trans (dif_pos h3)
theorem step8_N (Y7 : Vec F S256x1408 .bf16) (Y8 : Vec F S256x2944 .bf16) (h2 : ¬ cond2 c (grid0.coords t) (tbl m 0) (tbl m 1) (tbl m 2) (tbl m 3) (Hyps.c0 hH c t)) (h3 : ¬ cond3 c (grid0.coords t) (tbl m 0) (tbl m 1) (tbl m 2) (tbl m 3) (Hyps.c0 hH c t)) : step8 m hO hH c t Y7 Y8 = Y8 := (dif_neg h2).trans (dif_neg h3)
end

/-- The proof data of the call on core `c`: the arrays as the call finds them, each input's buffer at its block; the
    outputs' contents are given by relations, so nothing is named for them here. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The data's arrays are those that the call finds. -/
theorem A_eq (hO : Ok m) (hH : Hyps m hO) (c : Dev nD) (w : Fin (cfgM m hO).W) : (dats m hO hH 0 c).A w = V m c (Pipeline.arrRef spec0 w) := by
  dsimp only [dats]

theorem after0_0 (hO : Ok m) (hH : Hyps m hO) (c : Dev nD) (t : Fin (cfgM m hO).N) : (dats m hO hH 0 c).after 0 t = iblk m hO c 0 t := by dsimp only [dats]; try rfl
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem after0_1 (hO : Ok m) (hH : Hyps m hO) (c : Dev nD) (t : Fin (cfgM m hO).N) : (dats m hO hH 0 c).after 1 t = iblk m hO c 1 t := by dsimp only [dats]; try rfl
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem after0_2 (hO : Ok m) (hH : Hyps m hO) (c : Dev nD) (t : Fin (cfgM m hO).N) : (dats m hO hH 0 c).after 2 t = iblk m hO c 2 t := by dsimp only [dats]; try rfl
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem after0_3 (hO : Ok m) (hH : Hyps m hO) (c : Dev nD) (t : Fin (cfgM m hO).N) : (dats m hO hH 0 c).after 3 t = iblk m hO c 3 t := by dsimp only [dats]; try rfl
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem after0_4 (hO : Ok m) (hH : Hyps m hO) (c : Dev nD) (t : Fin (cfgM m hO).N) : (dats m hO hH 0 c).after 4 t = iblk m hO c 4 t := by dsimp only [dats]; try rfl
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

set_option maxHeartbeats 4000000 in
/-- A relation on each output window's contents after each point. -/
structure Rels (hO : Ok m) where
  r5 : Dev nD → Fin (cfgM m hO).N → Vec F S6144x128 .f32 → Prop
  r6 : Dev nD → Fin (cfgM m hO).N → Vec F S256x1536 .bf16 → Prop
  r7 : Dev nD → Fin (cfgM m hO).N → Vec F S256x1408 .bf16 → Prop
  r8 : Dev nD → Fin (cfgM m hO).N → Vec F S256x2944 .bf16 → Prop

variable {m} in
/-- The relations, as one on every window's contents. -/
def Rels.rel {hO : Ok m} (R : Rels m hO) (c : Dev nD) :
    (w : Fin (cfgM m hO).W) → Fin (cfgM m hO).N → (((cfgM m hO).win w).block.Idx → Elt F ((cfgM m hO).win w).elt) → Prop :=
  fun w t X => match w with
    | ⟨5, _⟩ => R.r5 c t X
    | ⟨6, _⟩ => R.r6 c t X
    | ⟨7, _⟩ => R.r7 c t X
    | ⟨8, _⟩ => R.r8 c t X
    | _ => True

/-- The relational data: the exact data with the outputs held to `R`. -/
abbrev rdats (hO : Ok m) (hH : Hyps m hO) (R : Rels m hO) (c : Dev nD) :
    RDat τ (Elt F) Unit ℕ (UR sig nD τ) ℕ (cfgM m hO) c := (dats m hO hH 0 c).toRRel held0 (R.rel c)

/-- `R` is kept: from anything that the body may find in the output windows, its steps end in `R`. -/
structure Kept (hO : Ok m) (hH : Hyps m hO) (R : Rels m hO) : Prop where
  k5 : ∀ c t (Y5 : Vec F S6144x128 .f32) (Y6 : Vec F S256x1536 .bf16), (rdats m hO hH R c).Finds 5 t Y5 → (rdats m hO hH R c).Finds 6 t Y6 → R.r5 c t (step5 m hO hH c t Y5 Y6)
  k6 : ∀ c t (Y5 : Vec F S6144x128 .f32) (Y6 : Vec F S256x1536 .bf16), (rdats m hO hH R c).Finds 5 t Y5 → (rdats m hO hH R c).Finds 6 t Y6 → R.r6 c t (step6 m hO hH c t Y5 Y6)
  k7 : ∀ c t (Y7 : Vec F S256x1408 .bf16) (Y8 : Vec F S256x2944 .bf16), (rdats m hO hH R c).Finds 7 t Y7 → (rdats m hO hH R c).Finds 8 t Y8 → R.r7 c t (step7 m hO hH c t Y7 Y8)
  k8 : ∀ c t (Y7 : Vec F S256x1408 .bf16) (Y8 : Vec F S256x2944 .bf16), (rdats m hO hH R c).Finds 7 t Y7 → (rdats m hO hH R c).Finds 8 t Y8 → R.r8 c t (step8 m hO hH c t Y7 Y8)

/-- What the body is called with at point `t`, -/
def bodyPre (hO : Ok m) (hH : Hyps m hO) (R : Rels m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ Y, ⌜(rdats m hO hH R c).Finds 5 t Y⌝ ∗ owns (c : Thread nD τ) (ms0_5 m hO t) fullShare Y)
    ∗ (∃ Y, ⌜(rdats m hO hH R c).Finds 6 t Y⌝ ∗ owns (c : Thread nD τ) (ms0_6 m hO t) fullShare Y)
    ∗ (∃ Y, ⌜(rdats m hO hH R c).Finds 7 t Y⌝ ∗ owns (c : Thread nD τ) (ms0_7 m hO t) fullShare Y)
    ∗ (∃ Y, ⌜(rdats m hO hH R c).Finds 8 t Y⌝ ∗ owns (c : Thread nD τ) (ms0_8 m hO t) fullShare Y))

/-- and what it returns. -/
def bodyPost (hO : Ok m) (hH : Hyps m hO) (R : Rels m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ (∃ X, ⌜R.r5 c t X⌝ ∗ owns (c : Thread nD τ) (ms0_5 m hO t) fullShare X)
    ∗ (∃ X, ⌜R.r6 c t X⌝ ∗ owns (c : Thread nD τ) (ms0_6 m hO t) fullShare X)
    ∗ (∃ X, ⌜R.r7 c t X⌝ ∗ owns (c : Thread nD τ) (ms0_7 m hO t) fullShare X)
    ∗ (∃ X, ⌜R.r8 c t X⌝ ∗ owns (c : Thread nD τ) (ms0_8 m hO t) fullShare X))

set_option maxHeartbeats 6400000 in
/-- The body at any point: the inputs' memrefs hold their blocks, so the run of the case applies; each output ends at its
    step, which `R` holds of. -/
theorem sound_body (hO : Ok m) (hH : Hyps m hO) (R : Rels m hO) (hK : Kept m hO hH R) (c : Dev nD) (t : Fin (cfgM m hO).N) :
    bodyPre m hO hH R c t ⊢ wp frame (wpE (defs₀ (F := F)) Variants.none c none) Set.univ (bodyAt0 (adm m hO) t) (fun _ => bodyPost m hO hH R c t) := by
  unfold bodyPre bodyPost bodyAt0
  simp only [before0_0, before0_1, before0_2, before0_3, before0_4, after0_0, after0_1, after0_2, after0_3, after0_4]
  rw [show (dats m hO hH 0 c).Φ t.succ = (dats m hO hH 0 c).Φ t.castSucc from rfl,
    show (dats m hO hH 0 c).owesAt () t.succ = (dats m hO hH 0 c).owesAt () t.castSucc from rfl]
  rw [show (dats m hO hH 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩, ⟨%Y8, %hY8, H8⟩⟩
  have hR5 := hK.k5 c t Y5 Y6 hY5 hY6
  have hR6 := hK.k6 c t Y5 Y6 hY5 hY6
  have hR7 := hK.k7 c t Y7 Y8 hY7 hY8
  have hR8 := hK.k8 c t Y7 Y8 hY7 hY8
  by_cases h0 : cond0 c (grid0.coords t) (tbl m 0) (tbl m 1) (tbl m 2) (tbl m 3) (Hyps.c0 hH c t)
  · have hR5 := (step5_F m hO hH c t Y5 Y6 h0) ▸ hR5
    have hR6 := (step6_F m hO hH c t Y5 Y6 h0) ▸ hR6
    have hR7 := (step7_N m hO hH c t Y7 Y8 (excl02 h0) (excl03 h0)) ▸ hR7
    have hR8 := (step8_N m hO hH c t Y7 Y8 (excl02 h0) (excl03 h0)) ▸ hR8
    iapply ((kernelRunF0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) h0 (excl01 h0) (excl02 h0) (excl03 h0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    isplitl [HT3]; · iexact HT3
    iintro ⟨H0, H1, H2, H3, H4, H5, H6, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]
    · iexact Ho
    isplitl [H0]; · iexact H0
    isplitl [H1]; · iexact H1
    isplitl [H2]; · iexact H2
    isplitl [H3]; · iexact H3
    isplitl [H4]; · iexact H4
    isplitl [H5]
    · iexists _; isplitr
      · ipureintro; exact hR5
      unfold owns; iexists _; isplitr; swap; · iexact H5
      ipureintro; rfl
    isplitl [H6]
    · iexists _; isplitr
      · ipureintro; exact hR6
      unfold owns; iexists _; isplitr; swap; · iexact H6
      ipureintro; rfl
    isplitl [H7]
    · iexists Y7; isplitr
      · ipureintro; exact hR7
      iexact H7
    iexists Y8; isplitr
    · ipureintro; exact hR8
    iexact H8
  · skip
    by_cases h1 : cond1 c (grid0.coords t) (tbl m 0) (tbl m 1) (tbl m 2) (tbl m 3) (Hyps.c0 hH c t)
    · have hR5 := (step5_M m hO hH c t Y5 Y6 h1) ▸ hR5
      have hR6 := (step6_M m hO hH c t Y5 Y6 h1) ▸ hR6
      have hR7 := (step7_N m hO hH c t Y7 Y8 (excl12 h1) (excl13 h1)) ▸ hR7
      have hR8 := (step8_N m hO hH c t Y7 Y8 (excl12 h1) (excl13 h1)) ▸ hR8
      iapply ((kernelRunM0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y5 Y6 (tbl m 0) (tbl m 1) (tbl m 2) (tbl m 3) (Hyps.c0 hH c t) (excl10 h1) h1 (excl12 h1) (excl13 h1)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      isplitl [HT2]; · iexact HT2
      isplitl [HT3]; · iexact HT3
      iintro ⟨H0, H1, H2, H3, H4, H5, H6, HT0, HT1, HT2, HT3⟩
      isplitl [HΦ HT0 HT1 HT2 HT3]
      · isplitl [HΦ]
        · iexact HΦ
        isplitl [HT0]; · iexact HT0
        isplitl [HT1]; · iexact HT1
        isplitl [HT2]; · iexact HT2
        iexact HT3
      isplitl [Ho]
      · iexact Ho
      isplitl [H0]; · iexact H0
      isplitl [H1]; · iexact H1
      isplitl [H2]; · iexact H2
      isplitl [H3]; · iexact H3
      isplitl [H4]; · iexact H4
      isplitl [H5]
      · iexists _; isplitr
        · ipureintro; exact hR5
        unfold owns; iexists _; isplitr; swap; · iexact H5
        ipureintro; rfl
      isplitl [H6]
      · iexists _; isplitr
        · ipureintro; exact hR6
        unfold owns; iexists _; isplitr; swap; · iexact H6
        ipureintro; rfl
      isplitl [H7]
      · iexists Y7; isplitr
        · ipureintro; exact hR7
        iexact H7
      iexists Y8; isplitr
      · ipureintro; exact hR8
      iexact H8
    · skip
      by_cases h2 : cond2 c (grid0.coords t) (tbl m 0) (tbl m 1) (tbl m 2) (tbl m 3) (Hyps.c0 hH c t)
      · have hR5 := (step5_N m hO hH c t Y5 Y6 h0 h1) ▸ hR5
        have hR6 := (step6_N m hO hH c t Y5 Y6 h0 h1) ▸ hR6
        have hR7 := (step7_F m hO hH c t Y7 Y8 h2) ▸ hR7
        have hR8 := (step8_F m hO hH c t Y7 Y8 h2) ▸ hR8
        iapply ((kernelRunF1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl20 h2) (excl21 h2) h2 (excl23 h2)).2.2 Set.univ _)
        isplitl [H0]; · iexact H0
        isplitl [H1]; · iexact H1
        isplitl [H2]; · iexact H2
        isplitl [H3]; · iexact H3
        isplitl [H4]; · iexact H4
        isplitl [H7]; · iexact H7
        isplitl [H8]; · iexact H8
        isplitl [HT0]; · iexact HT0
        isplitl [HT1]; · iexact HT1
        isplitl [HT2]; · iexact HT2
        isplitl [HT3]; · iexact HT3
        iintro ⟨H0, H1, H2, H3, H4, H7, H8, HT0, HT1, HT2, HT3⟩
        isplitl [HΦ HT0 HT1 HT2 HT3]
        · isplitl [HΦ]
          · iexact HΦ
          isplitl [HT0]; · iexact HT0
          isplitl [HT1]; · iexact HT1
          isplitl [HT2]; · iexact HT2
          iexact HT3
        isplitl [Ho]
        · iexact Ho
        isplitl [H0]; · iexact H0
        isplitl [H1]; · iexact H1
        isplitl [H2]; · iexact H2
        isplitl [H3]; · iexact H3
        isplitl [H4]; · iexact H4
        isplitl [H5]
        · iexists Y5; isplitr
          · ipureintro; exact hR5
          iexact H5
        isplitl [H6]
        · iexists Y6; isplitr
          · ipureintro; exact hR6
          iexact H6
        isplitl [H7]
        · iexists _; isplitr
          · ipureintro; exact hR7
          unfold owns; iexists _; isplitr; swap; · iexact H7
          ipureintro; rfl
        iexists _; isplitr
        · ipureintro; exact hR8
        unfold owns; iexists _; isplitr; swap; · iexact H8
        ipureintro; rfl
      · skip
        by_cases h3 : cond3 c (grid0.coords t) (tbl m 0) (tbl m 1) (tbl m 2) (tbl m 3) (Hyps.c0 hH c t)
        · have hR5 := (step5_N m hO hH c t Y5 Y6 h0 h1) ▸ hR5
          have hR6 := (step6_N m hO hH c t Y5 Y6 h0 h1) ▸ hR6
          have hR7 := (step7_M m hO hH c t Y7 Y8 h3) ▸ hR7
          have hR8 := (step8_M m hO hH c t Y7 Y8 h3) ▸ hR8
          iapply ((kernelRunM1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Y7 Y8 (tbl m 0) (tbl m 1) (tbl m 2) (tbl m 3) (Hyps.c0 hH c t) (excl30 h3) (excl31 h3) (excl32 h3) h3).2.2 Set.univ _)
          isplitl [H0]; · iexact H0
          isplitl [H1]; · iexact H1
          isplitl [H2]; · iexact H2
          isplitl [H3]; · iexact H3
          isplitl [H4]; · iexact H4
          isplitl [H7]; · iexact H7
          isplitl [H8]; · iexact H8
          isplitl [HT0]; · iexact HT0
          isplitl [HT1]; · iexact HT1
          isplitl [HT2]; · iexact HT2
          isplitl [HT3]; · iexact HT3
          iintro ⟨H0, H1, H2, H3, H4, H7, H8, HT0, HT1, HT2, HT3⟩
          isplitl [HΦ HT0 HT1 HT2 HT3]
          · isplitl [HΦ]
            · iexact HΦ
            isplitl [HT0]; · iexact HT0
            isplitl [HT1]; · iexact HT1
            isplitl [HT2]; · iexact HT2
            iexact HT3
          isplitl [Ho]
          · iexact Ho
          isplitl [H0]; · iexact H0
          isplitl [H1]; · iexact H1
          isplitl [H2]; · iexact H2
          isplitl [H3]; · iexact H3
          isplitl [H4]; · iexact H4
          isplitl [H5]
          · iexists Y5; isplitr
            · ipureintro; exact hR5
            iexact H5
          isplitl [H6]
          · iexists Y6; isplitr
            · ipureintro; exact hR6
            iexact H6
          isplitl [H7]
          · iexists _; isplitr
            · ipureintro; exact hR7
            unfold owns; iexists _; isplitr; swap; · iexact H7
            ipureintro; rfl
          iexists _; isplitr
          · ipureintro; exact hR8
          unfold owns; iexists _; isplitr; swap; · iexact H8
          ipureintro; rfl
        · have hR5 := (step5_N m hO hH c t Y5 Y6 h0 h1) ▸ hR5
          have hR6 := (step6_N m hO hH c t Y5 Y6 h0 h1) ▸ hR6
          have hR7 := (step7_N m hO hH c t Y7 Y8 h2 h3) ▸ hR7
          have hR8 := (step8_N m hO hH c t Y7 Y8 h2 h3) ▸ hR8
          iapply ((kernelRunN c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl m 1) (tbl m 2) (tbl m 3) (Hyps.c0 hH c t) h0 h1 h2 h3) Set.univ _)
          isplitl [H0]; · iexact H0
          isplitl [H1]; · iexact H1
          isplitl [H2]; · iexact H2
          isplitl [H3]; · iexact H3
          isplitl [H4]; · iexact H4
          isplitl [HT0]; · iexact HT0
          isplitl [HT1]; · iexact HT1
          isplitl [HT2]; · iexact HT2
          isplitl [HT3]; · iexact HT3
          iintro ⟨H0, H1, H2, H3, H4, HT0, HT1, HT2, HT3⟩
          isplitl [HΦ HT0 HT1 HT2 HT3]
          · isplitl [HΦ]
            · iexact HΦ
            isplitl [HT0]; · iexact HT0
            isplitl [HT1]; · iexact HT1
            isplitl [HT2]; · iexact HT2
            iexact HT3
          isplitl [Ho]
          · iexact Ho
          isplitl [H0]; · iexact H0
          isplitl [H1]; · iexact H1
          isplitl [H2]; · iexact H2
          isplitl [H3]; · iexact H3
          isplitl [H4]; · iexact H4
          isplitl [H5]
          · iexists Y5; isplitr
            · ipureintro; exact hR5
            iexact H5
          isplitl [H6]
          · iexists Y6; isplitr
            · ipureintro; exact hR6
            iexact H6
          isplitl [H7]
          · iexists Y7; isplitr
            · ipureintro; exact hR7
            iexact H7
          iexists Y8; isplitr
          · ipureintro; exact hR8
          iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point. -/
theorem body_obligation (hO : Ok m) (hH : Hyps m hO) (R : Rels m hO) (hK : Kept m hO hH R) (c : Dev nD) :
    BodyObligationRel (dats (F := F) m hO hH 0 c) (defs₀ (F := F)) Variants.none () Set.univ held0 (R.rel c) := fun t => by
  rw [bigSep_W0, bigSep_W0, defs₀_row m hO]
  exact triple_restated (sound_body m hO hH R hK c t) rfl .rfl fun _ => .rfl

/-! ## The run and the frame -/

set_option backward.isDefEq.respectTransparency.types false in
/-- The run: it ends with the arrays as the relational data say and every semaphore at zero. -/
theorem run_main (hO : Ok m) (hH : Hyps m hO) (R : Rels m hO) (hK : Kept m hO hH R) :
    θ_run defs (onTc (τ := τ) (main (F := F))) (s₀ m ρ) (fun r => (Pipeline.RDat.FramePost ((Pipeline.pin pcfgs fun _ => adm m hO) 0) (rdats m hO hH R) (V m)) r ∧ r.2.sem = fun _ => 0) :=
  Pipeline.RDat.θ_run_frameP (Q' := _) pcfgs (fun _ => adm m hO) (0 : Fin 1) launch0 defs₀ Variants.none (rdats m hO hH R) m ρ main
    (hbody := fun c => (body_obligation m hO hH R hK c).toRRel) (hshare := fun c => (dats m hO hH 0 c).share_full fun _ => rfl)
    (howed := fun _ _ => rfl) (V := V m) (hmain := hmain m Variants.none) (hA := A_eq m hO hH) (hpf := V_pre m) (hΦ := fun _ _ => rfl)

/-- THE FRAME, at any `F`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  let R : Rels m hO := ⟨fun _ _ _ => True, fun _ _ _ => True, fun _ _ _ => True, fun _ _ _ => True⟩
  have hK : Kept m hO hH R := ⟨fun _ _ _ _ _ _ => trivial, fun _ _ _ _ _ _ => trivial, fun _ _ _ _ _ _ => trivial, fun _ _ _ _ _ _ => trivial⟩
  θ_run_and (frame_of m ρ hO (rdats m hO hH R) (A_eq m hO hH) ((θ_run defs _ _).mono (fun _ h => h.1) (run_main m ρ hO hH _ hK)))
    ((θ_run defs _ _).mono (fun _ h => h.2) (run_main m ρ hO hH _ hK))

end Cert.QkvIdeal.Gen

end
-- ==== Proof.QkvIdeal.Words.lean ====
/- The words of the tables at a grid point, the side conditions of the call from the tables, and the four conditions read. -/
module

public import proofs.«01_k».proof.Proof.QkvIdeal.Frame
public import proofs.«01_k».proof.Proof.Tables
public import Idealize.ShloMosaic.Lib.Pipeline.ValueKit.Geometry

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Visits (Tables)

/-! ## The words of the tables -/

/-- The one element of a one-element rectangle of a table sits at its offset. -/
theorem emb_unit {n : Nat} (off : Fin 1 → Nat) (inb : ∀ a, off a + S1.size a ≤ (⟨1, ![n]⟩ : Shape).size a) (h1 : (Rect.unit (s := ⟨1, ![n]⟩) off S1.size inb).shape.numel = 1) (j : Fin n) (h : off 0 = j.val) :
    (Rect.unit (s := ⟨1, ![n]⟩) off S1.size inb).emb (Shape.Idx.first (h1.symm ▸ Nat.one_pos)) = ix1 j := by
  funext a
  apply Fin.ext
  rw [ValueKit.rect_emb_unit_val]
  obtain rfl : a = 0 := Subsingleton.elim _ _
  have := ((Shape.Idx.first (s := (Rect.unit (s := ⟨1, ![n]⟩) off S1.size inb).shape) (h1.symm ▸ Nat.one_pos)) 0).isLt
  have e : (Rect.unit (s := ⟨1, ![n]⟩) off S1.size inb).shape.size 0 = 1 := rfl
  have this : ((Shape.Idx.first (s := (Rect.unit (s := ⟨1, ![n]⟩) off S1.size inb).shape) (h1.symm ▸ Nat.one_pos)) 0).val < 1 := this.trans_eq e
  show off 0 + _ = j.val
  omega

/-- A point as a position in the list of visits. -/
abbrev pos (i : grid0.Coords) : Fin 35 := ⟨(i 1).val, (i 1).isLt⟩

/-- A point's half of the columns. -/
abbrev half (i : grid0.Coords) : Fin 2 := ⟨(i 0).val, (i 0).isLt⟩

theorem off1_eq (i : grid0.Coords) : k0_off1 i 0 = (pos i).val := by
  have := (i 1).isLt
  change (i 1).val < 35 at this
  show (BitVec.ofNat _ _).toNat = (i 1).val
  simp only [BitVec.toNat_ofNat]
  omega

theorem half_word (i : grid0.Coords) : (BitVec.ofNat 32 (i 0).val).toNat = (half i).val := by
  have := (i 0).isLt
  change (i 0).val < 2 at this
  show (BitVec.ofNat _ _).toNat = (i 0).val
  simp only [BitVec.toNat_ofNat]
  omega
theorem off4_eq (i : grid0.Coords) : k0_off4 i 0 = (pos i).val := off1_eq i
theorem off5_eq (i : grid0.Coords) : k0_off5 i 0 = (pos i).val := off1_eq i
theorem off6_eq (i : grid0.Coords) : k0_off6 i 0 = (pos i).val := off1_eq i
theorem off7_eq (i : grid0.Coords) : k0_off7 i 0 = (pos i).val := off1_eq i

theorem tbl0 : tbl m 0 = (m ((0 : Dev nD).tc.loc main_arg0)) := V_main_arg0 m 0
theorem tbl1 : tbl m 1 = (m ((0 : Dev nD).tc.loc main_arg1)) := V_main_arg1 m 0
theorem tbl2 : tbl m 2 = (m ((0 : Dev nD).tc.loc main_arg3)) := V_main_arg3 m 0
theorem tbl3 : tbl m 3 = (m ((0 : Dev nD).tc.loc main_arg2)) := V_main_arg2 m 0

theorem wT_eq (c : Dev nD) (i : grid0.Coords) : wT c i (tbl m 0) = (m ((0 : Dev nD).tc.loc main_arg0)) (ix1 (pos i)) := by
  exact (congrFun (tbl0 m) _).trans (congrArg (m ((0 : Dev nD).tc.loc main_arg0)) (emb_unit _ _ numel1_S1 _ (off1_eq i)))
theorem wG_eq (c : Dev nD) (i : grid0.Coords) : wG c i (tbl m 1) = (m ((0 : Dev nD).tc.loc main_arg1)) (ix1 (pos i)) := by
  exact (congrFun (tbl1 m) _).trans (congrArg (m ((0 : Dev nD).tc.loc main_arg1)) (emb_unit _ _ numel1_S1 _ (off1_eq i)))
theorem wL0_eq (c : Dev nD) (i : grid0.Coords) : wL0 c i (tbl m 3) = (m ((0 : Dev nD).tc.loc main_arg2)) (ix1 (pos i)) := by
  exact (congrFun (tbl3 m) _).trans (congrArg (m ((0 : Dev nD).tc.loc main_arg2)) (emb_unit _ _ numel1_S1 _ (off4_eq i)))
theorem wL1_eq (c : Dev nD) (i : grid0.Coords) : wL1 c i (tbl m 3) = (m ((0 : Dev nD).tc.loc main_arg2)) (ix1 (pos i)) := by
  exact (congrFun (tbl3 m) _).trans (congrArg (m ((0 : Dev nD).tc.loc main_arg2)) (emb_unit _ _ numel1_S1 _ (off5_eq i)))
theorem wL2_eq (c : Dev nD) (i : grid0.Coords) : wL2 c i (tbl m 3) = (m ((0 : Dev nD).tc.loc main_arg2)) (ix1 (pos i)) := by
  exact (congrFun (tbl3 m) _).trans (congrArg (m ((0 : Dev nD).tc.loc main_arg2)) (emb_unit _ _ numel1_S1 _ (off6_eq i)))
theorem wL3_eq (c : Dev nD) (i : grid0.Coords) : wL3 c i (tbl m 3) = (m ((0 : Dev nD).tc.loc main_arg2)) (ix1 (pos i)) := by
  exact (congrFun (tbl3 m) _).trans (congrArg (m ((0 : Dev nD).tc.loc main_arg2)) (emb_unit _ _ numel1_S1 _ (off7_eq i)))

theorem off2_eq (v : BitVec 32) (g : Fin 4) (h : v.toNat = g.val) : k0_off2 v 0 = g.castSucc.val := by
  have hg := g.isLt
  have e : v = BitVec.ofNat 32 g.val := by apply BitVec.eq_of_toNat_eq; rw [h, BitVec.toNat_ofNat]; omega
  subst e
  clear h
  revert g; decide
theorem off3_eq (v : BitVec 32) (g : Fin 4) (h : v.toNat = g.val) : k0_off3 v 0 = g.succ.val := by
  have hg := g.isLt
  have e : v = BitVec.ofNat 32 g.val := by apply BitVec.eq_of_toNat_eq; rw [h, BitVec.toNat_ofNat]; omega
  subst e
  clear h
  revert g; decide

section
variable {m} (hT : Tables (m ((0 : Dev nD).tc.loc main_arg0)) (m ((0 : Dev nD).tc.loc main_arg1)) (m ((0 : Dev nD).tc.loc main_arg2)) (m ((0 : Dev nD).tc.loc main_arg3)))
include hT

/-- The tile and the type that a point visits. -/
def vTile (i : grid0.Coords) : Fin 32 := ⟨((m ((0 : Dev nD).tc.loc main_arg0)) (ix1 (pos i))).toNat, hT.tile_lt _⟩
def vType (i : grid0.Coords) : Fin 4 := ⟨((m ((0 : Dev nD).tc.loc main_arg1)) (ix1 (pos i))).toNat, hT.group_lt _⟩

theorem wLo_eq (c : Dev nD) (i : grid0.Coords) (h) : wLo c i (tbl m 1) (tbl m 2) h = (m ((0 : Dev nD).tc.loc main_arg3)) (ix1 (vType hT i).castSucc) := by
  have hw : (wG c i (tbl m 1)).toNat = (vType hT i).val := (congrArg BitVec.toNat (wG_eq m c i) :)
  exact (congrFun (tbl2 m) _).trans (congrArg (m ((0 : Dev nD).tc.loc main_arg3)) (emb_unit _ _ numel1_S1 _ (off2_eq _ (vType hT i) hw)))
theorem wHi_eq (c : Dev nD) (i : grid0.Coords) (h) : wHi c i (tbl m 1) (tbl m 2) h = (m ((0 : Dev nD).tc.loc main_arg3)) (ix1 (vType hT i).succ) := by
  have hw : (wG c i (tbl m 1)).toNat = (vType hT i).val := (congrArg BitVec.toNat (wG_eq m c i) :)
  exact (congrFun (tbl2 m) _).trans (congrArg (m ((0 : Dev nD).tc.loc main_arg3)) (emb_unit _ _ numel1_S1 _ (off3_eq _ (vType hT i) hw)))

/-! ## The side conditions -/

theorem chk_of_lt (v : BitVec 32) (h : v.toNat < 4) : k0_chk1 v := by
  refine ⟨fun a => ?_, fun a => ?_⟩ <;> obtain rfl : a = 0 := Subsingleton.elim _ _
  · rw [off2_eq v ⟨_, h⟩ rfl]; show v.toNat + 1 ≤ 5; omega
  · rw [off3_eq v ⟨_, h⟩ rfl]; show v.toNat + 1 + 1 ≤ 5; omega

theorem hyps_of_tables (hO : Ok m) : Hyps m hO := fun c t => by
  exact chk_of_lt hT _ (lt_of_eq_of_lt (congrArg BitVec.toNat (wG_eq m c (grid0.coords t))) (hT.group_lt _))

/-- The block of window 0 at a point. -/
theorem index0 (i : grid0.Coords) : cc0_transform_0 k0_off1_inb numel1_S1 (tbl m) i = ![(vTile hT i).val, 0] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_0
  match a with
  | ⟨0, _⟩ => exact e'
  | ⟨1, _⟩ => exact rfl
/-- The block of window 1 at a point. -/
theorem index1 (i : grid0.Coords) : cc0_transform_1 k0_off1_inb numel1_S1 (tbl m) i = ![(vTile hT i).val, 0] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_1
  match a with
  | ⟨0, _⟩ => exact e'
  | ⟨1, _⟩ => exact rfl
/-- The block of window 2 at a point. -/
theorem index2 (i : grid0.Coords) : cc0_transform_2 k0_off1_inb numel1_S1 (tbl m) i = ![(vType hT i).val, 0, (half i).val] := by
  have e : (tbl m).at 1 (Rect.unit (s := S35) (k0_off1 i) S1.size (k0_off1_inb i)) numel1_S1 = (m ((0 : Dev nD).tc.loc main_arg1)) (ix1 (pos i)) := by
    exact (congrFun (tbl1 m) _).trans (congrArg (m ((0 : Dev nD).tc.loc main_arg1)) (emb_unit _ _ numel1_S1 _ (off1_eq i)))
  have e' := congrArg BitVec.toNat e
  funext a
  unfold cc0_transform_2
  match a with
  | ⟨0, _⟩ => exact e'
  | ⟨1, _⟩ => exact rfl
  | ⟨2, _⟩ => exact half_word i
/-- The block of window 3 at a point. -/
theorem index3 (i : grid0.Coords) : cc0_transform_3 k0_off1_inb numel1_S1 (tbl m) i = ![(vType hT i).val, 0, (half i).val] := by
  have e : (tbl m).at 1 (Rect.unit (s := S35) (k0_off1 i) S1.size (k0_off1_inb i)) numel1_S1 = (m ((0 : Dev nD).tc.loc main_arg1)) (ix1 (pos i)) := by
    exact (congrFun (tbl1 m) _).trans (congrArg (m ((0 : Dev nD).tc.loc main_arg1)) (emb_unit _ _ numel1_S1 _ (off1_eq i)))
  have e' := congrArg BitVec.toNat e
  funext a
  unfold cc0_transform_3
  match a with
  | ⟨0, _⟩ => exact e'
  | ⟨1, _⟩ => exact rfl
  | ⟨2, _⟩ => exact half_word i
/-- The block of window 4 at a point. -/
theorem index4 (i : grid0.Coords) : cc0_transform_4 k0_off1_inb numel1_S1 (tbl m) i = ![(vType hT i).val, 0, (half i).val] := by
  have e : (tbl m).at 1 (Rect.unit (s := S35) (k0_off1 i) S1.size (k0_off1_inb i)) numel1_S1 = (m ((0 : Dev nD).tc.loc main_arg1)) (ix1 (pos i)) := by
    exact (congrFun (tbl1 m) _).trans (congrArg (m ((0 : Dev nD).tc.loc main_arg1)) (emb_unit _ _ numel1_S1 _ (off1_eq i)))
  have e' := congrArg BitVec.toNat e
  funext a
  unfold cc0_transform_4
  match a with
  | ⟨0, _⟩ => exact e'
  | ⟨1, _⟩ => exact rfl
  | ⟨2, _⟩ => exact half_word i
/-- A choice by the half of the columns. -/
theorem sel_half (i : grid0.Coords) (h : Fin 2) (x y : BitVec 32) :
    (Scalar.select (Scalar.cmpi .eq (BitVec.ofNat 32 (i 0).val) (BitVec.ofNat 32 h.val)) x y).toNat = if half i = h then x.toNat else y.toNat := by
  have b : ∀ n h : Fin 2, Scalar.cmpi .eq (BitVec.ofNat 32 n.val) (BitVec.ofNat 32 h.val) = if n = h then 1#1 else 0#1 := by decide
  rw [show Scalar.cmpi .eq (BitVec.ofNat 32 (i 0).val) (BitVec.ofNat 32 h.val) = if half i = h then 1#1 else 0#1 from b (half i) h]
  by_cases q : half i = h
  · rw [if_pos q, if_pos q]; rfl
  · rw [if_neg q, if_neg q]; rfl

/-- The tile of the outputs of one half of the columns: the visit's in that half, and `d` in the other. -/
def oTile (h : Fin 2) (d : Nat) (i : grid0.Coords) : Nat := if half i = h then (vTile hT i).val else d

/-- The block of window 5 at a point. -/
theorem index5 (i : grid0.Coords) : cc0_transform_5 k0_off1_inb numel1_S1 (tbl m) i = ![oTile hT 0 31 i, 0] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_5
  match a with
  | ⟨0, _⟩ => exact (sel_half hT i 0 _ _).trans (congrArg (fun z => if half i = 0 then z else 31) e')
  | ⟨1, _⟩ => exact rfl
/-- The block of window 6 at a point. -/
theorem index6 (i : grid0.Coords) : cc0_transform_6 k0_off1_inb numel1_S1 (tbl m) i = ![oTile hT 0 31 i, 0] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_6
  match a with
  | ⟨0, _⟩ => exact (sel_half hT i 0 _ _).trans (congrArg (fun z => if half i = 0 then z else 31) e')
  | ⟨1, _⟩ => exact rfl
/-- The block of window 7 at a point. -/
theorem index7 (i : grid0.Coords) : cc0_transform_7 k0_off1_inb numel1_S1 (tbl m) i = ![oTile hT 1 0 i, 0] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_7
  match a with
  | ⟨0, _⟩ => exact (sel_half hT i 1 _ _).trans (congrArg (fun z => if half i = 1 then z else 0) e')
  | ⟨1, _⟩ => exact rfl
/-- The block of window 8 at a point. -/
theorem index8 (i : grid0.Coords) : cc0_transform_8 k0_off1_inb numel1_S1 (tbl m) i = ![oTile hT 1 0 i, 0] := by
  have e : (tbl m).at 0 (Rect.unit (s := S35) (k0_off1 i) S1.size (k0_off1_inb i)) numel1_S1 = (m ((0 : Dev nD).tc.loc main_arg0)) (ix1 (pos i)) := by
    exact (congrFun (tbl0 m) _).trans (congrArg (m ((0 : Dev nD).tc.loc main_arg0)) (emb_unit _ _ numel1_S1 _ (off1_eq i)))
  have e' := congrArg BitVec.toNat e
  funext a
  unfold cc0_transform_8
  match a with
  | ⟨0, _⟩ => exact (sel_half hT i 1 _ _).trans (congrArg (fun z => if half i = 1 then z else 0) e')
  | ⟨1, _⟩ => exact rfl
theorem oTile_lt (h : Fin 2) (d : Nat) (hd : d < 32) (i : grid0.Coords) : oTile hT h d i < 32 := by
  unfold oTile; split
  · exact (vTile hT i).isLt
  · exact hd

/-- The pipeline's side condition: every block lies in its array, and a transfer moves whole words. -/
theorem ok_of_tables : Ok m := by
  refine ⟨?_, ?_, ?_, ?_, ?_, ?_, ?_, ?_, ?_⟩ <;> intro i
  · have hb : ∀ a, (cc0_transform_0 k0_off1_inb numel1_S1 (tbl m) i a + 1) * S256x2880.size a ≤ S8192x2880.size a := by
      intro a; rw [index0 hT i]; have := (vTile hT i).isLt
      match a with
      | ⟨0, _⟩ => show ((vTile hT i).val + 1) * 256 ≤ 8192; omega
      | ⟨1, _⟩ => show (0 + 1) * 2880 ≤ 2880; omega
    refine ⟨hb, .inr (.inl (.inr ⟨by decide, rfl, .inl ⟨?_, ?_⟩⟩))⟩
    swap; · show 4 ∣ 256; decide
    show 4 ∣ cc0_transform_0 k0_off1_inb numel1_S1 (tbl m) i 0 * 256
    exact Dvd.dvd.mul_left (by decide) _
  · have hb : ∀ a, (cc0_transform_1 k0_off1_inb numel1_S1 (tbl m) i a + 1) * S256x128.size a ≤ S8192x128.size a := by
      intro a; rw [index1 hT i]; have := (vTile hT i).isLt
      match a with
      | ⟨0, _⟩ => show ((vTile hT i).val + 1) * 256 ≤ 8192; omega
      | ⟨1, _⟩ => show (0 + 1) * 128 ≤ 128; omega
    exact ⟨hb, .inl rfl⟩
  · have hb : ∀ a, (cc0_transform_2 k0_off1_inb numel1_S1 (tbl m) i a + 1) * S1x2880x4352.size a ≤ S4x2880x8704.size a := by
      intro a; rw [index2 hT i]; have := (vType hT i).isLt; have := (half i).isLt
      match a with
      | ⟨0, _⟩ => show ((vType hT i).val + 1) * 1 ≤ 4; omega
      | ⟨1, _⟩ => show (0 + 1) * 2880 ≤ 2880; omega
      | ⟨2, _⟩ => show ((half i).val + 1) * 4352 ≤ 8704; omega
    refine ⟨hb, .inr (.inr ⟨by decide, rfl, ?_, rfl⟩)⟩
    show cc0_transform_2 k0_off1_inb numel1_S1 (tbl m) i 1 * 2880 = 0
    rw [index2 hT i]; show 0 * 2880 = 0; rfl
  · have hb : ∀ a, (cc0_transform_3 k0_off1_inb numel1_S1 (tbl m) i a + 1) * S1x1x4352.size a ≤ S4x1x8704.size a := by
      intro a; rw [index3 hT i]; have := (vType hT i).isLt; have := (half i).isLt
      match a with
      | ⟨0, _⟩ => show ((vType hT i).val + 1) * 1 ≤ 4; omega
      | ⟨1, _⟩ => show (0 + 1) * 1 ≤ 1; omega
      | ⟨2, _⟩ => show ((half i).val + 1) * 4352 ≤ 8704; omega
    exact ⟨hb, .inl rfl⟩
  · have hb : ∀ a, (cc0_transform_4 k0_off1_inb numel1_S1 (tbl m) i a + 1) * S1x1x4352.size a ≤ S4x1x8704.size a := by
      intro a; rw [index4 hT i]; have := (vType hT i).isLt; have := (half i).isLt
      match a with
      | ⟨0, _⟩ => show ((vType hT i).val + 1) * 1 ≤ 4; omega
      | ⟨1, _⟩ => show (0 + 1) * 1 ≤ 1; omega
      | ⟨2, _⟩ => show ((half i).val + 1) * 4352 ≤ 8704; omega
    exact ⟨hb, .inl rfl⟩
  · have hb : ∀ a, (cc0_transform_5 k0_off1_inb numel1_S1 (tbl m) i a + 1) * S6144x128.size a ≤ S196608x128.size a := by
      intro a; rw [index5 hT i]; have := oTile_lt hT 0 31 (by decide) i
      match a with
      | ⟨0, _⟩ => show (oTile hT 0 31 i + 1) * 6144 ≤ 196608; omega
      | ⟨1, _⟩ => show (0 + 1) * 128 ≤ 128; omega
    exact ⟨hb, .inl rfl⟩
  · have hb : ∀ a, (cc0_transform_6 k0_off1_inb numel1_S1 (tbl m) i a + 1) * S256x1536.size a ≤ S8192x1536.size a := by
      intro a; rw [index6 hT i]; have := oTile_lt hT 0 31 (by decide) i
      match a with
      | ⟨0, _⟩ => show (oTile hT 0 31 i + 1) * 256 ≤ 8192; omega
      | ⟨1, _⟩ => show (0 + 1) * 1536 ≤ 1536; omega
    refine ⟨hb, .inr (.inl (.inr ⟨by decide, rfl, .inl ⟨?_, ?_⟩⟩))⟩
    swap; · show 2 ∣ 256; decide
    show 2 ∣ cc0_transform_6 k0_off1_inb numel1_S1 (tbl m) i 0 * 256
    exact Dvd.dvd.mul_left (by decide) _
  · have hb : ∀ a, (cc0_transform_7 k0_off1_inb numel1_S1 (tbl m) i a + 1) * S256x1408.size a ≤ S8192x1408.size a := by
      intro a; rw [index7 hT i]; have := oTile_lt hT 1 0 (by decide) i
      match a with
      | ⟨0, _⟩ => show (oTile hT 1 0 i + 1) * 256 ≤ 8192; omega
      | ⟨1, _⟩ => show (0 + 1) * 1408 ≤ 1408; omega
    refine ⟨hb, .inr (.inl (.inr ⟨by decide, rfl, .inl ⟨?_, ?_⟩⟩))⟩
    swap; · show 2 ∣ 256; decide
    show 2 ∣ cc0_transform_7 k0_off1_inb numel1_S1 (tbl m) i 0 * 256
    exact Dvd.dvd.mul_left (by decide) _
  · have hb : ∀ a, (cc0_transform_8 k0_off1_inb numel1_S1 (tbl m) i a + 1) * S256x2944.size a ≤ S8192x2944.size a := by
      intro a; rw [index8 hT i]; have := oTile_lt hT 1 0 (by decide) i
      match a with
      | ⟨0, _⟩ => show (oTile hT 1 0 i + 1) * 256 ≤ 8192; omega
      | ⟨1, _⟩ => show (0 + 1) * 2944 ≤ 2944; omega
    refine ⟨hb, .inr (.inl (.inr ⟨by decide, rfl, .inl ⟨?_, ?_⟩⟩))⟩
    swap; · show 2 ∣ 256; decide
    show 2 ∣ cc0_transform_8 k0_off1_inb numel1_S1 (tbl m) i 0 * 256
    exact Dvd.dvd.mul_left (by decide) _

/-! ## The conditions -/

theorem toNat_bound {a : BitVec 32} (h : a.toNat ≤ 8192) : a.toInt = (a.toNat : Int) := WordCmp.toInt_eq_toNat_of_lt_half (by omega)

omit hT in
theorem live_iff (lv : BitVec 32) : Scalar.cmpi .sgt lv 0#32 = 1#1 ↔ 0 < lv.toInt := by
  rw [show Scalar.cmpi .sgt lv 0#32 = IntOp.cmpi .sgt lv 0#32 from rfl, WordCmp.cmpi_sgt_eq, WordCmp.ofBool_decide_eq_one_iff]; rfl

omit hT in
theorem full_iff (T lo hi : BitVec 32) (hTl : T.toNat < 32) (hlo : lo.toNat ≤ 8192) (hhi : hi.toNat ≤ 8192) :
    fullW T lo hi = 1#1 ↔ lo.toNat ≤ T.toNat * 256 ∧ (T.toNat + 1) * 256 ≤ hi.toNat := by
  have b3 : ∀ x y : BitVec 1, Scalar.andi x y = 1#1 ↔ x = 1#1 ∧ y = 1#1 := by decide
  have d : ∀ w : BitVec 32, w.toNat ≤ 8192 → (Scalar.subi w (Scalar.muli T 256#32)).toInt = (w.toNat : Int) - T.toNat * 256 := by
    intro w hw
    have e : (Scalar.subi w (Scalar.muli T 256#32)).toNat = (2 ^ 32 - T.toNat * 256 + w.toNat) % 2 ^ 32 := by
      simp only [Scalar.subi, Scalar.muli, IntOp.subi, IntOp.muli, BitVec.toNat_sub, BitVec.toNat_mul, BitVec.toNat_ofNat]
      omega
    rw [BitVec.toInt, e]
    split <;> omega
  have w1 : Scalar.cmpi .sle (Scalar.subi lo (Scalar.muli T 256#32)) 0#32 = 1#1 ↔ lo.toNat ≤ T.toNat * 256 := by
    rw [show Scalar.cmpi .sle (Scalar.subi lo (Scalar.muli T 256#32)) 0#32 = IntOp.cmpi .sle (Scalar.subi lo (Scalar.muli T 256#32)) 0#32 from rfl, WordCmp.cmpi_sle_eq, WordCmp.ofBool_decide_eq_one_iff, d lo hlo]
    show _ ≤ (0 : Int) ↔ _
    omega
  have w2 : Scalar.cmpi .sge (Scalar.subi hi (Scalar.muli T 256#32)) 256#32 = 1#1 ↔ (T.toNat + 1) * 256 ≤ hi.toNat := by
    rw [show Scalar.cmpi .sge (Scalar.subi hi (Scalar.muli T 256#32)) 256#32 = IntOp.cmpi .sge (Scalar.subi hi (Scalar.muli T 256#32)) 256#32 from rfl, WordCmp.cmpi_sge_eq, WordCmp.ofBool_decide_eq_one_iff, d hi hhi]
    show (256 : Int) ≤ _ ↔ _
    omega
  unfold fullW
  rw [b3, w1, w2]

/-- A type covers a tile. -/
def Covers (i : grid0.Coords) : Prop :=
  ((m ((0 : Dev nD).tc.loc main_arg3)) (ix1 (vType hT i).castSucc)).toNat ≤ (vTile hT i).val * 256 ∧ ((vTile hT i).val + 1) * 256 ≤ ((m ((0 : Dev nD).tc.loc main_arg3)) (ix1 (vType hT i).succ)).toNat

theorem cond0_iff (c : Dev nD) (i : grid0.Coords) (h) : cond0 c i (tbl m 0) (tbl m 1) (tbl m 2) (tbl m 3) h ↔ (half i).val = 0 ∧ Covers hT i ∧ 0 < ((m ((0 : Dev nD).tc.loc main_arg2)) (ix1 (pos i))).toInt := by
  unfold cond0
  rw [show k0_cond1 i (wT c i (tbl m 0)) (wLo c i (tbl m 1) (tbl m 2) h) (wHi c i (tbl m 1) (tbl m 2) h) (wL0 c i (tbl m 3)) = k0_cond1 i _ _ _ _ from
    congr (congr (congr (congrArg (k0_cond1 i) (wT_eq m c i)) (wLo_eq hT c i h)) (wHi_eq hT c i h)) (wL0_eq m c i)]
  rw [cond0_split, full_iff _ _ _ (hT.tile_lt _) (hT.off_le _) (hT.off_le _), live_iff]
  rfl
theorem cond1_iff (c : Dev nD) (i : grid0.Coords) (h) : cond1 c i (tbl m 0) (tbl m 1) (tbl m 2) (tbl m 3) h ↔ (half i).val = 0 ∧ ¬ Covers hT i ∧ 0 < ((m ((0 : Dev nD).tc.loc main_arg2)) (ix1 (pos i))).toInt := by
  unfold cond1
  rw [show k0_cond2 i (wT c i (tbl m 0)) (wLo c i (tbl m 1) (tbl m 2) h) (wHi c i (tbl m 1) (tbl m 2) h) (wL1 c i (tbl m 3)) = k0_cond2 i _ _ _ _ from
    congr (congr (congr (congrArg (k0_cond2 i) (wT_eq m c i)) (wLo_eq hT c i h)) (wHi_eq hT c i h)) (wL1_eq m c i)]
  rw [cond1_split, full_iff _ _ _ (hT.tile_lt _) (hT.off_le _) (hT.off_le _), live_iff]
  rfl
theorem cond2_iff (c : Dev nD) (i : grid0.Coords) (h) : cond2 c i (tbl m 0) (tbl m 1) (tbl m 2) (tbl m 3) h ↔ (half i).val = 1 ∧ Covers hT i ∧ 0 < ((m ((0 : Dev nD).tc.loc main_arg2)) (ix1 (pos i))).toInt := by
  unfold cond2
  rw [show k0_cond3 i (wT c i (tbl m 0)) (wLo c i (tbl m 1) (tbl m 2) h) (wHi c i (tbl m 1) (tbl m 2) h) (wL2 c i (tbl m 3)) = k0_cond3 i _ _ _ _ from
    congr (congr (congr (congrArg (k0_cond3 i) (wT_eq m c i)) (wLo_eq hT c i h)) (wHi_eq hT c i h)) (wL2_eq m c i)]
  rw [cond2_split, full_iff _ _ _ (hT.tile_lt _) (hT.off_le _) (hT.off_le _), live_iff]
  rfl
theorem cond3_iff (c : Dev nD) (i : grid0.Coords) (h) : cond3 c i (tbl m 0) (tbl m 1) (tbl m 2) (tbl m 3) h ↔ (half i).val = 1 ∧ ¬ Covers hT i ∧ 0 < ((m ((0 : Dev nD).tc.loc main_arg2)) (ix1 (pos i))).toInt := by
  unfold cond3
  rw [show k0_cond4 i (wT c i (tbl m 0)) (wLo c i (tbl m 1) (tbl m 2) h) (wHi c i (tbl m 1) (tbl m 2) h) (wL3 c i (tbl m 3)) = k0_cond4 i _ _ _ _ from
    congr (congr (congr (congrArg (k0_cond4 i) (wT_eq m c i)) (wLo_eq hT c i h)) (wHi_eq hT c i h)) (wL3_eq m c i)]
  rw [cond3_split, full_iff _ _ _ (hT.tile_lt _) (hT.off_le _) (hT.off_le _), live_iff]
  rfl
end

end Cert.QkvIdeal.Gen

end
-- ==== Proof.QkvIdeal.Reads.lean ====
/- The input blocks of a point, read at an index of their arrays. -/
module

public import proofs.«01_k».proof.Proof.QkvIdeal.Words
public import Idealize.ShloMosaic.PureOps.Ideal
public import Idealize.ShloMosaic.PureOps.IdealRules
public import Idealize.ShloMosaic.Lib.Pointwise
public import Idealize.ShloMosaic.Lib.Claim

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

set_option maxHeartbeats 1600000

open Cert.Visits

/-! What the host steps before the call make of the arguments. -/

theorem main_v1_at (m : (ℓ : Loc nD τ sig) → Buf (Elt Ideal) ℓ) (c : Dev nD) (n : Fin 8192) (l : Fin 128) : V m c main_v1 (ix2 n l) = m ((c : Thread nD τ).loc main_arg5) (ix1 n) := by
  entry_read
  pointwise

theorem main_v2_at (m : (ℓ : Loc nD τ sig) → Buf (Elt Ideal) ℓ) (c : Dev nD) (g : Fin 4) (r : Fin 8704) : V m c main_v2 (ix3 g 0 r) = m ((c : Thread nD τ).loc main_arg7) (ix2 g r) := by
  entry_read
  pointwise

theorem main_v3_at (m : (ℓ : Loc nD τ sig) → Buf (Elt Ideal) ℓ) (c : Dev nD) (g : Fin 4) (r : Fin 8704) : V m c main_v3 (ix3 g 0 r) = m ((c : Thread nD τ).loc main_arg8) (ix2 g r) := by
  entry_read
  pointwise

section
variable {m : (ℓ : Loc nD τ sig) → Buf (Elt Ideal) ℓ} (hT : Tables (m ((0 : Dev nD).tc.loc main_arg0)) (m ((0 : Dev nD).tc.loc main_arg1)) (m ((0 : Dev nD).tc.loc main_arg2)) (m ((0 : Dev nD).tc.loc main_arg3)))
  (hO : Ok m) (c : Dev nD) (t : Fin (cfgM m hO).N)

/-- A row of the tile, as a row of the array. -/
def row (k : Fin 256) : Fin 8192 := ⟨(vTile hT (grid0.coords t)).val * 256 + k.val, by have := (vTile hT (grid0.coords t)).isLt; omega⟩

/-- A column of the point's half, as a column of the array. -/
def col (r : Fin 4352) : Fin 8704 := ⟨(half (grid0.coords t)).val * 4352 + r.val, by have := (half (grid0.coords t)).isLt; omega⟩

theorem read0 (k : Fin 256) (j : Fin 2880) : iblk m hO c 0 t (ix2 k j) = m ((c : Thread nD τ).loc main_arg4) (ix2 (row hT hO t k) j) := by
  refine (congrFun (V_main_arg4 m c) _).trans (congrArg (m ((c : Thread nD τ).loc main_arg4)) (funext fun a => Fin.ext ?_))
  refine (Pipeline.Window.rect_emb_val _ _ _ _).trans ?_
  have e : ((cfgM m hO).win 0).index t = ![(vTile hT (grid0.coords t)).val, 0] := index0 hT (grid0.coords t)
  rw [e]
  match a with
  | ⟨0, _⟩ => rfl
  | ⟨1, _⟩ => exact (congrArg (· + j.val) (Nat.zero_mul _)).trans (Nat.zero_add _)

theorem read1 (k : Fin 256) (l : Fin 128) : iblk m hO c 1 t (ix2 k l) = m ((c : Thread nD τ).loc main_arg5) (ix1 (row hT hO t k)) := by
  refine Eq.trans (congrArg (V m c main_v1) (funext fun a => Fin.ext ?_)) (main_v1_at m c _ l)
  refine (Pipeline.Window.rect_emb_val _ _ _ _).trans ?_
  have e : ((cfgM m hO).win 1).index t = ![(vTile hT (grid0.coords t)).val, 0] := index1 hT (grid0.coords t)
  rw [e]
  match a with
  | ⟨0, _⟩ => exact rfl
  | ⟨1, _⟩ => exact (congrArg (· + l.val) (Nat.zero_mul _)).trans (Nat.zero_add _)

theorem read2 (j : Fin 2880) (r : Fin 4352) : iblk m hO c 2 t (ix3 0 j r) = m ((c : Thread nD τ).loc main_arg6) (ix3 (vType hT (grid0.coords t)) j (col hO t r)) := by
  refine (congrFun (V_main_arg6 m c) _).trans (congrArg (m ((c : Thread nD τ).loc main_arg6)) (funext fun a => Fin.ext ?_))
  refine (Pipeline.Window.rect_emb_val _ _ _ _).trans ?_
  have e : ((cfgM m hO).win 2).index t = ![(vType hT (grid0.coords t)).val, 0, (half (grid0.coords t)).val] := index2 hT (grid0.coords t)
  rw [e]
  match a with
  | ⟨0, _⟩ => exact Nat.mul_one _
  | ⟨1, _⟩ => exact (congrArg (· + j.val) (Nat.zero_mul _)).trans (Nat.zero_add _)
  | ⟨2, _⟩ => exact rfl

theorem read3 (r : Fin 4352) : iblk m hO c 3 t (ix3 0 0 r) = m ((c : Thread nD τ).loc main_arg7) (ix2 (vType hT (grid0.coords t)) (col hO t r)) := by
  refine Eq.trans (congrArg (V m c main_v2) (funext fun a => Fin.ext ?_)) (main_v2_at m c _ _)
  refine (Pipeline.Window.rect_emb_val _ _ _ _).trans ?_
  have e : ((cfgM m hO).win 3).index t = ![(vType hT (grid0.coords t)).val, 0, (half (grid0.coords t)).val] := index3 hT (grid0.coords t)
  rw [e]
  match a with
  | ⟨0, _⟩ => exact Nat.mul_one _
  | ⟨1, _⟩ => exact rfl
  | ⟨2, _⟩ => exact rfl

theorem read4 (r : Fin 4352) : iblk m hO c 4 t (ix3 0 0 r) = m ((c : Thread nD τ).loc main_arg8) (ix2 (vType hT (grid0.coords t)) (col hO t r)) := by
  refine Eq.trans (congrArg (V m c main_v3) (funext fun a => Fin.ext ?_)) (main_v3_at m c _ _)
  refine (Pipeline.Window.rect_emb_val _ _ _ _).trans ?_
  have e : ((cfgM m hO).win 4).index t = ![(vType hT (grid0.coords t)).val, 0, (half (grid0.coords t)).val] := index4 hT (grid0.coords t)
  rw [e]
  match a with
  | ⟨0, _⟩ => exact Nat.mul_one _
  | ⟨1, _⟩ => exact rfl
  | ⟨2, _⟩ => exact rfl
end

end Cert.QkvIdeal.Gen

end
-- ==== Proof.QkvIdeal.Block.lean ====
/- One tile of the three products, as one node type's product stores it: what each stored piece holds, lane by lane. -/
module

public import proofs.«01_k».proof.Proof.QkvIdeal.Words
public import Idealize.ShloMosaic.PureOps.Ideal
public import Idealize.ShloMosaic.PureOps.IdealRules
public import Idealize.ShloMosaic.Lib.Pointwise

@[expose] public section

set_option maxRecDepth 16384

noncomputable section

namespace Cert.QkvIdeal.Gen

open Idealize.ShloMosaic Idealize.ShloMosaic.TcCoe Idealize.ShloMosaic.Tactic
open Idealize.ShloMosaic.Rounds

/-- A vector of 256 rows by 128 lanes. -/
abbrev Lanes := FVec Ideal S256x128 .f32

/-! ## The product, by row and column -/

/-- One element of a tile's product, in row `r` and column `n` of this half of the columns: the sum of products, times the row's
    scale, times the column's scale, plus the column's bias. Past the last column it is zero. -/
def val (x0 : Vec Ideal S256x2880 .fp8e4m3) (x1 : Vec Ideal S256x128 .f32) (x2 : Vec Ideal S1x2880x4352 .fp8e4m3) (x3 x4 : Vec Ideal S1x1x4352 .f32) (r n : Nat) : EReal :=
  if h : r < 256 ∧ n < 4352 then
    (∑ j : Fin 2880, x0 (ix2 (⟨r, h.1⟩ : Fin 256) j) * x2 (ix3 0 j (⟨n, h.2⟩ : Fin 4352))) * x1 (ix2 (⟨r, h.1⟩ : Fin 256) (⟨n % 128, Nat.mod_lt _ (by norm_num)⟩ : Fin 128))
      * x3 (ix3 0 0 (⟨n, h.2⟩ : Fin 4352)) + x4 (ix3 0 0 (⟨n, h.2⟩ : Fin 4352))
  else 0

theorem even_apply (v51 : Vec Ideal S256x2880 .fp8e4m3) (v52 : Vec Ideal S256x128 .f32) (v79 : Vec Ideal S1x2880x256 .fp8e4m3) (v84 v88 : Vec Ideal S1x1x128 .f32) (r : Fin 256) (k : Fin 128) :
    k0_pay9 (k0_pay7 v51 v52 v79 v84) (k0_pay8 v88) (ix2 r k) = (∑ j : Fin 2880, v51 (ix2 r j) * v79 (ix3 0 j (⟨k.val, by omega⟩ : Fin 256))) * v52 (ix2 r k) * v84 (ix3 0 0 k) + v88 (ix3 0 0 k) := by
  pointwise [k0_pay9, k0_pay7, k0_pay8, k0_pay6, k0_pay4]

theorem odd_apply (v51 : Vec Ideal S256x2880 .fp8e4m3) (v52 : Vec Ideal S256x128 .f32) (v79 : Vec Ideal S1x2880x256 .fp8e4m3) (v94 v98 : Vec Ideal S1x1x128 .f32) (r : Fin 256) (k : Fin 128) :
    k0_pay10 (k0_pay4 v52) (k0_pay6 v51 v79) v94 v98 (ix2 r k) = (∑ j : Fin 2880, v51 (ix2 r j) * v79 (ix3 0 j (⟨128 + k.val, by omega⟩ : Fin 256))) * v52 (ix2 r k) * v94 (ix3 0 0 k) + v98 (ix3 0 0 k) := by
  pointwise [k0_pay10, k0_pay6, k0_pay4]

/-! ## A load of part of a window -/

/-- A load of a rectangle, of a window that holds `x`, reads `x` at the offset plus the index. -/
theorem ld_at {sp : Space} {s : Shape} {e : EltTy} (M : Memref sig .tc sp s e) (hM : M.IsWhole) (x : s.Idx → Elt Ideal e) (off size : Fin s.rank → Nat) (inb) (y : (Rect.unit off size inb).shape.Idx) (z : s.Idx)
    (h : ∀ a, (z a).val = off a + (y a).val) : View.readAt (Elt Ideal) M.view (Rect.unit off size inb).toLoadRect (hM.unread x) y = x z := by
  rw [View.readAt_apply, hM.read_unread]
  refine congrArg x (funext fun a => Fin.ext ?_)
  rw [h a]
  exact ValueKit.rect_emb_unit_val off size inb y a

/-- An index of a vector is its row and its lane. -/
theorem ix_eq (x : S256x128.Idx) : ∃ (r : Fin 256) (k : Fin 128), x = ix2 r k := ⟨x 0, x 1, funext fun a => by match a with
    | ⟨0, _⟩ => rfl
    | ⟨1, _⟩ => rfl⟩

/-! ## The columns that a vector's lanes hold -/

/-- Lane `k` of row `r` of the vector holds the product of row `r` and column `f k`. -/
def Holds (V : Nat → Nat → EReal) (f : Nat → Nat) (A : Lanes) : Prop := ∀ (r : Fin 256) (k : Fin 128), A (ix2 r k) = V r.val (f k.val)

/-- The column of a lane put together from four vectors by the lane's block of 32. -/
def pick (f0 f1 f2 f3 : Nat → Nat) (k : Nat) : Nat := if k / 32 = 3 then f3 k else if k / 32 = 2 then f2 k else if k / 32 = 1 then f1 k else f0 k
/-- The column of a lane after a rotation by `s` lanes. -/
def turned (s : Nat) (f : Nat → Nat) (k : Nat) : Nat := f ((k + 128 - s) % 128)
/-- The column of a lane whose first 64 lanes come from one vector and whose last from another. -/
def lower (f g : Nat → Nat) (k : Nat) : Nat := if k / 32 < 2 then f k else g k

theorem blk_apply (r : Fin 256) (k : Fin 128) : k0_pay5 (ix2 r k) = BitVec.ofNat 32 (k.val / 32) := by
  pointwise [k0_pay5]
  revert k
  decide

theorem word_eq1 : ∀ k : Fin 128, IntOp.cmpi .eq (BitVec.ofNat 32 (k.val / 32)) 1#32 = if k.val / 32 = 1 then 1#1 else 0#1 := by decide
theorem word_eq2 : ∀ k : Fin 128, IntOp.cmpi .eq (BitVec.ofNat 32 (k.val / 32)) 2#32 = if k.val / 32 = 2 then 1#1 else 0#1 := by decide
theorem word_eq3 : ∀ k : Fin 128, IntOp.cmpi .eq (BitVec.ofNat 32 (k.val / 32)) 3#32 = if k.val / 32 = 3 then 1#1 else 0#1 := by decide
theorem word_lt2 : ∀ k : Fin 128, IntOp.cmpi .slt (BitVec.ofNat 32 (k.val / 32)) 2#32 = if k.val / 32 < 2 then 1#1 else 0#1 := by decide

theorem select_if {α : Type} (p : Prop) [Decidable p] (a b : α) : Scalar.select (if p then 1#1 else 0#1) a b = if p then a else b := by
  split <;> rfl

/-- Four vectors put together by lane block. -/
def rowSel (A B C D : Lanes) : Lanes := k0_pay69 k0_pay5 A B C D
/-- A vector with its lanes rotated. -/
def turn (s : BitVec 32) (A : Lanes) : Lanes := dynamicRotate 1 s none A rotates_S256x128_d1
/-- The first 64 lanes of one vector and the last of another. -/
def lowSel (A B : Lanes) : Lanes := select (k0_pay94 k0_pay5) A B
/-- The zero vector. -/
def zeros : Lanes := k0_pay97 (F := Ideal)

section
variable {V : Nat → Nat → EReal} {f f0 f1 f2 f3 : Nat → Nat} {A B C D : Lanes}

theorem holds_zeros (hV : ∀ r n, 4352 ≤ n → V r n = 0) : Holds V (fun _ => 4352) zeros := fun r k => by
  rw [hV _ _ (Nat.le_refl _)]
  unfold zeros
  pointwise [k0_pay97]

theorem holds_rowSel (h0 : Holds V f0 A) (h1 : Holds V f1 B) (h2 : Holds V f2 C) (h3 : Holds V f3 D) : Holds V (pick f0 f1 f2 f3) (rowSel A B C D) := fun r k => by
  unfold rowSel
  pointwise [k0_pay69]
  rw [blk_apply, word_eq1, word_eq2, word_eq3]
  simp only [select_if]
  rw [h0, h1, h2, h3]
  unfold pick
  split <;> [rfl; split <;> [rfl; split <;> rfl]]

theorem holds_lowSel (h0 : Holds V f0 A) (h1 : Holds V f1 B) : Holds V (lower f0 f1) (lowSel A B) := fun r k => by
  unfold lowSel
  pointwise [k0_pay94]
  rw [blk_apply, word_lt2, select_if, h0, h1]
  unfold lower
  split <;> rfl

theorem holds_turn (s : BitVec 32) (hs : s = 96#32 ∨ s = 64#32 ∨ s = 32#32) (h : Holds V f A) : Holds V (turned s.toNat f) (turn s A) := fun r k => by
  rcases hs with rfl | rfl | rfl
  all_goals
    unfold turn
    pointwise []
    exact h _ _
end

/-! ## The 34 vectors of a half's product -/

theorem inb_w (e : Nat) (h : e + 256 ≤ 4352) : ∀ a, (![0, 0, e] : Fin 3 → Nat) a + S1x2880x256.size a ≤ S1x2880x4352.size a := fun a => by
  match a with
  | ⟨0, _⟩ => exact Nat.le_refl _
  | ⟨1, _⟩ => exact Nat.le_refl _
  | ⟨2, _⟩ => exact h

theorem inb_c (e : Nat) (h : e + 128 ≤ 4352) : ∀ a, (![0, 0, e] : Fin 3 → Nat) a + S1x1x128.size a ≤ S1x1x4352.size a := fun a => by
  match a with
  | ⟨0, _⟩ => exact Nat.le_refl _
  | ⟨1, _⟩ => exact Nat.le_refl _
  | ⟨2, _⟩ => exact h

section
variable (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole)
  (x0 : Vec Ideal S256x2880 .fp8e4m3) (x1 : Vec Ideal S256x128 .f32) (x2 : Vec Ideal S1x2880x4352 .fp8e4m3) (x3 : Vec Ideal S1x1x4352 .f32) (x4 : Vec Ideal S1x1x4352 .f32)

/-- The first 128 columns of the product with the weight's 256 columns from `e`. -/
def evenC (e : Nat) (he : e + 256 ≤ 4352) (h : e + 128 ≤ 4352) : Lanes :=
  k0_pay9 (k0_pay7 (View.readAt (Elt Ideal) arg6.view (Rect.unit (s := S256x2880) ![0, 0] S256x2880.size inb_S256x2880_S256x2880_0_0).toLoadRect (harg6.unread x0)) (View.readAt (Elt Ideal) arg7.view (Rect.unit (s := S256x128) ![0, 0] S256x128.size inb_S256x128_S256x128_0_0).toLoadRect (harg7.unread x1))
      (View.readAt (Elt Ideal) arg8.view (Rect.unit (s := S1x2880x4352) ![0, 0, e] S1x2880x256.size (inb_w e he)).toLoadRect (harg8.unread x2)) (View.readAt (Elt Ideal) arg9.view (Rect.unit (s := S1x1x4352) ![0, 0, e] S1x1x128.size (inb_c e h)).toLoadRect (harg9.unread x3)))
    (k0_pay8 (View.readAt (Elt Ideal) arg10.view (Rect.unit (s := S1x1x4352) ![0, 0, e] S1x1x128.size (inb_c e h)).toLoadRect (harg10.unread x4)))

/-- The last 128 columns of it, which start at `o`. -/
def oddC (e o : Nat) (he : e + 256 ≤ 4352) (h : o + 128 ≤ 4352) : Lanes :=
  k0_pay10 (k0_pay4 (View.readAt (Elt Ideal) arg7.view (Rect.unit (s := S256x128) ![0, 0] S256x128.size inb_S256x128_S256x128_0_0).toLoadRect (harg7.unread x1)))
    (k0_pay6 (View.readAt (Elt Ideal) arg6.view (Rect.unit (s := S256x2880) ![0, 0] S256x2880.size inb_S256x2880_S256x2880_0_0).toLoadRect (harg6.unread x0)) (View.readAt (Elt Ideal) arg8.view (Rect.unit (s := S1x2880x4352) ![0, 0, e] S1x2880x256.size (inb_w e he)).toLoadRect (harg8.unread x2)))
    (View.readAt (Elt Ideal) arg9.view (Rect.unit (s := S1x1x4352) ![0, 0, o] S1x1x128.size (inb_c o h)).toLoadRect (harg9.unread x3)) (View.readAt (Elt Ideal) arg10.view (Rect.unit (s := S1x1x4352) ![0, 0, o] S1x1x128.size (inb_c o h)).toLoadRect (harg10.unread x4))

theorem val_lt (r : Fin 256) (n : Nat) (hn : n < 4352) : val x0 x1 x2 x3 x4 r.val n =
    (∑ j : Fin 2880, x0 (ix2 r j) * x2 (ix3 0 j (⟨n, hn⟩ : Fin 4352))) * x1 (ix2 r (⟨n % 128, Nat.mod_lt _ (by norm_num)⟩ : Fin 128)) * x3 (ix3 0 0 (⟨n, hn⟩ : Fin 4352)) + x4 (ix3 0 0 (⟨n, hn⟩ : Fin 4352)) :=
  dif_pos ⟨r.isLt, hn⟩

theorem val_past (r n : Nat) (hn : 4352 ≤ n) : val x0 x1 x2 x3 x4 r n = 0 := dif_neg fun h => Nat.not_lt.2 hn h.2

theorem even_holds (e : Nat) (hm : e % 128 = 0) (he : e + 256 ≤ 4352) (h) : Holds (val x0 x1 x2 x3 x4) (fun k => e + k) (evenC arg6 harg6 arg7 harg7 arg8 harg8 arg9 harg9 arg10 harg10 x0 x1 x2 x3 x4 e he h) := fun r k => by
  have hk := k.isLt
  unfold evenC
  rw [even_apply, val_lt x0 x1 x2 x3 x4 r (e + k.val) (by omega)]
  have em : (⟨(e + k.val) % 128, Nat.mod_lt _ (by norm_num)⟩ : Fin 128) = k := Fin.ext (by show (e + k.val) % 128 = k.val; omega)
  rw [em]
  refine congr (congrArg _ (congr (congrArg _ (congr (congrArg _ (Finset.sum_congr rfl fun j _ => congr (congrArg _ ?_) ?_)) ?_)) ?_)) ?_
  · exact ld_at _ _ _ _ _ _ _ _ (fun a => by match a with
      | ⟨0, _⟩ => exact (Nat.zero_add _).symm
      | ⟨1, _⟩ => exact (Nat.zero_add _).symm)
  · exact ld_at _ _ _ _ _ _ _ _ (fun a => by match a with
      | ⟨0, _⟩ => rfl
      | ⟨1, _⟩ => exact (Nat.zero_add _).symm
      | ⟨2, _⟩ => rfl)
  · exact ld_at _ _ _ _ _ _ _ _ (fun a => by match a with
      | ⟨0, _⟩ => exact (Nat.zero_add _).symm
      | ⟨1, _⟩ => exact (Nat.zero_add _).symm)
  · exact ld_at _ _ _ _ _ _ _ _ (fun a => by match a with
      | ⟨0, _⟩ => rfl
      | ⟨1, _⟩ => rfl
      | ⟨2, _⟩ => rfl)
  · exact ld_at _ _ _ _ _ _ _ _ (fun a => by match a with
      | ⟨0, _⟩ => rfl
      | ⟨1, _⟩ => rfl
      | ⟨2, _⟩ => rfl)

theorem odd_holds (e o : Nat) (ho : o = e + 128) (hm : e % 128 = 0) (he : e + 256 ≤ 4352) (h) : Holds (val x0 x1 x2 x3 x4) (fun k => o + k) (oddC arg6 harg6 arg7 harg7 arg8 harg8 arg9 harg9 arg10 harg10 x0 x1 x2 x3 x4 e o he h) := fun r k => by
  subst ho
  have hk := k.isLt
  unfold oddC
  rw [odd_apply, val_lt x0 x1 x2 x3 x4 r (e + 128 + k.val) (by omega)]
  have em : (⟨(e + 128 + k.val) % 128, Nat.mod_lt _ (by norm_num)⟩ : Fin 128) = k := Fin.ext (by show (e + 128 + k.val) % 128 = k.val; omega)
  rw [em]
  refine congr (congrArg _ (congr (congrArg _ (congr (congrArg _ (Finset.sum_congr rfl fun j _ => congr (congrArg _ ?_) ?_)) ?_)) ?_)) ?_
  · exact ld_at _ _ _ _ _ _ _ _ (fun a => by match a with
      | ⟨0, _⟩ => exact (Nat.zero_add _).symm
      | ⟨1, _⟩ => exact (Nat.zero_add _).symm)
  · exact ld_at _ _ _ _ _ _ _ _ (fun a => by match a with
      | ⟨0, _⟩ => rfl
      | ⟨1, _⟩ => exact (Nat.zero_add _).symm
      | ⟨2, _⟩ => exact Nat.add_assoc _ _ _)
  · exact ld_at _ _ _ _ _ _ _ _ (fun a => by match a with
      | ⟨0, _⟩ => exact (Nat.zero_add _).symm
      | ⟨1, _⟩ => exact (Nat.zero_add _).symm)
  · exact ld_at _ _ _ _ _ _ _ _ (fun a => by match a with
      | ⟨0, _⟩ => rfl
      | ⟨1, _⟩ => rfl
      | ⟨2, _⟩ => rfl)
  · exact ld_at _ _ _ _ _ _ _ _ (fun a => by match a with
      | ⟨0, _⟩ => rfl
      | ⟨1, _⟩ => rfl
      | ⟨2, _⟩ => rfl)
end

/-! ## The blocks stored -/

/-- The column that lane `k` of row `p` of a token's 24 rows of q holds; 4352 where it holds zero. The first 20 rows hold heads 0 to
    15, which lie in the product head by head as 5 pieces of 32 columns: row `5 g + c` holds piece `c` of the heads `4 g` to `4 g + 3`.
    The last rows hold the pieces of heads 16 and 17 in turn, then zeros. -/
def qCol (p k : Nat) : Nat :=
  if p < 20 then (p / 5 * 4 + k / 32) * 160 + p % 5 * 32 + k % 32
  else if (p - 20) * 128 + k < 320 then (16 + ((p - 20) * 128 + k) % 64 / 32) * 160 + ((p - 20) * 128 + k) / 64 * 32 + k % 32
  else 4352

/-- The column of lane `k` of v in the second half; 4352 where it holds zero. -/
def vCol (k : Nat) : Nat := if k < 2880 then 1408 + k else 4352

/-- A tile's block of q. -/
def qG (V : Nat → Nat → EReal) : Vec Ideal S6144x128 .f32 := fun y => V ((y 0).val / 24) (qCol ((y 0).val % 24) (y 1).val)
/-- A tile's block of 128 lanes a vector, by the column that each lane holds. -/
def laneG {W : Nat} (V : Nat → Nat → EReal) (f : Nat → Nat) : Vec Ideal ⟨2, ![256, W]⟩ .bf16 := fun y => V (y 0).val (f (y 1).val)

/-- Whether a tile's row lies between two rows. -/
def between (w0 w1 : BitVec 32) (r : Nat) : BitVec 1 := IntOp.andi (IntOp.cmpi .sge (BitVec.ofNat 32 r) w0) (IntOp.cmpi .slt (BitVec.ofNat 32 r) w1)
/-- A block of q after a masked store: the visit's rows new, the others as they were. -/
def qMask (w0 w1 : BitVec 32) (G xo : Vec Ideal S6144x128 .f32) : Vec Ideal S6144x128 .f32 := fun y => Scalar.select (between w0 w1 ((y 0).val / 24)) (G y) (xo y)
/-- A block of lanes after a masked store. -/
def laneMask {W : Nat} (w0 w1 : BitVec 32) (G xo : Vec Ideal ⟨2, ![256, W]⟩ .bf16) : Vec Ideal ⟨2, ![256, W]⟩ .bf16 := fun y => Scalar.select (between w0 w1 (y 0).val) (G y) (xo y)

theorem mask_apply (w0 w1 : BitVec 32) (r : Fin 256) (k : Fin 128) : k0_pay104 w0 w1 (ix2 r k) = between w0 w1 r.val := by
  unfold between
  pointwise [k0_pay104]

/-- A vector of q's lanes where a visit's rows are stored over `old`. -/
def maskq (w0 w1 : BitVec 32) (P old : Lanes) : Lanes := select (k0_pay104 w0 w1) P (shapeCast S256x128 old shapeCasts_S256x128_S256x128)
/-- A vector of lanes where a visit's rows are stored over `old`. -/
def maskl (w0 w1 : BitVec 32) (P old : FVec Ideal S256x128 .bf16) : FVec Ideal S256x128 .bf16 := select (k0_pay104 w0 w1) P (shapeCast S256x128 old shapeCasts_S256x128_S256x128)

theorem maskq_apply (w0 w1 : BitVec 32) (P old : Lanes) (r : Fin 256) (k : Fin 128) : maskq w0 w1 P old (ix2 r k) = Scalar.select (between w0 w1 r.val) (P (ix2 r k)) (old (ix2 r k)) := by
  unfold maskq
  pointwise []
  rw [mask_apply]

theorem maskl_apply (w0 w1 : BitVec 32) (P old : FVec Ideal S256x128 .bf16) (r : Fin 256) (k : Fin 128) : maskl w0 w1 P old (ix2 r k) = Scalar.select (between w0 w1 r.val) (P (ix2 r k)) (old (ix2 r k)) := by
  unfold maskl
  pointwise []
  rw [mask_apply]

/-- Every 24th row, from row `p`, of a tile's rows of q. -/
def qRect (p : Nat) (hp : p < 24) : Rect S6144x128 :=
  ⟨(⟨![p, 0], S256x128.size, ![24, 1], fun a => by
    match a with
    | ⟨0, _⟩ => exact .inr (show p + 24 * 255 < 6144 by omega)
    | ⟨1, _⟩ => exact .inr (show 0 + 1 * 127 < 128 by omega)⟩ : LoadRect S6144x128), spos_24_1⟩

theorem qRect_div (p : Nat) (hp : p < 24) (r : Fin 256) (k : Fin 128) : ((qRect p hp).emb (ix2 r k) 0).val / 24 = r.val := by
  show (p + 24 * r.val) / 24 = r.val
  omega
theorem qRect_mod (p : Nat) (hp : p < 24) (r : Fin 256) (k : Fin 128) : ((qRect p hp).emb (ix2 r k) 0).val % 24 = p := by
  show (p + 24 * r.val) % 24 = p
  omega
theorem qRect_lane (p : Nat) (hp : p < 24) (r : Fin 256) (k : Fin 128) : ((qRect p hp).emb (ix2 r k) 1).val = k.val := by
  show 0 + 1 * k.val = k.val
  omega

/-- The 24 rectangles hold every element. -/
theorem q_cover (L : List (View.Piece (Elt Ideal) S6144x128 .f32))
    (h : L.map (fun p => p.1) = [qRect 23 (by decide), qRect 22 (by decide), qRect 21 (by decide), qRect 20 (by decide), qRect 19 (by decide), qRect 18 (by decide), qRect 17 (by decide), qRect 16 (by decide), qRect 15 (by decide), qRect 14 (by decide), qRect 13 (by decide), qRect 12 (by decide), qRect 11 (by decide), qRect 10 (by decide), qRect 9 (by decide), qRect 8 (by decide), qRect 7 (by decide), qRect 6 (by decide), qRect 5 (by decide), qRect 4 (by decide), qRect 3 (by decide), qRect 2 (by decide), qRect 1 (by decide), qRect 0 (by decide)]) (y : S6144x128.Idx) :
    ∃ p ∈ L, y ∈ p.1.set := by
  have h1 : (y 1).val < 128 := (y 1).isLt
  have h0 : (y 0).val < 6144 := (y 0).isLt
  have hy : ∀ p (hp : p < 24), (y 0).val % 24 = p → y ∈ (qRect p hp).set := fun p hp e => (LoadRect.mem_set _).2 fun a => by
    match a with
    | ⟨0, _⟩ => exact ⟨(y 0).val / 24, (show (y 0).val / 24 < 256 by omega), (show (y 0).val = p + 24 * ((y 0).val / 24) by omega)⟩
    | ⟨1, _⟩ => exact ⟨(y 1).val, h1, (show (y 1).val = 0 + 1 * (y 1).val by omega)⟩
  have hm : ∀ p (hp : p < 24), qRect p hp ∈ L.map (fun p => p.1) := fun p hp => by
    rw [h]
    interval_cases p <;> simp only [List.mem_cons, true_or, or_true]
  obtain ⟨p, hp, e⟩ := List.mem_map.1 (hm _ (Nat.mod_lt (y 0).val (by norm_num : 0 < 24)))
  exact ⟨p, hp, e ▸ hy _ _ rfl⟩

section
variable {V : Nat → Nat → EReal} {f : Nat → Nat} {A : Lanes}

/-- One stored piece of q. -/
theorem q_piece (p : Nat) (hp : p < 24) (h : Holds V f A) (e : ∀ k < 128, f k = qCol p k) (x : (qRect p hp).shape.Idx) : A x = qG V ((qRect p hp).emb x) := by
  obtain ⟨r, k, rfl⟩ := ix_eq x
  unfold qG
  rw [qRect_div, qRect_mod, qRect_lane, h r k, e k.val k.isLt]

/-- The rectangles of the rows before row `p`, the last first. -/
def qRects : (p : Nat) → p ≤ 24 → List (Rect S6144x128)
  | 0, _ => []
  | p + 1, h => qRect p h :: qRects p (Nat.le_of_succ_le h)

theorem mem_qRects {R : Rect S6144x128} : (p : Nat) → (h : p ≤ 24) → R ∈ qRects p h → ∃ (p' : Nat) (h' : p' < 24), p' < p ∧ R = qRect p' h'
  | 0, _, hR => absurd hR List.not_mem_nil
  | p + 1, h, hR => by
    rcases List.mem_cons.1 hR with rfl | hR
    · exact ⟨p, h, Nat.lt_succ_self p, rfl⟩
    · obtain ⟨p', h', hl, e⟩ := mem_qRects p _ hR
      exact ⟨p', h', Nat.lt_succ_of_lt hl, e⟩

/-- Row `p`'s rectangle shares no element with those before it. -/
theorem qRect_disjoint (p : Nat) (hp : p < 24) (R : Rect S6144x128) (hR : R ∈ qRects p hp.le) (x : (qRect p hp).shape.Idx) : (qRect p hp).emb x ∉ R.set := by
  obtain ⟨p', h', hl, rfl⟩ := mem_qRects p _ hR
  obtain ⟨r, k, rfl⟩ := ix_eq x
  intro h
  obtain ⟨j, hj, e⟩ := (LoadRect.mem_set _).1 h 0
  have e : ((qRect p hp).emb (ix2 r k) 0).val = p' + 24 * j := e
  have := qRect_mod p hp r k
  omega

/-- One masked piece of q. The rows that it keeps are read through the stores of the rows before it, which miss them. -/
theorem q_masked (w0 w1 : BitVec 32) (p : Nat) (hp : p < 24) (M : Memref sig .tc .vmem S6144x128 .f32) (hM : M.IsWhole) (xo : Vec Ideal S6144x128 .f32) (L : List (View.Piece (Elt Ideal) S6144x128 .f32)) (hL : L.map (fun p => p.1) = qRects p hp.le)
    (h : Holds V f A) (e : ∀ k < 128, f k = qCol p k) (x : (qRect p hp).shape.Idx) :
    maskq w0 w1 A (View.readAt (Elt Ideal) M.view (qRect p hp).toLoadRect (M.view.writes (Elt Ideal) (hM.unread xo) L)) x = qMask w0 w1 (qG V) xo ((qRect p hp).emb x) := by
  have ho : View.readAt (Elt Ideal) M.view (qRect p hp).toLoadRect (M.view.writes (Elt Ideal) (hM.unread xo) L) x = xo ((qRect p hp).emb x) := by
    rw [View.readAt_writes_of_forall_not_mem M.view _ L _ fun x q hq => qRect_disjoint p hp q.1 (hL ▸ List.mem_map_of_mem hq) x, View.readAt_apply, hM.read_unread]; rfl
  have hn := q_piece p hp h e x
  obtain ⟨r, k, rfl⟩ := ix_eq x
  refine (maskq_apply _ _ _ _ r k).trans ?_
  unfold qMask
  rw [qRect_div]
  exact congr (congrArg _ hn) ho

/-- One stored piece of 128 lanes. -/
theorem lane_piece {W : Nat} (o : Nat) (g : Nat → Nat) (hp : ∀ a, (![0, o] : Fin 2 → Nat) a + S256x128.size a ≤ (⟨2, ![256, W]⟩ : Shape).size a) (h : Holds V f A) (e : ∀ k < 128, f k = g (o + k))
    (x : (Rect.unit (s := ⟨2, ![256, W]⟩) ![0, o] S256x128.size hp).shape.Idx) :
    (truncf .bf16 A bitsLt_bf16_f32) x = laneG (W := W) V g ((Rect.unit (s := ⟨2, ![256, W]⟩) ![0, o] S256x128.size hp).emb x) := by
  obtain ⟨r, k, rfl⟩ := ix_eq x
  unfold laneG
  rw [show ((Rect.unit (s := ⟨2, ![256, W]⟩) ![0, o] S256x128.size hp).emb (ix2 r k) 0).val = r.val from (ValueKit.rect_emb_unit_val _ _ _ _ _).trans (Nat.zero_add _),
    show ((Rect.unit (s := ⟨2, ![256, W]⟩) ![0, o] S256x128.size hp).emb (ix2 r k) 1).val = o + k.val from ValueKit.rect_emb_unit_val _ _ _ _ _, ← e k.val k.isLt]
  exact h r k

/-- One masked piece of 128 lanes. -/
theorem lane_masked {W : Nat} (w0 w1 : BitVec 32) (o : Nat) (g : Nat → Nat) (hp : ∀ a, (![0, o] : Fin 2 → Nat) a + S256x128.size a ≤ (⟨2, ![256, W]⟩ : Shape).size a) (hq) (M : Memref sig .tc .vmem ⟨2, ![256, W]⟩ .bf16) (hM : M.IsWhole) (xo : Vec Ideal ⟨2, ![256, W]⟩ .bf16)
    (h : Holds V f A) (e : ∀ k < 128, f k = g (o + k)) (x : (Rect.unit (s := ⟨2, ![256, W]⟩) ![0, o] S256x128.size hp).shape.Idx) :
    maskl w0 w1 (truncf .bf16 A bitsLt_bf16_f32) (View.readAt (Elt Ideal) M.view (Rect.unit (s := ⟨2, ![256, W]⟩) ![0, o] S256x128.size hq).toLoadRect (hM.unread xo)) x
      = laneMask w0 w1 (laneG V g) xo ((Rect.unit (s := ⟨2, ![256, W]⟩) ![0, o] S256x128.size hp).emb x) := by
  have ho : View.readAt (Elt Ideal) M.view (Rect.unit (s := ⟨2, ![256, W]⟩) ![0, o] S256x128.size hq).toLoadRect (hM.unread xo) x = xo ((Rect.unit (s := ⟨2, ![256, W]⟩) ![0, o] S256x128.size hp).emb x) :=
    ld_at M hM xo _ _ _ _ _ fun a => ValueKit.rect_emb_unit_val _ _ _ x a
  have hn := lane_piece (V := V) o g hp h e x
  obtain ⟨r, k, rfl⟩ := ix_eq x
  refine (maskl_apply _ _ _ _ r k).trans ?_
  unfold laneMask
  rw [show ((Rect.unit (s := ⟨2, ![256, W]⟩) ![0, o] S256x128.size hp).emb (ix2 r k) 0).val = r.val from (ValueKit.rect_emb_unit_val _ _ _ _ _).trans (Nat.zero_add _)]
  exact congr (congrArg _ hn) ho
end

end Cert.QkvIdeal.Gen

end
-- ==== Proof.QkvIdeal.PiecesF0.lean ====
/- The pieces of the whole store of the first half of the columns, each read at an index. -/
module

public import proofs.«01_k».proof.Proof.QkvIdeal.Block
public import proofs.«01_k».proof.Proof.QkvIdeal.RunF0

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

set_option maxHeartbeats 4000000

section
variable (c : Dev nD) (i : grid0.Coords) (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole) (arg11 : Memref sig .tc .vmem S6144x128 .f32) (harg11 : arg11.IsWhole) (arg12 : Memref sig .tc .vmem S256x1536 .bf16) (harg12 : arg12.IsWhole) (arg13 : Memref sig .tc .vmem S256x1408 .bf16) (harg13 : arg13.IsWhole) (arg14 : Memref sig .tc .vmem S256x2944 .bf16) (harg14 : arg14.IsWhole)
  (x0 : Vec Ideal S256x2880 .fp8e4m3) (x1 : Vec Ideal S256x128 .f32) (x2 : Vec Ideal S1x2880x4352 .fp8e4m3) (x3 : Vec Ideal S1x1x4352 .f32) (x4 : Vec Ideal S1x1x4352 .f32) (x5 : Vec Ideal S6144x128 .f32) (x6 : Vec Ideal S256x1536 .bf16)
  (xt0 : TbBuf0 (F := Ideal) c tbM0_0) (xt1 : TbBuf0 (F := Ideal) c tbM0_1) (xt2 : TbBuf0 (F := Ideal) c tbM0_2) (xt3 : TbBuf0 (F := Ideal) c tbM0_3) (hw : k0_chk1 (wG c i xt1))

/-- Each piece stored into window 5 holds the block's function. -/
theorem pieces_F5 (h0 h1 h2 h3) : ∀ p ∈ (kernelRunF0 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).1, ∀ x : p.1.shape.Idx, p.2 x = (qG (val x0 x1 x2 x3 x4)) (p.1.emb x) := by
  have c0 := even_holds arg6 harg6 arg7 harg7 arg8 harg8 arg9 harg9 arg10 harg10 x0 x1 x2 x3 x4 0 rfl (by decide) (by decide)
  have c1 := odd_holds arg6 harg6 arg7 harg7 arg8 harg8 arg9 harg9 arg10 harg10 x0 x1 x2 x3 x4 0 128 rfl rfl (by decide) (by decide)
  have c2 := even_holds arg6 harg6 arg7 harg7 arg8 harg8 arg9 harg9 arg10 harg10 x0 x1 x2 x3 x4 256 rfl (by decide) (by decide)
  have c3 := odd_holds arg6 harg6 arg7 harg7 arg8 harg8 arg9 harg9 arg10 harg10 x0 x1 x2 x3 x4 256 384 rfl rfl (by decide) (by decide)
  have c4 := even_holds arg6 harg6 arg7 harg7 arg8 harg8 arg9 harg9 arg10 harg10 x0 x1 x2 x3 x4 512 rfl (by decide) (by decide)
  have c5 := odd_holds arg6 harg6 arg7 harg7 arg8 harg8 arg9 harg9 arg10 harg10 x0 x1 x2 x3 x4 512 640 rfl rfl (by decide) (by decide)
  have c6 := even_holds arg6 harg6 arg7 harg7 arg8 harg8 arg9 harg9 arg10 harg10 x0 x1 x2 x3 x4 768 rfl (by decide) (by decide)
  have c7 := odd_holds arg6 harg6 arg7 harg7 arg8 harg8 arg9 harg9 arg10 harg10 x0 x1 x2 x3 x4 768 896 rfl rfl (by decide) (by decide)
  have c8 := even_holds arg6 harg6 arg7 harg7 arg8 harg8 arg9 harg9 arg10 harg10 x0 x1 x2 x3 x4 1024 rfl (by decide) (by decide)
  have c9 := odd_holds arg6 harg6 arg7 harg7 arg8 harg8 arg9 harg9 arg10 harg10 x0 x1 x2 x3 x4 1024 1152 rfl rfl (by decide) (by decide)
  have c10 := even_holds arg6 harg6 arg7 harg7 arg8 harg8 arg9 harg9 arg10 harg10 x0 x1 x2 x3 x4 1280 rfl (by decide) (by decide)
  have c11 := odd_holds arg6 harg6 arg7 harg7 arg8 harg8 arg9 harg9 arg10 harg10 x0 x1 x2 x3 x4 1280 1408 rfl rfl (by decide) (by decide)
  have c12 := even_holds arg6 harg6 arg7 harg7 arg8 harg8 arg9 harg9 arg10 harg10 x0 x1 x2 x3 x4 1536 rfl (by decide) (by decide)
  have c13 := odd_holds arg6 harg6 arg7 harg7 arg8 harg8 arg9 harg9 arg10 harg10 x0 x1 x2 x3 x4 1536 1664 rfl rfl (by decide) (by decide)
  have c14 := even_holds arg6 harg6 arg7 harg7 arg8 harg8 arg9 harg9 arg10 harg10 x0 x1 x2 x3 x4 1792 rfl (by decide) (by decide)
  have c15 := odd_holds arg6 harg6 arg7 harg7 arg8 harg8 arg9 harg9 arg10 harg10 x0 x1 x2 x3 x4 1792 1920 rfl rfl (by decide) (by decide)
  have c16 := even_holds arg6 harg6 arg7 harg7 arg8 harg8 arg9 harg9 arg10 harg10 x0 x1 x2 x3 x4 2048 rfl (by decide) (by decide)
  have c17 := odd_holds arg6 harg6 arg7 harg7 arg8 harg8 arg9 harg9 arg10 harg10 x0 x1 x2 x3 x4 2048 2176 rfl rfl (by decide) (by decide)
  have c18 := even_holds arg6 harg6 arg7 harg7 arg8 harg8 arg9 harg9 arg10 harg10 x0 x1 x2 x3 x4 2304 rfl (by decide) (by decide)
  have c19 := odd_holds arg6 harg6 arg7 harg7 arg8 harg8 arg9 harg9 arg10 harg10 x0 x1 x2 x3 x4 2304 2432 rfl rfl (by decide) (by decide)
  have c20 := even_holds arg6 harg6 arg7 harg7 arg8 harg8 arg9 harg9 arg10 harg10 x0 x1 x2 x3 x4 2560 rfl (by decide) (by decide)
  have c21 := odd_holds arg6 harg6 arg7 harg7 arg8 harg8 arg9 harg9 arg10 harg10 x0 x1 x2 x3 x4 2560 2688 rfl rfl (by decide) (by decide)
  have c22 := even_holds arg6 harg6 arg7 harg7 arg8 harg8 arg9 harg9 arg10 harg10 x0 x1 x2 x3 x4 2816 rfl (by decide) (by decide)
  have z := holds_zeros (val_past x0 x1 x2 x3 x4)
  refine List.forall_mem_cons.2 ⟨fun x => q_piece 23 (by decide) z (by decide) x, ?_⟩
  refine List.forall_mem_cons.2 ⟨fun x => q_piece 22 (by decide) (holds_lowSel (holds_rowSel c21 c22 z z) z) (by decide) x, ?_⟩
  refine List.forall_mem_cons.2 ⟨fun x => q_piece 21 (by decide) (holds_lowSel (holds_turn 64#32 (.inr (.inl rfl)) (holds_rowSel z z c20 c21)) (holds_turn 96#32 (.inl rfl) (holds_rowSel c22 z z c20))) (by decide) x, ?_⟩
  refine List.forall_mem_cons.2 ⟨fun x => q_piece 20 (by decide) (holds_lowSel (holds_rowSel c20 c21 z z) (holds_turn 32#32 (.inr (.inr rfl)) (holds_rowSel z c20 c21 z))) (by decide) x, ?_⟩
  refine List.forall_mem_cons.2 ⟨fun x => q_piece 19 (by decide) (holds_rowSel c16 c17 c18 c19) (by decide) x, ?_⟩
  refine List.forall_mem_cons.2 ⟨fun x => q_piece 18 (by decide) (holds_turn 32#32 (.inr (.inr rfl)) (holds_rowSel c17 c18 c19 c15)) (by decide) x, ?_⟩
  refine List.forall_mem_cons.2 ⟨fun x => q_piece 17 (by decide) (holds_turn 64#32 (.inr (.inl rfl)) (holds_rowSel c18 c19 c15 c16)) (by decide) x, ?_⟩
  refine List.forall_mem_cons.2 ⟨fun x => q_piece 16 (by decide) (holds_turn 96#32 (.inl rfl) (holds_rowSel c19 c15 c16 c17)) (by decide) x, ?_⟩
  refine List.forall_mem_cons.2 ⟨fun x => q_piece 15 (by decide) (holds_rowSel c15 c16 c17 c18) (by decide) x, ?_⟩
  refine List.forall_mem_cons.2 ⟨fun x => q_piece 14 (by decide) (holds_rowSel c11 c12 c13 c14) (by decide) x, ?_⟩
  refine List.forall_mem_cons.2 ⟨fun x => q_piece 13 (by decide) (holds_turn 32#32 (.inr (.inr rfl)) (holds_rowSel c12 c13 c14 c10)) (by decide) x, ?_⟩
  refine List.forall_mem_cons.2 ⟨fun x => q_piece 12 (by decide) (holds_turn 64#32 (.inr (.inl rfl)) (holds_rowSel c13 c14 c10 c11)) (by decide) x, ?_⟩
  refine List.forall_mem_cons.2 ⟨fun x => q_piece 11 (by decide) (holds_turn 96#32 (.inl rfl) (holds_rowSel c14 c10 c11 c12)) (by decide) x, ?_⟩
  refine List.forall_mem_cons.2 ⟨fun x => q_piece 10 (by decide) (holds_rowSel c10 c11 c12 c13) (by decide) x, ?_⟩
  refine List.forall_mem_cons.2 ⟨fun x => q_piece 9 (by decide) (holds_rowSel c6 c7 c8 c9) (by decide) x, ?_⟩
  refine List.forall_mem_cons.2 ⟨fun x => q_piece 8 (by decide) (holds_turn 32#32 (.inr (.inr rfl)) (holds_rowSel c7 c8 c9 c5)) (by decide) x, ?_⟩
  refine List.forall_mem_cons.2 ⟨fun x => q_piece 7 (by decide) (holds_turn 64#32 (.inr (.inl rfl)) (holds_rowSel c8 c9 c5 c6)) (by decide) x, ?_⟩
  refine List.forall_mem_cons.2 ⟨fun x => q_piece 6 (by decide) (holds_turn 96#32 (.inl rfl) (holds_rowSel c9 c5 c6 c7)) (by decide) x, ?_⟩
  refine List.forall_mem_cons.2 ⟨fun x => q_piece 5 (by decide) (holds_rowSel c5 c6 c7 c8) (by decide) x, ?_⟩
  refine List.forall_mem_cons.2 ⟨fun x => q_piece 4 (by decide) (holds_rowSel c1 c2 c3 c4) (by decide) x, ?_⟩
  refine List.forall_mem_cons.2 ⟨fun x => q_piece 3 (by decide) (holds_turn 32#32 (.inr (.inr rfl)) (holds_rowSel c2 c3 c4 c0)) (by decide) x, ?_⟩
  refine List.forall_mem_cons.2 ⟨fun x => q_piece 2 (by decide) (holds_turn 64#32 (.inr (.inl rfl)) (holds_rowSel c3 c4 c0 c1)) (by decide) x, ?_⟩
  refine List.forall_mem_cons.2 ⟨fun x => q_piece 1 (by decide) (holds_turn 96#32 (.inl rfl) (holds_rowSel c4 c0 c1 c2)) (by decide) x, ?_⟩
  refine List.forall_mem_cons.2 ⟨fun x => q_piece 0 (by decide) (holds_rowSel c0 c1 c2 c3) (by decide) x, ?_⟩
  exact fun p hp => absurd hp List.not_mem_nil

theorem read_F5 (v : View sig .tc .vmem S6144x128 .f32) (f) (h0 h1 h2 h3) (y : S6144x128.Idx) :
    v.read (Elt Ideal) (v.writes (Elt Ideal) f (kernelRunF0 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).1) y = (qG (val x0 x1 x2 x3 x4)) y :=
  View.read_writes_apply_of_pieces _ _ _ _ (pieces_F5 c i arg6 harg6 arg7 harg7 arg8 harg8 arg9 harg9 arg10 harg10 arg11 harg11 arg12 harg12 arg13 harg13 arg14 harg14 x0 x1 x2 x3 x4 x5 x6 xt0 xt1 xt2 xt3 hw h0 h1 h2 h3) y (q_cover _ rfl y)

/-- Each piece stored into window 6 holds the block's function. -/
theorem pieces_F6 (h0 h1 h2 h3) : ∀ p ∈ (kernelRunF0 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).2.1, ∀ x : p.1.shape.Idx, p.2 x = (laneG (W := 1536) (val x0 x1 x2 x3 x4) (2816 + ·)) (p.1.emb x) := by
  have c22 := even_holds arg6 harg6 arg7 harg7 arg8 harg8 arg9 harg9 arg10 harg10 x0 x1 x2 x3 x4 2816 rfl (by decide) (by decide)
  have c23 := odd_holds arg6 harg6 arg7 harg7 arg8 harg8 arg9 harg9 arg10 harg10 x0 x1 x2 x3 x4 2816 2944 rfl rfl (by decide) (by decide)
  have c24 := even_holds arg6 harg6 arg7 harg7 arg8 harg8 arg9 harg9 arg10 harg10 x0 x1 x2 x3 x4 3072 rfl (by decide) (by decide)
  have c25 := odd_holds arg6 harg6 arg7 harg7 arg8 harg8 arg9 harg9 arg10 harg10 x0 x1 x2 x3 x4 3072 3200 rfl rfl (by decide) (by decide)
  have c26 := even_holds arg6 harg6 arg7 harg7 arg8 harg8 arg9 harg9 arg10 harg10 x0 x1 x2 x3 x4 3328 rfl (by decide) (by decide)
  have c27 := odd_holds arg6 harg6 arg7 harg7 arg8 harg8 arg9 harg9 arg10 harg10 x0 x1 x2 x3 x4 3328 3456 rfl rfl (by decide) (by decide)
  have c28 := even_holds arg6 harg6 arg7 harg7 arg8 harg8 arg9 harg9 arg10 harg10 x0 x1 x2 x3 x4 3584 rfl (by decide) (by decide)
  have c29 := odd_holds arg6 harg6 arg7 harg7 arg8 harg8 arg9 harg9 arg10 harg10 x0 x1 x2 x3 x4 3584 3712 rfl rfl (by decide) (by decide)
  have c30 := even_holds arg6 harg6 arg7 harg7 arg8 harg8 arg9 harg9 arg10 harg10 x0 x1 x2 x3 x4 3840 rfl (by decide) (by decide)
  have c31 := odd_holds arg6 harg6 arg7 harg7 arg8 harg8 arg9 harg9 arg10 harg10 x0 x1 x2 x3 x4 3840 3968 rfl rfl (by decide) (by decide)
  have c32 := even_holds arg6 harg6 arg7 harg7 arg8 harg8 arg9 harg9 arg10 harg10 x0 x1 x2 x3 x4 4096 rfl (by decide) (by decide)
  have c33 := odd_holds arg6 harg6 arg7 harg7 arg8 harg8 arg9 harg9 arg10 harg10 x0 x1 x2 x3 x4 4096 4224 rfl rfl (by decide) (by decide)
  refine List.forall_mem_cons.2 ⟨fun x => lane_piece (W := 1536) 1408 (2816 + ·) inb_S256x1536_S256x128_0_1408 c33 (by decide) x, ?_⟩
  refine List.forall_mem_cons.2 ⟨fun x => lane_piece (W := 1536) 1280 (2816 + ·) inb_S256x1536_S256x128_0_1280 c32 (by decide) x, ?_⟩
  refine List.forall_mem_cons.2 ⟨fun x => lane_piece (W := 1536) 1152 (2816 + ·) inb_S256x1536_S256x128_0_1152 c31 (by decide) x, ?_⟩
  refine List.forall_mem_cons.2 ⟨fun x => lane_piece (W := 1536) 1024 (2816 + ·) inb_S256x1536_S256x128_0_1024 c30 (by decide) x, ?_⟩
  refine List.forall_mem_cons.2 ⟨fun x => lane_piece (W := 1536) 896 (2816 + ·) inb_S256x1536_S256x128_0_896 c29 (by decide) x, ?_⟩
  refine List.forall_mem_cons.2 ⟨fun x => lane_piece (W := 1536) 768 (2816 + ·) inb_S256x1536_S256x128_0_768 c28 (by decide) x, ?_⟩
  refine List.forall_mem_cons.2 ⟨fun x => lane_piece (W := 1536) 640 (2816 + ·) inb_S256x1536_S256x128_0_640 c27 (by decide) x, ?_⟩
  refine List.forall_mem_cons.2 ⟨fun x => lane_piece (W := 1536) 512 (2816 + ·) inb_S256x1536_S256x128_0_512 c26 (by decide) x, ?_⟩
  refine List.forall_mem_cons.2 ⟨fun x => lane_piece (W := 1536) 384 (2816 + ·) inb_S256x1536_S256x128_0_384 c25 (by decide) x, ?_⟩
  refine List.forall_mem_cons.2 ⟨fun x => lane_piece (W := 1536) 256 (2816 + ·) inb_S256x1536_S256x128_0_256 c24 (by decide) x, ?_⟩
  refine List.forall_mem_cons.2 ⟨fun x => lane_piece (W := 1536) 128 (2816 + ·) inb_S256x1536_S256x128_0_128 c23 (by decide) x, ?_⟩
  refine List.forall_mem_cons.2 ⟨fun x => lane_piece (W := 1536) 0 (2816 + ·) inb_S256x1536_S256x128_0_0 c22 (by decide) x, ?_⟩
  exact fun p hp => absurd hp List.not_mem_nil

theorem read_F6 (v : View sig .tc .vmem S256x1536 .bf16) (f) (h0 h1 h2 h3) (y : S256x1536.Idx) :
    v.read (Elt Ideal) (v.writes (Elt Ideal) f (kernelRunF0 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).2.1) y = (laneG (W := 1536) (val x0 x1 x2 x3 x4) (2816 + ·)) y :=
  View.read_writes_apply_of_pieces _ _ _ _ (pieces_F6 c i arg6 harg6 arg7 harg7 arg8 harg8 arg9 harg9 arg10 harg10 arg11 harg11 arg12 harg12 arg13 harg13 arg14 harg14 x0 x1 x2 x3 x4 x5 x6 xt0 xt1 xt2 xt3 hw h0 h1 h2 h3) y (View.cover_of_tiledL _ ![256, 128] (by rfl) y)

end

end Cert.QkvIdeal.Gen

end
-- ==== Proof.QkvIdeal.PiecesM0.lean ====
/- The pieces of the masked store of the first half of the columns, each read at an index. -/
module

public import proofs.«01_k».proof.Proof.QkvIdeal.Block
public import proofs.«01_k».proof.Proof.QkvIdeal.RunM0

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

set_option maxHeartbeats 4000000

section
variable (c : Dev nD) (i : grid0.Coords) (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole) (arg11 : Memref sig .tc .vmem S6144x128 .f32) (harg11 : arg11.IsWhole) (arg12 : Memref sig .tc .vmem S256x1536 .bf16) (harg12 : arg12.IsWhole) (arg13 : Memref sig .tc .vmem S256x1408 .bf16) (harg13 : arg13.IsWhole) (arg14 : Memref sig .tc .vmem S256x2944 .bf16) (harg14 : arg14.IsWhole)
  (x0 : Vec Ideal S256x2880 .fp8e4m3) (x1 : Vec Ideal S256x128 .f32) (x2 : Vec Ideal S1x2880x4352 .fp8e4m3) (x3 : Vec Ideal S1x1x4352 .f32) (x4 : Vec Ideal S1x1x4352 .f32) (x5 : Vec Ideal S6144x128 .f32) (x6 : Vec Ideal S256x1536 .bf16)
  (xt0 : TbBuf0 (F := Ideal) c tbM0_0) (xt1 : TbBuf0 (F := Ideal) c tbM0_1) (xt2 : TbBuf0 (F := Ideal) c tbM0_2) (xt3 : TbBuf0 (F := Ideal) c tbM0_3) (hw : k0_chk1 (wG c i xt1))

/-- Each piece stored into window 5 holds the block's function. -/
theorem pieces_M5 (h0 h1 h2 h3) : ∀ p ∈ (kernelRunM0 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).1, ∀ x : p.1.shape.Idx, p.2 x = qMask (Scalar.subi (wLo c i xt1 xt2 hw) (Scalar.muli (wT c i xt0) 256#32)) (Scalar.subi (wHi c i xt1 xt2 hw) (Scalar.muli (wT c i xt0) 256#32)) (qG (val x0 x1 x2 x3 x4)) x5 (p.1.emb x) := by
  have c0 := even_holds arg6 harg6 arg7 harg7 arg8 harg8 arg9 harg9 arg10 harg10 x0 x1 x2 x3 x4 0 rfl (by decide) (by decide)
  have c1 := odd_holds arg6 harg6 arg7 harg7 arg8 harg8 arg9 harg9 arg10 harg10 x0 x1 x2 x3 x4 0 128 rfl rfl (by decide) (by decide)
  have c2 := even_holds arg6 harg6 arg7 harg7 arg8 harg8 arg9 harg9 arg10 harg10 x0 x1 x2 x3 x4 256 rfl (by decide) (by decide)
  have c3 := odd_holds arg6 harg6 arg7 harg7 arg8 harg8 arg9 harg9 arg10 harg10 x0 x1 x2 x3 x4 256 384 rfl rfl (by decide) (by decide)
  have c4 := even_holds arg6 harg6 arg7 harg7 arg8 harg8 arg9 harg9 arg10 harg10 x0 x1 x2 x3 x4 512 rfl (by decide) (by decide)
  have c5 := odd_holds arg6 harg6 arg7 harg7 arg8 harg8 arg9 harg9 arg10 harg10 x0 x1 x2 x3 x4 512 640 rfl rfl (by decide) (by decide)
  have c6 := even_holds arg6 harg6 arg7 harg7 arg8 harg8 arg9 harg9 arg10 harg10 x0 x1 x2 x3 x4 768 rfl (by decide) (by decide)
  have c7 := odd_holds arg6 harg6 arg7 harg7 arg8 harg8 arg9 harg9 arg10 harg10 x0 x1 x2 x3 x4 768 896 rfl rfl (by decide) (by decide)
  have c8 := even_holds arg6 harg6 arg7 harg7 arg8 harg8 arg9 harg9 arg10 harg10 x0 x1 x2 x3 x4 1024 rfl (by decide) (by decide)
  have c9 := odd_holds arg6 harg6 arg7 harg7 arg8 harg8 arg9 harg9 arg10 harg10 x0 x1 x2 x3 x4 1024 1152 rfl rfl (by decide) (by decide)
  have c10 := even_holds arg6 harg6 arg7 harg7 arg8 harg8 arg9 harg9 arg10 harg10 x0 x1 x2 x3 x4 1280 rfl (by decide) (by decide)
  have c11 := odd_holds arg6 harg6 arg7 harg7 arg8 harg8 arg9 harg9 arg10 harg10 x0 x1 x2 x3 x4 1280 1408 rfl rfl (by decide) (by decide)
  have c12 := even_holds arg6 harg6 arg7 harg7 arg8 harg8 arg9 harg9 arg10 harg10 x0 x1 x2 x3 x4 1536 rfl (by decide) (by decide)
  have c13 := odd_holds arg6 harg6 arg7 harg7 arg8 harg8 arg9 harg9 arg10 harg10 x0 x1 x2 x3 x4 1536 1664 rfl rfl (by decide) (by decide)
  have c14 := even_holds arg6 harg6 arg7 harg7 arg8 harg8 arg9 harg9 arg10 harg10 x0 x1 x2 x3 x4 1792 rfl (by decide) (by decide)
  have c15 := odd_holds arg6 harg6 arg7 harg7 arg8 harg8 arg9 harg9 arg10 harg10 x0 x1 x2 x3 x4 1792 1920 rfl rfl (by decide) (by decide)
  have c16 := even_holds arg6 harg6 arg7 harg7 arg8 harg8 arg9 harg9 arg10 harg10 x0 x1 x2 x3 x4 2048 rfl (by decide) (by decide)
  have c17 := odd_holds arg6 harg6 arg7 harg7 arg8 harg8 arg9 harg9 arg10 harg10 x0 x1 x2 x3 x4 2048 2176 rfl rfl (by decide) (by decide)
  have c18 := even_holds arg6 harg6 arg7 harg7 arg8 harg8 arg9 harg9 arg10 harg10 x0 x1 x2 x3 x4 2304 rfl (by decide) (by decide)
  have c19 := odd_holds arg6 harg6 arg7 harg7 arg8 harg8 arg9 harg9 arg10 harg10 x0 x1 x2 x3 x4 2304 2432 rfl rfl (by decide) (by decide)
  have c20 := even_holds arg6 harg6 arg7 harg7 arg8 harg8 arg9 harg9 arg10 harg10 x0 x1 x2 x3 x4 2560 rfl (by decide) (by decide)
  have c21 := odd_holds arg6 harg6 arg7 harg7 arg8 harg8 arg9 harg9 arg10 harg10 x0 x1 x2 x3 x4 2560 2688 rfl rfl (by decide) (by decide)
  have c22 := even_holds arg6 harg6 arg7 harg7 arg8 harg8 arg9 harg9 arg10 harg10 x0 x1 x2 x3 x4 2816 rfl (by decide) (by decide)
  have z := holds_zeros (val_past x0 x1 x2 x3 x4)
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 23 (by decide) arg11 harg11 x5 _ (by rfl) z (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 22 (by decide) arg11 harg11 x5 _ (by rfl) (holds_lowSel (holds_rowSel c21 c22 z z) z) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 21 (by decide) arg11 harg11 x5 _ (by rfl) (holds_lowSel (holds_turn 64#32 (.inr (.inl rfl)) (holds_rowSel z z c20 c21)) (holds_turn 96#32 (.inl rfl) (holds_rowSel c22 z z c20))) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 20 (by decide) arg11 harg11 x5 _ (by rfl) (holds_lowSel (holds_rowSel c20 c21 z z) (holds_turn 32#32 (.inr (.inr rfl)) (holds_rowSel z c20 c21 z))) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 19 (by decide) arg11 harg11 x5 _ (by rfl) (holds_rowSel c16 c17 c18 c19) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 18 (by decide) arg11 harg11 x5 _ (by rfl) (holds_turn 32#32 (.inr (.inr rfl)) (holds_rowSel c17 c18 c19 c15)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 17 (by decide) arg11 harg11 x5 _ (by rfl) (holds_turn 64#32 (.inr (.inl rfl)) (holds_rowSel c18 c19 c15 c16)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 16 (by decide) arg11 harg11 x5 _ (by rfl) (holds_turn 96#32 (.inl rfl) (holds_rowSel c19 c15 c16 c17)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 15 (by decide) arg11 harg11 x5 _ (by rfl) (holds_rowSel c15 c16 c17 c18) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 14 (by decide) arg11 harg11 x5 _ (by rfl) (holds_rowSel c11 c12 c13 c14) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 13 (by decide) arg11 harg11 x5 _ (by rfl) (holds_turn 32#32 (.inr (.inr rfl)) (holds_rowSel c12 c13 c14 c10)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 12 (by decide) arg11 harg11 x5 _ (by rfl) (holds_turn 64#32 (.inr (.inl rfl)) (holds_rowSel c13 c14 c10 c11)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 11 (by decide) arg11 harg11 x5 _ (by rfl) (holds_turn 96#32 (.inl rfl) (holds_rowSel c14 c10 c11 c12)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 10 (by decide) arg11 harg11 x5 _ (by rfl) (holds_rowSel c10 c11 c12 c13) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 9 (by decide) arg11 harg11 x5 _ (by rfl) (holds_rowSel c6 c7 c8 c9) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 8 (by decide) arg11 harg11 x5 _ (by rfl) (holds_turn 32#32 (.inr (.inr rfl)) (holds_rowSel c7 c8 c9 c5)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 7 (by decide) arg11 harg11 x5 _ (by rfl) (holds_turn 64#32 (.inr (.inl rfl)) (holds_rowSel c8 c9 c5 c6)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 6 (by decide) arg11 harg11 x5 _ (by rfl) (holds_turn 96#32 (.inl rfl) (holds_rowSel c9 c5 c6 c7)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 5 (by decide) arg11 harg11 x5 _ (by rfl) (holds_rowSel c5 c6 c7 c8) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 4 (by decide) arg11 harg11 x5 _ (by rfl) (holds_rowSel c1 c2 c3 c4) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 3 (by decide) arg11 harg11 x5 _ (by rfl) (holds_turn 32#32 (.inr (.inr rfl)) (holds_rowSel c2 c3 c4 c0)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 2 (by decide) arg11 harg11 x5 _ (by rfl) (holds_turn 64#32 (.inr (.inl rfl)) (holds_rowSel c3 c4 c0 c1)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 1 (by decide) arg11 harg11 x5 _ (by rfl) (holds_turn 96#32 (.inl rfl) (holds_rowSel c4 c0 c1 c2)) (by decide) x, ?_⟩
  refine List.forall_mem_cons.2 ⟨fun x => q_masked (Scalar.subi (wLo c i xt1 xt2 hw) (Scalar.muli (wT c i xt0) 256#32)) (Scalar.subi (wHi c i xt1 xt2 hw) (Scalar.muli (wT c i xt0) 256#32)) 0 (by decide) arg11 harg11 x5 [] (by rfl) (holds_rowSel c0 c1 c2 c3) (by decide) x, ?_⟩
  exact fun p hp => absurd hp List.not_mem_nil

theorem read_M5 (v : View sig .tc .vmem S6144x128 .f32) (f) (h0 h1 h2 h3) (y : S6144x128.Idx) :
    v.read (Elt Ideal) (v.writes (Elt Ideal) f (kernelRunM0 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).1) y = qMask (Scalar.subi (wLo c i xt1 xt2 hw) (Scalar.muli (wT c i xt0) 256#32)) (Scalar.subi (wHi c i xt1 xt2 hw) (Scalar.muli (wT c i xt0) 256#32)) (qG (val x0 x1 x2 x3 x4)) x5 y :=
  View.read_writes_apply_of_pieces _ _ _ _ (pieces_M5 c i arg6 harg6 arg7 harg7 arg8 harg8 arg9 harg9 arg10 harg10 arg11 harg11 arg12 harg12 arg13 harg13 arg14 harg14 x0 x1 x2 x3 x4 x5 x6 xt0 xt1 xt2 xt3 hw h0 h1 h2 h3) y (q_cover _ rfl y)

/-- Each piece stored into window 6 holds the block's function. -/
theorem pieces_M6 (h0 h1 h2 h3) : ∀ p ∈ (kernelRunM0 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).2.1, ∀ x : p.1.shape.Idx, p.2 x = laneMask (Scalar.subi (wLo c i xt1 xt2 hw) (Scalar.muli (wT c i xt0) 256#32)) (Scalar.subi (wHi c i xt1 xt2 hw) (Scalar.muli (wT c i xt0) 256#32)) (laneG (W := 1536) (val x0 x1 x2 x3 x4) (2816 + ·)) x6 (p.1.emb x) := by
  have c22 := even_holds arg6 harg6 arg7 harg7 arg8 harg8 arg9 harg9 arg10 harg10 x0 x1 x2 x3 x4 2816 rfl (by decide) (by decide)
  have c23 := odd_holds arg6 harg6 arg7 harg7 arg8 harg8 arg9 harg9 arg10 harg10 x0 x1 x2 x3 x4 2816 2944 rfl rfl (by decide) (by decide)
  have c24 := even_holds arg6 harg6 arg7 harg7 arg8 harg8 arg9 harg9 arg10 harg10 x0 x1 x2 x3 x4 3072 rfl (by decide) (by decide)
  have c25 := odd_holds arg6 harg6 arg7 harg7 arg8 harg8 arg9 harg9 arg10 harg10 x0 x1 x2 x3 x4 3072 3200 rfl rfl (by decide) (by decide)
  have c26 := even_holds arg6 harg6 arg7 harg7 arg8 harg8 arg9 harg9 arg10 harg10 x0 x1 x2 x3 x4 3328 rfl (by decide) (by decide)
  have c27 := odd_holds arg6 harg6 arg7 harg7 arg8 harg8 arg9 harg9 arg10 harg10 x0 x1 x2 x3 x4 3328 3456 rfl rfl (by decide) (by decide)
  have c28 := even_holds arg6 harg6 arg7 harg7 arg8 harg8 arg9 harg9 arg10 harg10 x0 x1 x2 x3 x4 3584 rfl (by decide) (by decide)
  have c29 := odd_holds arg6 harg6 arg7 harg7 arg8 harg8 arg9 harg9 arg10 harg10 x0 x1 x2 x3 x4 3584 3712 rfl rfl (by decide) (by decide)
  have c30 := even_holds arg6 harg6 arg7 harg7 arg8 harg8 arg9 harg9 arg10 harg10 x0 x1 x2 x3 x4 3840 rfl (by decide) (by decide)
  have c31 := odd_holds arg6 harg6 arg7 harg7 arg8 harg8 arg9 harg9 arg10 harg10 x0 x1 x2 x3 x4 3840 3968 rfl rfl (by decide) (by decide)
  have c32 := even_holds arg6 harg6 arg7 harg7 arg8 harg8 arg9 harg9 arg10 harg10 x0 x1 x2 x3 x4 4096 rfl (by decide) (by decide)
  have c33 := odd_holds arg6 harg6 arg7 harg7 arg8 harg8 arg9 harg9 arg10 harg10 x0 x1 x2 x3 x4 4096 4224 rfl rfl (by decide) (by decide)
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 1408 (2816 + ·) inb_S256x1536_S256x128_0_1408 inb_S256x1536_S256x128_0_1408 arg12 harg12 x6 c33 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 1280 (2816 + ·) inb_S256x1536_S256x128_0_1280 inb_S256x1536_S256x128_0_1280 arg12 harg12 x6 c32 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 1152 (2816 + ·) inb_S256x1536_S256x128_0_1152 inb_S256x1536_S256x128_0_1152 arg12 harg12 x6 c31 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 1024 (2816 + ·) inb_S256x1536_S256x128_0_1024 inb_S256x1536_S256x128_0_1024 arg12 harg12 x6 c30 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 896 (2816 + ·) inb_S256x1536_S256x128_0_896 inb_S256x1536_S256x128_0_896 arg12 harg12 x6 c29 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 768 (2816 + ·) inb_S256x1536_S256x128_0_768 inb_S256x1536_S256x128_0_768 arg12 harg12 x6 c28 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 640 (2816 + ·) inb_S256x1536_S256x128_0_640 inb_S256x1536_S256x128_0_640 arg12 harg12 x6 c27 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 512 (2816 + ·) inb_S256x1536_S256x128_0_512 inb_S256x1536_S256x128_0_512 arg12 harg12 x6 c26 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 384 (2816 + ·) inb_S256x1536_S256x128_0_384 inb_S256x1536_S256x128_0_384 arg12 harg12 x6 c25 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 256 (2816 + ·) inb_S256x1536_S256x128_0_256 inb_S256x1536_S256x128_0_256 arg12 harg12 x6 c24 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 128 (2816 + ·) inb_S256x1536_S256x128_0_128 inb_S256x1536_S256x128_0_128 arg12 harg12 x6 c23 (by decide) x, ?_⟩
  refine List.forall_mem_cons.2 ⟨fun x => lane_masked (W := 1536) (Scalar.subi (wLo c i xt1 xt2 hw) (Scalar.muli (wT c i xt0) 256#32)) (Scalar.subi (wHi c i xt1 xt2 hw) (Scalar.muli (wT c i xt0) 256#32)) 0 (2816 + ·) inb_S256x1536_S256x128_0_0 inb_S256x1536_S256x128_0_0 arg12 harg12 x6 c22 (by decide) x, ?_⟩
  exact fun p hp => absurd hp List.not_mem_nil

theorem read_M6 (v : View sig .tc .vmem S256x1536 .bf16) (f) (h0 h1 h2 h3) (y : S256x1536.Idx) :
    v.read (Elt Ideal) (v.writes (Elt Ideal) f (kernelRunM0 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).2.1) y = laneMask (Scalar.subi (wLo c i xt1 xt2 hw) (Scalar.muli (wT c i xt0) 256#32)) (Scalar.subi (wHi c i xt1 xt2 hw) (Scalar.muli (wT c i xt0) 256#32)) (laneG (W := 1536) (val x0 x1 x2 x3 x4) (2816 + ·)) x6 y :=
  View.read_writes_apply_of_pieces _ _ _ _ (pieces_M6 c i arg6 harg6 arg7 harg7 arg8 harg8 arg9 harg9 arg10 harg10 arg11 harg11 arg12 harg12 arg13 harg13 arg14 harg14 x0 x1 x2 x3 x4 x5 x6 xt0 xt1 xt2 xt3 hw h0 h1 h2 h3) y (View.cover_of_tiledL _ ![256, 128] (by rfl) y)

end

end Cert.QkvIdeal.Gen

end
-- ==== Proof.QkvIdeal.PiecesF1.lean ====
/- The pieces of the whole store of the second half of the columns, each read at an index. -/
module

public import proofs.«01_k».proof.Proof.QkvIdeal.Block
public import proofs.«01_k».proof.Proof.QkvIdeal.RunF1

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

set_option maxHeartbeats 4000000

section
variable (c : Dev nD) (i : grid0.Coords) (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole) (arg11 : Memref sig .tc .vmem S6144x128 .f32) (harg11 : arg11.IsWhole) (arg12 : Memref sig .tc .vmem S256x1536 .bf16) (harg12 : arg12.IsWhole) (arg13 : Memref sig .tc .vmem S256x1408 .bf16) (harg13 : arg13.IsWhole) (arg14 : Memref sig .tc .vmem S256x2944 .bf16) (harg14 : arg14.IsWhole)
  (x0 : Vec Ideal S256x2880 .fp8e4m3) (x1 : Vec Ideal S256x128 .f32) (x2 : Vec Ideal S1x2880x4352 .fp8e4m3) (x3 : Vec Ideal S1x1x4352 .f32) (x4 : Vec Ideal S1x1x4352 .f32) (x5 : Vec Ideal S256x1408 .bf16) (x6 : Vec Ideal S256x2944 .bf16)
  (xt0 : TbBuf0 (F := Ideal) c tbM0_0) (xt1 : TbBuf0 (F := Ideal) c tbM0_1) (xt2 : TbBuf0 (F := Ideal) c tbM0_2) (xt3 : TbBuf0 (F := Ideal) c tbM0_3) (hw : k0_chk1 (wG c i xt1))

/-- Each piece stored into window 7 holds the block's function. -/
theorem pieces_F7 (h0 h1 h2 h3) : ∀ p ∈ (kernelRunF1 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).1, ∀ x : p.1.shape.Idx, p.2 x = (laneG (W := 1408) (val x0 x1 x2 x3 x4) (0 + ·)) (p.1.emb x) := by
  have c0 := even_holds arg6 harg6 arg7 harg7 arg8 harg8 arg9 harg9 arg10 harg10 x0 x1 x2 x3 x4 0 rfl (by decide) (by decide)
  have c1 := odd_holds arg6 harg6 arg7 harg7 arg8 harg8 arg9 harg9 arg10 harg10 x0 x1 x2 x3 x4 0 128 rfl rfl (by decide) (by decide)
  have c2 := even_holds arg6 harg6 arg7 harg7 arg8 harg8 arg9 harg9 arg10 harg10 x0 x1 x2 x3 x4 256 rfl (by decide) (by decide)
  have c3 := odd_holds arg6 harg6 arg7 harg7 arg8 harg8 arg9 harg9 arg10 harg10 x0 x1 x2 x3 x4 256 384 rfl rfl (by decide) (by decide)
  have c4 := even_holds arg6 harg6 arg7 harg7 arg8 harg8 arg9 harg9 arg10 harg10 x0 x1 x2 x3 x4 512 rfl (by decide) (by decide)
  have c5 := odd_holds arg6 harg6 arg7 harg7 arg8 harg8 arg9 harg9 arg10 harg10 x0 x1 x2 x3 x4 512 640 rfl rfl (by decide) (by decide)
  have c6 := even_holds arg6 harg6 arg7 harg7 arg8 harg8 arg9 harg9 arg10 harg10 x0 x1 x2 x3 x4 768 rfl (by decide) (by decide)
  have c7 := odd_holds arg6 harg6 arg7 harg7 arg8 harg8 arg9 harg9 arg10 harg10 x0 x1 x2 x3 x4 768 896 rfl rfl (by decide) (by decide)
  have c8 := even_holds arg6 harg6 arg7 harg7 arg8 harg8 arg9 harg9 arg10 harg10 x0 x1 x2 x3 x4 1024 rfl (by decide) (by decide)
  have c9 := odd_holds arg6 harg6 arg7 harg7 arg8 harg8 arg9 harg9 arg10 harg10 x0 x1 x2 x3 x4 1024 1152 rfl rfl (by decide) (by decide)
  have c10 := even_holds arg6 harg6 arg7 harg7 arg8 harg8 arg9 harg9 arg10 harg10 x0 x1 x2 x3 x4 1280 rfl (by decide) (by decide)
  refine List.forall_mem_cons.2 ⟨fun x => lane_piece (W := 1408) 1280 (0 + ·) inb_S256x1408_S256x128_0_1280 c10 (by decide) x, ?_⟩
  refine List.forall_mem_cons.2 ⟨fun x => lane_piece (W := 1408) 1152 (0 + ·) inb_S256x1408_S256x128_0_1152 c9 (by decide) x, ?_⟩
  refine List.forall_mem_cons.2 ⟨fun x => lane_piece (W := 1408) 1024 (0 + ·) inb_S256x1408_S256x128_0_1024 c8 (by decide) x, ?_⟩
  refine List.forall_mem_cons.2 ⟨fun x => lane_piece (W := 1408) 896 (0 + ·) inb_S256x1408_S256x128_0_896 c7 (by decide) x, ?_⟩
  refine List.forall_mem_cons.2 ⟨fun x => lane_piece (W := 1408) 768 (0 + ·) inb_S256x1408_S256x128_0_768 c6 (by decide) x, ?_⟩
  refine List.forall_mem_cons.2 ⟨fun x => lane_piece (W := 1408) 640 (0 + ·) inb_S256x1408_S256x128_0_640 c5 (by decide) x, ?_⟩
  refine List.forall_mem_cons.2 ⟨fun x => lane_piece (W := 1408) 512 (0 + ·) inb_S256x1408_S256x128_0_512 c4 (by decide) x, ?_⟩
  refine List.forall_mem_cons.2 ⟨fun x => lane_piece (W := 1408) 384 (0 + ·) inb_S256x1408_S256x128_0_384 c3 (by decide) x, ?_⟩
  refine List.forall_mem_cons.2 ⟨fun x => lane_piece (W := 1408) 256 (0 + ·) inb_S256x1408_S256x128_0_256 c2 (by decide) x, ?_⟩
  refine List.forall_mem_cons.2 ⟨fun x => lane_piece (W := 1408) 128 (0 + ·) inb_S256x1408_S256x128_0_128 c1 (by decide) x, ?_⟩
  refine List.forall_mem_cons.2 ⟨fun x => lane_piece (W := 1408) 0 (0 + ·) inb_S256x1408_S256x128_0_0 c0 (by decide) x, ?_⟩
  exact fun p hp => absurd hp List.not_mem_nil

theorem read_F7 (v : View sig .tc .vmem S256x1408 .bf16) (f) (h0 h1 h2 h3) (y : S256x1408.Idx) :
    v.read (Elt Ideal) (v.writes (Elt Ideal) f (kernelRunF1 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).1) y = (laneG (W := 1408) (val x0 x1 x2 x3 x4) (0 + ·)) y :=
  View.read_writes_apply_of_pieces _ _ _ _ (pieces_F7 c i arg6 harg6 arg7 harg7 arg8 harg8 arg9 harg9 arg10 harg10 arg11 harg11 arg12 harg12 arg13 harg13 arg14 harg14 x0 x1 x2 x3 x4 x5 x6 xt0 xt1 xt2 xt3 hw h0 h1 h2 h3) y (View.cover_of_tiledL _ ![256, 128] (by rfl) y)

/-- Each piece stored into window 8 holds the block's function. -/
theorem pieces_F8 (h0 h1 h2 h3) : ∀ p ∈ (kernelRunF1 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).2.1, ∀ x : p.1.shape.Idx, p.2 x = (laneG (W := 2944) (val x0 x1 x2 x3 x4) vCol) (p.1.emb x) := by
  have c11 := odd_holds arg6 harg6 arg7 harg7 arg8 harg8 arg9 harg9 arg10 harg10 x0 x1 x2 x3 x4 1280 1408 rfl rfl (by decide) (by decide)
  have c12 := even_holds arg6 harg6 arg7 harg7 arg8 harg8 arg9 harg9 arg10 harg10 x0 x1 x2 x3 x4 1536 rfl (by decide) (by decide)
  have c13 := odd_holds arg6 harg6 arg7 harg7 arg8 harg8 arg9 harg9 arg10 harg10 x0 x1 x2 x3 x4 1536 1664 rfl rfl (by decide) (by decide)
  have c14 := even_holds arg6 harg6 arg7 harg7 arg8 harg8 arg9 harg9 arg10 harg10 x0 x1 x2 x3 x4 1792 rfl (by decide) (by decide)
  have c15 := odd_holds arg6 harg6 arg7 harg7 arg8 harg8 arg9 harg9 arg10 harg10 x0 x1 x2 x3 x4 1792 1920 rfl rfl (by decide) (by decide)
  have c16 := even_holds arg6 harg6 arg7 harg7 arg8 harg8 arg9 harg9 arg10 harg10 x0 x1 x2 x3 x4 2048 rfl (by decide) (by decide)
  have c17 := odd_holds arg6 harg6 arg7 harg7 arg8 harg8 arg9 harg9 arg10 harg10 x0 x1 x2 x3 x4 2048 2176 rfl rfl (by decide) (by decide)
  have c18 := even_holds arg6 harg6 arg7 harg7 arg8 harg8 arg9 harg9 arg10 harg10 x0 x1 x2 x3 x4 2304 rfl (by decide) (by decide)
  have c19 := odd_holds arg6 harg6 arg7 harg7 arg8 harg8 arg9 harg9 arg10 harg10 x0 x1 x2 x3 x4 2304 2432 rfl rfl (by decide) (by decide)
  have c20 := even_holds arg6 harg6 arg7 harg7 arg8 harg8 arg9 harg9 arg10 harg10 x0 x1 x2 x3 x4 2560 rfl (by decide) (by decide)
  have c21 := odd_holds arg6 harg6 arg7 harg7 arg8 harg8 arg9 harg9 arg10 harg10 x0 x1 x2 x3 x4 2560 2688 rfl rfl (by decide) (by decide)
  have c22 := even_holds arg6 harg6 arg7 harg7 arg8 harg8 arg9 harg9 arg10 harg10 x0 x1 x2 x3 x4 2816 rfl (by decide) (by decide)
  have c23 := odd_holds arg6 harg6 arg7 harg7 arg8 harg8 arg9 harg9 arg10 harg10 x0 x1 x2 x3 x4 2816 2944 rfl rfl (by decide) (by decide)
  have c24 := even_holds arg6 harg6 arg7 harg7 arg8 harg8 arg9 harg9 arg10 harg10 x0 x1 x2 x3 x4 3072 rfl (by decide) (by decide)
  have c25 := odd_holds arg6 harg6 arg7 harg7 arg8 harg8 arg9 harg9 arg10 harg10 x0 x1 x2 x3 x4 3072 3200 rfl rfl (by decide) (by decide)
  have c26 := even_holds arg6 harg6 arg7 harg7 arg8 harg8 arg9 harg9 arg10 harg10 x0 x1 x2 x3 x4 3328 rfl (by decide) (by decide)
  have c27 := odd_holds arg6 harg6 arg7 harg7 arg8 harg8 arg9 harg9 arg10 harg10 x0 x1 x2 x3 x4 3328 3456 rfl rfl (by decide) (by decide)
  have c28 := even_holds arg6 harg6 arg7 harg7 arg8 harg8 arg9 harg9 arg10 harg10 x0 x1 x2 x3 x4 3584 rfl (by decide) (by decide)
  have c29 := odd_holds arg6 harg6 arg7 harg7 arg8 harg8 arg9 harg9 arg10 harg10 x0 x1 x2 x3 x4 3584 3712 rfl rfl (by decide) (by decide)
  have c30 := even_holds arg6 harg6 arg7 harg7 arg8 harg8 arg9 harg9 arg10 harg10 x0 x1 x2 x3 x4 3840 rfl (by decide) (by decide)
  have c31 := odd_holds arg6 harg6 arg7 harg7 arg8 harg8 arg9 harg9 arg10 harg10 x0 x1 x2 x3 x4 3840 3968 rfl rfl (by decide) (by decide)
  have c32 := even_holds arg6 harg6 arg7 harg7 arg8 harg8 arg9 harg9 arg10 harg10 x0 x1 x2 x3 x4 4096 rfl (by decide) (by decide)
  have c33 := odd_holds arg6 harg6 arg7 harg7 arg8 harg8 arg9 harg9 arg10 harg10 x0 x1 x2 x3 x4 4096 4224 rfl rfl (by decide) (by decide)
  have z := holds_zeros (val_past x0 x1 x2 x3 x4)
  refine List.forall_mem_cons.2 ⟨fun x => lane_piece (W := 2944) 2816 vCol inb_S256x2944_S256x128_0_2816 (holds_lowSel c33 z) (by decide) x, ?_⟩
  refine List.forall_mem_cons.2 ⟨fun x => lane_piece (W := 2944) 2688 vCol inb_S256x2944_S256x128_0_2688 c32 (by decide) x, ?_⟩
  refine List.forall_mem_cons.2 ⟨fun x => lane_piece (W := 2944) 2560 vCol inb_S256x2944_S256x128_0_2560 c31 (by decide) x, ?_⟩
  refine List.forall_mem_cons.2 ⟨fun x => lane_piece (W := 2944) 2432 vCol inb_S256x2944_S256x128_0_2432 c30 (by decide) x, ?_⟩
  refine List.forall_mem_cons.2 ⟨fun x => lane_piece (W := 2944) 2304 vCol inb_S256x2944_S256x128_0_2304 c29 (by decide) x, ?_⟩
  refine List.forall_mem_cons.2 ⟨fun x => lane_piece (W := 2944) 2176 vCol inb_S256x2944_S256x128_0_2176 c28 (by decide) x, ?_⟩
  refine List.forall_mem_cons.2 ⟨fun x => lane_piece (W := 2944) 2048 vCol inb_S256x2944_S256x128_0_2048 c27 (by decide) x, ?_⟩
  refine List.forall_mem_cons.2 ⟨fun x => lane_piece (W := 2944) 1920 vCol inb_S256x2944_S256x128_0_1920 c26 (by decide) x, ?_⟩
  refine List.forall_mem_cons.2 ⟨fun x => lane_piece (W := 2944) 1792 vCol inb_S256x2944_S256x128_0_1792 c25 (by decide) x, ?_⟩
  refine List.forall_mem_cons.2 ⟨fun x => lane_piece (W := 2944) 1664 vCol inb_S256x2944_S256x128_0_1664 c24 (by decide) x, ?_⟩
  refine List.forall_mem_cons.2 ⟨fun x => lane_piece (W := 2944) 1536 vCol inb_S256x2944_S256x128_0_1536 c23 (by decide) x, ?_⟩
  refine List.forall_mem_cons.2 ⟨fun x => lane_piece (W := 2944) 1408 vCol inb_S256x2944_S256x128_0_1408 c22 (by decide) x, ?_⟩
  refine List.forall_mem_cons.2 ⟨fun x => lane_piece (W := 2944) 1280 vCol inb_S256x2944_S256x128_0_1280 c21 (by decide) x, ?_⟩
  refine List.forall_mem_cons.2 ⟨fun x => lane_piece (W := 2944) 1152 vCol inb_S256x2944_S256x128_0_1152 c20 (by decide) x, ?_⟩
  refine List.forall_mem_cons.2 ⟨fun x => lane_piece (W := 2944) 1024 vCol inb_S256x2944_S256x128_0_1024 c19 (by decide) x, ?_⟩
  refine List.forall_mem_cons.2 ⟨fun x => lane_piece (W := 2944) 896 vCol inb_S256x2944_S256x128_0_896 c18 (by decide) x, ?_⟩
  refine List.forall_mem_cons.2 ⟨fun x => lane_piece (W := 2944) 768 vCol inb_S256x2944_S256x128_0_768 c17 (by decide) x, ?_⟩
  refine List.forall_mem_cons.2 ⟨fun x => lane_piece (W := 2944) 640 vCol inb_S256x2944_S256x128_0_640 c16 (by decide) x, ?_⟩
  refine List.forall_mem_cons.2 ⟨fun x => lane_piece (W := 2944) 512 vCol inb_S256x2944_S256x128_0_512 c15 (by decide) x, ?_⟩
  refine List.forall_mem_cons.2 ⟨fun x => lane_piece (W := 2944) 384 vCol inb_S256x2944_S256x128_0_384 c14 (by decide) x, ?_⟩
  refine List.forall_mem_cons.2 ⟨fun x => lane_piece (W := 2944) 256 vCol inb_S256x2944_S256x128_0_256 c13 (by decide) x, ?_⟩
  refine List.forall_mem_cons.2 ⟨fun x => lane_piece (W := 2944) 128 vCol inb_S256x2944_S256x128_0_128 c12 (by decide) x, ?_⟩
  refine List.forall_mem_cons.2 ⟨fun x => lane_piece (W := 2944) 0 vCol inb_S256x2944_S256x128_0_0 c11 (by decide) x, ?_⟩
  exact fun p hp => absurd hp List.not_mem_nil

theorem read_F8 (v : View sig .tc .vmem S256x2944 .bf16) (f) (h0 h1 h2 h3) (y : S256x2944.Idx) :
    v.read (Elt Ideal) (v.writes (Elt Ideal) f (kernelRunF1 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).2.1) y = (laneG (W := 2944) (val x0 x1 x2 x3 x4) vCol) y :=
  View.read_writes_apply_of_pieces _ _ _ _ (pieces_F8 c i arg6 harg6 arg7 harg7 arg8 harg8 arg9 harg9 arg10 harg10 arg11 harg11 arg12 harg12 arg13 harg13 arg14 harg14 x0 x1 x2 x3 x4 x5 x6 xt0 xt1 xt2 xt3 hw h0 h1 h2 h3) y (View.cover_of_tiledL _ ![256, 128] (by rfl) y)

end

end Cert.QkvIdeal.Gen

end
-- ==== Proof.QkvIdeal.PiecesM1.lean ====
/- The pieces of the masked store of the second half of the columns, each read at an index. -/
module

public import proofs.«01_k».proof.Proof.QkvIdeal.Block
public import proofs.«01_k».proof.Proof.QkvIdeal.RunM1

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

set_option maxHeartbeats 4000000

section
variable (c : Dev nD) (i : grid0.Coords) (arg6 : Memref sig .tc .vmem S256x2880 .fp8e4m3) (harg6 : arg6.IsWhole) (arg7 : Memref sig .tc .vmem S256x128 .f32) (harg7 : arg7.IsWhole) (arg8 : Memref sig .tc .vmem S1x2880x4352 .fp8e4m3) (harg8 : arg8.IsWhole) (arg9 : Memref sig .tc .vmem S1x1x4352 .f32) (harg9 : arg9.IsWhole) (arg10 : Memref sig .tc .vmem S1x1x4352 .f32) (harg10 : arg10.IsWhole) (arg11 : Memref sig .tc .vmem S6144x128 .f32) (harg11 : arg11.IsWhole) (arg12 : Memref sig .tc .vmem S256x1536 .bf16) (harg12 : arg12.IsWhole) (arg13 : Memref sig .tc .vmem S256x1408 .bf16) (harg13 : arg13.IsWhole) (arg14 : Memref sig .tc .vmem S256x2944 .bf16) (harg14 : arg14.IsWhole)
  (x0 : Vec Ideal S256x2880 .fp8e4m3) (x1 : Vec Ideal S256x128 .f32) (x2 : Vec Ideal S1x2880x4352 .fp8e4m3) (x3 : Vec Ideal S1x1x4352 .f32) (x4 : Vec Ideal S1x1x4352 .f32) (x5 : Vec Ideal S256x1408 .bf16) (x6 : Vec Ideal S256x2944 .bf16)
  (xt0 : TbBuf0 (F := Ideal) c tbM0_0) (xt1 : TbBuf0 (F := Ideal) c tbM0_1) (xt2 : TbBuf0 (F := Ideal) c tbM0_2) (xt3 : TbBuf0 (F := Ideal) c tbM0_3) (hw : k0_chk1 (wG c i xt1))

/-- Each piece stored into window 7 holds the block's function. -/
theorem pieces_M7 (h0 h1 h2 h3) : ∀ p ∈ (kernelRunM1 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).1, ∀ x : p.1.shape.Idx, p.2 x = laneMask (Scalar.subi (wLo c i xt1 xt2 hw) (Scalar.muli (wT c i xt0) 256#32)) (Scalar.subi (wHi c i xt1 xt2 hw) (Scalar.muli (wT c i xt0) 256#32)) (laneG (W := 1408) (val x0 x1 x2 x3 x4) (0 + ·)) x5 (p.1.emb x) := by
  have c0 := even_holds arg6 harg6 arg7 harg7 arg8 harg8 arg9 harg9 arg10 harg10 x0 x1 x2 x3 x4 0 rfl (by decide) (by decide)
  have c1 := odd_holds arg6 harg6 arg7 harg7 arg8 harg8 arg9 harg9 arg10 harg10 x0 x1 x2 x3 x4 0 128 rfl rfl (by decide) (by decide)
  have c2 := even_holds arg6 harg6 arg7 harg7 arg8 harg8 arg9 harg9 arg10 harg10 x0 x1 x2 x3 x4 256 rfl (by decide) (by decide)
  have c3 := odd_holds arg6 harg6 arg7 harg7 arg8 harg8 arg9 harg9 arg10 harg10 x0 x1 x2 x3 x4 256 384 rfl rfl (by decide) (by decide)
  have c4 := even_holds arg6 harg6 arg7 harg7 arg8 harg8 arg9 harg9 arg10 harg10 x0 x1 x2 x3 x4 512 rfl (by decide) (by decide)
  have c5 := odd_holds arg6 harg6 arg7 harg7 arg8 harg8 arg9 harg9 arg10 harg10 x0 x1 x2 x3 x4 512 640 rfl rfl (by decide) (by decide)
  have c6 := even_holds arg6 harg6 arg7 harg7 arg8 harg8 arg9 harg9 arg10 harg10 x0 x1 x2 x3 x4 768 rfl (by decide) (by decide)
  have c7 := odd_holds arg6 harg6 arg7 harg7 arg8 harg8 arg9 harg9 arg10 harg10 x0 x1 x2 x3 x4 768 896 rfl rfl (by decide) (by decide)
  have c8 := even_holds arg6 harg6 arg7 harg7 arg8 harg8 arg9 harg9 arg10 harg10 x0 x1 x2 x3 x4 1024 rfl (by decide) (by decide)
  have c9 := odd_holds arg6 harg6 arg7 harg7 arg8 harg8 arg9 harg9 arg10 harg10 x0 x1 x2 x3 x4 1024 1152 rfl rfl (by decide) (by decide)
  have c10 := even_holds arg6 harg6 arg7 harg7 arg8 harg8 arg9 harg9 arg10 harg10 x0 x1 x2 x3 x4 1280 rfl (by decide) (by decide)
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 1280 (0 + ·) inb_S256x1408_S256x128_0_1280 inb_S256x1408_S256x128_0_1280 arg13 harg13 x5 c10 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 1152 (0 + ·) inb_S256x1408_S256x128_0_1152 inb_S256x1408_S256x128_0_1152 arg13 harg13 x5 c9 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 1024 (0 + ·) inb_S256x1408_S256x128_0_1024 inb_S256x1408_S256x128_0_1024 arg13 harg13 x5 c8 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 896 (0 + ·) inb_S256x1408_S256x128_0_896 inb_S256x1408_S256x128_0_896 arg13 harg13 x5 c7 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 768 (0 + ·) inb_S256x1408_S256x128_0_768 inb_S256x1408_S256x128_0_768 arg13 harg13 x5 c6 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 640 (0 + ·) inb_S256x1408_S256x128_0_640 inb_S256x1408_S256x128_0_640 arg13 harg13 x5 c5 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 512 (0 + ·) inb_S256x1408_S256x128_0_512 inb_S256x1408_S256x128_0_512 arg13 harg13 x5 c4 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 384 (0 + ·) inb_S256x1408_S256x128_0_384 inb_S256x1408_S256x128_0_384 arg13 harg13 x5 c3 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 256 (0 + ·) inb_S256x1408_S256x128_0_256 inb_S256x1408_S256x128_0_256 arg13 harg13 x5 c2 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 128 (0 + ·) inb_S256x1408_S256x128_0_128 inb_S256x1408_S256x128_0_128 arg13 harg13 x5 c1 (by decide) x, ?_⟩
  refine List.forall_mem_cons.2 ⟨fun x => lane_masked (W := 1408) (Scalar.subi (wLo c i xt1 xt2 hw) (Scalar.muli (wT c i xt0) 256#32)) (Scalar.subi (wHi c i xt1 xt2 hw) (Scalar.muli (wT c i xt0) 256#32)) 0 (0 + ·) inb_S256x1408_S256x128_0_0 inb_S256x1408_S256x128_0_0 arg13 harg13 x5 c0 (by decide) x, ?_⟩
  exact fun p hp => absurd hp List.not_mem_nil

theorem read_M7 (v : View sig .tc .vmem S256x1408 .bf16) (f) (h0 h1 h2 h3) (y : S256x1408.Idx) :
    v.read (Elt Ideal) (v.writes (Elt Ideal) f (kernelRunM1 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).1) y = laneMask (Scalar.subi (wLo c i xt1 xt2 hw) (Scalar.muli (wT c i xt0) 256#32)) (Scalar.subi (wHi c i xt1 xt2 hw) (Scalar.muli (wT c i xt0) 256#32)) (laneG (W := 1408) (val x0 x1 x2 x3 x4) (0 + ·)) x5 y :=
  View.read_writes_apply_of_pieces _ _ _ _ (pieces_M7 c i arg6 harg6 arg7 harg7 arg8 harg8 arg9 harg9 arg10 harg10 arg11 harg11 arg12 harg12 arg13 harg13 arg14 harg14 x0 x1 x2 x3 x4 x5 x6 xt0 xt1 xt2 xt3 hw h0 h1 h2 h3) y (View.cover_of_tiledL _ ![256, 128] (by rfl) y)

/-- Each piece stored into window 8 holds the block's function. -/
theorem pieces_M8 (h0 h1 h2 h3) : ∀ p ∈ (kernelRunM1 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).2.1, ∀ x : p.1.shape.Idx, p.2 x = laneMask (Scalar.subi (wLo c i xt1 xt2 hw) (Scalar.muli (wT c i xt0) 256#32)) (Scalar.subi (wHi c i xt1 xt2 hw) (Scalar.muli (wT c i xt0) 256#32)) (laneG (W := 2944) (val x0 x1 x2 x3 x4) vCol) x6 (p.1.emb x) := by
  have c11 := odd_holds arg6 harg6 arg7 harg7 arg8 harg8 arg9 harg9 arg10 harg10 x0 x1 x2 x3 x4 1280 1408 rfl rfl (by decide) (by decide)
  have c12 := even_holds arg6 harg6 arg7 harg7 arg8 harg8 arg9 harg9 arg10 harg10 x0 x1 x2 x3 x4 1536 rfl (by decide) (by decide)
  have c13 := odd_holds arg6 harg6 arg7 harg7 arg8 harg8 arg9 harg9 arg10 harg10 x0 x1 x2 x3 x4 1536 1664 rfl rfl (by decide) (by decide)
  have c14 := even_holds arg6 harg6 arg7 harg7 arg8 harg8 arg9 harg9 arg10 harg10 x0 x1 x2 x3 x4 1792 rfl (by decide) (by decide)
  have c15 := odd_holds arg6 harg6 arg7 harg7 arg8 harg8 arg9 harg9 arg10 harg10 x0 x1 x2 x3 x4 1792 1920 rfl rfl (by decide) (by decide)
  have c16 := even_holds arg6 harg6 arg7 harg7 arg8 harg8 arg9 harg9 arg10 harg10 x0 x1 x2 x3 x4 2048 rfl (by decide) (by decide)
  have c17 := odd_holds arg6 harg6 arg7 harg7 arg8 harg8 arg9 harg9 arg10 harg10 x0 x1 x2 x3 x4 2048 2176 rfl rfl (by decide) (by decide)
  have c18 := even_holds arg6 harg6 arg7 harg7 arg8 harg8 arg9 harg9 arg10 harg10 x0 x1 x2 x3 x4 2304 rfl (by decide) (by decide)
  have c19 := odd_holds arg6 harg6 arg7 harg7 arg8 harg8 arg9 harg9 arg10 harg10 x0 x1 x2 x3 x4 2304 2432 rfl rfl (by decide) (by decide)
  have c20 := even_holds arg6 harg6 arg7 harg7 arg8 harg8 arg9 harg9 arg10 harg10 x0 x1 x2 x3 x4 2560 rfl (by decide) (by decide)
  have c21 := odd_holds arg6 harg6 arg7 harg7 arg8 harg8 arg9 harg9 arg10 harg10 x0 x1 x2 x3 x4 2560 2688 rfl rfl (by decide) (by decide)
  have c22 := even_holds arg6 harg6 arg7 harg7 arg8 harg8 arg9 harg9 arg10 harg10 x0 x1 x2 x3 x4 2816 rfl (by decide) (by decide)
  have c23 := odd_holds arg6 harg6 arg7 harg7 arg8 harg8 arg9 harg9 arg10 harg10 x0 x1 x2 x3 x4 2816 2944 rfl rfl (by decide) (by decide)
  have c24 := even_holds arg6 harg6 arg7 harg7 arg8 harg8 arg9 harg9 arg10 harg10 x0 x1 x2 x3 x4 3072 rfl (by decide) (by decide)
  have c25 := odd_holds arg6 harg6 arg7 harg7 arg8 harg8 arg9 harg9 arg10 harg10 x0 x1 x2 x3 x4 3072 3200 rfl rfl (by decide) (by decide)
  have c26 := even_holds arg6 harg6 arg7 harg7 arg8 harg8 arg9 harg9 arg10 harg10 x0 x1 x2 x3 x4 3328 rfl (by decide) (by decide)
  have c27 := odd_holds arg6 harg6 arg7 harg7 arg8 harg8 arg9 harg9 arg10 harg10 x0 x1 x2 x3 x4 3328 3456 rfl rfl (by decide) (by decide)
  have c28 := even_holds arg6 harg6 arg7 harg7 arg8 harg8 arg9 harg9 arg10 harg10 x0 x1 x2 x3 x4 3584 rfl (by decide) (by decide)
  have c29 := odd_holds arg6 harg6 arg7 harg7 arg8 harg8 arg9 harg9 arg10 harg10 x0 x1 x2 x3 x4 3584 3712 rfl rfl (by decide) (by decide)
  have c30 := even_holds arg6 harg6 arg7 harg7 arg8 harg8 arg9 harg9 arg10 harg10 x0 x1 x2 x3 x4 3840 rfl (by decide) (by decide)
  have c31 := odd_holds arg6 harg6 arg7 harg7 arg8 harg8 arg9 harg9 arg10 harg10 x0 x1 x2 x3 x4 3840 3968 rfl rfl (by decide) (by decide)
  have c32 := even_holds arg6 harg6 arg7 harg7 arg8 harg8 arg9 harg9 arg10 harg10 x0 x1 x2 x3 x4 4096 rfl (by decide) (by decide)
  have c33 := odd_holds arg6 harg6 arg7 harg7 arg8 harg8 arg9 harg9 arg10 harg10 x0 x1 x2 x3 x4 4096 4224 rfl rfl (by decide) (by decide)
  have z := holds_zeros (val_past x0 x1 x2 x3 x4)
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 2816 vCol inb_S256x2944_S256x128_0_2816 inb_S256x2944_S256x128_0_2816 arg14 harg14 x6 (holds_lowSel c33 z) (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 2688 vCol inb_S256x2944_S256x128_0_2688 inb_S256x2944_S256x128_0_2688 arg14 harg14 x6 c32 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 2560 vCol inb_S256x2944_S256x128_0_2560 inb_S256x2944_S256x128_0_2560 arg14 harg14 x6 c31 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 2432 vCol inb_S256x2944_S256x128_0_2432 inb_S256x2944_S256x128_0_2432 arg14 harg14 x6 c30 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 2304 vCol inb_S256x2944_S256x128_0_2304 inb_S256x2944_S256x128_0_2304 arg14 harg14 x6 c29 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 2176 vCol inb_S256x2944_S256x128_0_2176 inb_S256x2944_S256x128_0_2176 arg14 harg14 x6 c28 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 2048 vCol inb_S256x2944_S256x128_0_2048 inb_S256x2944_S256x128_0_2048 arg14 harg14 x6 c27 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 1920 vCol inb_S256x2944_S256x128_0_1920 inb_S256x2944_S256x128_0_1920 arg14 harg14 x6 c26 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 1792 vCol inb_S256x2944_S256x128_0_1792 inb_S256x2944_S256x128_0_1792 arg14 harg14 x6 c25 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 1664 vCol inb_S256x2944_S256x128_0_1664 inb_S256x2944_S256x128_0_1664 arg14 harg14 x6 c24 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 1536 vCol inb_S256x2944_S256x128_0_1536 inb_S256x2944_S256x128_0_1536 arg14 harg14 x6 c23 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 1408 vCol inb_S256x2944_S256x128_0_1408 inb_S256x2944_S256x128_0_1408 arg14 harg14 x6 c22 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 1280 vCol inb_S256x2944_S256x128_0_1280 inb_S256x2944_S256x128_0_1280 arg14 harg14 x6 c21 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 1152 vCol inb_S256x2944_S256x128_0_1152 inb_S256x2944_S256x128_0_1152 arg14 harg14 x6 c20 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 1024 vCol inb_S256x2944_S256x128_0_1024 inb_S256x2944_S256x128_0_1024 arg14 harg14 x6 c19 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 896 vCol inb_S256x2944_S256x128_0_896 inb_S256x2944_S256x128_0_896 arg14 harg14 x6 c18 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 768 vCol inb_S256x2944_S256x128_0_768 inb_S256x2944_S256x128_0_768 arg14 harg14 x6 c17 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 640 vCol inb_S256x2944_S256x128_0_640 inb_S256x2944_S256x128_0_640 arg14 harg14 x6 c16 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 512 vCol inb_S256x2944_S256x128_0_512 inb_S256x2944_S256x128_0_512 arg14 harg14 x6 c15 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 384 vCol inb_S256x2944_S256x128_0_384 inb_S256x2944_S256x128_0_384 arg14 harg14 x6 c14 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 256 vCol inb_S256x2944_S256x128_0_256 inb_S256x2944_S256x128_0_256 arg14 harg14 x6 c13 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 128 vCol inb_S256x2944_S256x128_0_128 inb_S256x2944_S256x128_0_128 arg14 harg14 x6 c12 (by decide) x, ?_⟩
  refine List.forall_mem_cons.2 ⟨fun x => lane_masked (W := 2944) (Scalar.subi (wLo c i xt1 xt2 hw) (Scalar.muli (wT c i xt0) 256#32)) (Scalar.subi (wHi c i xt1 xt2 hw) (Scalar.muli (wT c i xt0) 256#32)) 0 vCol inb_S256x2944_S256x128_0_0 inb_S256x2944_S256x128_0_0 arg14 harg14 x6 c11 (by decide) x, ?_⟩
  exact fun p hp => absurd hp List.not_mem_nil

theorem read_M8 (v : View sig .tc .vmem S256x2944 .bf16) (f) (h0 h1 h2 h3) (y : S256x2944.Idx) :
    v.read (Elt Ideal) (v.writes (Elt Ideal) f (kernelRunM1 (F := Ideal) c i arg6 harg6 arg7 harg7 arg8 harg8 arg9 harg9 arg10 harg10 arg11 harg11 arg12 harg12 arg13 harg13 arg14 harg14 x0 x1 x2 x3 x4 x5 x6 xt0 xt1 xt2 xt3 hw h0 h1 h2 h3).2.1) y = laneMask (Scalar.subi (wLo c i xt1 xt2 hw) (Scalar.muli (wT c i xt0) 256#32)) (Scalar.subi (wHi c i xt1 xt2 hw) (Scalar.muli (wT c i xt0) 256#32)) (laneG (W := 2944) (val x0 x1 x2 x3 x4) vCol) x6 y :=
  View.read_writes_apply_of_pieces _ _ _ _ (pieces_M8 c i arg6 harg6 arg7 harg7 arg8 harg8 arg9 harg9 arg10 harg10 arg11 harg11 arg12 harg12 arg13 harg13 arg14 harg14 x0 x1 x2 x3 x4 x5 x6 xt0 xt1 xt2 xt3 hw h0 h1 h2 h3) y (View.cover_of_tiledL _ ![256, 128] (by rfl) y)

end

end Cert.QkvIdeal.Gen

end
-- ==== Proof.QkvIdeal.Step.lean ====
/- What one point does to its blocks of the results, read at an index. -/
module

public import proofs.«01_k».proof.Proof.QkvIdeal.PiecesF0
public import proofs.«01_k».proof.Proof.QkvIdeal.PiecesM0
public import proofs.«01_k».proof.Proof.QkvIdeal.PiecesF1
public import proofs.«01_k».proof.Proof.QkvIdeal.PiecesM1
public import proofs.«01_k».proof.Proof.QkvIdeal.Frame

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

set_option maxHeartbeats 1600000

open Cert.Visits

theorem sel_in {T T' T'' lo lo' hi hi' : BitVec 32} {a b : EReal} {k : Nat} (eT : T' = T) (eT' : T'' = T) (el : lo' = lo) (eh : hi' = hi) (hk : k < 256) (hTl : T.toNat < 32) (hlo : lo.toNat ≤ 8192) (hhi : hi.toNat ≤ 8192)
    (h : lo.toNat ≤ T.toNat * 256 + k ∧ T.toNat * 256 + k < hi.toNat) :
    Scalar.select (between (Scalar.subi lo' (Scalar.muli T' 256#32)) (Scalar.subi hi' (Scalar.muli T'' 256#32)) k) a b = a := by
  subst eT eT' el eh
  exact if_pos ((mask_words _ _ _ _ hk hTl hlo hhi).2 h)

theorem sel_out {T T' T'' lo lo' hi hi' : BitVec 32} {a b : EReal} {k : Nat} (eT : T' = T) (eT' : T'' = T) (el : lo' = lo) (eh : hi' = hi) (hk : k < 256) (hTl : T.toNat < 32) (hlo : lo.toNat ≤ 8192) (hhi : hi.toNat ≤ 8192)
    (h : ¬ (lo.toNat ≤ T.toNat * 256 + k ∧ T.toNat * 256 + k < hi.toNat)) :
    Scalar.select (between (Scalar.subi lo' (Scalar.muli T' 256#32)) (Scalar.subi hi' (Scalar.muli T'' 256#32)) k) a b = b := by
  subst eT eT' el eh
  exact if_neg fun e => h ((mask_words _ _ _ _ hk hTl hlo hhi).1 e)

section
variable {m : (ℓ : Loc nD τ sig) → Buf (Elt Ideal) ℓ} (hT : Tables (m ((0 : Dev nD).tc.loc main_arg0)) (m ((0 : Dev nD).tc.loc main_arg1)) (m ((0 : Dev nD).tc.loc main_arg2)) (m ((0 : Dev nD).tc.loc main_arg3)))

/-- The point's visit takes row `k` of its tile in half `h` of the columns: it is a visit of that half, it is live, and the row is
    one of its type's. -/
def Takes (h : Nat) (i : grid0.Coords) (k : Nat) : Prop :=
  (half i).val = h ∧ 0 < ((m ((0 : Dev nD).tc.loc main_arg2)) (ix1 (pos i))).toInt ∧ ((m ((0 : Dev nD).tc.loc main_arg3)) (ix1 (vType hT i).castSucc)).toNat ≤ (vTile hT i).val * 256 + k ∧ (vTile hT i).val * 256 + k < ((m ((0 : Dev nD).tc.loc main_arg3)) (ix1 (vType hT i).succ)).toNat

variable (hO : Ok m) (hH : Hyps m hO) (c : Dev nD) (t : Fin (cfgM m hO).N)

/-- The point's product. -/
def blkV : Nat → Nat → EReal := val (iblk m hO c 0 t) (iblk m hO c 1 t) (iblk m hO c 2 t) (iblk m hO c 3 t) (iblk m hO c 4 t)

/-- A row that the visit takes ends at the product in window 5, -/
theorem step5_takes (Ya : Vec Ideal S6144x128 .f32) (Yb : Vec Ideal S256x1536 .bf16) (y : S6144x128.Idx) (h : Takes hT 0 (grid0.coords t) ((y 0).val / 24)) : step5 m hO hH c t Ya Yb y = qG (blkV hO c t) y := by
  have hy : (y 0).val / 24 < 256 := by have : (y 0).val < 6144 := (y 0).isLt; omega
  obtain ⟨hh, hl, h1, h2⟩ := h
  by_cases hc : Covers hT (grid0.coords t)
  · have q := (cond0_iff hT c (grid0.coords t) (Hyps.c0 hH c t)).2 ⟨hh, hc, hl⟩
    exact (congrFun (step5_F m hO hH c t Ya Yb q) y).trans (read_F5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ q _ _ _ y)
  · have q := (cond1_iff hT c (grid0.coords t) (Hyps.c0 hH c t)).2 ⟨hh, hc, hl⟩
    refine ((congrFun (step5_M m hO hH c t Ya Yb q) y).trans (read_M5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ q _ _ y)).trans ?_
    exact sel_in (wT_eq m c _) (wT_eq m c _) (wLo_eq hT c _ _) (wHi_eq hT c _ _) hy (hT.tile_lt _) (hT.off_le _) (hT.off_le _) ⟨h1, h2⟩

/-- and any other row keeps what it held. -/
theorem step5_keeps (Ya : Vec Ideal S6144x128 .f32) (Yb : Vec Ideal S256x1536 .bf16) (y : S6144x128.Idx) (h : ¬ Takes hT 0 (grid0.coords t) ((y 0).val / 24)) : step5 m hO hH c t Ya Yb y = Ya y := by
  have hy : (y 0).val / 24 < 256 := by have : (y 0).val < 6144 := (y 0).isLt; omega
  by_cases hl : (half (grid0.coords t)).val = 0 ∧ 0 < ((m ((0 : Dev nD).tc.loc main_arg2)) (ix1 (pos (grid0.coords t)))).toInt
  · have hc : ¬ Covers hT (grid0.coords t) := fun hc => h ⟨hl.1, hl.2, hc.1.trans (Nat.le_add_right _ _), by
      have := hc.2; omega⟩
    have q := (cond1_iff hT c (grid0.coords t) (Hyps.c0 hH c t)).2 ⟨hl.1, hc, hl.2⟩
    refine ((congrFun (step5_M m hO hH c t Ya Yb q) y).trans (read_M5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ q _ _ y)).trans ?_
    exact sel_out (wT_eq m c _) (wT_eq m c _) (wLo_eq hT c _ _) (wHi_eq hT c _ _) hy (hT.tile_lt _) (hT.off_le _) (hT.off_le _) (fun e => h ⟨hl.1, hl.2, e⟩)
  · exact congrFun (step5_N m hO hH c t Ya Yb (fun q => hl ⟨((cond0_iff hT c (grid0.coords t) (Hyps.c0 hH c t)).1 q).1, ((cond0_iff hT c (grid0.coords t) (Hyps.c0 hH c t)).1 q).2.2⟩) fun q => hl ⟨((cond1_iff hT c (grid0.coords t) (Hyps.c0 hH c t)).1 q).1, ((cond1_iff hT c (grid0.coords t) (Hyps.c0 hH c t)).1 q).2.2⟩) y

/-- A row that the visit takes ends at the product in window 6, -/
theorem step6_takes (Ya : Vec Ideal S6144x128 .f32) (Yb : Vec Ideal S256x1536 .bf16) (y : S256x1536.Idx) (h : Takes hT 0 (grid0.coords t) ((y 0).val)) : step6 m hO hH c t Ya Yb y = laneG (W := 1536) (blkV hO c t) (2816 + ·) y := by
  have hy : (y 0).val < 256 := by have : (y 0).val < 256 := (y 0).isLt; omega
  obtain ⟨hh, hl, h1, h2⟩ := h
  by_cases hc : Covers hT (grid0.coords t)
  · have q := (cond0_iff hT c (grid0.coords t) (Hyps.c0 hH c t)).2 ⟨hh, hc, hl⟩
    exact (congrFun (step6_F m hO hH c t Ya Yb q) y).trans (read_F6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ q _ _ _ y)
  · have q := (cond1_iff hT c (grid0.coords t) (Hyps.c0 hH c t)).2 ⟨hh, hc, hl⟩
    refine ((congrFun (step6_M m hO hH c t Ya Yb q) y).trans (read_M6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ q _ _ y)).trans ?_
    exact sel_in (wT_eq m c _) (wT_eq m c _) (wLo_eq hT c _ _) (wHi_eq hT c _ _) hy (hT.tile_lt _) (hT.off_le _) (hT.off_le _) ⟨h1, h2⟩

/-- and any other row keeps what it held. -/
theorem step6_keeps (Ya : Vec Ideal S6144x128 .f32) (Yb : Vec Ideal S256x1536 .bf16) (y : S256x1536.Idx) (h : ¬ Takes hT 0 (grid0.coords t) ((y 0).val)) : step6 m hO hH c t Ya Yb y = Yb y := by
  have hy : (y 0).val < 256 := by have : (y 0).val < 256 := (y 0).isLt; omega
  by_cases hl : (half (grid0.coords t)).val = 0 ∧ 0 < ((m ((0 : Dev nD).tc.loc main_arg2)) (ix1 (pos (grid0.coords t)))).toInt
  · have hc : ¬ Covers hT (grid0.coords t) := fun hc => h ⟨hl.1, hl.2, hc.1.trans (Nat.le_add_right _ _), by
      have := hc.2; omega⟩
    have q := (cond1_iff hT c (grid0.coords t) (Hyps.c0 hH c t)).2 ⟨hl.1, hc, hl.2⟩
    refine ((congrFun (step6_M m hO hH c t Ya Yb q) y).trans (read_M6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ q _ _ y)).trans ?_
    exact sel_out (wT_eq m c _) (wT_eq m c _) (wLo_eq hT c _ _) (wHi_eq hT c _ _) hy (hT.tile_lt _) (hT.off_le _) (hT.off_le _) (fun e => h ⟨hl.1, hl.2, e⟩)
  · exact congrFun (step6_N m hO hH c t Ya Yb (fun q => hl ⟨((cond0_iff hT c (grid0.coords t) (Hyps.c0 hH c t)).1 q).1, ((cond0_iff hT c (grid0.coords t) (Hyps.c0 hH c t)).1 q).2.2⟩) fun q => hl ⟨((cond1_iff hT c (grid0.coords t) (Hyps.c0 hH c t)).1 q).1, ((cond1_iff hT c (grid0.coords t) (Hyps.c0 hH c t)).1 q).2.2⟩) y

/-- A row that the visit takes ends at the product in window 7, -/
theorem step7_takes (Ya : Vec Ideal S256x1408 .bf16) (Yb : Vec Ideal S256x2944 .bf16) (y : S256x1408.Idx) (h : Takes hT 1 (grid0.coords t) ((y 0).val)) : step7 m hO hH c t Ya Yb y = laneG (W := 1408) (blkV hO c t) (0 + ·) y := by
  have hy : (y 0).val < 256 := by have : (y 0).val < 256 := (y 0).isLt; omega
  obtain ⟨hh, hl, h1, h2⟩ := h
  by_cases hc : Covers hT (grid0.coords t)
  · have q := (cond2_iff hT c (grid0.coords t) (Hyps.c0 hH c t)).2 ⟨hh, hc, hl⟩
    exact (congrFun (step7_F m hO hH c t Ya Yb q) y).trans (read_F7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ _ q _ y)
  · have q := (cond3_iff hT c (grid0.coords t) (Hyps.c0 hH c t)).2 ⟨hh, hc, hl⟩
    refine ((congrFun (step7_M m hO hH c t Ya Yb q) y).trans (read_M7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ _ _ q y)).trans ?_
    exact sel_in (wT_eq m c _) (wT_eq m c _) (wLo_eq hT c _ _) (wHi_eq hT c _ _) hy (hT.tile_lt _) (hT.off_le _) (hT.off_le _) ⟨h1, h2⟩

/-- and any other row keeps what it held. -/
theorem step7_keeps (Ya : Vec Ideal S256x1408 .bf16) (Yb : Vec Ideal S256x2944 .bf16) (y : S256x1408.Idx) (h : ¬ Takes hT 1 (grid0.coords t) ((y 0).val)) : step7 m hO hH c t Ya Yb y = Ya y := by
  have hy : (y 0).val < 256 := by have : (y 0).val < 256 := (y 0).isLt; omega
  by_cases hl : (half (grid0.coords t)).val = 1 ∧ 0 < ((m ((0 : Dev nD).tc.loc main_arg2)) (ix1 (pos (grid0.coords t)))).toInt
  · have hc : ¬ Covers hT (grid0.coords t) := fun hc => h ⟨hl.1, hl.2, hc.1.trans (Nat.le_add_right _ _), by
      have := hc.2; omega⟩
    have q := (cond3_iff hT c (grid0.coords t) (Hyps.c0 hH c t)).2 ⟨hl.1, hc, hl.2⟩
    refine ((congrFun (step7_M m hO hH c t Ya Yb q) y).trans (read_M7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ _ _ q y)).trans ?_
    exact sel_out (wT_eq m c _) (wT_eq m c _) (wLo_eq hT c _ _) (wHi_eq hT c _ _) hy (hT.tile_lt _) (hT.off_le _) (hT.off_le _) (fun e => h ⟨hl.1, hl.2, e⟩)
  · exact congrFun (step7_N m hO hH c t Ya Yb (fun q => hl ⟨((cond2_iff hT c (grid0.coords t) (Hyps.c0 hH c t)).1 q).1, ((cond2_iff hT c (grid0.coords t) (Hyps.c0 hH c t)).1 q).2.2⟩) fun q => hl ⟨((cond3_iff hT c (grid0.coords t) (Hyps.c0 hH c t)).1 q).1, ((cond3_iff hT c (grid0.coords t) (Hyps.c0 hH c t)).1 q).2.2⟩) y

/-- A row that the visit takes ends at the product in window 8, -/
theorem step8_takes (Ya : Vec Ideal S256x1408 .bf16) (Yb : Vec Ideal S256x2944 .bf16) (y : S256x2944.Idx) (h : Takes hT 1 (grid0.coords t) ((y 0).val)) : step8 m hO hH c t Ya Yb y = laneG (W := 2944) (blkV hO c t) vCol y := by
  have hy : (y 0).val < 256 := by have : (y 0).val < 256 := (y 0).isLt; omega
  obtain ⟨hh, hl, h1, h2⟩ := h
  by_cases hc : Covers hT (grid0.coords t)
  · have q := (cond2_iff hT c (grid0.coords t) (Hyps.c0 hH c t)).2 ⟨hh, hc, hl⟩
    exact (congrFun (step8_F m hO hH c t Ya Yb q) y).trans (read_F8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ _ q _ y)
  · have q := (cond3_iff hT c (grid0.coords t) (Hyps.c0 hH c t)).2 ⟨hh, hc, hl⟩
    refine ((congrFun (step8_M m hO hH c t Ya Yb q) y).trans (read_M8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ _ _ q y)).trans ?_
    exact sel_in (wT_eq m c _) (wT_eq m c _) (wLo_eq hT c _ _) (wHi_eq hT c _ _) hy (hT.tile_lt _) (hT.off_le _) (hT.off_le _) ⟨h1, h2⟩

/-- and any other row keeps what it held. -/
theorem step8_keeps (Ya : Vec Ideal S256x1408 .bf16) (Yb : Vec Ideal S256x2944 .bf16) (y : S256x2944.Idx) (h : ¬ Takes hT 1 (grid0.coords t) ((y 0).val)) : step8 m hO hH c t Ya Yb y = Yb y := by
  have hy : (y 0).val < 256 := by have : (y 0).val < 256 := (y 0).isLt; omega
  by_cases hl : (half (grid0.coords t)).val = 1 ∧ 0 < ((m ((0 : Dev nD).tc.loc main_arg2)) (ix1 (pos (grid0.coords t)))).toInt
  · have hc : ¬ Covers hT (grid0.coords t) := fun hc => h ⟨hl.1, hl.2, hc.1.trans (Nat.le_add_right _ _), by
      have := hc.2; omega⟩
    have q := (cond3_iff hT c (grid0.coords t) (Hyps.c0 hH c t)).2 ⟨hl.1, hc, hl.2⟩
    refine ((congrFun (step8_M m hO hH c t Ya Yb q) y).trans (read_M8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) Ya Yb (tbl m 0) (tbl m 1) (tbl m 2) (tbl m 3) (Hyps.c0 hH c t) _ _ _ _ _ q y)).trans ?_
    exact sel_out (wT_eq m c _) (wT_eq m c _) (wLo_eq hT c _ _) (wHi_eq hT c _ _) hy (hT.tile_lt _) (hT.off_le _) (hT.off_le _) (fun e => h ⟨hl.1, hl.2, e⟩)
  · exact congrFun (step8_N m hO hH c t Ya Yb (fun q => hl ⟨((cond2_iff hT c (grid0.coords t) (Hyps.c0 hH c t)).1 q).1, ((cond2_iff hT c (grid0.coords t) (Hyps.c0 hH c t)).1 q).2.2⟩) fun q => hl ⟨((cond3_iff hT c (grid0.coords t) (Hyps.c0 hH c t)).1 q).1, ((cond3_iff hT c (grid0.coords t) (Hyps.c0 hH c t)).1 q).2.2⟩) y
end

end Cert.QkvIdeal.Gen

end
-- ==== Proof.QkvIdeal.Result.lean ====
/- The four results of the whole call, as functions of its arguments, and what each point leaves of them. -/
module

public import proofs.«01_k».proof.Proof.QkvIdeal.Reads
public import proofs.«01_k».proof.Proof.QkvIdeal.Step
public import Idealize.ShloMosaic.Lib.Pipeline.ArrRel
public import Idealize.ShloMosaic.Lib.Pipeline.Covers

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

set_option maxHeartbeats 1600000

open Cert.Visits

/-- The projection of every node, over the reals: the product of the node's codes with its type's weights, scaled and shifted, at
    node `n` and column `k`. Past the last node or column it is zero. -/
def proj (off : S5.Idx → BitVec 32) (codes : S8192x2880.Idx → EReal) (xs : S8192.Idx → EReal) (w : S4x2880x8704.Idx → EReal) (ws b : S4x8704.Idx → EReal) (n k : Nat) : EReal :=
  if h : n < 8192 ∧ k < 8704 then
    (∑ j : Fin 2880, codes (ix2 (⟨n, h.1⟩ : Fin 8192) j) * w (ix3 (typeOf off n) j (⟨k, h.2⟩ : Fin 8704))) * xs (ix1 (⟨n, h.1⟩ : Fin 8192))
      * ws (ix2 (typeOf off n) (⟨k, h.2⟩ : Fin 8704)) + b (ix2 (typeOf off n) (⟨k, h.2⟩ : Fin 8704))
  else 0

/-- A column of half `h`, as a column of the whole product. -/
def gcol (h n : Nat) : Nat := if n < 4352 then h * 4352 + n else 8704

/-- The four results, from the projection: the queries, the keys in two runs of columns, and the values. -/
def qOf (P : Nat → Nat → EReal) : S196608x128.Idx → EReal := fun y => P ((y 0).val / 24) (gcol 0 (qCol ((y 0).val % 24) (y 1).val))
def kaOf (P : Nat → Nat → EReal) : S8192x1536.Idx → EReal := fun y => P (y 0).val (gcol 0 (2816 + (y 1).val))
def kbOf (P : Nat → Nat → EReal) : S8192x1408.Idx → EReal := fun y => P (y 0).val (gcol 1 (0 + (y 1).val))
def vOf (P : Nat → Nat → EReal) : S8192x2944.Idx → EReal := fun y => P (y 0).val (gcol 1 (vCol (y 1).val))

/-- The projection of the arguments on core `c`. -/
def argProj (m : (ℓ : Loc nD τ sig) → Buf (Elt Ideal) ℓ) (c : Dev nD) : Nat → Nat → EReal :=
  proj (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem mul_congr {a a' b b' : EReal} (ha : a = a') (hb : b = b') : a * b = a' * b' := by rw [ha, hb]
theorem elem_congr {s s' a a' b b' c c' : EReal} (hs : s = s') (ha : a = a') (hb : b = b') (hc : c = c') : s * a * b + c = s' * a' * b' + c' := by rw [hs, ha, hb, hc]

theorem pos_coords (t : Fin grid0.N) : (pos (grid0.coords t)).val = t.val % 35 := by revert t; decide
theorem half_coords (t : Fin grid0.N) : (half (grid0.coords t)).val = t.val / 35 := by revert t; decide

section
variable {m : (ℓ : Loc nD τ sig) → Buf (Elt Ideal) ℓ} (hT : Tables (m ((0 : Dev nD).tc.loc main_arg0)) (m ((0 : Dev nD).tc.loc main_arg1)) (m ((0 : Dev nD).tc.loc main_arg2)) (m ((0 : Dev nD).tc.loc main_arg3)))
  (hO : Ok m) (hH : Hyps m hO) (c : Dev nD)

/-- Where the visit takes a row, the point's product is the projection of the row. -/
theorem blkV_eq (t : Fin (cfgM m hO).N) (h k n : Nat) (hk : k < 256) (ht : Takes hT h (grid0.coords t) k) : blkV hO c t k n = argProj m c ((vTile hT (grid0.coords t)).val * 256 + k) (gcol h n) := by
  obtain rfl : c = 0 := Subsingleton.elim _ _
  obtain ⟨hh, -, h1, h2⟩ := ht
  have hl := (half (grid0.coords t)).isLt
  have hg : typeOf (m ((0 : Dev nD).tc.loc main_arg3)) ((vTile hT (grid0.coords t)).val * 256 + k) = vType hT (grid0.coords t) := hT.typeOf_eq _ _ h1 h2
  unfold blkV val argProj proj gcol
  by_cases hn : n < 4352
  · have hr : (vTile hT (grid0.coords t)).val * 256 + k < 8192 := by have := (vTile hT (grid0.coords t)).isLt; omega
    rw [if_pos hn, dif_pos ⟨hk, hn⟩, dif_pos ⟨hr, by omega⟩]
    have ec : col hO t ⟨n, hn⟩ = ⟨h * 4352 + n, by omega⟩ := Fin.ext (by show (half (grid0.coords t)).val * 4352 + n = _; rw [hh])
    refine (elem_congr (Finset.sum_congr rfl fun j _ => mul_congr (read0 hT hO 0 t ⟨k, hk⟩ j) (read2 hT hO 0 t j ⟨n, hn⟩)) (read1 hT hO 0 t ⟨k, hk⟩ _) (read3 hT hO 0 t ⟨n, hn⟩) (read4 hT hO 0 t ⟨n, hn⟩)).trans ?_
    rw [← hg, ec]
    rfl
  · rw [if_neg hn, dif_neg (fun q => hn q.2), dif_neg (fun q => absurd q.2 (by omega))]

/-! ## The tiles that a half's outputs stand at -/

theorem oT_eq (h : Fin 2) (d : Nat) (i : grid0.Coords) (e : (half i).val = h.val) : oTile hT h d i = (vTile hT i).val := if_pos (Fin.ext e)
theorem oT_ne (h : Fin 2) (d : Nat) (i : grid0.Coords) (e : (half i).val ≠ h.val) : oTile hT h d i = d := if_neg fun q => e (congrArg Fin.val q)

/-- Over the points in order, the tile that a half's outputs stand at does not go back: the first half's stay at the last tile once
    their half is over, the second half's stand at the first tile until theirs begins. -/
theorem oT_le (h : Fin 2) (d : Nat) (hd : h.val = 0 ∧ d = 31 ∨ h.val = 1 ∧ d = 0) (i j : Fin grid0.N) (hij : i.val ≤ j.val) : oTile hT h d (grid0.coords i) ≤ oTile hT h d (grid0.coords j) := by
  have vi := (vTile hT (grid0.coords i)).isLt
  have vj := (vTile hT (grid0.coords j)).isLt
  have hi := half_coords i
  have hj := half_coords j
  have li : i.val < 70 := i.isLt
  have lj : j.val < 70 := j.isLt
  have mono : i.val / 35 = j.val / 35 → (vTile hT (grid0.coords i)).val ≤ (vTile hT (grid0.coords j)).val := fun e =>
    hT.tile_mono _ _ (by rw [pos_coords, pos_coords]; omega)
  by_cases ei : (half (grid0.coords i)).val = h.val <;> by_cases ej : (half (grid0.coords j)).val = h.val
  · rw [oT_eq hT h d _ ei, oT_eq hT h d _ ej]; exact mono (by omega)
  · rw [oT_eq hT h d _ ei, oT_ne hT h d _ ej]; omega
  · rw [oT_ne hT h d _ ei, oT_eq hT h d _ ej]; omega
  · rw [oT_ne hT h d _ ei, oT_ne hT h d _ ej]

/-- Every row of every tile is taken by a visit of each half. -/
theorem taker (h : Fin 2) (d : Nat) (T k : Nat) (hTl : T < 32) (hk : k < 256) : ∃ j : Fin grid0.N, oTile hT h d (grid0.coords j) = T ∧ Takes hT h.val (grid0.coords j) k := by
  obtain ⟨g, h0, h1⟩ := hT.exists_type (T * 256 + k) (by omega)
  obtain ⟨j, hj0, hj1, hj2⟩ := hT.visit ⟨T, hTl⟩ g (by show _ < (T + 1) * 256; omega) (by show T * 256 < _; omega) (by omega)
  have hh := h.isLt
  have jl := j.isLt
  have hn : h.val * 35 + j.val < grid0.N := by show _ < 70; omega
  have hp : pos (grid0.coords ⟨h.val * 35 + j.val, hn⟩) = j := Fin.ext (by rw [pos_coords]; show (h.val * 35 + j.val) % 35 = j.val; omega)
  have hf : (half (grid0.coords ⟨h.val * 35 + j.val, hn⟩)).val = h.val := by rw [half_coords]; show (h.val * 35 + j.val) / 35 = h.val; omega
  have e : (vTile hT (grid0.coords ⟨h.val * 35 + j.val, hn⟩)).val = T := by
    show ((m ((0 : Dev nD).tc.loc main_arg0)) (ix1 (pos (grid0.coords ⟨h.val * 35 + j.val, hn⟩)))).toNat = _
    rw [hp]; exact hj0
  have eg : vType hT (grid0.coords ⟨h.val * 35 + j.val, hn⟩) = g := Fin.ext (by
    show ((m ((0 : Dev nD).tc.loc main_arg1)) (ix1 (pos (grid0.coords ⟨h.val * 35 + j.val, hn⟩)))).toNat = _
    rw [hp]; exact hj1)
  refine ⟨⟨h.val * 35 + j.val, hn⟩, (oT_eq hT h d _ hf).trans e, hf, ?_, ?_, ?_⟩
  · rw [hp]; exact hj2
  · rw [e, eg]; exact h0
  · rw [e, eg]; exact h1

/-! ## What a window's contents outlast -/

section
variable (R : Rels m hO) (w : Fin (cfgM m hO).W) (hw : ((cfgM m hO).win w).isOut = true) (h : Fin 2) (d : Nat) (hd : h.val = 0 ∧ d = 31 ∨ h.val = 1 ∧ d = 0)
  (hix : ∀ i j : Fin (cfgM m hO).N, oTile hT h d (grid0.coords i) = oTile hT h d (grid0.coords j) → ((cfgM m hO).win w).index i = ((cfgM m hO).win w).index j)
include hw hd hix

/-- Where an earlier point stands at the same tile, so does the point before, and what the body finds is what that point left. -/
theorem leaves_prev (t j : Fin (cfgM m hO).N) (hj : j.val < t.val) (e : oTile hT h d (grid0.coords j) = oTile hT h d (grid0.coords t)) (Y) (hF : (rdats m hO hH R c).Finds w t Y) :
    ∃ hlt : t.val - 1 < (cfgM m hO).N, oTile hT h d (grid0.coords (⟨t.val - 1, hlt⟩ : Fin (cfgM m hO).N)) = oTile hT h d (grid0.coords t) ∧ (rdats m hO hH R c).Leaves w ⟨t.val - 1, hlt⟩ Y := by
  have hlt : t.val - 1 < (cfgM m hO).N := by have := t.isLt; omega
  have e' : oTile hT h d (grid0.coords (⟨t.val - 1, hlt⟩ : Fin (cfgM m hO).N)) = oTile hT h d (grid0.coords t) :=
    Nat.le_antisymm (oT_le hT h d hd ⟨t.val - 1, hlt⟩ t (Nat.sub_le _ _)) (e ▸ oT_le hT h d hd j ⟨t.val - 1, hlt⟩ (by show j.val ≤ t.val - 1; omega))
  refine ⟨hlt, e', ?_⟩
  rcases ((rdats m hO hH R c).finds_of_pos (w := w) (Pipeline.Window.fetch_out _ hw t) (by omega) Y).1 hF with hfl | hl
  · exfalso
    rcases (Pipeline.Window.flush_out ((cfgM m hO).win w) hw _).1 hfl with hN | ⟨hN, hN'⟩
    · have := t.isLt
      have hN : t.val - 1 + 1 = (cfgM m hO).N := hN
      omega
    · refine hN' (hix _ _ ?_)
      have et : (⟨(⟨t.val - 1, hlt⟩ : Fin (cfgM m hO).N).val + 1, hN⟩ : Fin (cfgM m hO).N) = t := Fin.ext (by show t.val - 1 + 1 = t.val; omega)
      rw [et]; exact e'.symm
  · exact hl

/-- A point that writes its block back is the last at its tile. -/
theorem last (hne : ∀ i j : Fin (cfgM m hO).N, ((cfgM m hO).win w).index i = ((cfgM m hO).win w).index j → oTile hT h d (grid0.coords i) = oTile hT h d (grid0.coords j))
    (t j : Fin (cfgM m hO).N) (hf : ((cfgM m hO).win w).flush t = true) (e : oTile hT h d (grid0.coords j) = oTile hT h d (grid0.coords t)) : j.val ≤ t.val := by
  by_contra hjt
  have hjt : t.val < j.val := Nat.lt_of_not_le hjt
  rcases (Pipeline.Window.flush_out ((cfgM m hO).win w) hw _).1 hf with hN | ⟨hN, hN'⟩
  · have hN : t.val + 1 = (cfgM m hO).N := hN
    have := j.isLt
    omega
  · exact hN' (hix _ _ (Nat.le_antisymm (e ▸ oT_le hT h d hd ⟨t.val + 1, hN⟩ j hjt) (oT_le hT h d hd t ⟨t.val + 1, hN⟩ (Nat.le_succ _))))
end

/-! ## The four windows -/

/-- What is known of a point's block in window 5: every row that a visit of the same tile has taken so far holds the result. -/
def Inv5 (c : Dev nD) (t : Fin (cfgM m hO).N) (X : Vec Ideal S6144x128 .f32) : Prop :=
  ∀ y : S6144x128.Idx, (∃ j : Fin (cfgM m hO).N, j.val ≤ t.val ∧ oTile hT 0 31 (grid0.coords j) = oTile hT 0 31 (grid0.coords t) ∧ Takes hT 0 (grid0.coords j) ((y 0).val / 24)) →
    X y = argProj m c (oTile hT 0 31 (grid0.coords t) * 256 + (y 0).val / 24) (gcol 0 (qCol ((y 0).val % 24) (y 1).val))

theorem index_5 (t : Fin (cfgM m hO).N) : ((cfgM m hO).win 5).index t = ![oTile hT 0 31 (grid0.coords t), 0] := index5 hT (grid0.coords t)

theorem index_5_of (i j : Fin (cfgM m hO).N) (e : oTile hT 0 31 (grid0.coords i) = oTile hT 0 31 (grid0.coords j)) : ((cfgM m hO).win 5).index i = ((cfgM m hO).win 5).index j := by
  rw [index_5 hT hO, index_5 hT hO, e]

theorem of_index_5 (i j : Fin (cfgM m hO).N) (e : ((cfgM m hO).win 5).index i = ((cfgM m hO).win 5).index j) : oTile hT 0 31 (grid0.coords i) = oTile hT 0 31 (grid0.coords j) :=
  congrFun (f := ![oTile hT 0 31 (grid0.coords i), 0]) (g := ![oTile hT 0 31 (grid0.coords j), 0]) ((index_5 hT hO i).symm.trans (e.trans (index_5 hT hO j))) 0

/-- What is known of a point's block in window 6: every row that a visit of the same tile has taken so far holds the result. -/
def Inv6 (c : Dev nD) (t : Fin (cfgM m hO).N) (X : Vec Ideal S256x1536 .bf16) : Prop :=
  ∀ y : S256x1536.Idx, (∃ j : Fin (cfgM m hO).N, j.val ≤ t.val ∧ oTile hT 0 31 (grid0.coords j) = oTile hT 0 31 (grid0.coords t) ∧ Takes hT 0 (grid0.coords j) ((y 0).val)) →
    X y = argProj m c (oTile hT 0 31 (grid0.coords t) * 256 + (y 0).val) (gcol 0 (2816 + (y 1).val))

theorem index_6 (t : Fin (cfgM m hO).N) : ((cfgM m hO).win 6).index t = ![oTile hT 0 31 (grid0.coords t), 0] := index6 hT (grid0.coords t)

theorem index_6_of (i j : Fin (cfgM m hO).N) (e : oTile hT 0 31 (grid0.coords i) = oTile hT 0 31 (grid0.coords j)) : ((cfgM m hO).win 6).index i = ((cfgM m hO).win 6).index j := by
  rw [index_6 hT hO, index_6 hT hO, e]

theorem of_index_6 (i j : Fin (cfgM m hO).N) (e : ((cfgM m hO).win 6).index i = ((cfgM m hO).win 6).index j) : oTile hT 0 31 (grid0.coords i) = oTile hT 0 31 (grid0.coords j) :=
  congrFun (f := ![oTile hT 0 31 (grid0.coords i), 0]) (g := ![oTile hT 0 31 (grid0.coords j), 0]) ((index_6 hT hO i).symm.trans (e.trans (index_6 hT hO j))) 0

/-- What is known of a point's block in window 7: every row that a visit of the same tile has taken so far holds the result. -/
def Inv7 (c : Dev nD) (t : Fin (cfgM m hO).N) (X : Vec Ideal S256x1408 .bf16) : Prop :=
  ∀ y : S256x1408.Idx, (∃ j : Fin (cfgM m hO).N, j.val ≤ t.val ∧ oTile hT 1 0 (grid0.coords j) = oTile hT 1 0 (grid0.coords t) ∧ Takes hT 1 (grid0.coords j) ((y 0).val)) →
    X y = argProj m c (oTile hT 1 0 (grid0.coords t) * 256 + (y 0).val) (gcol 1 (0 + (y 1).val))

theorem index_7 (t : Fin (cfgM m hO).N) : ((cfgM m hO).win 7).index t = ![oTile hT 1 0 (grid0.coords t), 0] := index7 hT (grid0.coords t)

theorem index_7_of (i j : Fin (cfgM m hO).N) (e : oTile hT 1 0 (grid0.coords i) = oTile hT 1 0 (grid0.coords j)) : ((cfgM m hO).win 7).index i = ((cfgM m hO).win 7).index j := by
  rw [index_7 hT hO, index_7 hT hO, e]

theorem of_index_7 (i j : Fin (cfgM m hO).N) (e : ((cfgM m hO).win 7).index i = ((cfgM m hO).win 7).index j) : oTile hT 1 0 (grid0.coords i) = oTile hT 1 0 (grid0.coords j) :=
  congrFun (f := ![oTile hT 1 0 (grid0.coords i), 0]) (g := ![oTile hT 1 0 (grid0.coords j), 0]) ((index_7 hT hO i).symm.trans (e.trans (index_7 hT hO j))) 0

/-- What is known of a point's block in window 8: every row that a visit of the same tile has taken so far holds the result. -/
def Inv8 (c : Dev nD) (t : Fin (cfgM m hO).N) (X : Vec Ideal S256x2944 .bf16) : Prop :=
  ∀ y : S256x2944.Idx, (∃ j : Fin (cfgM m hO).N, j.val ≤ t.val ∧ oTile hT 1 0 (grid0.coords j) = oTile hT 1 0 (grid0.coords t) ∧ Takes hT 1 (grid0.coords j) ((y 0).val)) →
    X y = argProj m c (oTile hT 1 0 (grid0.coords t) * 256 + (y 0).val) (gcol 1 (vCol (y 1).val))

theorem index_8 (t : Fin (cfgM m hO).N) : ((cfgM m hO).win 8).index t = ![oTile hT 1 0 (grid0.coords t), 0] := index8 hT (grid0.coords t)

theorem index_8_of (i j : Fin (cfgM m hO).N) (e : oTile hT 1 0 (grid0.coords i) = oTile hT 1 0 (grid0.coords j)) : ((cfgM m hO).win 8).index i = ((cfgM m hO).win 8).index j := by
  rw [index_8 hT hO, index_8 hT hO, e]

theorem of_index_8 (i j : Fin (cfgM m hO).N) (e : ((cfgM m hO).win 8).index i = ((cfgM m hO).win 8).index j) : oTile hT 1 0 (grid0.coords i) = oTile hT 1 0 (grid0.coords j) :=
  congrFun (f := ![oTile hT 1 0 (grid0.coords i), 0]) (g := ![oTile hT 1 0 (grid0.coords j), 0]) ((index_8 hT hO i).symm.trans (e.trans (index_8 hT hO j))) 0

/-- The four relations. -/
def rels : Rels m hO := ⟨Inv5 hT hO, Inv6 hT hO, Inv7 hT hO, Inv8 hT hO⟩

theorem kept5 (t : Fin (cfgM m hO).N) (Ya : Vec Ideal S6144x128 .f32) (Yb : Vec Ideal S256x1536 .bf16) (hF : (rdats m hO hH (rels hT hO) c).Finds 5 t Ya) : Inv5 hT hO c t (step5 m hO hH c t Ya Yb) := by
  rintro y ⟨j, hj, hjt, htk⟩
  have hy : (y 0).val / 24 < 256 := by have : (y 0).val < 6144 := (y 0).isLt; omega
  by_cases ht : Takes hT 0 (grid0.coords t) ((y 0).val / 24)
  · refine (step5_takes hT hO hH c t Ya Yb y ht).trans ((blkV_eq hT hO c t 0 _ _ hy ht).trans ?_)
    rw [oT_eq hT 0 31 _ ht.1]
  · refine (step5_keeps hT hO hH c t Ya Yb y ht).trans ?_
    have hne : j.val ≠ t.val := fun e => ht (by rwa [Fin.ext e] at htk)
    obtain ⟨hlt, e, hl⟩ := leaves_prev hT hO hH c (rels hT hO) 5 rfl 0 31 (.inl ⟨rfl, rfl⟩) (index_5_of hT hO) t j (by omega) hjt _ hF
    have hI : Inv5 hT hO c ⟨t.val - 1, hlt⟩ Ya := Pipeline.Dat.toRRel_leaves (dat := dats m hO hH 0 c) (w := 5) rfl hl
    refine (hI y ⟨j, by show j.val ≤ t.val - 1; omega, hjt.trans e.symm, htk⟩).trans ?_
    rw [e]

include hT in
/-- Every element of the result lies in a block that window 5 writes back. -/
theorem covered5 (i : (⟨2, ![196608, 128]⟩ : Shape).Idx) : ∃ t : Fin (cfgM m hO).N, ((cfgM m hO).win 5).flush t = true ∧ i ∈ (((cfgM m hO).win 5).blk t).view.set := by
  have hi : (i 0).val < 196608 := (i 0).isLt
  obtain ⟨j, e, -⟩ := taker hT 0 31 ((i 0).val / 6144) 0 (by omega) (by omega)
  obtain ⟨t, -, hf, hix⟩ := Pipeline.Window.exists_flush_same_index ((cfgM m hO).win 5) rfl j
  refine ⟨t, hf, ?_⟩
  have et : oTile hT 0 31 (grid0.coords t) = (i 0).val / 6144 := (of_index_5 hT hO _ _ hix).trans e
  refine (ValueKit.mem_set_slice_whole_iff main_v4_0 (((cfgM m hO).win 5).rect t) i (Pipeline.Window.mem_rect_iff ((cfgM m hO).win 5) t i rfl)).2 fun a => ?_
  rw [index_5 hT hO]
  match a with
  | ⟨0, _⟩ =>
    constructor
    · show oTile hT 0 31 (grid0.coords t) * 6144 ≤ (i 0).val; omega
    · show (i 0).val < oTile hT 0 31 (grid0.coords t) * 6144 + 6144; omega
  | ⟨1, _⟩ => exact ⟨(Nat.zero_mul _).le.trans (Nat.zero_le _), by
      have : (i 1).val < 128 := (i 1).isLt
      show (i 1).val < 0 * 128 + 128; omega⟩

/-- At a point that writes window 5's block back, every row of the tile has been taken, so the block is the result's. -/
theorem written5 (t : Fin (cfgM m hO).N) (X : Vec Ideal S6144x128 .f32) (hf : ((cfgM m hO).win 5).flush t = true) (hI : Inv5 hT hO c t X) (y : S6144x128.Idx) :
    X y = qOf (argProj m c) ((((cfgM m hO).win 5).blk t).view.emb y) := by
  have hy : (y 0).val / 24 < 256 := by have : (y 0).val < 6144 := (y 0).isLt; omega
  obtain ⟨j, e, hj⟩ := taker hT 0 31 (oTile hT 0 31 (grid0.coords t)) ((y 0).val / 24) (oTile_lt hT 0 31 (by decide) _) hy
  refine (hI y ⟨j, last hT hO 5 rfl 0 31 (.inl ⟨rfl, rfl⟩) (index_5_of hT hO) (of_index_5 hT hO) t j hf e, e, hj⟩).trans ?_
  have key : ∀ z : (⟨2, ![196608, 128]⟩ : Shape).Idx, (z 0).val = oTile hT 0 31 (grid0.coords t) * 6144 + (y 0).val → (z 1).val = (y 1).val → argProj m c (oTile hT 0 31 (grid0.coords t) * 256 + (y 0).val / 24) (gcol 0 (qCol ((y 0).val % 24) (y 1).val)) = qOf (argProj m c) z := by
    intro z e0 e1
    unfold qOf
    rw [e0, e1, show (oTile hT 0 31 (grid0.coords t) * 6144 + (y 0).val) / 24 = oTile hT 0 31 (grid0.coords t) * 256 + (y 0).val / 24 by omega, show (oTile hT 0 31 (grid0.coords t) * 6144 + (y 0).val) % 24 = (y 0).val % 24 by omega]
  refine key _ ((Pipeline.Window.rect_emb_val _ _ _ _).trans ?_) ((Pipeline.Window.rect_emb_val _ _ _ _).trans ?_)
  · rw [index_5 hT hO]; rfl
  · rw [index_5 hT hO]; exact (congrArg (· + (y 1).val) (Nat.zero_mul _)).trans (Nat.zero_add _)

/-- The array of window 5, after every write-back. -/
theorem array5_eq (after : (w' : Fin (cfgM m hO).W) → Fin (cfgM m hO).N → ((cfgM m hO).win w').block.Idx → Elt Ideal ((cfgM m hO).win w').elt)
    (hL : ∀ (w : Fin (cfgM m hO).W) (u : Fin (cfgM m hO).N), ((cfgM m hO).win w).flush u = true → (rdats m hO hH (rels hT hO) c).Leaves w u (after w u)) :
    ((rdats m hO hH (rels hT hO) c).withAfter after).arrAt 5 (cfgM m hO).N = qOf (argProj m c) := by
  exact Pipeline.Dat.arrAt_eq_of_emb _ 5 _ (fun t hf y => written5 hT hO c t (after 5 t) hf (Pipeline.Dat.toRRel_leaves (dat := dats m hO hH 0 c) (w := 5) rfl (hL 5 t hf)) y) (covered5 hT hO)

theorem kept6 (t : Fin (cfgM m hO).N) (Ya : Vec Ideal S6144x128 .f32) (Yb : Vec Ideal S256x1536 .bf16) (hF : (rdats m hO hH (rels hT hO) c).Finds 6 t Yb) : Inv6 hT hO c t (step6 m hO hH c t Ya Yb) := by
  rintro y ⟨j, hj, hjt, htk⟩
  have hy : (y 0).val < 256 := by have : (y 0).val < 256 := (y 0).isLt; omega
  by_cases ht : Takes hT 0 (grid0.coords t) ((y 0).val)
  · refine (step6_takes hT hO hH c t Ya Yb y ht).trans ((blkV_eq hT hO c t 0 _ _ hy ht).trans ?_)
    rw [oT_eq hT 0 31 _ ht.1]
  · refine (step6_keeps hT hO hH c t Ya Yb y ht).trans ?_
    have hne : j.val ≠ t.val := fun e => ht (by rwa [Fin.ext e] at htk)
    obtain ⟨hlt, e, hl⟩ := leaves_prev hT hO hH c (rels hT hO) 6 rfl 0 31 (.inl ⟨rfl, rfl⟩) (index_6_of hT hO) t j (by omega) hjt _ hF
    have hI : Inv6 hT hO c ⟨t.val - 1, hlt⟩ Yb := Pipeline.Dat.toRRel_leaves (dat := dats m hO hH 0 c) (w := 6) rfl hl
    refine (hI y ⟨j, by show j.val ≤ t.val - 1; omega, hjt.trans e.symm, htk⟩).trans ?_
    rw [e]

include hT in
/-- Every element of the result lies in a block that window 6 writes back. -/
theorem covered6 (i : (⟨2, ![8192, 1536]⟩ : Shape).Idx) : ∃ t : Fin (cfgM m hO).N, ((cfgM m hO).win 6).flush t = true ∧ i ∈ (((cfgM m hO).win 6).blk t).view.set := by
  have hi : (i 0).val < 8192 := (i 0).isLt
  obtain ⟨j, e, -⟩ := taker hT 0 31 ((i 0).val / 256) 0 (by omega) (by omega)
  obtain ⟨t, -, hf, hix⟩ := Pipeline.Window.exists_flush_same_index ((cfgM m hO).win 6) rfl j
  refine ⟨t, hf, ?_⟩
  have et : oTile hT 0 31 (grid0.coords t) = (i 0).val / 256 := (of_index_6 hT hO _ _ hix).trans e
  refine (ValueKit.mem_set_slice_whole_iff main_v4_1 (((cfgM m hO).win 6).rect t) i (Pipeline.Window.mem_rect_iff ((cfgM m hO).win 6) t i rfl)).2 fun a => ?_
  rw [index_6 hT hO]
  match a with
  | ⟨0, _⟩ =>
    constructor
    · show oTile hT 0 31 (grid0.coords t) * 256 ≤ (i 0).val; omega
    · show (i 0).val < oTile hT 0 31 (grid0.coords t) * 256 + 256; omega
  | ⟨1, _⟩ => exact ⟨(Nat.zero_mul _).le.trans (Nat.zero_le _), by
      have : (i 1).val < 1536 := (i 1).isLt
      show (i 1).val < 0 * 1536 + 1536; omega⟩

/-- At a point that writes window 6's block back, every row of the tile has been taken, so the block is the result's. -/
theorem written6 (t : Fin (cfgM m hO).N) (X : Vec Ideal S256x1536 .bf16) (hf : ((cfgM m hO).win 6).flush t = true) (hI : Inv6 hT hO c t X) (y : S256x1536.Idx) :
    X y = kaOf (argProj m c) ((((cfgM m hO).win 6).blk t).view.emb y) := by
  have hy : (y 0).val < 256 := by have : (y 0).val < 256 := (y 0).isLt; omega
  obtain ⟨j, e, hj⟩ := taker hT 0 31 (oTile hT 0 31 (grid0.coords t)) ((y 0).val) (oTile_lt hT 0 31 (by decide) _) hy
  refine (hI y ⟨j, last hT hO 6 rfl 0 31 (.inl ⟨rfl, rfl⟩) (index_6_of hT hO) (of_index_6 hT hO) t j hf e, e, hj⟩).trans ?_
  have key : ∀ z : (⟨2, ![8192, 1536]⟩ : Shape).Idx, (z 0).val = oTile hT 0 31 (grid0.coords t) * 256 + (y 0).val → (z 1).val = (y 1).val → argProj m c (oTile hT 0 31 (grid0.coords t) * 256 + (y 0).val) (gcol 0 (2816 + (y 1).val)) = kaOf (argProj m c) z := by
    intro z e0 e1
    unfold kaOf
    rw [e0, e1]
  refine key _ ((Pipeline.Window.rect_emb_val _ _ _ _).trans ?_) ((Pipeline.Window.rect_emb_val _ _ _ _).trans ?_)
  · rw [index_6 hT hO]; rfl
  · rw [index_6 hT hO]; exact (congrArg (· + (y 1).val) (Nat.zero_mul _)).trans (Nat.zero_add _)

/-- The array of window 6, after every write-back. -/
theorem array6_eq (after : (w' : Fin (cfgM m hO).W) → Fin (cfgM m hO).N → ((cfgM m hO).win w').block.Idx → Elt Ideal ((cfgM m hO).win w').elt)
    (hL : ∀ (w : Fin (cfgM m hO).W) (u : Fin (cfgM m hO).N), ((cfgM m hO).win w).flush u = true → (rdats m hO hH (rels hT hO) c).Leaves w u (after w u)) :
    ((rdats m hO hH (rels hT hO) c).withAfter after).arrAt 6 (cfgM m hO).N = kaOf (argProj m c) := by
  exact Pipeline.Dat.arrAt_eq_of_emb _ 6 _ (fun t hf y => written6 hT hO c t (after 6 t) hf (Pipeline.Dat.toRRel_leaves (dat := dats m hO hH 0 c) (w := 6) rfl (hL 6 t hf)) y) (covered6 hT hO)

theorem kept7 (t : Fin (cfgM m hO).N) (Ya : Vec Ideal S256x1408 .bf16) (Yb : Vec Ideal S256x2944 .bf16) (hF : (rdats m hO hH (rels hT hO) c).Finds 7 t Ya) : Inv7 hT hO c t (step7 m hO hH c t Ya Yb) := by
  rintro y ⟨j, hj, hjt, htk⟩
  have hy : (y 0).val < 256 := by have : (y 0).val < 256 := (y 0).isLt; omega
  by_cases ht : Takes hT 1 (grid0.coords t) ((y 0).val)
  · refine (step7_takes hT hO hH c t Ya Yb y ht).trans ((blkV_eq hT hO c t 1 _ _ hy ht).trans ?_)
    rw [oT_eq hT 1 0 _ ht.1]
  · refine (step7_keeps hT hO hH c t Ya Yb y ht).trans ?_
    have hne : j.val ≠ t.val := fun e => ht (by rwa [Fin.ext e] at htk)
    obtain ⟨hlt, e, hl⟩ := leaves_prev hT hO hH c (rels hT hO) 7 rfl 1 0 (.inr ⟨rfl, rfl⟩) (index_7_of hT hO) t j (by omega) hjt _ hF
    have hI : Inv7 hT hO c ⟨t.val - 1, hlt⟩ Ya := Pipeline.Dat.toRRel_leaves (dat := dats m hO hH 0 c) (w := 7) rfl hl
    refine (hI y ⟨j, by show j.val ≤ t.val - 1; omega, hjt.trans e.symm, htk⟩).trans ?_
    rw [e]

include hT in
/-- Every element of the result lies in a block that window 7 writes back. -/
theorem covered7 (i : (⟨2, ![8192, 1408]⟩ : Shape).Idx) : ∃ t : Fin (cfgM m hO).N, ((cfgM m hO).win 7).flush t = true ∧ i ∈ (((cfgM m hO).win 7).blk t).view.set := by
  have hi : (i 0).val < 8192 := (i 0).isLt
  obtain ⟨j, e, -⟩ := taker hT 1 0 ((i 0).val / 256) 0 (by omega) (by omega)
  obtain ⟨t, -, hf, hix⟩ := Pipeline.Window.exists_flush_same_index ((cfgM m hO).win 7) rfl j
  refine ⟨t, hf, ?_⟩
  have et : oTile hT 1 0 (grid0.coords t) = (i 0).val / 256 := (of_index_7 hT hO _ _ hix).trans e
  refine (ValueKit.mem_set_slice_whole_iff main_v4_2 (((cfgM m hO).win 7).rect t) i (Pipeline.Window.mem_rect_iff ((cfgM m hO).win 7) t i rfl)).2 fun a => ?_
  rw [index_7 hT hO]
  match a with
  | ⟨0, _⟩ =>
    constructor
    · show oTile hT 1 0 (grid0.coords t) * 256 ≤ (i 0).val; omega
    · show (i 0).val < oTile hT 1 0 (grid0.coords t) * 256 + 256; omega
  | ⟨1, _⟩ => exact ⟨(Nat.zero_mul _).le.trans (Nat.zero_le _), by
      have : (i 1).val < 1408 := (i 1).isLt
      show (i 1).val < 0 * 1408 + 1408; omega⟩

/-- At a point that writes window 7's block back, every row of the tile has been taken, so the block is the result's. -/
theorem written7 (t : Fin (cfgM m hO).N) (X : Vec Ideal S256x1408 .bf16) (hf : ((cfgM m hO).win 7).flush t = true) (hI : Inv7 hT hO c t X) (y : S256x1408.Idx) :
    X y = kbOf (argProj m c) ((((cfgM m hO).win 7).blk t).view.emb y) := by
  have hy : (y 0).val < 256 := by have : (y 0).val < 256 := (y 0).isLt; omega
  obtain ⟨j, e, hj⟩ := taker hT 1 0 (oTile hT 1 0 (grid0.coords t)) ((y 0).val) (oTile_lt hT 1 0 (by decide) _) hy
  refine (hI y ⟨j, last hT hO 7 rfl 1 0 (.inr ⟨rfl, rfl⟩) (index_7_of hT hO) (of_index_7 hT hO) t j hf e, e, hj⟩).trans ?_
  have key : ∀ z : (⟨2, ![8192, 1408]⟩ : Shape).Idx, (z 0).val = oTile hT 1 0 (grid0.coords t) * 256 + (y 0).val → (z 1).val = (y 1).val → argProj m c (oTile hT 1 0 (grid0.coords t) * 256 + (y 0).val) (gcol 1 (0 + (y 1).val)) = kbOf (argProj m c) z := by
    intro z e0 e1
    unfold kbOf
    rw [e0, e1]
  refine key _ ((Pipeline.Window.rect_emb_val _ _ _ _).trans ?_) ((Pipeline.Window.rect_emb_val _ _ _ _).trans ?_)
  · rw [index_7 hT hO]; rfl
  · rw [index_7 hT hO]; exact (congrArg (· + (y 1).val) (Nat.zero_mul _)).trans (Nat.zero_add _)

/-- The array of window 7, after every write-back. -/
theorem array7_eq (after : (w' : Fin (cfgM m hO).W) → Fin (cfgM m hO).N → ((cfgM m hO).win w').block.Idx → Elt Ideal ((cfgM m hO).win w').elt)
    (hL : ∀ (w : Fin (cfgM m hO).W) (u : Fin (cfgM m hO).N), ((cfgM m hO).win w).flush u = true → (rdats m hO hH (rels hT hO) c).Leaves w u (after w u)) :
    ((rdats m hO hH (rels hT hO) c).withAfter after).arrAt 7 (cfgM m hO).N = kbOf (argProj m c) := by
  exact Pipeline.Dat.arrAt_eq_of_emb _ 7 _ (fun t hf y => written7 hT hO c t (after 7 t) hf (Pipeline.Dat.toRRel_leaves (dat := dats m hO hH 0 c) (w := 7) rfl (hL 7 t hf)) y) (covered7 hT hO)

theorem kept8 (t : Fin (cfgM m hO).N) (Ya : Vec Ideal S256x1408 .bf16) (Yb : Vec Ideal S256x2944 .bf16) (hF : (rdats m hO hH (rels hT hO) c).Finds 8 t Yb) : Inv8 hT hO c t (step8 m hO hH c t Ya Yb) := by
  rintro y ⟨j, hj, hjt, htk⟩
  have hy : (y 0).val < 256 := by have : (y 0).val < 256 := (y 0).isLt; omega
  by_cases ht : Takes hT 1 (grid0.coords t) ((y 0).val)
  · refine (step8_takes hT hO hH c t Ya Yb y ht).trans ((blkV_eq hT hO c t 1 _ _ hy ht).trans ?_)
    rw [oT_eq hT 1 0 _ ht.1]
  · refine (step8_keeps hT hO hH c t Ya Yb y ht).trans ?_
    have hne : j.val ≠ t.val := fun e => ht (by rwa [Fin.ext e] at htk)
    obtain ⟨hlt, e, hl⟩ := leaves_prev hT hO hH c (rels hT hO) 8 rfl 1 0 (.inr ⟨rfl, rfl⟩) (index_8_of hT hO) t j (by omega) hjt _ hF
    have hI : Inv8 hT hO c ⟨t.val - 1, hlt⟩ Yb := Pipeline.Dat.toRRel_leaves (dat := dats m hO hH 0 c) (w := 8) rfl hl
    refine (hI y ⟨j, by show j.val ≤ t.val - 1; omega, hjt.trans e.symm, htk⟩).trans ?_
    rw [e]

include hT in
/-- Every element of the result lies in a block that window 8 writes back. -/
theorem covered8 (i : (⟨2, ![8192, 2944]⟩ : Shape).Idx) : ∃ t : Fin (cfgM m hO).N, ((cfgM m hO).win 8).flush t = true ∧ i ∈ (((cfgM m hO).win 8).blk t).view.set := by
  have hi : (i 0).val < 8192 := (i 0).isLt
  obtain ⟨j, e, -⟩ := taker hT 1 0 ((i 0).val / 256) 0 (by omega) (by omega)
  obtain ⟨t, -, hf, hix⟩ := Pipeline.Window.exists_flush_same_index ((cfgM m hO).win 8) rfl j
  refine ⟨t, hf, ?_⟩
  have et : oTile hT 1 0 (grid0.coords t) = (i 0).val / 256 := (of_index_8 hT hO _ _ hix).trans e
  refine (ValueKit.mem_set_slice_whole_iff main_v4_3 (((cfgM m hO).win 8).rect t) i (Pipeline.Window.mem_rect_iff ((cfgM m hO).win 8) t i rfl)).2 fun a => ?_
  rw [index_8 hT hO]
  match a with
  | ⟨0, _⟩ =>
    constructor
    · show oTile hT 1 0 (grid0.coords t) * 256 ≤ (i 0).val; omega
    · show (i 0).val < oTile hT 1 0 (grid0.coords t) * 256 + 256; omega
  | ⟨1, _⟩ => exact ⟨(Nat.zero_mul _).le.trans (Nat.zero_le _), by
      have : (i 1).val < 2944 := (i 1).isLt
      show (i 1).val < 0 * 2944 + 2944; omega⟩

/-- At a point that writes window 8's block back, every row of the tile has been taken, so the block is the result's. -/
theorem written8 (t : Fin (cfgM m hO).N) (X : Vec Ideal S256x2944 .bf16) (hf : ((cfgM m hO).win 8).flush t = true) (hI : Inv8 hT hO c t X) (y : S256x2944.Idx) :
    X y = vOf (argProj m c) ((((cfgM m hO).win 8).blk t).view.emb y) := by
  have hy : (y 0).val < 256 := by have : (y 0).val < 256 := (y 0).isLt; omega
  obtain ⟨j, e, hj⟩ := taker hT 1 0 (oTile hT 1 0 (grid0.coords t)) ((y 0).val) (oTile_lt hT 1 0 (by decide) _) hy
  refine (hI y ⟨j, last hT hO 8 rfl 1 0 (.inr ⟨rfl, rfl⟩) (index_8_of hT hO) (of_index_8 hT hO) t j hf e, e, hj⟩).trans ?_
  have key : ∀ z : (⟨2, ![8192, 2944]⟩ : Shape).Idx, (z 0).val = oTile hT 1 0 (grid0.coords t) * 256 + (y 0).val → (z 1).val = (y 1).val → argProj m c (oTile hT 1 0 (grid0.coords t) * 256 + (y 0).val) (gcol 1 (vCol (y 1).val)) = vOf (argProj m c) z := by
    intro z e0 e1
    unfold vOf
    rw [e0, e1]
  refine key _ ((Pipeline.Window.rect_emb_val _ _ _ _).trans ?_) ((Pipeline.Window.rect_emb_val _ _ _ _).trans ?_)
  · rw [index_8 hT hO]; rfl
  · rw [index_8 hT hO]; exact (congrArg (· + (y 1).val) (Nat.zero_mul _)).trans (Nat.zero_add _)

/-- The array of window 8, after every write-back. -/
theorem array8_eq (after : (w' : Fin (cfgM m hO).W) → Fin (cfgM m hO).N → ((cfgM m hO).win w').block.Idx → Elt Ideal ((cfgM m hO).win w').elt)
    (hL : ∀ (w : Fin (cfgM m hO).W) (u : Fin (cfgM m hO).N), ((cfgM m hO).win w).flush u = true → (rdats m hO hH (rels hT hO) c).Leaves w u (after w u)) :
    ((rdats m hO hH (rels hT hO) c).withAfter after).arrAt 8 (cfgM m hO).N = vOf (argProj m c) := by
  exact Pipeline.Dat.arrAt_eq_of_emb _ 8 _ (fun t hf y => written8 hT hO c t (after 8 t) hf (Pipeline.Dat.toRRel_leaves (dat := dats m hO hH 0 c) (w := 8) rfl (hL 8 t hf)) y) (covered8 hT hO)

theorem kept : Kept m hO hH (rels hT hO) :=
  ⟨fun c t Ya Yb h _ => kept5 hT hO hH c t Ya Yb h, fun c t Ya Yb _ h => kept6 hT hO hH c t Ya Yb h, fun c t Ya Yb h _ => kept7 hT hO hH c t Ya Yb h, fun c t Ya Yb _ h => kept8 hT hO hH c t Ya Yb h⟩

include hT hO hH in
/-- THE VALUE: every run of the call ends with the four result arrays at the projection of the arguments. -/
theorem run_value (ρ : Dev nD → PrngReg) : θ_run defs (onTc (τ := τ) (main (F := Ideal))) ⟨m, fun _ => 0, ρ⟩ (fun r => ∀ c : Dev nD,
      r.2.mem ((c.tc : Thread nD τ).loc main_v4_0) = qOf (argProj m c) ∧ r.2.mem ((c.tc : Thread nD τ).loc main_v4_1) = kaOf (argProj m c)
      ∧ r.2.mem ((c.tc : Thread nD τ).loc main_v4_2) = kbOf (argProj m c) ∧ r.2.mem ((c.tc : Thread nD τ).loc main_v4_3) = vOf (argProj m c)) :=
  (θ_run defs _ _).mono (fun r h c => by
    obtain ⟨after, hL, hA⟩ := Pipeline.RDat.FramePost.exists_exact h.1 c
    exact ⟨(hA 5).trans (array5_eq hT hO hH c after hL), (hA 6).trans (array6_eq hT hO hH c after hL), (hA 7).trans (array7_eq hT hO hH c after hL), (hA 8).trans (array8_eq hT hO hH c after hL)⟩) (run_main m ρ hO hH (rels hT hO) (kept hT hO hH))
end

end Cert.QkvIdeal.Gen

end
-- ==== Proof.QkvRefIdeal.Body.lean ====
/- The reference's body: an element of the product it makes. -/
module

public import proofs.«01_k».proof.Proof.OutRefIdeal.Result
public import proofs.«01_k».proof.Proof.Gen.QkvRefIdeal.Value
public import Idealize.ShloMosaic.Lib.Claim

@[expose] public section

set_option maxRecDepth 16384

noncomputable section

namespace Cert.QkvRefIdeal.Gen

open Idealize.ShloMosaic Idealize.ShloMosaic.TcCoe
open Cert.OutRefIdeal.Gen (sel_eq le1)

variable (nt : Vec Ideal S8192x1 .i32) (x : Vec Ideal S8192x2880 .fp8e4m3) (xs : Vec Ideal S8192x1 .f32) (w w' : Vec Ideal S1x2880x8640 .fp8e4m3)
  (ws b ws' b' : Vec Ideal S1x8640 .f32) (y : FVec Ideal S8192x8640 .f32) (n : Fin 8192) (r : Fin 8640)

/-- One element as one type's weights make it. -/
def elem : EReal := (∑ j : Fin 2880, x (ix2 n j) * w (ix3 0 j r)) * xs (ix2 n 0) * ws (ix2 0 r) + b (ix2 0 r)

theorem pay2_at : k0_pay2 x w xs ws b nt (ix2 n r) = if nt (ix2 n 0) = 0#32 then elem x xs w ws b n r else 0 := by
  pointwise [k0_pay2]
  exact sel_eq _ _ _ _

theorem pay4_at : k0_pay4 y (k0_pay3 x w xs ws) b nt x w' xs ws' b' nt (ix2 n r)
    = if nt (ix2 n 0) = 2#32 then elem x xs w' ws' b' n r else if nt (ix2 n 0) = 1#32 then elem x xs w ws b n r else y (ix2 n r) := by
  pointwise [k0_pay4, k0_pay3]
  exact (sel_eq _ _ _ _).trans (congrArg (fun z => if nt (ix2 n 0) = 2#32 then elem x xs w' ws' b' n r else z) (sel_eq _ _ _ _))

theorem pay6_at : k0_pay6 y (k0_pay5 x w) xs ws b nt (ix2 n r) = if nt (ix2 n 0) = 3#32 then elem x xs w ws b n r else y (ix2 n r) := by
  pointwise [k0_pay6, k0_pay5]
  exact sel_eq _ _ _ _

/-- The product's element, given the row's type `g`: what type `g`'s weights make. -/
theorem body_at (W : Fin 4 → Vec Ideal S1x2880x8640 .fp8e4m3) (WS B : Fin 4 → Vec Ideal S1x8640 .f32) (g : Fin 4) (hg : nt (ix2 n 0) = BitVec.ofNat 32 g.val) :
    k0_pay6 (k0_pay4 (k0_pay2 x (W 0) xs (WS 0) (B 0) nt) (k0_pay3 x (W 1) xs (WS 1)) (B 1) nt x (W 2) xs (WS 2) (B 2) nt) (k0_pay5 x (W 3)) xs (WS 3) (B 3) nt (ix2 n r)
      = elem x xs (W g) (WS g) (B g) n r := by
  rw [pay6_at, pay4_at, pay2_at, hg]
  match g with
  | ⟨0, _⟩ => rfl
  | ⟨1, _⟩ => rfl
  | ⟨2, _⟩ => rfl
  | ⟨3, _⟩ => rfl

variable (m : (ℓ : Loc nD τ sig) → Buf (Elt Ideal) ℓ)

/-- The type of a row: how many of the ends of the types are at most its number. -/
theorem main_v9_at (c : Dev nD) : V m c main_v9 (ix2 n 0) = (le1 (m ((c : Thread nD τ).loc main_arg3) (ix1 1)) n + (le1 (m ((c : Thread nD τ).loc main_arg3) (ix1 2)) n + (le1 (m ((c : Thread nD τ).loc main_arg3) (ix1 3)) n + (le1 (m ((c : Thread nD τ).loc main_arg3) (ix1 4)) n + 0#32)))) := by
  entry_read
  pointwise
  rfl

theorem main_v10_at (c : Dev nD) : V m c main_v10 (ix2 n 0) = m ((c : Thread nD τ).loc main_arg5) (ix1 n) := by
  entry_read
  pointwise

end Cert.QkvRefIdeal.Gen

end
-- ==== Proof.QkvRefIdeal.Regroup.lean ====
/- How the reference sets out its four results: which column of the product an element of each result is. -/
module

public import proofs.«01_k».proof.Proof.QkvIdeal.Result
public import proofs.«01_k».proof.Proof.Gen.QkvRefIdeal.Value
public import Idealize.ShloMosaic.Lib.Claim

@[expose] public section

set_option maxRecDepth 16384

noncomputable section

namespace Cert.QkvRefIdeal.Gen

open Idealize.ShloMosaic Idealize.ShloMosaic.TcCoe
open Cert.QkvIdeal.Gen (qCol vCol gcol qOf kaOf kbOf vOf)

variable (Y : FVec Ideal S8192x8640 .f32)

/-! ## The queries, one rearrangement at a time -/

/-- The query columns, a head of 160 columns at a time. -/
def heads : FVec Ideal S8192x18x160 .f32 :=
  shapeCast S8192x18x160 (extractStridedSlice S8192x2880 ![0, 0] Y slices_S8192x8640_o0_0_S8192x2880) shapeCasts_S8192x2880_S8192x18x160

/-- Sixteen heads, four at a time: the same 32 columns of four heads make one row of 128. -/
def sixteen : FVec Ideal S8192x20x128 .f32 :=
  shapeCast S8192x20x128 (transpose S8192x4x5x4x32 [0, 1, 3, 2, 4]
    (shapeCast S8192x4x4x5x32 (extractStridedSlice S8192x16x160 ![0, 0, 0] (heads Y) slices_S8192x18x160_o0_0_0_S8192x16x160) shapeCasts_S8192x16x160_S8192x4x4x5x32)
    transposes_S8192x4x4x5x32_p0_1_3_2_4_S8192x4x5x4x32) shapeCasts_S8192x4x5x4x32_S8192x20x128

/-- The two heads that are left over: the same 32 columns of both, next to one another. -/
def two : FVec Ideal S8192x320 .f32 :=
  shapeCast S8192x320 (transpose S8192x5x2x32 [0, 2, 1, 3]
    (shapeCast S8192x2x5x32 (extractStridedSlice S8192x2x160 ![0, 16, 0] (heads Y) slices_S8192x18x160_o0_16_0_S8192x2x160) shapeCasts_S8192x2x160_S8192x2x5x32)
    transposes_S8192x2x5x32_p0_2_1_3_S8192x5x2x32) shapeCasts_S8192x5x2x32_S8192x320

/-- The left-over heads, filled up with zeros to four rows of 128. -/
def tail : FVec Ideal S8192x4x128 .f32 :=
  shapeCast S8192x4x128 (concatenate S8192x512 1 [⟨S8192x320, two Y⟩, ⟨S8192x192, broadcast S8192x192 (Scalar.ofBits (F := Ideal) .f32 0x00000000#32)⟩]
    concatenates_S8192x320_S8192x192_S8192x512_d1) shapeCasts_S8192x512_S8192x4x128

/-- All 24 rows of every node. -/
def rows24 : FVec Ideal S8192x24x128 .f32 :=
  concatenate S8192x24x128 1 [⟨S8192x20x128, sixteen Y⟩, ⟨S8192x4x128, tail Y⟩] concatenates_S8192x20x128_S8192x4x128_S8192x24x128_d1

theorem pay7_eq (a b : FVec Ideal S8192x8640 .f32) (x : Vec Ideal S8192x1 .f32) (u v : Vec Ideal S1x8640 .f32) (t : Vec Ideal S8192x1 .i32) :
    k0_pay7 a b x u v t = shapeCast S196608x128 (rows24 (k0_pay6 a b x u v t)) shapeCasts_S8192x24x128_S196608x128 := rfl

theorem heads_at (n : Fin 8192) (h : Fin 18) (l : Fin 160) : heads Y (ix3 n h l) = Y (ix2 n ⟨h.val * 160 + l.val, by omega⟩) := by
  refine (shapeCast_apply _ _ _ (ix2 n (⟨h.val * 160 + l.val, by omega⟩ : Fin 2880)) ?_).trans (extractStridedSlice_apply _ _ _ _ _ fun a => ?_)
  · rw [Shape.rowMajor_val_two, Shape.rowMajor_val_three]
    show n.val * 2880 + (h.val * 160 + l.val) = (n.val * 18 + h.val) * 160 + l.val
    omega
  · match a with
    | ⟨0, _⟩ => exact (Nat.zero_add _).symm
    | ⟨1, _⟩ => exact (Nat.zero_add _).symm

theorem sixteen_at (n : Fin 8192) (p : Fin 20) (k : Fin 128) :
    sixteen Y (ix3 n p k) = Y (ix2 n ⟨(p.val / 5 * 4 + k.val / 32) * 160 + (p.val % 5 * 32 + k.val % 32), by omega⟩) := by
  have hp := p.isLt
  have hk := k.isLt
  refine (shapeCast_apply _ _ _ (ix5 n (⟨p.val / 5, by omega⟩ : Fin 4) (⟨p.val % 5, by omega⟩ : Fin 5) (⟨k.val / 32, by omega⟩ : Fin 4) (⟨k.val % 32, by omega⟩ : Fin 32)) ?_).trans ?_
  · rw [Shape.rowMajor_val_five, Shape.rowMajor_val_three]
    show (((n.val * 4 + p.val / 5) * 5 + p.val % 5) * 4 + k.val / 32) * 32 + k.val % 32 = (n.val * 20 + p.val) * 128 + k.val
    omega
  refine (transpose_apply _ _ _ _ (ix5 n (⟨p.val / 5, by omega⟩ : Fin 4) (⟨k.val / 32, by omega⟩ : Fin 4) (⟨p.val % 5, by omega⟩ : Fin 5) (⟨k.val % 32, by omega⟩ : Fin 32)) fun a => ?_).trans ?_
  · match a with
    | ⟨0, _⟩ => rfl
    | ⟨1, _⟩ => rfl
    | ⟨2, _⟩ => rfl
    | ⟨3, _⟩ => rfl
    | ⟨4, _⟩ => rfl
  refine (shapeCast_apply _ _ _ (ix3 n (⟨p.val / 5 * 4 + k.val / 32, by omega⟩ : Fin 16) (⟨p.val % 5 * 32 + k.val % 32, by omega⟩ : Fin 160)) ?_).trans ?_
  · rw [Shape.rowMajor_val_three, Shape.rowMajor_val_five]
    show (n.val * 16 + (p.val / 5 * 4 + k.val / 32)) * 160 + (p.val % 5 * 32 + k.val % 32) = (((n.val * 4 + p.val / 5) * 4 + k.val / 32) * 5 + p.val % 5) * 32 + k.val % 32
    omega
  refine (extractStridedSlice_apply _ _ _ _ (ix3 n (⟨p.val / 5 * 4 + k.val / 32, by omega⟩ : Fin 18) (⟨p.val % 5 * 32 + k.val % 32, by omega⟩ : Fin 160)) fun a => ?_).trans (heads_at Y _ _ _)
  match a with
  | ⟨0, _⟩ => exact (Nat.zero_add _).symm
  | ⟨1, _⟩ => exact (Nat.zero_add _).symm
  | ⟨2, _⟩ => exact (Nat.zero_add _).symm

theorem two_at (n : Fin 8192) (l : Fin 320) : two Y (ix2 n l) = Y (ix2 n ⟨(16 + l.val % 64 / 32) * 160 + (l.val / 64 * 32 + l.val % 32), by omega⟩) := by
  have hl := l.isLt
  refine (shapeCast_apply _ _ _ (ix4 n (⟨l.val / 64, by omega⟩ : Fin 5) (⟨l.val % 64 / 32, by omega⟩ : Fin 2) (⟨l.val % 32, by omega⟩ : Fin 32)) ?_).trans ?_
  · rw [Shape.rowMajor_val_four, Shape.rowMajor_val_two]
    show ((n.val * 5 + l.val / 64) * 2 + l.val % 64 / 32) * 32 + l.val % 32 = n.val * 320 + l.val
    omega
  refine (transpose_apply _ _ _ _ (ix4 n (⟨l.val % 64 / 32, by omega⟩ : Fin 2) (⟨l.val / 64, by omega⟩ : Fin 5) (⟨l.val % 32, by omega⟩ : Fin 32)) fun a => ?_).trans ?_
  · match a with
    | ⟨0, _⟩ => rfl
    | ⟨1, _⟩ => rfl
    | ⟨2, _⟩ => rfl
    | ⟨3, _⟩ => rfl
  refine (shapeCast_apply _ _ _ (ix3 n (⟨l.val % 64 / 32, by omega⟩ : Fin 2) (⟨l.val / 64 * 32 + l.val % 32, by omega⟩ : Fin 160)) ?_).trans ?_
  · rw [Shape.rowMajor_val_three, Shape.rowMajor_val_four]
    show (n.val * 2 + l.val % 64 / 32) * 160 + (l.val / 64 * 32 + l.val % 32) = ((n.val * 2 + l.val % 64 / 32) * 5 + l.val / 64) * 32 + l.val % 32
    omega
  refine (extractStridedSlice_apply _ _ _ _ (ix3 n (⟨16 + l.val % 64 / 32, by omega⟩ : Fin 18) (⟨l.val / 64 * 32 + l.val % 32, by omega⟩ : Fin 160)) fun a => ?_).trans (heads_at Y _ _ _)
  match a with
  | ⟨0, _⟩ => exact (Nat.zero_add _).symm
  | ⟨1, _⟩ => rfl
  | ⟨2, _⟩ => exact (Nat.zero_add _).symm

/-- The zero that fills up a row. -/
theorem fill_eq : (Scalar.ofBits (F := Ideal) .f32 0x00000000#32 : EReal) = 0 := by
  pointwise

section
variable (P : Nat → Nat → EReal) (hY : ∀ (n : Fin 8192) (k : Fin 8640), Y (ix2 n k) = P n.val k.val) (hP : ∀ n, P n 8704 = 0)
include hY hP

theorem tail_at (n : Fin 8192) (p : Fin 4) (k : Fin 128) : tail Y (ix3 n p k) = P n.val (gcol 0 (qCol (20 + p.val) k.val)) := by
  have hp := p.isLt
  have hk := k.isLt
  refine (shapeCast_apply _ _ _ (ix2 n (⟨p.val * 128 + k.val, by omega⟩ : Fin 512)) ?_).trans ?_
  · rw [Shape.rowMajor_val_two, Shape.rowMajor_val_three]
    show n.val * 512 + (p.val * 128 + k.val) = (n.val * 4 + p.val) * 128 + k.val
    omega
  by_cases h : p.val * 128 + k.val < 320
  · refine (concatenate_pair_apply_left (t := S8192x512) (s₁ := S8192x320) (s₂ := S8192x192) 1 (two Y) (broadcast S8192x192 (Scalar.ofBits (F := Ideal) .f32 0x00000000#32)) _ _ rfl (ix2 n (⟨p.val * 128 + k.val, h⟩ : Fin 320)) fun a => ?_).trans ?_
    · match a with
      | ⟨0, _⟩ => rfl
      | ⟨1, _⟩ => rfl
    refine (two_at Y _ _).trans ((hY _ _).trans (congrArg (P n.val) ?_))
    unfold gcol qCol
    show (16 + (p.val * 128 + k.val) % 64 / 32) * 160 + ((p.val * 128 + k.val) / 64 * 32 + (p.val * 128 + k.val) % 32) = _
    rw [if_neg (by omega : ¬ 20 + p.val < 20), if_pos (by omega : (20 + p.val - 20) * 128 + k.val < 320), if_pos (by omega)]
    omega
  · refine (concatenate_pair_apply_right (t := S8192x512) (s₁ := S8192x320) (s₂ := S8192x192) 1 (two Y) (broadcast S8192x192 (Scalar.ofBits (F := Ideal) .f32 0x00000000#32)) _ _ rfl rfl (ix2 n (⟨p.val * 128 + k.val - 320, by omega⟩ : Fin 192)) (fun a ha => ?_) ?_).trans ?_
    · match a with
      | ⟨0, _⟩ => rfl
      | ⟨1, _⟩ => exact absurd rfl ha
    · show p.val * 128 + k.val - 320 + 320 = p.val * 128 + k.val
      omega
    refine fill_eq.trans ((hP n.val).symm.trans (congrArg (P n.val) ?_))
    unfold gcol qCol
    rw [if_neg (by omega : ¬ 20 + p.val < 20), if_neg (by omega : ¬ (20 + p.val - 20) * 128 + k.val < 320)]
    rfl

theorem rows24_at (n : Fin 8192) (p : Fin 24) (k : Fin 128) : rows24 Y (ix3 n p k) = P n.val (gcol 0 (qCol p.val k.val)) := by
  have hp := p.isLt
  have hk := k.isLt
  by_cases h : p.val < 20
  · refine (concatenate_pair_apply_left (t := S8192x24x128) (s₁ := S8192x20x128) (s₂ := S8192x4x128) 1 (sixteen Y) (tail Y) _ _ rfl (ix3 n (⟨p.val, h⟩ : Fin 20) k) fun a => ?_).trans ?_
    · match a with
      | ⟨0, _⟩ => rfl
      | ⟨1, _⟩ => rfl
      | ⟨2, _⟩ => rfl
    refine (sixteen_at Y _ _ _).trans ((hY _ _).trans (congrArg (P n.val) ?_))
    unfold gcol qCol
    show (p.val / 5 * 4 + k.val / 32) * 160 + (p.val % 5 * 32 + k.val % 32) = _
    rw [if_pos h, if_pos (by omega)]
    omega
  · refine (concatenate_pair_apply_right (t := S8192x24x128) (s₁ := S8192x20x128) (s₂ := S8192x4x128) 1 (sixteen Y) (tail Y) _ _ rfl rfl (ix3 n (⟨p.val - 20, by omega⟩ : Fin 4) k) (fun a ha => ?_) ?_).trans ?_
    · match a with
      | ⟨0, _⟩ => rfl
      | ⟨1, _⟩ => exact absurd rfl ha
      | ⟨2, _⟩ => rfl
    · show p.val - 20 + 20 = p.val
      omega
    refine (tail_at Y P hY hP _ _ _).trans ?_
    show P n.val (gcol 0 (qCol (20 + (p.val - 20)) k.val)) = _
    rw [(by omega : 20 + (p.val - 20) = p.val)]

/-- The queries are the product at the query columns. -/
theorem q_at (r : Fin 196608) (k : Fin 128) : shapeCast S196608x128 (rows24 Y) shapeCasts_S8192x24x128_S196608x128 (ix2 r k) = qOf P (ix2 r k) := by
  have hr := r.isLt
  refine (shapeCast_apply _ _ _ (ix3 (⟨r.val / 24, by omega⟩ : Fin 8192) (⟨r.val % 24, by omega⟩ : Fin 24) k) ?_).trans (rows24_at Y P hY hP _ _ _)
  rw [Shape.rowMajor_val_three, Shape.rowMajor_val_two]
  show (r.val / 24 * 24 + r.val % 24) * 128 + k.val = r.val * 128 + k.val
  omega
end

/-! ## The keys and the values -/

section
variable (a b : FVec Ideal S8192x8640 .f32) (x : Vec Ideal S8192x1 .f32) (u v : Vec Ideal S1x8640 .f32) (t : Vec Ideal S8192x1 .i32)
  (P : Nat → Nat → EReal) (hY : ∀ (n : Fin 8192) (k : Fin 8640), k0_pay6 a b x u v t (ix2 n k) = P n.val k.val) (hP : ∀ n, P n 8704 = 0)
include hY

/-- The first run of keys stands at columns 2816 and on. -/
theorem pay8_at (n : Fin 8192) (k : Fin 1536) : k0_pay8 a b x u v t (ix2 n k) = kaOf P (ix2 n k) := by
  have hk := k.isLt
  refine (show k0_pay8 a b x u v t (ix2 n k) = extractStridedSlice S8192x1536 ![0, 2816] (k0_pay6 a b x u v t) slices_S8192x8640_o0_2816_S8192x1536 (ix2 n k) from rfl).trans ?_
  refine (extractStridedSlice_apply _ _ _ _ (ix2 n (⟨2816 + k.val, by omega⟩ : Fin 8640)) fun a => ?_).trans ((hY _ _).trans (congrArg (P n.val) ?_))
  · match a with
    | ⟨0, _⟩ => exact (Nat.zero_add _).symm
    | ⟨1, _⟩ => rfl
  · show 2816 + k.val = gcol 0 (2816 + k.val)
    unfold gcol
    rw [if_pos (by omega)]
    omega

/-- The second run of keys stands at columns 4352 and on. -/
theorem pay9_at (n : Fin 8192) (k : Fin 1408) : k0_pay9 a b x u v t (ix2 n k) = kbOf P (ix2 n k) := by
  have hk := k.isLt
  refine (show k0_pay9 a b x u v t (ix2 n k) = extractStridedSlice S8192x1408 ![0, 4352] (k0_pay6 a b x u v t) slices_S8192x8640_o0_4352_S8192x1408 (ix2 n k) from rfl).trans ?_
  refine (extractStridedSlice_apply _ _ _ _ (ix2 n (⟨4352 + k.val, by omega⟩ : Fin 8640)) fun a => ?_).trans ((hY _ _).trans (congrArg (P n.val) ?_))
  · match a with
    | ⟨0, _⟩ => exact (Nat.zero_add _).symm
    | ⟨1, _⟩ => rfl
  · show 4352 + k.val = gcol 1 (0 + k.val)
    unfold gcol
    rw [if_pos (by omega)]
    omega

include hP in
/-- The values stand at columns 5760 and on, filled up with zeros. -/
theorem pay1_at (n : Fin 8192) (k : Fin 2944) : k0_pay1 (k0_pay10 a b x u v t) (Scalar.ofBits .f32 0x00000000#32) (ix2 n k) = vOf P (ix2 n k) := by
  have hk := k.isLt
  refine (show k0_pay1 (k0_pay10 a b x u v t) (Scalar.ofBits .f32 0x00000000#32) (ix2 n k)
    = concatenate S8192x2944 1 [⟨S8192x2880, k0_pay10 a b x u v t⟩, ⟨S8192x64, broadcast S8192x64 (Scalar.ofBits (F := Ideal) .f32 0x00000000#32)⟩] concatenates_S8192x2880_S8192x64_S8192x2944_d1 (ix2 n k) from rfl).trans ?_
  by_cases h : k.val < 2880
  · refine (concatenate_pair_apply_left (t := S8192x2944) (s₁ := S8192x2880) (s₂ := S8192x64) 1 (k0_pay10 a b x u v t) (broadcast S8192x64 (Scalar.ofBits (F := Ideal) .f32 0x00000000#32)) _ _ rfl (ix2 n (⟨k.val, h⟩ : Fin 2880)) fun a => ?_).trans ?_
    · match a with
      | ⟨0, _⟩ => rfl
      | ⟨1, _⟩ => rfl
    refine (extractStridedSlice_apply _ _ slices_S8192x8640_o0_5760_S8192x2880 _ (ix2 n (⟨5760 + k.val, by omega⟩ : Fin 8640)) fun a => ?_).trans ((hY _ _).trans (congrArg (P n.val) ?_))
    · match a with
      | ⟨0, _⟩ => exact (Nat.zero_add _).symm
      | ⟨1, _⟩ => rfl
    · show 5760 + k.val = gcol 1 (vCol k.val)
      unfold gcol vCol
      rw [if_pos h, if_pos (by omega)]
      omega
  · refine (concatenate_pair_apply_right (t := S8192x2944) (s₁ := S8192x2880) (s₂ := S8192x64) 1 (k0_pay10 a b x u v t) (broadcast S8192x64 (Scalar.ofBits (F := Ideal) .f32 0x00000000#32)) _ _ rfl rfl (ix2 n (⟨k.val - 2880, by omega⟩ : Fin 64)) (fun a ha => ?_) ?_).trans ?_
    · match a with
      | ⟨0, _⟩ => rfl
      | ⟨1, _⟩ => exact absurd rfl ha
    · show k.val - 2880 + 2880 = k.val
      omega
    refine fill_eq.trans ((hP n.val).symm.trans (congrArg (P n.val) ?_))
    show 8704 = gcol 1 (vCol k.val)
    unfold gcol vCol
    rw [if_neg h]
    rfl
end

end Cert.QkvRefIdeal.Gen

end
-- ==== Proof.QkvRefIdeal.Result.lean ====
/- The reference's results: the queries, the keys and the values of the projection of every node, as the kernel's. -/
module

public import proofs.«01_k».proof.Proof.QkvIdeal.Result
public import proofs.«01_k».proof.Proof.QkvRefIdeal.Body
public import proofs.«01_k».proof.Proof.QkvRefIdeal.Regroup
public import Idealize.ShloMosaic.Lib.Pipeline.ValueKit

@[expose] public section

set_option maxRecDepth 16384

noncomputable section

namespace Cert.QkvRefIdeal.Gen

open Idealize.ShloMosaic Idealize.ShloMosaic.TcCoe Idealize.SL.Sem
open Cert.QkvIdeal.Gen (proj qOf kaOf kbOf vOf)
open Cert.OutRefIdeal.Gen (type_word)
open Cert.Visits (typeOf)

/-! ## What the body stores -/

section
variable (x0 : Vec Ideal S8192x1 .i32) (x1 : Vec Ideal S8192x2880 .fp8e4m3) (x2 : Vec Ideal S8192x1 .f32) (x3 : Vec Ideal S4x2880x8704 .fp8e4m3)
  (x4 x5 : Vec Ideal S4x8704 .f32) (r : Fin 8640) (g : Fin 4)

/-- A type's weights, as the body loads them. -/
def ldW : Fin 4 → Vec Ideal S1x2880x8640 .fp8e4m3 := ![View.ld x3 r0_1, View.ld x3 r0_4, View.ld x3 r0_6, View.ld x3 r0_8]

/-- A type's row of a vector per type, as the body loads it. -/
def ldV : Fin 4 → Vec Ideal S1x8640 .f32 := ![View.ld x4 r0_3, View.ld x4 r0_5, View.ld x4 r0_7, View.ld x4 r0_9]

/-- A column of the product is a column of the padded weights. -/
def wide (r : Fin 8640) : Fin 8704 := ⟨r.val, by omega⟩

theorem ldW_at (j : Fin 2880) : ldW x3 g (ix3 0 j r) = x3 (ix3 g j (wide r)) := by
  match g with
  | ⟨0, _⟩ => exact View.ld_unit_apply_of x3 _ _ _ _ _ (fun a => by match a with
      | ⟨0, _⟩ => rfl
      | ⟨1, _⟩ => exact (Nat.zero_add _).symm
      | ⟨2, _⟩ => exact (Nat.zero_add _).symm)
  | ⟨1, _⟩ => exact View.ld_unit_apply_of x3 _ _ _ _ _ (fun a => by match a with
      | ⟨0, _⟩ => rfl
      | ⟨1, _⟩ => exact (Nat.zero_add _).symm
      | ⟨2, _⟩ => exact (Nat.zero_add _).symm)
  | ⟨2, _⟩ => exact View.ld_unit_apply_of x3 _ _ _ _ _ (fun a => by match a with
      | ⟨0, _⟩ => rfl
      | ⟨1, _⟩ => exact (Nat.zero_add _).symm
      | ⟨2, _⟩ => exact (Nat.zero_add _).symm)
  | ⟨3, _⟩ => exact View.ld_unit_apply_of x3 _ _ _ _ _ (fun a => by match a with
      | ⟨0, _⟩ => rfl
      | ⟨1, _⟩ => exact (Nat.zero_add _).symm
      | ⟨2, _⟩ => exact (Nat.zero_add _).symm)

theorem ldV_at : ldV x4 g (ix2 0 r) = x4 (ix2 g (wide r)) := by
  match g with
  | ⟨0, _⟩ => exact View.ld_unit_apply_of x4 _ _ _ _ _ (fun a => by match a with
      | ⟨0, _⟩ => rfl
      | ⟨1, _⟩ => exact (Nat.zero_add _).symm)
  | ⟨1, _⟩ => exact View.ld_unit_apply_of x4 _ _ _ _ _ (fun a => by match a with
      | ⟨0, _⟩ => rfl
      | ⟨1, _⟩ => exact (Nat.zero_add _).symm)
  | ⟨2, _⟩ => exact View.ld_unit_apply_of x4 _ _ _ _ _ (fun a => by match a with
      | ⟨0, _⟩ => rfl
      | ⟨1, _⟩ => exact (Nat.zero_add _).symm)
  | ⟨3, _⟩ => exact View.ld_unit_apply_of x4 _ _ _ _ _ (fun a => by match a with
      | ⟨0, _⟩ => rfl
      | ⟨1, _⟩ => exact (Nat.zero_add _).symm)

theorem z2 : ∀ a : Fin 2, (![0, 0] : Fin 2 → Nat) a = 0 := fun a => by match a with
  | ⟨0, _⟩ => rfl
  | ⟨1, _⟩ => rfl

theorem ld0 : View.ld x0 r0_2 = x0 := View.ld_unit_lit _ x0 z2
theorem ld1 : View.ld x1 r0_0 = x1 := View.ld_unit_lit _ x1 z2
theorem ld2 : View.ld x2 r0_2 = x2 := View.ld_unit_lit _ x2 z2

/-- The product's element, of whole arrays. -/
theorem pay6_whole (n : Fin 8192) (hg : x0 (ix2 n 0) = BitVec.ofNat 32 g.val) :
    k0_pay6 (k0_pay11 x0 x1 x2 x3 x4 x5) (k0_pay12 x0 x1 x2 x3 x4 x5) x2 (View.ld x4 r0_9) (View.ld x5 r0_9) x0 (ix2 n r)
      = (∑ j : Fin 2880, x1 (ix2 n j) * x3 (ix3 g j (wide r))) * x2 (ix2 n 0) * x4 (ix2 g (wide r)) + x5 (ix2 g (wide r)) := by
  unfold k0_pay11 k0_pay12
  rw [ld0, ld1, ld2]
  refine (body_at x0 x1 x2 n r (ldW x3) (ldV x4) (ldV x5) g hg).trans ?_
  unfold elem
  rw [ldV_at, ldV_at]
  simp only [ldW_at]

section
variable (P : Nat → Nat → EReal) (hY : ∀ (n : Fin 8192) (k : Fin 8640), k0_pay6 (k0_pay11 x0 x1 x2 x3 x4 x5) (k0_pay12 x0 x1 x2 x3 x4 x5) x2 (View.ld x4 r0_9) (View.ld x5 r0_9) x0 (ix2 n k) = P n.val k.val)
  (hP : ∀ n, P n 8704 = 0)
include hY hP

theorem out0_6_at (n : Fin 196608) (k : Fin 128) : out0_6 x0 x1 x2 x3 x4 x5 (ix2 n k) = qOf P (ix2 n k) := by
  unfold out0_6
  rw [ld0, ld2]
  exact (congrFun (View.canon_cons_unit_lit _ _ _ z2) (ix2 n k)).trans ((congrFun (pay7_eq _ _ _ _ _ _) (ix2 n k)).trans (q_at _ P hY hP n k))

theorem out0_7_at (n : Fin 8192) (k : Fin 1536) : out0_7 x0 x1 x2 x3 x4 x5 (ix2 n k) = kaOf P (ix2 n k) := by
  unfold out0_7
  rw [ld0, ld2]
  exact (congrFun (View.canon_cons_unit_lit _ _ _ z2) (ix2 n k)).trans (pay8_at _ _ _ _ _ _ P hY n k)

theorem out0_8_at (n : Fin 8192) (k : Fin 1408) : out0_8 x0 x1 x2 x3 x4 x5 (ix2 n k) = kbOf P (ix2 n k) := by
  unfold out0_8
  rw [ld0, ld2]
  exact (congrFun (View.canon_cons_unit_lit _ _ _ z2) (ix2 n k)).trans (pay9_at _ _ _ _ _ _ P hY n k)

theorem out0_9_at (n : Fin 8192) (k : Fin 2944) : out0_9 x0 x1 x2 x3 x4 x5 (ix2 n k) = vOf P (ix2 n k) := by
  unfold out0_9
  rw [ld0, ld2]
  exact (congrFun (View.canon_cons_unit_lit _ _ _ z2) (ix2 n k)).trans (pay1_at _ _ _ _ _ _ P hY hP n k)
end
end

/-! ## The run -/

section
variable (m : (ℓ : Loc nD τ sig) → Buf (Elt Ideal) ℓ) (ρ : Dev nD → PrngReg)

/-! The one block of a window is its array. -/

theorem blk0 (c : Dev nD) : iblk m c 0 t0_0 = V m c main_v9 :=
  funext fun j => congrArg (V m c main_v9) (funext fun a => Fin.ext (Pipeline.Window.rect_emb_val_of_index_zero (cfg0.win 0) t0_0 a ((by decide : ∀ a, (cfg0.win 0).index t0_0 a = 0) a) j))

theorem blk1 (c : Dev nD) : iblk m c 1 t0_0 = V m c main_arg4 :=
  funext fun j => congrArg (V m c main_arg4) (funext fun a => Fin.ext (Pipeline.Window.rect_emb_val_of_index_zero (cfg0.win 1) t0_0 a ((by decide : ∀ a, (cfg0.win 1).index t0_0 a = 0) a) j))

theorem blk2 (c : Dev nD) : iblk m c 2 t0_0 = V m c main_v10 :=
  funext fun j => congrArg (V m c main_v10) (funext fun a => Fin.ext (Pipeline.Window.rect_emb_val_of_index_zero (cfg0.win 2) t0_0 a ((by decide : ∀ a, (cfg0.win 2).index t0_0 a = 0) a) j))

theorem blk3 (c : Dev nD) : iblk m c 3 t0_0 = V m c main_arg6 :=
  funext fun j => congrArg (V m c main_arg6) (funext fun a => Fin.ext (Pipeline.Window.rect_emb_val_of_index_zero (cfg0.win 3) t0_0 a ((by decide : ∀ a, (cfg0.win 3).index t0_0 a = 0) a) j))

theorem blk4 (c : Dev nD) : iblk m c 4 t0_0 = V m c main_arg7 :=
  funext fun j => congrArg (V m c main_arg7) (funext fun a => Fin.ext (Pipeline.Window.rect_emb_val_of_index_zero (cfg0.win 4) t0_0 a ((by decide : ∀ a, (cfg0.win 4).index t0_0 a = 0) a) j))

theorem blk5 (c : Dev nD) : iblk m c 5 t0_0 = V m c main_arg8 :=
  funext fun j => congrArg (V m c main_arg8) (funext fun a => Fin.ext (Pipeline.Window.rect_emb_val_of_index_zero (cfg0.win 5) t0_0 a ((by decide : ∀ a, (cfg0.win 5).index t0_0 a = 0) a) j))

/-- The projection of the arguments on core `c`. -/
def argProj (c : Dev nD) : Nat → Nat → EReal :=
  proj (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

variable (c : Dev nD)

/-- Past the last column the projection is zero. -/
theorem argProj_end (n : Nat) : argProj m c n 8704 = 0 := by
  unfold argProj proj
  exact dif_neg fun q => absurd q.2 (Nat.lt_irrefl _)

variable (h4 : (m ((c : Thread nD τ).loc main_arg3)) (ix1 4) = 8192#32) (hle : ∀ g : Fin 5, ((m ((c : Thread nD τ).loc main_arg3)) (ix1 g)).toNat ≤ 8192)
    (hmono : ∀ g : Fin 4, ((m ((c : Thread nD τ).loc main_arg3)) (ix1 g.castSucc)).toNat ≤ ((m ((c : Thread nD τ).loc main_arg3)) (ix1 g.succ)).toNat)
include h4 hle hmono

/-- The product is the projection of the arguments. -/
theorem prod_at (n : Fin 8192) (r : Fin 8640) :
    k0_pay6 (k0_pay11 (iblk m c 0 t0_0) (iblk m c 1 t0_0) (iblk m c 2 t0_0) (iblk m c 3 t0_0) (iblk m c 4 t0_0) (iblk m c 5 t0_0)) (k0_pay12 (iblk m c 0 t0_0) (iblk m c 1 t0_0) (iblk m c 2 t0_0) (iblk m c 3 t0_0) (iblk m c 4 t0_0) (iblk m c 5 t0_0)) (iblk m c 2 t0_0) (View.ld (iblk m c 4 t0_0) r0_9) (View.ld (iblk m c 5 t0_0) r0_9) (iblk m c 0 t0_0) (ix2 n r)
      = argProj m c n.val r.val := by
  rw [blk0, blk1, blk2, blk3, blk4, blk5, V_main_arg4, V_main_arg6, V_main_arg7, V_main_arg8]
  refine (pay6_whole _ _ _ _ _ _ r (typeOf (m ((c : Thread nD τ).loc main_arg3)) n.val) n ((main_v9_at n m c).trans (type_word _ n h4 hle hmono))).trans ?_
  rw [main_v10_at]
  unfold argProj proj
  rw [dif_pos ⟨n.isLt, by omega⟩]
  rfl

theorem array6_eq : (dats m 0 c).arrAt 6 cfg0.N = qOf (argProj m c) := by
  refine (dats m 0 c).arrAt_eq_of_after_last 6 t0_0 (by decide +kernel) (qOf (argProj m c)) fun j => ?_
  obtain ⟨n, k, rfl⟩ : ∃ (n : Fin 196608) (k : Fin 128), j = ix2 n k := ⟨j 0, j 1, funext fun a => by match a with
    | ⟨0, _⟩ => rfl
    | ⟨1, _⟩ => rfl⟩
  refine (congrFun (after0_6 m c t0_0) (ix2 n k)).trans ?_
  exact out0_6_at _ _ _ _ _ _ (argProj m c) (prod_at m c h4 hle hmono) (argProj_end m c) n k

theorem array7_eq : (dats m 0 c).arrAt 7 cfg0.N = kaOf (argProj m c) := by
  refine (dats m 0 c).arrAt_eq_of_after_last 7 t0_0 (by decide +kernel) (kaOf (argProj m c)) fun j => ?_
  obtain ⟨n, k, rfl⟩ : ∃ (n : Fin 8192) (k : Fin 1536), j = ix2 n k := ⟨j 0, j 1, funext fun a => by match a with
    | ⟨0, _⟩ => rfl
    | ⟨1, _⟩ => rfl⟩
  refine (congrFun (after0_7 m c t0_0) (ix2 n k)).trans ?_
  exact out0_7_at _ _ _ _ _ _ (argProj m c) (prod_at m c h4 hle hmono) (argProj_end m c) n k

theorem array8_eq : (dats m 0 c).arrAt 8 cfg0.N = kbOf (argProj m c) := by
  refine (dats m 0 c).arrAt_eq_of_after_last 8 t0_0 (by decide +kernel) (kbOf (argProj m c)) fun j => ?_
  obtain ⟨n, k, rfl⟩ : ∃ (n : Fin 8192) (k : Fin 1408), j = ix2 n k := ⟨j 0, j 1, funext fun a => by match a with
    | ⟨0, _⟩ => rfl
    | ⟨1, _⟩ => rfl⟩
  refine (congrFun (after0_8 m c t0_0) (ix2 n k)).trans ?_
  exact out0_8_at _ _ _ _ _ _ (argProj m c) (prod_at m c h4 hle hmono) (argProj_end m c) n k

theorem array9_eq : (dats m 0 c).arrAt 9 cfg0.N = vOf (argProj m c) := by
  refine (dats m 0 c).arrAt_eq_of_after_last 9 t0_0 (by decide +kernel) (vOf (argProj m c)) fun j => ?_
  obtain ⟨n, k, rfl⟩ : ∃ (n : Fin 8192) (k : Fin 2944), j = ix2 n k := ⟨j 0, j 1, funext fun a => by match a with
    | ⟨0, _⟩ => rfl
    | ⟨1, _⟩ => rfl⟩
  refine (congrFun (after0_9 m c t0_0) (ix2 n k)).trans ?_
  exact out0_9_at _ _ _ _ _ _ (argProj m c) (prod_at m c h4 hle hmono) (argProj_end m c) n k
end

end Cert.QkvRefIdeal.Gen

end
-- ==== Proof.SameOutProj.lean ====
/-
The two spellings of the output projection call are the same program.

`Cert.OutProj` and `Cert.OutProjIdeal` are the same call written out twice, once for the rounding machine and once for the
exact one, and neither spelling differs from the other in any operation.  So, over any reading of the floats, the body,
the table of bodies and the host program are equal, and what is proved of the runs of one holds of the runs of the other.
-/
module

public import proofs.«01_k».proof.Defs
public import proofs.«01_k».proof.Proof.Gen.OutProjIdeal
public import proofs.«01_k».proof.Proof.Gen.OutProj

@[expose] public section

namespace Cert.SameOutProj
open Idealize.ShloMosaic

variable {F : FTy → Type} [FloatOps F]

noncomputable section

set_option maxHeartbeats 4000000
set_option maxRecDepth 100000

attribute [local instance] Cert.OutProjIdeal.Gen.facts Cert.OutProj.Gen.facts

/-- The two bodies are the same program. -/
theorem body_eq : @Cert.OutProj.cc0_out_proj F _ _ = @Cert.OutProjIdeal.cc0_out_proj F _ _ := by
  with_unfolding_all rfl

/-- The tables of bodies, before the host entry is added, are the same. -/
theorem defs0_eq : (Cert.OutProj.defs₀ (F := F)) = (Cert.OutProjIdeal.defs₀ (F := F)) := by
  unfold Cert.OutProj.defs₀ Cert.OutProjIdeal.defs₀
  rw [body_eq]
  refine congrArg Defs.onTc ?_
  funext l x
  obtain ⟨l, hl⟩ := l
  cases l with
  | zero => with_unfolding_all rfl
  | succ n => exact absurd hl (Nat.not_lt.2 (Nat.le_add_left _ _))

/-- The tables of bodies are the same. -/
theorem defs_eq : (Cert.OutProj.defs (F := F)) = (Cert.OutProjIdeal.defs (F := F)) := by
  unfold Cert.OutProj.defs
  rw [defs0_eq]
  with_unfolding_all rfl

/-- The host programs are the same. -/
theorem main_eq : (Cert.OutProj.main (F := F)) = (Cert.OutProjIdeal.main (F := F)) := by
  with_unfolding_all rfl

end

end Cert.SameOutProj

end
-- ==== Proof.SameQkv.lean ====
/-
The two spellings of the query, key and value call are the same program.

`Cert.Qkv` and `Cert.QkvIdeal` are the same call written out twice, once for the rounding machine and once for the
exact one, and neither spelling differs from the other in any operation.  So, over any reading of the floats, the body,
the table of bodies and the host program are equal, and what is proved of the runs of one holds of the runs of the other.
-/
module

public import proofs.«01_k».proof.Defs
public import proofs.«01_k».proof.Proof.Gen.QkvIdeal
public import proofs.«01_k».proof.Proof.Gen.Qkv

@[expose] public section

namespace Cert.SameQkv
open Idealize.ShloMosaic

variable {F : FTy → Type} [FloatOps F]

noncomputable section

set_option maxHeartbeats 4000000
set_option maxRecDepth 100000

attribute [local instance] Cert.QkvIdeal.Gen.facts Cert.Qkv.Gen.facts

/-- The two bodies are the same program. -/
theorem body_eq : @Cert.Qkv.cc0_qkv F _ _ = @Cert.QkvIdeal.cc0_qkv F _ _ := by
  with_unfolding_all rfl

/-- The tables of bodies, before the host entry is added, are the same. -/
theorem defs0_eq : (Cert.Qkv.defs₀ (F := F)) = (Cert.QkvIdeal.defs₀ (F := F)) := by
  unfold Cert.Qkv.defs₀ Cert.QkvIdeal.defs₀
  rw [body_eq]
  refine congrArg Defs.onTc ?_
  funext l x
  obtain ⟨l, hl⟩ := l
  cases l with
  | zero => with_unfolding_all rfl
  | succ n => exact absurd hl (Nat.not_lt.2 (Nat.le_add_left _ _))

/-- The tables of bodies are the same. -/
theorem defs_eq : (Cert.Qkv.defs (F := F)) = (Cert.QkvIdeal.defs (F := F)) := by
  unfold Cert.Qkv.defs
  rw [defs0_eq]
  with_unfolding_all rfl

/-- The host programs are the same. -/
theorem main_eq : (Cert.Qkv.main (F := F)) = (Cert.QkvIdeal.main (F := F)) := by
  with_unfolding_all rfl

end

end Cert.SameQkv

end
-- ==== Proof.lean ====
/- The proof of the claims, for the output projection and for the query, key and value product: the call and its reference
   run, leave their arguments as they were and every semaphore at zero, and over the reals end with equal results. -/
module

public import proofs.«01_k».proof.Defs
public import proofs.«01_k».proof.Proof.Gen.QkvRefIdeal.Value
public import proofs.«01_k».proof.Proof.Gen.Pre_valid_qkv
public import proofs.«01_k».proof.Proof.Gen.Qkv
public import proofs.«01_k».proof.Proof.Gen.Qkv.Skeleton
public import proofs.«01_k».proof.Proof.Gen.Qkv.Launch
public import proofs.«01_k».proof.Proof.Gen.Qkv.Flash
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Flash
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.OutProj
public import proofs.«01_k».proof.Proof.Gen.OutProj.Skeleton
public import proofs.«01_k».proof.Proof.Gen.OutProj.Launch
public import proofs.«01_k».proof.Proof.Gen.OutProj.Flash
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Flash
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Value
public import proofs.«01_k».proof.Proof.Gen.OutRefIdeal.Frame
public import proofs.«01_k».proof.Proof.Gen.Pre_valid
public import Idealize.ShloMosaic.Adequacy
public import Idealize.ShloMosaic.Init
public import proofs.«01_k».proof.Proof.OutRefIdeal.Result
public import proofs.«01_k».proof.Proof.QkvRefIdeal.Result
public import proofs.«01_k».proof.Proof.SameOutProj
public import proofs.«01_k».proof.Proof.SameQkv

@[expose] public section

noncomputable section

namespace Cert.Proof

open Idealize.ShloMosaic Idealize.ShloMosaic.TcCoe Idealize.SL.Sem

section
variable [Cert.Pre_valid.Facts]

theorem frame_kernel : @Cert.quiescent_OutProj Cert.OutProj.Gen.facts inferInstance := by
  intro m ρ pre
  have hT := Cert.Visits.tables_of_valid _ _ _ _ _ _ _ _ _ _ _ (pre 0)
  rw [Cert.SameOutProj.defs_eq, Cert.SameOutProj.main_eq]
  exact Cert.OutProjIdeal.Gen.frame (F := Bits) m ρ (Cert.OutProjIdeal.Gen.ok_of_tables hT) (Cert.OutProjIdeal.Gen.hyps_of_tables hT _)

theorem frame_ideal : @Cert.quiescent_OutProjIdeal Cert.OutProjIdeal.Gen.facts inferInstance := fun m ρ pre =>
  have hT := Cert.Visits.tables_of_valid _ _ _ _ _ _ _ _ _ _ _ (pre 0)
  Cert.OutProjIdeal.Gen.frame m ρ (Cert.OutProjIdeal.Gen.ok_of_tables hT) (Cert.OutProjIdeal.Gen.hyps_of_tables hT _)

theorem frame_reference : @Cert.quiescent_OutRefIdeal Cert.OutRefIdeal.Gen.facts inferInstance := fun m ρ _ =>
  Cert.OutRefIdeal.Gen.frame m ρ

/-- Over the reals the kernel's result is the reference's: both are the gated output of every node. -/
theorem equal : @Cert.algebraic_OutProjIdeal_OutRefIdeal Cert.OutProjIdeal.Gen.facts Cert.OutRefIdeal.Gen.facts inferInstance := by
  intro m ρ m' ρ' pre same
  have hT := Cert.Visits.tables_of_valid _ _ _ _ _ _ _ _ _ _ _ (pre 0)
  have hO := Cert.OutProjIdeal.Gen.ok_of_tables hT
  have hH := Cert.OutProjIdeal.Gen.hyps_of_tables hT hO
  refine ⟨fun c => Cert.OutProjIdeal.Gen.result m c,
    (θ_run _ _ _).mono (fun r h c => ⟨h.1 c, h.2.1 c⟩)
      (θ_run_and (Cert.OutProjIdeal.Gen.run_value hT hO hH ρ) (Cert.OutProjIdeal.Gen.frame m ρ hO hH)),
    (θ_run _ _ _).mono (fun r h c => ⟨(h c).1.trans ?_, (h c).2⟩) (Cert.OutRefIdeal.Value.run_blocks m' ρ')⟩
  obtain ⟨e0, e1, e2, e3, e4, e5, e6, e7, e8, e9, e10⟩ := same c
  have hTc := Cert.Visits.tables_of_valid _ _ _ _ _ _ _ _ _ _ _ (pre c)
  refine (Cert.OutRefIdeal.Gen.array_eq m' c ((congrFun e3 _).trans hTc.off4) (fun g => (congrArg BitVec.toNat (congrFun e3 _)).trans_le (hTc.off_le g))
    (fun g => ((congrArg BitVec.toNat (congrFun e3 _)).trans_le (hTc.off_mono g)).trans_eq (congrArg BitVec.toNat (congrFun e3 _)).symm)).trans ?_
  unfold Cert.OutRefIdeal.Gen.result Cert.OutProjIdeal.Gen.result
  rw [e3, e4, e5, e6, e7, e8, e9, e10]

end

section
variable [Cert.Pre_valid.Facts] [Cert.Pre_valid_qkv.Facts]

theorem frame_qkv : @Cert.quiescent_Qkv Cert.Qkv.Gen.facts inferInstance := by
  intro m ρ pre
  have hT := Cert.Visits.tables_of_valid_qkv _ _ _ _ _ _ _ _ _ (pre 0)
  rw [Cert.SameQkv.defs_eq, Cert.SameQkv.main_eq]
  exact Cert.QkvIdeal.Gen.frame (F := Bits) m ρ (Cert.QkvIdeal.Gen.ok_of_tables hT) (Cert.QkvIdeal.Gen.hyps_of_tables hT _)

theorem frame_qkv_ideal : @Cert.quiescent_QkvIdeal Cert.QkvIdeal.Gen.facts inferInstance := fun m ρ pre =>
  have hT := Cert.Visits.tables_of_valid_qkv _ _ _ _ _ _ _ _ _ (pre 0)
  Cert.QkvIdeal.Gen.frame m ρ (Cert.QkvIdeal.Gen.ok_of_tables hT) (Cert.QkvIdeal.Gen.hyps_of_tables hT _)

theorem frame_qkv_reference : @Cert.quiescent_QkvRefIdeal Cert.QkvRefIdeal.Gen.facts inferInstance := fun m ρ _ =>
  Cert.QkvRefIdeal.Gen.frame m ρ

/-- Over the reals the call's four results are the reference's: the queries, the keys and the values of every node. -/
theorem equal_qkv : @Cert.algebraic_QkvIdeal_QkvRefIdeal Cert.QkvIdeal.Gen.facts Cert.QkvRefIdeal.Gen.facts inferInstance := by
  intro m ρ m' ρ' pre same
  have hT := Cert.Visits.tables_of_valid_qkv _ _ _ _ _ _ _ _ _ (pre 0)
  have hO := Cert.QkvIdeal.Gen.ok_of_tables hT
  have hH := Cert.QkvIdeal.Gen.hyps_of_tables hT hO
  have hP : ∀ c, Cert.QkvRefIdeal.Gen.argProj m' c = Cert.QkvIdeal.Gen.argProj m c := fun c => by
    obtain ⟨e0, e1, e2, e3, e4, e5, e6, e7, e8⟩ := same c
    unfold Cert.QkvRefIdeal.Gen.argProj Cert.QkvIdeal.Gen.argProj
    rw [e3, e4, e5, e6, e7, e8]
  refine ⟨fun c => Cert.QkvIdeal.Gen.qOf (Cert.QkvIdeal.Gen.argProj m c), fun c => Cert.QkvIdeal.Gen.kaOf (Cert.QkvIdeal.Gen.argProj m c),
    fun c => Cert.QkvIdeal.Gen.kbOf (Cert.QkvIdeal.Gen.argProj m c), fun c => Cert.QkvIdeal.Gen.vOf (Cert.QkvIdeal.Gen.argProj m c),
    (θ_run _ _ _).mono (fun r h c => ⟨(h.1 c).1, (h.1 c).2.1, (h.1 c).2.2.1, (h.1 c).2.2.2, h.2.1 c⟩)
      (θ_run_and (Cert.QkvIdeal.Gen.run_value hT hO hH ρ) (Cert.QkvIdeal.Gen.frame m ρ hO hH)),
    (θ_run _ _ _).mono (fun r h c => ?_) (Cert.QkvRefIdeal.Value.run_blocks m' ρ')⟩
  have e3 := (same c).2.2.2.1
  have hTc := Cert.Visits.tables_of_valid_qkv _ _ _ _ _ _ _ _ _ (pre c)
  have h4 := (congrFun e3 _).trans hTc.off4
  have hle := fun g => (congrArg BitVec.toNat (congrFun e3 _)).trans_le (hTc.off_le g)
  have hmono := fun g => ((congrArg BitVec.toNat (congrFun e3 _)).trans_le (hTc.off_mono g)).trans_eq (congrArg BitVec.toNat (congrFun e3 _)).symm
  obtain ⟨r6, r7, r8, r9, rest⟩ := h c
  exact ⟨r6.trans ((Cert.QkvRefIdeal.Gen.array6_eq m' c h4 hle hmono).trans (congrArg Cert.QkvIdeal.Gen.qOf (hP c))),
    r7.trans ((Cert.QkvRefIdeal.Gen.array7_eq m' c h4 hle hmono).trans (congrArg Cert.QkvIdeal.Gen.kaOf (hP c))),
    r8.trans ((Cert.QkvRefIdeal.Gen.array8_eq m' c h4 hle hmono).trans (congrArg Cert.QkvIdeal.Gen.kbOf (hP c))),
    r9.trans ((Cert.QkvRefIdeal.Gen.array9_eq m' c h4 hle hmono).trans (congrArg Cert.QkvIdeal.Gen.vOf (hP c))), rest⟩

end

theorem claim : Cert.Claim := ⟨Cert.OutProj.Gen.facts, Cert.OutProjIdeal.Gen.facts, Cert.OutRefIdeal.Gen.facts, Cert.Qkv.Gen.facts, Cert.QkvIdeal.Gen.facts,
  Cert.QkvRefIdeal.Gen.facts, Cert.Pre_valid.Gen.facts, Cert.Pre_valid_qkv.Gen.facts,
  letI := Cert.Pre_valid.Gen.facts
  letI := Cert.Pre_valid_qkv.Gen.facts
  ⟨frame_kernel, frame_ideal, frame_reference, frame_qkv, frame_qkv_ideal, frame_qkv_reference, trivial, equal, trivial, equal_qkv⟩⟩

end Cert.Proof

end
